-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_values [hPre_finite_values : Cert.Pre_finite_values.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_values.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_values [hPre_finite_values : Cert.Pre_finite_values.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_values.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_largest_finite [hPre_largest_finite : Cert.Pre_largest_finite.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_largest_finite.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_largest_finite [hPre_largest_finite : Cert.Pre_largest_finite.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_largest_finite.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite_values [hKernel13Ideal : Cert.Kernel13Ideal.Facts] [hPre_finite_values : Cert.Pre_finite_values.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_values m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite_values [hReference13Ideal : Cert.Reference13Ideal.Facts] [hPre_finite_values : Cert.Pre_finite_values.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_values m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Kernel14Ideal_pre_largest_finite [hKernel14Ideal : Cert.Kernel14Ideal.Facts] [hPre_largest_finite : Cert.Pre_largest_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_largest_finite m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Reference14Ideal_pre_largest_finite [hReference14Ideal : Cert.Reference14Ideal.Facts] [hPre_largest_finite : Cert.Pre_largest_finite.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_largest_finite m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_v13) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_v13) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_finite_values [hKernel13Ideal : Cert.Kernel13Ideal.Facts] [hReference13Ideal : Cert.Reference13Ideal.Facts] [hPre_finite_values : Cert.Pre_finite_values.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_values m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v60) = v0 c
          ∧ r.2.mem ((c.tc : Thread Cert.Reference13Ideal.nD Cert.Reference13Ideal.τ).loc Cert.Reference13Ideal.main_v62) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_largest_finite [hKernel14Ideal : Cert.Kernel14Ideal.Facts] [hReference14Ideal : Cert.Reference14Ideal.Facts] [hPre_largest_finite : Cert.Pre_largest_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_largest_finite m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v6_0)) (v1 : (c : Dev Cert.Kernel14Ideal.nD) → Buf (Elt Ideal) ((c.tc : Thread Cert.Kernel14Ideal.nD Cert.Kernel14Ideal.τ).loc Cert.Kernel14Ideal.main_v6_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_0) = v0 c
          ∧ r.2.mem ((c.tc : Thread Cert.Kernel14Ideal.nD Cert.Kernel14Ideal.τ).loc Cert.Kernel14Ideal.main_v6_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v40) = v0 c
          ∧ r.2.mem ((c.tc : Thread Cert.Reference14Ideal.nD Cert.Reference14Ideal.τ).loc Cert.Reference14Ideal.main_v42) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite_values : Cert.Pre_finite_values.Facts) (hPre_largest_finite : Cert.Pre_largest_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_values (hKernel13Ideal := hKernel13Ideal) (hPre_finite_values := hPre_finite_values)
    ∧ quiescent_Reference13Ideal (hReference13Ideal := hReference13Ideal)
    ∧ quiescent_Reference13Ideal_pre_finite_values (hReference13Ideal := hReference13Ideal) (hPre_finite_values := hPre_finite_values)
    ∧ quiescent_Kernel14 (hKernel14 := hKernel14)
    ∧ quiescent_Kernel14Ideal (hKernel14Ideal := hKernel14Ideal)
    ∧ quiescent_Kernel14Ideal_pre_largest_finite (hKernel14Ideal := hKernel14Ideal) (hPre_largest_finite := hPre_largest_finite)
    ∧ quiescent_Reference14Ideal (hReference14Ideal := hReference14Ideal)
    ∧ quiescent_Reference14Ideal_pre_largest_finite (hReference14Ideal := hReference14Ideal) (hPre_largest_finite := hPre_largest_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite_values (hKernel13Ideal := hKernel13Ideal) (hReference13Ideal := hReference13Ideal) (hPre_finite_values := hPre_finite_values)
    ∧ preserves_Kernel14_Kernel14Ideal
    ∧ algebraic_Kernel14Ideal_Reference14Ideal_pre_largest_finite (hKernel14Ideal := hKernel14Ideal) (hReference14Ideal := hReference14Ideal) (hPre_largest_finite := hPre_largest_finite)
-- ==== Pre_finite.lean ====
abbrev S4096x4096 : Shape := ⟨2, ![4096, 4096]⟩
abbrev S4x512x512 : Shape := ⟨3, ![4, 512, 512]⟩
abbrev S1x2048 : Shape := ⟨2, ![1, 2048]⟩
abbrev S2048x2048 : Shape := ⟨2, ![2048, 2048]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  bcast_S_S4x512x512 : S_.BroadcastsInDim S4x512x512 (![] : Fin 0 → Fin S4x512x512.rank)
  bcast_S_S1x2048 : S_.BroadcastsInDim S1x2048 (![] : Fin 0 → Fin S1x2048.rank)
  bcast_S_S2048x2048 : S_.BroadcastsInDim S2048x2048 (![] : Fin 0 → Fin S2048x2048.rank)
  bcast_S_S4096x2048 : S_.BroadcastsInDim S4096x2048 (![] : Fin 0 → Fin S4096x2048.rank)

variable [Facts]

def fn {F : FTy → Type} [FloatOps F] (main_arg0 : FVec F S4096x4096 .f32) (main_arg1 : FVec F S4x512x512 .f32) (main_arg2 : FVec F S1x2048 .f32) (main_arg3 : FVec F S2048x2048 .f32) (main_arg4 : FVec F S4096x2048 .f32) : IVec S4096x4096 1 × IVec S4x512x512 1 × IVec S1x2048 1 × IVec S2048x2048 1 × IVec S4096x2048 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4x512x512 .f32 := Host.absf main_arg1
  let main_cst_0 : FVec F S_ .f32 := constant S_ .f32 0x7F800000#32
  let main_v4 : FVec F S4x512x512 .f32 := broadcastInDim S4x512x512 ![] bcast_S_S4x512x512 main_cst_0
  let main_v5 : IVec S4x512x512 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  (main_v2, main_v5, main_v8, main_v11, main_v14)
-- ==== Pre_finite_values.lean ====
abbrev S4096x4096 : Shape := ⟨2, ![4096, 4096]⟩
abbrev S4x512x512 : Shape := ⟨3, ![4, 512, 512]⟩
abbrev S1x2048 : Shape := ⟨2, ![1, 2048]⟩
abbrev S2048x2048 : Shape := ⟨2, ![2048, 2048]⟩
abbrev S4096x2048 : Shape := ⟨2, ![4096, 2048]⟩
abbrev S_ : Shape := ⟨0, ![]⟩

class Facts : Prop where
  slices_S4096x4096_S4096x2048_0_0 : S4096x4096.Slices ![0, 0] S4096x2048
  bcast_S_S4096x2048 : S_.BroadcastsInDim S4096x2048 (![] : Fin 0 → Fin S4096x2048.rank)

variable [Facts]

def fn {F : FTy → Type} [FloatOps F] (main_arg0 : FVec F S4096x4096 .f32) (main_arg1 : FVec F S4x512x512 .f32) (main_arg2 : FVec F S1x2048 .f32) (main_arg3 : FVec F S2048x2048 .f32) (main_arg4 : FVec F S4096x2048 .f32) : IVec S4096x2048 1 :=
  let main_v0 : FVec F S4096x2048 .f32 := (extractStridedSlice S4096x2048 ![0, 0] · slices_S4096x4096_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  main_v3
-- ==== Pre_largest_finite.lean ====
abbrev S4096x2048 : Shape := ⟨2, ![4096, 2048]⟩
abbrev S4096x128 : Shape := ⟨2, ![4096, 128]⟩
abbrev S4096x8192 : Shape := ⟨2, ![4096, 8192]⟩
abbrev S2048x2048 : Shape := ⟨2, ![2048, 2048]⟩
abbrev S4096x16 : Shape := ⟨2, ![4096, 16]⟩
abbrev S_ : Shape := ⟨0, ![]⟩

class Facts : Prop where
  slices_S4096x128_S4096x16_0_0 : S4096x128.Slices ![0, 0] S4096x16
  bcast_S_S4096x16 : S_.BroadcastsInDim S4096x16 (![] : Fin 0 → Fin S4096x16.rank)

variable [Facts]

def fn {F : FTy → Type} [FloatOps F] (main_arg0 : FVec F S4096x2048 .f32) (main_arg1 : FVec F S4096x2048 .f32) (main_arg2 : FVec F S4096x2048 .f32) (main_arg3 : FVec F S4096x128 .f32) (main_arg4 : FVec F S4096x128 .f32) (main_arg5 : FVec F S4096x128 .f32) (main_arg6 : FVec F S4096x8192 .f32) (main_arg7 : FVec F S2048x2048 .f32) (main_arg8 : FVec F S4096x2048 .f32) : IVec S4096x16 1 :=
  let main_v0 : FVec F S4096x128 .f32 := maximumf main_arg3 main_arg4
  let main_v1 : FVec F S4096x128 .f32 := maximumf main_v0 main_arg5
  let main_v2 : FVec F S4096x16 .f32 := (extractStridedSlice S4096x16 ![0, 0] · slices_S4096x128_S4096x16_0_0) main_v1
  let main_v3 : FVec F S4096x16 .f32 := Host.absf main_v2
  let main_cst : FVec F S_ .f32 := constant S_ .f32 0x7F800000#32
  let main_v4 : FVec F S4096x16 .f32 := broadcastInDim S4096x16 ![] bcast_S_S4096x16 main_cst
  let main_v5 : IVec S4096x16 1 := cmpf .olt main_v3 main_v4
  main_v5
-- ==== Kernel.lean ====
abbrev S4096x4096 : Shape := ⟨2, ![4096, 4096]⟩
abbrev S4x512x512 : Shape := ⟨3, ![4, 512, 512]⟩
abbrev S1x2048 : Shape := ⟨2, ![1, 2048]⟩
abbrev S2048x2048 : Shape := ⟨2, ![2048, 2048]⟩
abbrev S4096x2048 : Shape := ⟨2, ![4096, 2048]⟩
abbrev S8x256x2048 : Shape := ⟨3, ![8, 256, 2048]⟩
abbrev S256x2048 : Shape := ⟨2, ![256, 2048]⟩
abbrev S16x2048 : Shape := ⟨2, ![16, 2048]⟩
abbrev S256x4096 : Shape := ⟨2, ![256, 4096]⟩
abbrev S272x2048 : Shape := ⟨2, ![272, 2048]⟩
abbrev S256x1 : Shape := ⟨2, ![256, 1]⟩
abbrev S256x512 : Shape := ⟨2, ![256, 512]⟩
abbrev S16x1 : Shape := ⟨2, ![16, 1]⟩
abbrev S1x512x512 : Shape := ⟨3, ![1, 512, 512]⟩
abbrev S512x512 : Shape := ⟨2, ![512, 512]⟩
abbrev S1x512 : Shape := ⟨2, ![1, 512]⟩
abbrev S512x2048 : Shape := ⟨2, ![512, 2048]⟩
abbrev S272x512 : Shape := ⟨2, ![272, 512]⟩
abbrev S512 : Shape := ⟨1, ![512]⟩
abbrev S16x512 : Shape := ⟨2, ![16, 512]⟩

abbrev nBuf : Space → Nat
  | .hbm => 12
  | .vmem => 22
  | .smem => 0
  | _ => 0

abbrev bufTy : (tb : Table) → Fin (tcTables nBuf tb) → BufTy
  | .hbm, ⟨0, _⟩ => ⟨S4096x4096, .f32⟩
  | .hbm, ⟨1, _⟩ => ⟨S4x512x512, .f32⟩
  | .hbm, ⟨2, _⟩ => ⟨S1x2048, .f32⟩
  | .hbm, ⟨3, _⟩ => ⟨S2048x2048, .f32⟩
  | .hbm, ⟨4, _⟩ => ⟨S4096x2048, .f32⟩
  | .hbm, ⟨5, _⟩ => ⟨S2048x2048, .bf16⟩
  | .hbm, ⟨6, _⟩ => ⟨S8x256x2048, .bf16⟩
  | .hbm, ⟨7, _⟩ => ⟨S4x512x512, .bf16⟩
  | .hbm, ⟨8, _⟩ => ⟨S2048x2048, .bf16⟩
  | .hbm, ⟨9, _⟩ => ⟨S4096x4096, .bf16⟩
  | .hbm, ⟨10, _⟩ => ⟨S4x512x512, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S16x2048, .f32⟩
  | .local _ .vmem, ⟨8, _⟩ => ⟨S16x2048, .f32⟩
  | .local _ .vmem, ⟨9, _⟩ => ⟨S256x2048, .f32⟩
  | .local _ .vmem, ⟨10, _⟩ => ⟨S256x2048, .f32⟩
  | .local _ .vmem, ⟨11, _⟩ => ⟨S16x2048, .f32⟩
  | .local _ .vmem, ⟨12, _⟩ => ⟨S16x2048, .f32⟩
  | .local _ .vmem, ⟨13, _⟩ => ⟨S4x512x512, .bf16⟩
  | .local _ .vmem, ⟨14, _⟩ => ⟨S1x2048, .f32⟩
  | .local _ .vmem, ⟨15, _⟩ => ⟨S256x4096, .bf16⟩
  | .local _ .vmem, ⟨16, _⟩ => ⟨S256x4096, .bf16⟩
  | .local _ .vmem, ⟨17, _⟩ => ⟨S4x512x512, .f32⟩
  | .local _ .vmem, ⟨18, _⟩ => ⟨S1x2048, .f32⟩
  | .local _ .vmem, ⟨19, _⟩ => ⟨S272x2048, .f32⟩
  | .local _ .vmem, ⟨20, _⟩ => ⟨S272x2048, .f32⟩
  | .local _ .vmem, ⟨21, _⟩ => ⟨S272x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x4096 : Shape := ⟨2, ![4096, 4096]⟩
abbrev S4x512x512 : Shape := ⟨3, ![4, 512, 512]⟩
abbrev S1x2048 : Shape := ⟨2, ![1, 2048]⟩
abbrev S2048x2048 : Shape := ⟨2, ![2048, 2048]⟩
abbrev S4096x2048 : Shape := ⟨2, ![4096, 2048]⟩
abbrev S1x4096x4096 : Shape := ⟨3, ![1, 4096, 4096]⟩
abbrev S1x4096x2048 : Shape := ⟨3, ![1, 4096, 2048]⟩
abbrev S1x4096x4x512 : Shape := ⟨4, ![1, 4096, 4, 512]⟩
abbrev S_ : Shape := ⟨0, ![]⟩
abbrev S1x1x4x512 : Shape := ⟨4, ![1, 1, 4, 512]⟩
abbrev S1x4097x4x512 : Shape := ⟨4, ![1, 4097, 4, 512]⟩
abbrev S4 : Shape := ⟨1, ![4]⟩
abbrev S4096 : Shape := ⟨1, ![4096]⟩
abbrev S4096x1 : Shape := ⟨2, ![4096, 1]⟩
abbrev S1x4 : Shape := ⟨2, ![1, 4]⟩
abbrev S4096x4 : Shape := ⟨2, ![4096, 4]⟩
abbrev S4096x4x1 : Shape := ⟨3, ![4096, 4, 1]⟩
abbrev S4096x4x2 : Shape := ⟨3, ![4096, 4, 2]⟩
abbrev S1x4096x4x1 : Shape := ⟨4, ![1, 4096, 4, 1]⟩
abbrev S4x512x1x4096 : Shape := ⟨4, ![4, 512, 1, 4096]⟩
abbrev S1x1x2048 : Shape := ⟨3, ![1, 1, 2048]⟩
abbrev S2048 : Shape := ⟨1, ![2048]⟩
abbrev S4x1x4096x512 : Shape := ⟨4, ![4, 1, 4096, 512]⟩

abbrev nBuf : Space → Nat
  | .hbm => 136
  | .vmem => 0
  | .smem => 0
  | _ => 0

abbrev hbmTy0_0 (i : Nat) : BufTy := match i % 128 with
  | 0 => ⟨S4096x4096, .f32⟩
  | 1 => ⟨S4x512x512, .f32⟩
  | 2 => ⟨S1x2048, .f32⟩
  | 3 => ⟨S2048x2048, .f32⟩
  | 4 => ⟨S4096x2048, .f32⟩
  | 5 => ⟨S1x4096x4096, .f32⟩
  | 6 => ⟨S1x4096x2048, .f32⟩
  | 7 => ⟨S1x4096x2048, .f32⟩
  | 8 => ⟨S1x4096x4x512, .f32⟩
  | 9 => ⟨S_, .f32⟩
  | 10 => ⟨S_, .f32⟩
  | 11 => ⟨S1x4096x4x512, .f32⟩
  | 12 => ⟨S1x1x4x512, .f32⟩
  | 13 => ⟨S_, .f32⟩
  | 14 => ⟨S1x1x4x512, .f32⟩
  | 15 => ⟨S1x4097x4x512, .f32⟩
  | 16 => ⟨S_, .f32⟩
  | 17 => ⟨S1x1x4x512, .f32⟩
  | 18 => ⟨S4, .i32⟩
  | 19 => ⟨S_, .i32⟩
  | 20 => ⟨S4, .i32⟩
  | 21 => ⟨S4, .i32⟩
  | 22 => ⟨S4096, .i32⟩
  | 23 => ⟨S_, .i32⟩
  | 24 => ⟨S4096, .i32⟩
  | 25 => ⟨S4096, .i32⟩
  | 26 => ⟨S4096x1, .i32⟩
  | 27 => ⟨S1x4, .i32⟩
  | 28 => ⟨S4096x4, .i32⟩
  | 29 => ⟨S4096x4, .i32⟩
  | 30 => ⟨S4096x4, .i32⟩
  | 31 => ⟨S_, .i32⟩
  | 32 => ⟨S4096x4, .i32⟩
  | 33 => ⟨S4096x4, .i32⟩
  | 34 => ⟨S4, .i32⟩
  | 35 => ⟨S1x4, .i32⟩
  | 36 => ⟨S_, .i32⟩
  | 37 => ⟨S4096x4, .i32⟩
  | 38 => ⟨S4096x4, .i1⟩
  | 39 => ⟨S_, .i32⟩
  | 40 => ⟨S4096x4, .i32⟩
  | 41 => ⟨S4096x4, .i32⟩
  | 42 => ⟨S4096x4, .i32⟩
  | 43 => ⟨S_, .i32⟩
  | 44 => ⟨S1x4, .i32⟩
  | 45 => ⟨S1x4, .i1⟩
  | 46 => ⟨S_, .i32⟩
  | 47 => ⟨S1x4, .i32⟩
  | 48 => ⟨S1x4, .i32⟩
  | 49 => ⟨S1x4, .i32⟩
  | 50 => ⟨S4096x4, .i32⟩
  | 51 => ⟨S4096x4x1, .i32⟩
  | 52 => ⟨S4096x4x1, .i32⟩
  | 53 => ⟨S4096x4x2, .i32⟩
  | 54 => ⟨S1x4096x4x512, .f32⟩
  | 55 => ⟨S1x4, .i32⟩
  | 56 => ⟨S4096x4, .i32⟩
  | 57 => ⟨S4096x4, .i32⟩
  | 58 => ⟨S4096x4, .i32⟩
  | 59 => ⟨S4096x4, .f32⟩
  | 60 => ⟨S1x4096x4x512, .f32⟩
  | 61 => ⟨S1x4096x4x512, .f32⟩
  | 62 => ⟨S1x4096x4x1, .f32⟩
  | 63 => ⟨S1x4096x4x512, .f32⟩
  | 64 => ⟨S1x4096x4x512, .f32⟩
  | 65 => ⟨S1x4096x4x512, .f32⟩
  | 66 => ⟨S4x512x1x4096, .f32⟩
  | 67 => ⟨S1x4096x4x512, .f32⟩
  | 68 => ⟨S1x4096x2048, .f32⟩
  | 69 => ⟨S1x1x2048, .f32⟩
  | 70 => ⟨S1x4096x2048, .f32⟩
  | 71 => ⟨S1x4096x2048, .f32⟩
  | 72 => ⟨S1x4096x2048, .f32⟩
  | 73 => ⟨S1x4096x2048, .f32⟩
  | 74 => ⟨S_, .f32⟩
  | 75 => ⟨S1x4096x2048, .f32⟩
  | 76 => ⟨S1x4096x2048, .f32⟩
  | 77 => ⟨S_, .f32⟩
  | 78 => ⟨S1x4096x2048, .f32⟩
  | 79 => ⟨S1x4096x2048, .f32⟩
  | 80 => ⟨S_, .f32⟩
  | 81 => ⟨S1x4096x2048, .f32⟩
  | 82 => ⟨S1x4096x2048, .f32⟩
  | 83 => ⟨S1x4096x2048, .f32⟩
  | 84 => ⟨S1x4096x2048, .f32⟩
  | 85 => ⟨S1x4096x2048, .f32⟩
  | 86 => ⟨S1x4096x2048, .f32⟩
  | 87 => ⟨S4096x2048, .f32⟩
  | 88 => ⟨S1x4096x2048, .f32⟩
  | 89 => ⟨S1x4096x2048, .f32⟩
  | 90 => ⟨S1x4096x2048, .f32⟩
  | 91 => ⟨S1x4096x2048, .f32⟩
  | 92 => ⟨S1x4096x2048, .f32⟩
  | 93 => ⟨S1x4096x2048, .f32⟩
  | 94 => ⟨S1x4096x2048, .f32⟩
  | 95 => ⟨S1x4096x2048, .f32⟩
  | 96 => ⟨S1x4096x2048, .f32⟩
  | 97 => ⟨S_, .f32⟩
  | 98 => ⟨S1x2048, .f32⟩
  | 99 => ⟨S1x1x2048, .f32⟩
  | 100 => ⟨S1x4096x2048, .f32⟩
  | 101 => ⟨S1x4096x2048, .f32⟩
  | 102 => ⟨S_, .f32⟩
  | 103 => ⟨S2048, .f32⟩
  | 104 => ⟨S1x2048, .f32⟩
  | 105 => ⟨S1x4096x4x512, .f32⟩
  | 106 => ⟨S4x512x1x4096, .f32⟩
  | 107 => ⟨S4x1x4096x512, .f32⟩
  | 108 => ⟨S1x4096x4x512, .f32⟩
  | 109 => ⟨S4x512x512, .f32⟩
  | 110 => ⟨S4x512x512, .f32⟩
  | 111 => ⟨S1x4096x4x512, .f32⟩
  | 112 => ⟨S1x4096x4x512, .f32⟩
  | 113 => ⟨S1x4096x4x512, .f32⟩
  | 114 => ⟨S1x4096x4x512, .f32⟩
  | 115 => ⟨S_, .f32⟩
  | 116 => ⟨S1x4097x4x512, .f32⟩
  | 117 => ⟨S_, .f32⟩
  | 118 => ⟨S1x4097x4x512, .f32⟩
  | 119 => ⟨S1x4097x4x512, .f32⟩
  | 120 => ⟨S1x4097x4x512, .f32⟩
  | 121 => ⟨S1x1x4x512, .f32⟩
  | 122 => ⟨S1x4096x4x512, .f32⟩
  | 123 => ⟨S_, .f32⟩
  | 124 => ⟨S_, .f32⟩
  | 125 => ⟨S1x4096x4x512, .f32⟩
  | 126 => ⟨S1x4096x4x512, .f32⟩
  | 127 => ⟨S1x4096x2048, .f32⟩
  | _ => ⟨S4096x4096, .f32⟩

abbrev hbmTy0_1 (i : Nat) : BufTy := match i % 128 with
  | 0 => ⟨S_, .f32⟩
  | 1 => ⟨S1x4096x4096, .f32⟩
  | 2 => ⟨S_, .f32⟩
  | 3 => ⟨S1x4096x4096, .f32⟩
  | 4 => ⟨S1x4096x4096, .f32⟩
  | 5 => ⟨S_, .f32⟩
  | 6 => ⟨S4096x4096, .f32⟩
  | 7 => ⟨S4096x4096, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_v56_2 : Ref sig .tc := ⟨.hbm, 79, rfl⟩
abbrev main_call1_cst_1 : Ref sig .tc := ⟨.hbm, 80, rfl⟩
abbrev main_call1_v6 : Ref sig .tc := ⟨.hbm, 81, rfl⟩
abbrev main_call1_v7 : Ref sig .tc := ⟨.hbm, 82, rfl⟩
abbrev main_v56_1 : Ref sig .tc := ⟨.hbm, 83, rfl⟩
abbrev main_v56_0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_v65 : Ref sig .tc := ⟨.hbm, 96, rfl⟩
abbrev main_cst_7 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_8 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_9 : Ref sig .tc := ⟨.hbm, 115, rfl⟩
abbrev main_v82 : Ref sig .tc := ⟨.hbm, 116, rfl⟩
abbrev main_cst_10 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call3_call0_cst : Ref sig .tc := ⟨.hbm, 123, rfl⟩
abbrev main_call3_call0_v0 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_11 : Ref sig .tc := ⟨.hbm, 128, rfl⟩
abbrev main_v91 : Ref sig .tc := ⟨.hbm, 129, rfl⟩
abbrev main_cst_12 : Ref sig .tc := ⟨.hbm, 130, rfl⟩
abbrev main_v92 : Ref sig .tc := ⟨.hbm, 131, rfl⟩
abbrev main_v93 : Ref sig .tc := ⟨.hbm, 132, rfl⟩
abbrev main_cst_13 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]
-- ==== Kernel2.lean ====
abbrev S4096x2048 : Shape := ⟨2, ![4096, 2048]⟩
abbrev S1x2048 : Shape := ⟨2, ![1, 2048]⟩
abbrev S2048x8192 : Shape := ⟨2, ![2048, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S8x2048x1024 : Shape := ⟨3, ![8, 2048, 1024]⟩
abbrev S1024x2048 : Shape := ⟨2, ![1024, 2048]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 22
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x8192, .f32⟩
  | .hbm, ⟨3, _⟩ => ⟨S4096x8192, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x8192, .bf16⟩
  | .hbm, ⟨21, _⟩ => ⟨S8x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x2048 : Shape := ⟨2, ![4096, 2048]⟩
abbrev S1x2048 : Shape := ⟨2, ![1, 2048]⟩
abbrev S2048x8192 : Shape := ⟨2, ![2048, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x8192, .f32⟩
  | .hbm, ⟨3, _⟩ => ⟨S4096x8192, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S8192x2048, .f32⟩
  | .hbm, ⟨21, _⟩ => ⟨S2048x8192, .f32⟩
  | .hbm, ⟨22, _⟩ => ⟨S2048x8x1024, .f32⟩
  | .hbm, ⟨23, _⟩ => ⟨S8x2048x1024, .f32⟩
  | .hbm, ⟨24, _⟩ => ⟨S8x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel3.lean ====
abbrev S4096x2048 : Shape := ⟨2, ![4096, 2048]⟩
abbrev S1x2048 : Shape := ⟨2, ![1, 2048]⟩
abbrev S2048x8192 : Shape := ⟨2, ![2048, 8192]⟩
abbrev S4096x8192 : Shape := ⟨2, ![4096, 8192]⟩
abbrev S2048x8x1024 : Shape := ⟨3, ![2048, 8, 1024]⟩
abbrev S8x2048x1024 : Shape := ⟨3, ![8, 2048, 1024]⟩
abbrev S1024x1024 : Shape := ⟨2, ![1024, 1024]⟩
abbrev S1x2048x1024 : Shape := ⟨3, ![1, 2048, 1024]⟩
abbrev S256x2048 : Shape := ⟨2, ![256, 2048]⟩
abbrev S1024x2048 : Shape := ⟨2, ![1024, 2048]⟩
abbrev S2048x1024 : Shape := ⟨2, ![2048, 1024]⟩
abbrev S256 : Shape := ⟨1, ![256]⟩
abbrev S256x1 : Shape := ⟨2, ![256, 1]⟩
abbrev S2048 : Shape := ⟨1, ![2048]⟩

abbrev nBuf : Space → Nat
  | .hbm => 11
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x8192, .f32⟩
  | .hbm, ⟨3, _⟩ => ⟨S4096x8192, .f32⟩
  | .hbm, ⟨4, _⟩ => ⟨S4096x2048, .f32⟩
  | .hbm, ⟨5, _⟩ => ⟨S4096x8192, .bf16⟩
  | .hbm, ⟨6, _⟩ => ⟨S2048x8192, .bf16⟩
  | .hbm, ⟨7, _⟩ => ⟨S2048x8x1024, .bf16⟩
  | .hbm, ⟨8, _⟩ => ⟨S8x2048x1024, .bf16⟩
  | .hbm, ⟨9, _⟩ => ⟨S4096x2048, .f32⟩
  | .hbm, ⟨10, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 12], ![false, false]⟩

def k0_cond4 (i : grid0.Coords) : BitVec 1 :=
  let arg1 : BitVec 32 := BitVec.ofNat 32 (i 1).val
  let c8_i32_5 : BitVec 32 := 8#32
  let v11 : BitVec 1 := Scalar.cmpi .sge arg1 c8_i32_5
  let v12 : BitVec 32 := Scalar.extui v11
  let c0_i32_6 : BitVec 32 := 0#32
  let v13 : BitVec 1 := Scalar.cmpi .ne v12 c0_i32_6
  v13

def k0_mult1 (i : grid0.Coords) : BitVec 32 :=
  let arg1 : BitVec 32 := BitVec.ofNat 32 (i 1).val
  let c8_i32_10 : BitVec 32 := 8#32
  let v25 : BitVec 32 := Scalar.subi arg1 c8_i32_10
  let c256_i32 : BitVec 32 := 256#32
  let v26 : BitVec 32 := Scalar.muli v25 c256_i32
  v26
def k0_off1 (i : grid0.Coords) : Fin 2 → Nat :=
  let arg1 : BitVec 32 := BitVec.ofNat 32 (i 1).val
  let c8_i32_10 : BitVec 32 := 8#32
  let v25 : BitVec 32 := Scalar.subi arg1 c8_i32_10
  let c256_i32 : BitVec 32 := 256#32
  let v26 : BitVec 32 := Scalar.muli v25 c256_i32
  let v27 : BitVec 32 := v26
  let v28 : Index := Scalar.indexCast v27
  let c0_11 : Index := 0#32
  ![v28.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.subi arg1 c8_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.subi arg1 c8_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.subi arg1 c8_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference3Ideal.lean ====
abbrev S4096x2048 : Shape := ⟨2, ![4096, 2048]⟩
abbrev S1x2048 : Shape := ⟨2, ![1, 2048]⟩
abbrev S2048x8192 : Shape := ⟨2, ![2048, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x8192, .f32⟩
  | .hbm, ⟨3, _⟩ => ⟨S4096x8192, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x8192, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel4.lean ====
abbrev S4096x2048 : Shape := ⟨2, ![4096, 2048]⟩
abbrev S1x2048 : Shape := ⟨2, ![1, 2048]⟩
abbrev S2048x4096 : Shape := ⟨2, ![2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8x2048x512 : Shape := ⟨3, ![8, 2048, 512]⟩
abbrev S1024x2048 : Shape := ⟨2, ![1024, 2048]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 22
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S4096x4096, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x4096, .bf16⟩
  | .hbm, ⟨21, _⟩ => ⟨S8x2048x512, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x2048 : Shape := ⟨2, ![4096, 2048]⟩
abbrev S1x2048 : Shape := ⟨2, ![1, 2048]⟩
abbrev S2048x4096 : Shape := ⟨2, ![2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S2048x8x512 : Shape := ⟨3, ![2048, 8, 512]⟩
abbrev S8x2048x512 : Shape := ⟨3, ![8, 2048, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S4096x4096, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x4096, .f32⟩
  | .hbm, ⟨20, _⟩ => ⟨S4096x2048, .f32⟩
  | .hbm, ⟨21, _⟩ => ⟨S2048x4096, .f32⟩
  | .hbm, ⟨22, _⟩ => ⟨S2048x8x512, .f32⟩
  | .hbm, ⟨23, _⟩ => ⟨S8x2048x512, .f32⟩
  | .hbm, ⟨24, _⟩ => ⟨S8x2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S4096x2048 : Shape := ⟨2, ![4096, 2048]⟩
abbrev S1x2048 : Shape := ⟨2, ![1, 2048]⟩
abbrev S2048x4096 : Shape := ⟨2, ![2048, 4096]⟩
abbrev S4096x4096 : Shape := ⟨2, ![4096, 4096]⟩
abbrev S2048x8x512 : Shape := ⟨3, ![2048, 8, 512]⟩
abbrev S8x2048x512 : Shape := ⟨3, ![8, 2048, 512]⟩
abbrev S1024x512 : Shape := ⟨2, ![1024, 512]⟩
abbrev S1x2048x512 : Shape := ⟨3, ![1, 2048, 512]⟩
abbrev S256x2048 : Shape := ⟨2, ![256, 2048]⟩
abbrev S1024x2048 : Shape := ⟨2, ![1024, 2048]⟩
abbrev S2048x512 : Shape := ⟨2, ![2048, 512]⟩
abbrev S256 : Shape := ⟨1, ![256]⟩
abbrev S256x1 : Shape := ⟨2, ![256, 1]⟩
abbrev S2048 : Shape := ⟨1, ![2048]⟩

abbrev nBuf : Space → Nat
  | .hbm => 11
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S4096x4096, .f32⟩
  | .hbm, ⟨4, _⟩ => ⟨S4096x2048, .f32⟩
  | .hbm, ⟨5, _⟩ => ⟨S4096x4096, .bf16⟩
  | .hbm, ⟨6, _⟩ => ⟨S2048x4096, .bf16⟩
  | .hbm, ⟨7, _⟩ => ⟨S2048x8x512, .bf16⟩
  | .hbm, ⟨8, _⟩ => ⟨S8x2048x512, .bf16⟩
  | .hbm, ⟨9, _⟩ => ⟨S4096x2048, .f32⟩
  | .hbm, ⟨10, _⟩ => ⟨S1x2048, .f32⟩
  | .local _ .vmem, ⟨0, _⟩ => ⟨S1024x512, .bf16⟩
  | .local _ .vmem, ⟨1, _⟩ => ⟨S1024x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 12], ![false, false]⟩

def k0_cond4 (i : grid0.Coords) : BitVec 1 :=
  let arg1 : BitVec 32 := BitVec.ofNat 32 (i 1).val
  let c8_i32_5 : BitVec 32 := 8#32
  let v11 : BitVec 1 := Scalar.cmpi .sge arg1 c8_i32_5
  let v12 : BitVec 32 := Scalar.extui v11
  let c0_i32_6 : BitVec 32 := 0#32
  let v13 : BitVec 1 := Scalar.cmpi .ne v12 c0_i32_6
  v13

def k0_mult1 (i : grid0.Coords) : BitVec 32 :=
  let arg1 : BitVec 32 := BitVec.ofNat 32 (i 1).val
  let c8_i32_10 : BitVec 32 := 8#32
  let v25 : BitVec 32 := Scalar.subi arg1 c8_i32_10
  let c256_i32 : BitVec 32 := 256#32
  let v26 : BitVec 32 := Scalar.muli v25 c256_i32
  v26
def k0_off1 (i : grid0.Coords) : Fin 2 → Nat :=
  let arg1 : BitVec 32 := BitVec.ofNat 32 (i 1).val
  let c8_i32_10 : BitVec 32 := 8#32
  let v25 : BitVec 32 := Scalar.subi arg1 c8_i32_10
  let c256_i32 : BitVec 32 := 256#32
  let v26 : BitVec 32 := Scalar.muli v25 c256_i32
  let v27 : BitVec 32 := v26
  let v28 : Index := Scalar.indexCast v27
  let c0_11 : Index := 0#32
  ![v28.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.subi arg1 c8_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.subi arg1 c8_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c8_i32 : BitVec 32 := 8#32
  let v1 : BitVec 32 := Scalar.subi arg1 c8_i32
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference5Ideal.lean ====
abbrev S4096x2048 : Shape := ⟨2, ![4096, 2048]⟩
abbrev S1x2048 : Shape := ⟨2, ![1, 2048]⟩
abbrev S2048x4096 : Shape := ⟨2, ![2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x4096, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S_ : Shape := ⟨0, ![]⟩
abbrev S1024x1024 : Shape := ⟨2, ![1024, 1024]⟩
abbrev S1024x2048 : Shape := ⟨2, ![1024, 2048]⟩

abbrev nBuf : Space → Nat
  | .hbm => 16
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .bf16⟩
  | .hbm, ⟨15, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .f32⟩
  | .local _ .vmem, ⟨3, _⟩ => ⟨S1024x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel7.lean ====
abbrev S4096x2048 : Shape := ⟨2, ![4096, 2048]⟩
abbrev S1x2048 : Shape := ⟨2, ![1, 2048]⟩
abbrev S2048x2048 : Shape := ⟨2, ![2048, 2048]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S1024x2048 : Shape := ⟨2, ![1024, 2048]⟩

abbrev nBuf : Space → Nat
  | .hbm => 22
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S4096x4096, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x4096, .bf16⟩
  | .hbm, ⟨21, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x2048 : Shape := ⟨2, ![4096, 2048]⟩
abbrev S1x2048 : Shape := ⟨2, ![1, 2048]⟩
abbrev S2048x2048 : Shape := ⟨2, ![2048, 2048]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S4096x4096, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel8.lean ====
abbrev S4096x2048 : Shape := ⟨2, ![4096, 2048]⟩
abbrev S1x2048 : Shape := ⟨2, ![1, 2048]⟩
abbrev S2048x2048 : Shape := ⟨2, ![2048, 2048]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S1024x2048 : Shape := ⟨2, ![1024, 2048]⟩

abbrev nBuf : Space → Nat
  | .hbm => 22
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S4096x4096, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x4096, .bf16⟩
  | .hbm, ⟨21, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x2048 : Shape := ⟨2, ![4096, 2048]⟩
abbrev S1x2048 : Shape := ⟨2, ![1, 2048]⟩
abbrev S2048x2048 : Shape := ⟨2, ![2048, 2048]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S4096x4096, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S2048x2048, .f32⟩
  | .hbm, ⟨22, _⟩ => ⟨S2048x2048, .f32⟩
  | .hbm, ⟨23, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S2048x2048 : Shape := ⟨2, ![2048, 2048]⟩
abbrev S4096x4096 : Shape := ⟨2, ![4096, 4096]⟩
abbrev S2048x4096 : Shape := ⟨2, ![2048, 4096]⟩
abbrev S1024x1024 : Shape := ⟨2, ![1024, 1024]⟩
abbrev S2048x1024 : Shape := ⟨2, ![2048, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S4096x4096, .f32⟩
  | .hbm, ⟨5, _⟩ => ⟨S4096x2048, .f32⟩
  | .hbm, ⟨6, _⟩ => ⟨S2048x2048, .bf16⟩
  | .hbm, ⟨7, _⟩ => ⟨S2048x2048, .bf16⟩
  | .hbm, ⟨8, _⟩ => ⟨S2048x4096, .bf16⟩
  | .hbm, ⟨9, _⟩ => ⟨S4096x4096, .bf16⟩
  | .hbm, ⟨10, _⟩ => ⟨S4096x2048, .f32⟩
  | .hbm, ⟨11, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_cond4 (i : grid0.Coords) : BitVec 1 :=
  let arg1 : BitVec 32 := BitVec.ofNat 32 (i 1).val
  let c4_i32_5 : BitVec 32 := 4#32
  let v11 : BitVec 1 := Scalar.cmpi .sge arg1 c4_i32_5
  let v12 : BitVec 32 := Scalar.extui v11
  let c0_i32_6 : BitVec 32 := 0#32
  let v13 : BitVec 1 := Scalar.cmpi .ne v12 c0_i32_6
  v13

def k0_mult1 (i : grid0.Coords) : BitVec 32 :=
  let arg1 : BitVec 32 := BitVec.ofNat 32 (i 1).val
  let c4_i32_10 : BitVec 32 := 4#32
  let v25 : BitVec 32 := Scalar.subi arg1 c4_i32_10
  let c256_i32 : BitVec 32 := 256#32
  let v26 : BitVec 32 := Scalar.muli v25 c256_i32
  v26
def k0_off1 (i : grid0.Coords) : Fin 2 → Nat :=
  let arg1 : BitVec 32 := BitVec.ofNat 32 (i 1).val
  let c4_i32_10 : BitVec 32 := 4#32
  let v25 : BitVec 32 := Scalar.subi arg1 c4_i32_10
  let c256_i32 : BitVec 32 := 256#32
  let v26 : BitVec 32 := Scalar.muli v25 c256_i32
  let v27 : BitVec 32 := v26
  let v28 : Index := Scalar.indexCast v27
  let c0_11 : Index := 0#32
  ![v28.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.subi arg1 c4_i32_0
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.subi arg1 c4_i32_0
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.subi arg1 c4_i32_0
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference9Ideal.lean ====
abbrev S4096x2048 : Shape := ⟨2, ![4096, 2048]⟩
abbrev S1x2048 : Shape := ⟨2, ![1, 2048]⟩
abbrev S2048x2048 : Shape := ⟨2, ![2048, 2048]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel10.lean ====
abbrev S4096x2048 : Shape := ⟨2, ![4096, 2048]⟩
abbrev S1x2048 : Shape := ⟨2, ![1, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x8192, .f32⟩
  | .hbm, ⟨3, _⟩ => ⟨S2048x8192, .bf16⟩
  | .hbm, ⟨4, _⟩ => ⟨S2048x8x1024, .bf16⟩
  | .hbm, ⟨5, _⟩ => ⟨S8x2048x1024, .bf16⟩
  | .hbm, ⟨6, _⟩ => ⟨S4096x8192, .f32⟩
  | .hbm, ⟨7, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference10Ideal.lean ====
abbrev S4096x2048 : Shape := ⟨2, ![4096, 2048]⟩
abbrev S1x2048 : Shape := ⟨2, ![1, 2048]⟩
abbrev S2048x8192 : Shape := ⟨2, ![2048, 8192]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x8192, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel11.lean ====
abbrev S4096x2048 : Shape := ⟨2, ![4096, 2048]⟩
abbrev S1x2048 : Shape := ⟨2, ![1, 2048]⟩
abbrev S2048x4096 : Shape := ⟨2, ![2048, 4096]⟩
abbrev S2048x8x512 : Shape := ⟨3, ![2048, 8, 512]⟩
abbrev S8x2048x512 : Shape := ⟨3, ![8, 2048, 512]⟩
abbrev S4096x4096 : Shape := ⟨2, ![4096, 4096]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S2048x4096, .bf16⟩
  | .hbm, ⟨4, _⟩ => ⟨S2048x8x512, .bf16⟩
  | .hbm, ⟨5, _⟩ => ⟨S8x2048x512, .bf16⟩
  | .hbm, ⟨6, _⟩ => ⟨S4096x4096, .f32⟩
  | .hbm, ⟨7, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S4096x2048 : Shape := ⟨2, ![4096, 2048]⟩
abbrev S1x2048 : Shape := ⟨2, ![1, 2048]⟩
abbrev S2048x4096 : Shape := ⟨2, ![2048, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x4096, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel12.lean ====
abbrev S4096x2048 : Shape := ⟨2, ![4096, 2048]⟩
abbrev S1x2048 : Shape := ⟨2, ![1, 2048]⟩
abbrev S2048x2048 : Shape := ⟨2, ![2048, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x4096, .bf16⟩
  | .hbm, ⟨7, _⟩ => ⟨S4096x4096, .f32⟩
  | .hbm, ⟨8, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference12Ideal.lean ====
abbrev S4096x2048 : Shape := ⟨2, ![4096, 2048]⟩
abbrev S1x2048 : Shape := ⟨2, ![1, 2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x4096, .f32⟩
  | .hbm, ⟨22, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel13.lean ====
abbrev S4096x4096 : Shape := ⟨2, ![4096, 4096]⟩
abbrev S4x512x512 : Shape := ⟨3, ![4, 512, 512]⟩
abbrev S1x2048 : Shape := ⟨2, ![1, 2048]⟩
abbrev S2048x2048 : Shape := ⟨2, ![2048, 2048]⟩
abbrev S4096x2048 : Shape := ⟨2, ![4096, 2048]⟩
abbrev S8x256x2048 : Shape := ⟨3, ![8, 256, 2048]⟩
abbrev S256x2048 : Shape := ⟨2, ![256, 2048]⟩
abbrev S16x2048 : Shape := ⟨2, ![16, 2048]⟩
abbrev S272x2048 : Shape := ⟨2, ![272, 2048]⟩
abbrev S256x1 : Shape := ⟨2, ![256, 1]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 11
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4x512x512, .f32⟩
  | .hbm, ⟨2, _⟩ => ⟨S1x2048, .f32⟩
  | .hbm, ⟨3, _⟩ => ⟨S2048x2048, .f32⟩
  | .hbm, ⟨4, _⟩ => ⟨S4096x2048, .f32⟩
  | .hbm, ⟨5, _⟩ => ⟨S4x512x512, .bf16⟩
  | .hbm, ⟨6, _⟩ => ⟨S2048x2048, .bf16⟩
  | .hbm, ⟨7, _⟩ => ⟨S8x256x2048, .bf16⟩
  | .hbm, ⟨8, _⟩ => ⟨S2048x2048, .bf16⟩
  | .hbm, ⟨9, _⟩ => ⟨S4096x2048, .f32⟩
  | .hbm, ⟨10, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S256x2048, .f32⟩
  | .local _ .vmem, ⟨5, _⟩ => ⟨S256x2048, .f32⟩
  | .local _ .vmem, ⟨6, _⟩ => ⟨S4x512x512, .bf16⟩
  | .local _ .vmem, ⟨7, _⟩ => ⟨S1x2048, .f32⟩
  | .local _ .vmem, ⟨8, _⟩ => ⟨S2048x2048, .bf16⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S272x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S4096x4096 : Shape := ⟨2, ![4096, 4096]⟩
abbrev S4x512x512 : Shape := ⟨3, ![4, 512, 512]⟩
abbrev S1x2048 : Shape := ⟨2, ![1, 2048]⟩
abbrev S2048x2048 : Shape := ⟨2, ![2048, 2048]⟩
abbrev S4096x2048 : Shape := ⟨2, ![4096, 2048]⟩
abbrev S1x4096x4096 : Shape := ⟨3, ![1, 4096, 4096]⟩
abbrev S1x4096x2048 : Shape := ⟨3, ![1, 4096, 2048]⟩
abbrev S1x4096x4x512 : Shape := ⟨4, ![1, 4096, 4, 512]⟩
abbrev S_ : Shape := ⟨0, ![]⟩
abbrev S1x1x4x512 : Shape := ⟨4, ![1, 1, 4, 512]⟩
abbrev S1x4097x4x512 : Shape := ⟨4, ![1, 4097, 4, 512]⟩
abbrev S4 : Shape := ⟨1, ![4]⟩
abbrev S4096 : Shape := ⟨1, ![4096]⟩
abbrev S4096x1 : Shape := ⟨2, ![4096, 1]⟩
abbrev S1x4 : Shape := ⟨2, ![1, 4]⟩
abbrev S4096x4 : Shape := ⟨2, ![4096, 4]⟩
abbrev S4096x4x1 : Shape := ⟨3, ![4096, 4, 1]⟩
abbrev S4096x4x2 : Shape := ⟨3, ![4096, 4, 2]⟩
abbrev S1x4096x4x1 : Shape := ⟨4, ![1, 4096, 4, 1]⟩
abbrev S4x512x1x4096 : Shape := ⟨4, ![4, 512, 1, 4096]⟩
abbrev S1x1x2048 : Shape := ⟨3, ![1, 1, 2048]⟩

abbrev nBuf : Space → Nat
  | .hbm => 86
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x512x512, .f32⟩
  | .hbm, ⟨2, _⟩ => ⟨S1x2048, .f32⟩
  | .hbm, ⟨3, _⟩ => ⟨S2048x2048, .f32⟩
  | .hbm, ⟨4, _⟩ => ⟨S4096x2048, .f32⟩
  | .hbm, ⟨5, _⟩ => ⟨S1x4096x4096, .f32⟩
  | .hbm, ⟨6, _⟩ => ⟨S1x4096x2048, .f32⟩
  | .hbm, ⟨7, _⟩ => ⟨S1x4096x2048, .f32⟩
  | .hbm, ⟨8, _⟩ => ⟨S1x4096x4x512, .f32⟩
  | .hbm, ⟨9, _⟩ => ⟨S_, .f32⟩
  | .hbm, ⟨10, _⟩ => ⟨S_, .f32⟩
  | .hbm, ⟨11, _⟩ => ⟨S1x4096x4x512, .f32⟩
  | .hbm, ⟨12, _⟩ => ⟨S1x1x4x512, .f32⟩
  | .hbm, ⟨13, _⟩ => ⟨S_, .f32⟩
  | .hbm, ⟨14, _⟩ => ⟨S1x1x4x512, .f32⟩
  | .hbm, ⟨15, _⟩ => ⟨S1x4097x4x512, .f32⟩
  | .hbm, ⟨16, _⟩ => ⟨S4, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S1x4, .i32⟩
  | .hbm, ⟨26, _⟩ => ⟨S4096x4, .i32⟩
  | .hbm, ⟨27, _⟩ => ⟨S4096x4, .i32⟩
  | .hbm, ⟨28, _⟩ => ⟨S4096x4, .i32⟩
  | .hbm, ⟨29, _⟩ => ⟨S_, .i32⟩
  | .hbm, ⟨30, _⟩ => ⟨S4096x4, .i32⟩
  | .hbm, ⟨31, _⟩ => ⟨S4096x4, .i32⟩
  | .hbm, ⟨32, _⟩ => ⟨S4, .i32⟩
  | .hbm, ⟨33, _⟩ => ⟨S1x4, .i32⟩
  | .hbm, ⟨34, _⟩ => ⟨S_, .i32⟩
  | .hbm, ⟨35, _⟩ => ⟨S4096x4, .i32⟩
  | .hbm, ⟨36, _⟩ => ⟨S4096x4, .i1⟩
  | .hbm, ⟨37, _⟩ => ⟨S_, .i32⟩
  | .hbm, ⟨38, _⟩ => ⟨S4096x4, .i32⟩
  | .hbm, ⟨39, _⟩ => ⟨S4096x4, .i32⟩
  | .hbm, ⟨40, _⟩ => ⟨S4096x4, .i32⟩
  | .hbm, ⟨41, _⟩ => ⟨S_, .i32⟩
  | .hbm, ⟨42, _⟩ => ⟨S1x4, .i32⟩
  | .hbm, ⟨43, _⟩ => ⟨S1x4, .i1⟩
  | .hbm, ⟨44, _⟩ => ⟨S_, .i32⟩
  | .hbm, ⟨45, _⟩ => ⟨S1x4, .i32⟩
  | .hbm, ⟨46, _⟩ => ⟨S1x4, .i32⟩
  | .hbm, ⟨47, _⟩ => ⟨S1x4, .i32⟩
  | .hbm, ⟨48, _⟩ => ⟨S4096x4, .i32⟩
  | .hbm, ⟨49, _⟩ => ⟨S4096x4x1, .i32⟩
  | .hbm, ⟨50, _⟩ => ⟨S4096x4x1, .i32⟩
  | .hbm, ⟨51, _⟩ => ⟨S4096x4x2, .i32⟩
  | .hbm, ⟨52, _⟩ => ⟨S1x4096x4x512, .f32⟩
  | .hbm, ⟨53, _⟩ => ⟨S1x4, .i32⟩
  | .hbm, ⟨54, _⟩ => ⟨S4096x4, .i32⟩
  | .hbm, ⟨55, _⟩ => ⟨S4096x4, .i32⟩
  | .hbm, ⟨56, _⟩ => ⟨S4096x4, .i32⟩
  | .hbm, ⟨57, _⟩ => ⟨S4096x4, .f32⟩
  | .hbm, ⟨58, _⟩ => ⟨S1x4096x4x512, .f32⟩
  | .hbm, ⟨59, _⟩ => ⟨S1x4096x4x512, .f32⟩
  | .hbm, ⟨60, _⟩ => ⟨S1x4096x4x1, .f32⟩
  | .hbm, ⟨61, _⟩ => ⟨S1x4096x4x512, .f32⟩
  | .hbm, ⟨62, _⟩ => ⟨S1x4096x4x512, .f32⟩
  | .hbm, ⟨63, _⟩ => ⟨S1x4096x4x512, .f32⟩
  | .hbm, ⟨64, _⟩ => ⟨S4x512x1x4096, .f32⟩
  | .hbm, ⟨65, _⟩ => ⟨S1x4096x4x512, .f32⟩
  | .hbm, ⟨66, _⟩ => ⟨S1x4096x2048, .f32⟩
  | .hbm, ⟨67, _⟩ => ⟨S1x1x2048, .f32⟩
  | .hbm, ⟨68, _⟩ => ⟨S1x4096x2048, .f32⟩
  | .hbm, ⟨69, _⟩ => ⟨S1x4096x2048, .f32⟩
  | .hbm, ⟨70, _⟩ => ⟨S1x4096x2048, .f32⟩
  | .hbm, ⟨71, _⟩ => ⟨S1x4096x2048, .f32⟩
  | .hbm, ⟨72, _⟩ => ⟨S_, .f32⟩
  | .hbm, ⟨73, _⟩ => ⟨S1x4096x2048, .f32⟩
  | .hbm, ⟨74, _⟩ => ⟨S1x4096x2048, .f32⟩
  | .hbm, ⟨75, _⟩ => ⟨S_, .f32⟩
  | .hbm, ⟨76, _⟩ => ⟨S1x4096x2048, .f32⟩
  | .hbm, ⟨77, _⟩ => ⟨S1x4096x2048, .f32⟩
  | .hbm, ⟨78, _⟩ => ⟨S1x4096x2048, .f32⟩
  | .hbm, ⟨79, _⟩ => ⟨S1x4096x2048, .f32⟩
  | .hbm, ⟨80, _⟩ => ⟨S1x4096x2048, .f32⟩
  | .hbm, ⟨81, _⟩ => ⟨S1x4096x2048, .f32⟩
  | .hbm, ⟨82, _⟩ => ⟨S1x4096x2048, .f32⟩
  | .hbm, ⟨83, _⟩ => ⟨S4096x2048, .f32⟩
  | .hbm, ⟨84, _⟩ => ⟨S4096x2048, .f32⟩
  | .hbm, ⟨85, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Kernel14.lean ====
abbrev S4096x2048 : Shape := ⟨2, ![4096, 2048]⟩
abbrev S4096x128 : Shape := ⟨2, ![4096, 128]⟩
abbrev S4096x8192 : Shape := ⟨2, ![4096, 8192]⟩
abbrev S2048x2048 : Shape := ⟨2, ![2048, 2048]⟩
abbrev S8x256x2048 : Shape := ⟨3, ![8, 256, 2048]⟩
abbrev S256x2048 : Shape := ⟨2, ![256, 2048]⟩
abbrev S256x128 : Shape := ⟨2, ![256, 128]⟩
abbrev S256x1 : Shape := ⟨2, ![256, 1]⟩

abbrev nBuf : Space → Nat
  | .hbm => 17
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x8192, .f32⟩
  | .hbm, ⟨7, _⟩ => ⟨S2048x2048, .f32⟩
  | .hbm, ⟨8, _⟩ => ⟨S4096x2048, .f32⟩
  | .hbm, ⟨9, _⟩ => ⟨S4096x2048, .bf16⟩
  | .hbm, ⟨10, _⟩ => ⟨S4096x2048, .bf16⟩
  | .hbm, ⟨11, _⟩ => ⟨S4096x2048, .bf16⟩
  | .hbm, ⟨12, _⟩ => ⟨S2048x2048, .bf16⟩
  | .hbm, ⟨13, _⟩ => ⟨S8x256x2048, .bf16⟩
  | .hbm, ⟨14, _⟩ => ⟨S2048x2048, .bf16⟩
  | .hbm, ⟨15, _⟩ => ⟨S4096x2048, .f32⟩
  | .hbm, ⟨16, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x2048, .f32⟩
  | .local _ .vmem, ⟨13, _⟩ => ⟨S256x2048, .f32⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference14Ideal.lean ====
abbrev S4096x2048 : Shape := ⟨2, ![4096, 2048]⟩
abbrev S4096x128 : Shape := ⟨2, ![4096, 128]⟩
abbrev S4096x8192 : Shape := ⟨2, ![4096, 8192]⟩
abbrev S2048x2048 : Shape := ⟨2, ![2048, 2048]⟩
abbrev S1x4096x2048 : Shape := ⟨3, ![1, 4096, 2048]⟩
abbrev S1x4096x16x128 : Shape := ⟨4, ![1, 4096, 16, 128]⟩
abbrev S4096x16 : Shape := ⟨2, ![4096, 16]⟩
abbrev S1x4096x16 : Shape := ⟨3, ![1, 4096, 16]⟩
abbrev S1x1x4096x16 : Shape := ⟨4, ![1, 1, 4096, 16]⟩
abbrev S3x1x4096x16 : Shape := ⟨4, ![3, 1, 4096, 16]⟩
abbrev S_ : Shape := ⟨0, ![]⟩
abbrev S3x1x4096x16x1 : Shape := ⟨5, ![3, 1, 4096, 16, 1]⟩
abbrev S1x1x4096x16x128 : Shape := ⟨5, ![1, 1, 4096, 16, 128]⟩
abbrev S3x1x4096x16x128 : Shape := ⟨5, ![3, 1, 4096, 16, 128]⟩

abbrev nBuf : Space → Nat
  | .hbm => 64
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x8192, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S1x4096x2048, .f32⟩
  | .hbm, ⟨11, _⟩ => ⟨S1x4096x16x128, .f32⟩
  | .hbm, ⟨12, _⟩ => ⟨S1x4096x16x128, .f32⟩
  | .hbm, ⟨13, _⟩ => ⟨S1x4096x16x128, .f32⟩
  | .hbm, ⟨14, _⟩ => ⟨S4096x16, .f32⟩
  | .hbm, ⟨15, _⟩ => ⟨S1x4096x16, .f32⟩
  | .hbm, ⟨16, _⟩ => ⟨S4096x16, .f32⟩
  | .hbm, ⟨17, _⟩ => ⟨S1x4096x16, .f32⟩
  | .hbm, ⟨18, _⟩ => ⟨S4096x16, .f32⟩
  | .hbm, ⟨19, _⟩ => ⟨S1x4096x16, .f32⟩
  | .hbm, ⟨20, _⟩ => ⟨S1x1x4096x16, .f32⟩
  | .hbm, ⟨21, _⟩ => ⟨S1x1x4096x16, .f32⟩
  | .hbm, ⟨22, _⟩ => ⟨S1x1x4096x16, .f32⟩
  | .hbm, ⟨23, _⟩ => ⟨S3x1x4096x16, .f32⟩
  | .hbm, ⟨24, _⟩ => ⟨S_, .f32⟩
  | .hbm, ⟨25, _⟩ => ⟨S1x4096x16, .f32⟩
  | .hbm, ⟨26, _⟩ => ⟨S_, .f32⟩
  | .hbm, ⟨27, _⟩ => ⟨S1x4096x16, .f32⟩
  | .hbm, ⟨28, _⟩ => ⟨S1x4096x16, .f32⟩
  | .hbm, ⟨29, _⟩ => ⟨S1x1x4096x16, .f32⟩
  | .hbm, ⟨30, _⟩ => ⟨S3x1x4096x16, .f32⟩
  | .hbm, ⟨31, _⟩ => ⟨S3x1x4096x16, .f32⟩
  | .hbm, ⟨32, _⟩ => ⟨S3x1x4096x16, .f32⟩
  | .hbm, ⟨33, _⟩ => ⟨S_, .f32⟩
  | .hbm, ⟨34, _⟩ => ⟨S1x4096x16, .f32⟩
  | .hbm, ⟨35, _⟩ => ⟨S1x1x4096x16, .f32⟩
  | .hbm, ⟨36, _⟩ => ⟨S3x1x4096x16, .f32⟩
  | .hbm, ⟨37, _⟩ => ⟨S3x1x4096x16, .f32⟩
  | .hbm, ⟨38, _⟩ => ⟨S3x1x4096x16x1, .f32⟩
  | .hbm, ⟨39, _⟩ => ⟨S1x1x4096x16x128, .f32⟩
  | .hbm, ⟨40, _⟩ => ⟨S1x1x4096x16x128, .f32⟩
  | .hbm, ⟨41, _⟩ => ⟨S1x1x4096x16x128, .f32⟩
  | .hbm, ⟨42, _⟩ => ⟨S3x1x4096x16x128, .f32⟩
  | .hbm, ⟨43, _⟩ => ⟨S3x1x4096x16x128, .f32⟩
  | .hbm, ⟨44, _⟩ => ⟨S3x1x4096x16x128, .f32⟩
  | .hbm, ⟨45, _⟩ => ⟨S_, .f32⟩
  | .hbm, ⟨46, _⟩ => ⟨S1x4096x16x128, .f32⟩
  | .hbm, ⟨47, _⟩ => ⟨S1x4096x2048, .f32⟩
  | .hbm, ⟨48, _⟩ => ⟨S1x4096x2048, .f32⟩
  | .hbm, ⟨49, _⟩ => ⟨S1x4096x2048, .f32⟩
  | .hbm, ⟨50, _⟩ => ⟨S_, .f32⟩
  | .hbm, ⟨51, _⟩ => ⟨S1x4096x2048, .f32⟩
  | .hbm, ⟨52, _⟩ => ⟨S1x4096x2048, .f32⟩
  | .hbm, ⟨53, _⟩ => ⟨S_, .f32⟩
  | .hbm, ⟨54, _⟩ => ⟨S1x4096x2048, .f32⟩
  | .hbm, ⟨55, _⟩ => ⟨S1x4096x2048, .f32⟩
  | .hbm, ⟨56, _⟩ => ⟨S1x4096x2048, .f32⟩
  | .hbm, ⟨57, _⟩ => ⟨S1x4096x2048, .f32⟩
  | .hbm, ⟨58, _⟩ => ⟨S1x4096x2048, .f32⟩
  | .hbm, ⟨59, _⟩ => ⟨S1x4096x2048, .f32⟩
  | .hbm, ⟨60, _⟩ => ⟨S1x4096x2048, .f32⟩
  | .hbm, ⟨61, _⟩ => ⟨S4096x2048, .f32⟩
  | .hbm, ⟨62, _⟩ => ⟨S4096x2048, .f32⟩
  | .hbm, ⟨63, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Proof.Spec.lean ====
module

public import Idealize.ShloMosaic.Lib.Pointwise

@[expose] public section

/-! # The quantities of the layer's middle part, over the real numbers

Every quantity is a function of natural numbers (token, channel), so that a tile of the kernel and the whole array of the reference
read the same function at shifted arguments. -/

noncomputable section
namespace Cert.Mid
open Idealize.ShloMosaic

/-- The inputs over the reals: the projection (value half and gate half), the group matrices, the scale, the output matrix and the
    cotangent of the layer's output. -/
structure Data where
  pr : ℕ → ℕ → ℝ
  wg : ℕ → ℕ → ℕ → ℝ
  sc : ℕ → ℝ
  wo : ℕ → ℕ → ℝ
  dx : ℕ → ℕ → ℝ

namespace Data
variable (I : Data)

/-- The window of group `g`. -/
def W (g : ℕ) : ℕ := 2 ^ (g + 1)
/-- Channel `c` of group `g` among all channels. -/
def col (g c : ℕ) : ℕ := 512 * g + c
/-- The number of tokens the window of token `t` holds. -/
def cnt (g t : ℕ) : ℝ := ((min (t + 1) (W g) : ℕ) : ℝ)
/-- The projection `k` tokens before token `t`, zero before the first token. -/
def back (t e k : ℕ) : ℝ := if k ≤ t then I.pr (t - k) e else 0
/-- The pooled value: the mean over the window less the value itself. -/
def pool (g t c : ℕ) : ℝ := (∑ k ∈ Finset.range (W g), I.back t (col g c) k) / cnt g t - I.pr t (col g c)
/-- The mixed value before the scale. -/
def yp (g t d : ℕ) : ℝ := ∑ c : Fin 512, I.pool g t c * I.wg g c d
/-- The gate. -/
def gate (t e : ℕ) : ℝ := I.pr t (2048 + e)
/-- The logistic function. -/
def sg (x : ℝ) : ℝ := 1 / (1 + Real.exp (-x))
/-- The cotangent of the product of value and gate. -/
def dz (t e : ℕ) : ℝ := ∑ k : Fin 2048, I.dx t k * I.wo e k
/-- The cotangent of the scaled value. -/
def dy (g t d : ℕ) : ℝ := I.dz t (col g d) * (I.gate t (col g d) * sg (I.gate t (col g d)))
/-- The cotangent of the gate. -/
def dgate (g t d : ℕ) : ℝ :=
  I.dz t (col g d) * (I.yp g t d * I.sc (col g d)) *
    (sg (I.gate t (col g d)) * (1 + I.gate t (col g d) * (1 - sg (I.gate t (col g d)))))
/-- The cotangent of the mixed value before the scale. -/
def dyp (g t d : ℕ) : ℝ := I.dy g t d * I.sc (col g d)
/-- The cotangent of the pooled value. -/
def dpool (g t c : ℕ) : ℝ := ∑ d : Fin 512, I.dyp g t d * I.wg g c d
/-- The cotangent of the window's sum, zero past the last token. -/
def q (g t c : ℕ) : ℝ := if t < 4096 then I.dpool g t c / cnt g t else 0
/-- The cotangent of the projection's value half. -/
def du (g t c : ℕ) : ℝ := (∑ k ∈ Finset.range (W g), I.q g (t + k) c) - I.dpool g t c
/-- One token's term of the group matrices' gradient. -/
def dwgT (g c d t : ℕ) : ℝ := I.pool g t c * I.dyp g t d
/-- One token's term of the scale's gradient. -/
def dscT (g d t : ℕ) : ℝ := I.dy g t d * I.yp g t d

/-- The cotangent of the whole projection: the value half, then the gate half. -/
def dproj (t e : ℕ) : ℝ := if e < 2048 then I.du (e / 512) t (e % 512) else I.dgate ((e - 2048) / 512) t ((e - 2048) % 512)

theorem dproj_du (g : ℕ) {t c : ℕ} (hc : c < 512) (hg : g < 4 := by decide) : I.dproj t (512 * g + c) = I.du g t c := by
  unfold dproj
  rw [if_pos (by omega), show (512 * g + c) / 512 = g by omega, show (512 * g + c) % 512 = c by omega]
theorem dproj_dgate (g : ℕ) {t c : ℕ} (hc : c < 512) : I.dproj t (2048 + 512 * g + c) = I.dgate g t c := by
  unfold dproj
  rw [if_neg (by omega), show (2048 + 512 * g + c - 2048) / 512 = g by omega, show (2048 + 512 * g + c - 2048) % 512 = c by omega]

end Data

theorem cnt_pos (g t : ℕ) : 0 < Data.cnt g t := by
  unfold Data.cnt Data.W
  exact_mod_cast lt_min (Nat.succ_pos t) (by positivity)

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_div (x y : ℝ) (h : y ≠ 0) : Ideal.div (x : EReal) (y : EReal) = ((x / y : ℝ) : EReal) := by
  rw [Ideal.div_coe h, ← EReal.coe_mul, mul_one_div]

theorem coe_sg (x : ℝ) : Ideal.div 1 (1 + Ideal.exp (0 - (x : EReal))) = ((Data.sg x : ℝ) : EReal) := by
  have h : (0 : EReal) - (x : EReal) = ((-x : ℝ) : EReal) := by rw [zero_sub, EReal.coe_neg]
  have h1 : (1 : EReal) + ((Real.exp (-x) : ℝ) : EReal) = ((1 + Real.exp (-x) : ℝ) : EReal) := by rw [EReal.coe_add, EReal.coe_one]
  rw [h, Ideal.exp_coe, h1, ← EReal.coe_one, coe_div _ _ (by positivity)]
  rfl

theorem one_sub_coe (x : ℝ) : (1 : EReal) - (x : EReal) = ((1 - x : ℝ) : EReal) := by rw [EReal.coe_sub, EReal.coe_one]
theorem one_add_coe (x : ℝ) : (1 : EReal) + (x : EReal) = ((1 + x : ℝ) : EReal) := by rw [EReal.coe_add, EReal.coe_one]

end Cert.Mid
end
-- ==== Proof.Words.lean ====
module

public import proofs.«01_k».proof.Proof.Gen.KernelIdeal.Skeleton
public import proofs.«01_k».proof.Proof.Spec
public import Idealize.ShloMosaic.Lib.WordArith

@[expose] public section

/-! # Vectors that hold real numbers, and the words the kernel computes the window's count from -/

noncomputable section
namespace Cert.Mid
open Idealize.ShloMosaic

/-- The matrix holds the real numbers `f`. -/
abbrev R2 {a b : ℕ} (v : (⟨2, ![a, b]⟩ : Shape).Idx → EReal) (f : ℕ → ℕ → ℝ) : Prop :=
  ∀ (r : Fin a) (c : Fin b), v (ix2 r c) = ((f r.val c.val : ℝ) : EReal)
/-- The same of a matrix with a leading axis of length one. -/
abbrev R3 {b n : ℕ} (v : (⟨3, ![1, b, n]⟩ : Shape).Idx → EReal) (f : ℕ → ℕ → ℝ) : Prop :=
  ∀ (r : Fin b) (c : Fin n), v (ix3 0 r c) = ((f r.val c.val : ℝ) : EReal)
/-- The rows that lie before the last token hold the real numbers `f`, the matrix's first row being token `b`. -/
abbrev RH {a n : ℕ} (b : ℕ) (v : (⟨2, ![a, n]⟩ : Shape).Idx → EReal) (f : ℕ → ℕ → ℝ) : Prop :=
  ∀ (r : Fin a) (c : Fin n), b + r.val < 4096 → v (ix2 r c) = ((f r.val c.val : ℝ) : EReal)

theorem base_word (i : ℕ) : Scalar.muli (BitVec.ofNat 32 i) 256#32 = BitVec.ofNat 32 (256 * i) := by
  show BitVec.ofNat 32 i * 256#32 = _
  rw [Nat.mul_comm, BitVec.ofNat_mul]
theorem next_word (i : ℕ) : Scalar.addi (BitVec.ofNat 32 i) 1#32 = BitVec.ofNat 32 (i + 1) := by
  show BitVec.ofNat 32 i + 1#32 = _
  rw [BitVec.ofNat_add]

theorem cnt_word {b r g n : ℕ} (hb : b ≤ 4096) (hr : r < 256) (hn : n = Data.W g) (hs : n ≤ 16) :
    FloatOps.sitofp (F := Ideal) .f32 (IntOp.minsi (IntOp.addi (IntOp.addi (BitVec.ofNat 32 b) (BitVec.ofNat 32 r)) 1#32) (BitVec.ofNat 32 n))
      = ((Data.cnt g (b + r) : ℝ) : EReal) := by
  have e : IntOp.addi (IntOp.addi (BitVec.ofNat 32 b) (BitVec.ofNat 32 r)) 1#32 = BitVec.ofNat 32 (b + r + 1) := by
    show BitVec.ofNat 32 b + BitVec.ofNat 32 r + 1#32 = _
    rw [BitVec.ofNat_add, BitVec.ofNat_add]
  have h : (IntOp.minsi (BitVec.ofNat 32 (b + r + 1)) (BitVec.ofNat 32 n)).toInt = ((min (b + r + 1) n : ℕ) : ℤ) := by
    have h1 : (BitVec.ofNat 32 (b + r + 1)).toInt = ((b + r + 1 : ℕ) : ℤ) := by
      rw [BitVec.toInt_eq_toNat_of_lt] <;> rw [BitVec.toNat_ofNat, Nat.mod_eq_of_lt] <;> omega
    have h2 : (BitVec.ofNat 32 n).toInt = ((n : ℕ) : ℤ) := by
      rw [BitVec.toInt_eq_toNat_of_lt] <;> rw [BitVec.toNat_ofNat, Nat.mod_eq_of_lt] <;> omega
    unfold IntOp.minsi
    simp only [BitVec.slt_iff_toInt_lt, h1, h2, Nat.cast_lt]
    split
    · rw [h1, min_eq_left (by omega)]
    · rw [h2, min_eq_right (by omega)]
  rw [e]
  show (((IntOp.minsi (BitVec.ofNat 32 (b + r + 1)) (BitVec.ofNat 32 n)).toInt : ℝ) : EReal) = _
  rw [h]
  subst hn
  rw [Int.cast_natCast]
  rfl

theorem last_word {α : Type} {i : ℕ} (hi : i < 16) (x y : α) :
    Scalar.select (Scalar.cmpi .slt (BitVec.ofNat 32 i) 15#32) x y = if i < 15 then x else y := by
  have h1 : (BitVec.ofNat 32 i).toInt = ((i : ℕ) : ℤ) := by
    rw [BitVec.toInt_eq_toNat_of_lt] <;> rw [BitVec.toNat_ofNat, Nat.mod_eq_of_lt] <;> omega
  unfold Scalar.select Scalar.cmpi IntOp.cmpi
  simp only [BitVec.slt_eq_decide, h1]
  by_cases h : i < 15 <;> simp [h]

end Cert.Mid
end
-- ==== Proof.Leaf.lean ====
module

public import proofs.«01_k».proof.Proof.Words
public import proofs.«01_k».proof.Proof.Gen.KernelIdeal.Value
public import Idealize.ShloMosaic.Lib.Pipeline.ValueKit
public import Idealize.ShloMosaic.Lib.Pipeline.ReadBack

@[expose] public section

/-! # Loads of a tile: a rectangle of a block, and a rectangle of what earlier stores left in a scratch buffer -/

set_option maxRecDepth 16384

noncomputable section
namespace Cert.Mid
open Cert.KernelIdeal Cert.KernelIdeal.Gen Idealize.ShloMosaic Idealize.SL.Sem

section Generic
variable {Val : EltTy → Type} {e : EltTy}

theorem ld2 {A N a n o p : ℕ} (X : (⟨2, ![A, N]⟩ : Shape).Idx → Val e)
    (inb : ∀ x, (![o, p] : Fin 2 → ℕ) x + (![a, n] : Fin 2 → ℕ) x ≤ (⟨2, ![A, N]⟩ : Shape).size x) (r : Fin a) (c : Fin n) :
    View.ld X (Rect.unit (s := ⟨2, ![A, N]⟩) ![o, p] ![a, n] inb) (ix2 r c)
      = X (ix2 ⟨o + r.val, lt_of_lt_of_le (Nat.add_lt_add_left r.isLt o) (inb 0)⟩ ⟨p + c.val, lt_of_lt_of_le (Nat.add_lt_add_left c.isLt p) (inb 1)⟩) := by
  rw [View.ld_unit]
  refine congrArg X ?_
  funext x
  match x with
  | ⟨0, _⟩ => rfl
  | ⟨1, _⟩ => rfl

theorem ld3 {A N M a n k o p q : ℕ} (X : (⟨3, ![A, N, M]⟩ : Shape).Idx → Val e)
    (inb : ∀ x, (![o, p, q] : Fin 3 → ℕ) x + (![a, n, k] : Fin 3 → ℕ) x ≤ (⟨3, ![A, N, M]⟩ : Shape).size x) (r : Fin a) (c : Fin n) (d : Fin k) :
    View.ld X (Rect.unit (s := ⟨3, ![A, N, M]⟩) ![o, p, q] ![a, n, k] inb) (ix3 r c d)
      = X (ix3 ⟨o + r.val, lt_of_lt_of_le (Nat.add_lt_add_left r.isLt o) (inb 0)⟩ ⟨p + c.val, lt_of_lt_of_le (Nat.add_lt_add_left c.isLt p) (inb 1)⟩
          ⟨q + d.val, lt_of_lt_of_le (Nat.add_lt_add_left d.isLt q) (inb 2)⟩) := by
  rw [View.ld_unit]
  refine congrArg X ?_
  funext x
  match x with
  | ⟨0, _⟩ => rfl
  | ⟨1, _⟩ => rfl
  | ⟨2, _⟩ => rfl

variable [∀ e, Nonempty (Val e)]

/-- What the last store leaves at an index of its rectangle. -/
theorem canon_in {A N a n o p : ℕ}
    (inb : ∀ x, (![o, p] : Fin 2 → ℕ) x + (![a, n] : Fin 2 → ℕ) x ≤ (⟨2, ![A, N]⟩ : Shape).size x)
    (w : (⟨2, ![a, n]⟩ : Shape).Idx → Val e) (L : List (View.Piece Val ⟨2, ![A, N]⟩ e)) (R : Fin A) (E : Fin N) (r : Fin a) (c : Fin n)
    (hr : R.val = o + r.val) (hc : E.val = p + c.val) :
    View.canon ((⟨Rect.unit (s := ⟨2, ![A, N]⟩) ![o, p] ![a, n] inb, w⟩ : View.Piece Val ⟨2, ![A, N]⟩ e) :: L) (ix2 R E) = w (ix2 r c) := by
  have h : (ix2 R E : (⟨2, ![A, N]⟩ : Shape).Idx) = (Rect.unit (s := ⟨2, ![A, N]⟩) ![o, p] ![a, n] inb).emb (ix2 r c) := by
    funext x
    match x with
    | ⟨0, _⟩ => exact Fin.ext (by rw [Rect.emb_apply]; show R.val = o + 1 * r.val; omega)
    | ⟨1, _⟩ => exact Fin.ext (by rw [Rect.emb_apply]; show E.val = p + 1 * c.val; omega)
  rw [h]
  exact View.canon_cons_emb (Rect.unit (s := ⟨2, ![A, N]⟩) ![o, p] ![a, n] inb) w L _

/-- Off the last store's rows the earlier stores remain. -/
theorem canon_off {A N a n o p : ℕ}
    (inb : ∀ x, (![o, p] : Fin 2 → ℕ) x + (![a, n] : Fin 2 → ℕ) x ≤ (⟨2, ![A, N]⟩ : Shape).size x)
    (w : (⟨2, ![a, n]⟩ : Shape).Idx → Val e) (L : List (View.Piece Val ⟨2, ![A, N]⟩ e)) (R : Fin A) (E : Fin N)
    (hr : R.val < o ∨ o + a ≤ R.val) :
    View.canon ((⟨Rect.unit (s := ⟨2, ![A, N]⟩) ![o, p] ![a, n] inb, w⟩ : View.Piece Val ⟨2, ![A, N]⟩ e) :: L) (ix2 R E) = View.canon L (ix2 R E) := by
  refine View.canon_cons_of_not_mem _ L fun hm => ?_
  have h := (Rect.mem_set_unit (inb := inb).mp hm) 0
  have h1 : o ≤ R.val ∧ R.val < o + a := h
  omega

theorem readCov2 {sig : RefSig} {κ : Kind} {sp : Space} {A N a n o p : ℕ} (v : View sig κ sp ⟨2, ![A, N]⟩ e)
    (L : List (View.Piece Val ⟨2, ![A, N]⟩ e))
    (inb : ∀ x, (![o, p] : Fin 2 → ℕ) x + (![a, n] : Fin 2 → ℕ) x ≤ (⟨2, ![A, N]⟩ : Shape).size x) (r : Fin a) (c : Fin n) :
    v.readCov L (Rect.unit (s := ⟨2, ![A, N]⟩) ![o, p] ![a, n] inb).toLoadRect (ix2 r c)
      = View.canon L (ix2 ⟨o + r.val, lt_of_lt_of_le (Nat.add_lt_add_left r.isLt o) (inb 0)⟩ ⟨p + c.val, lt_of_lt_of_le (Nat.add_lt_add_left c.isLt p) (inb 1)⟩) := by
  rw [View.readCov_eq_canon']
  refine congrArg (View.canon L) ?_
  funext x
  match x with
  | ⟨0, _⟩ => exact Fin.ext (by show o + 1 * r.val = o + r.val; omega)
  | ⟨1, _⟩ => exact Fin.ext (by show p + 1 * c.val = p + c.val; omega)

end Generic

variable (I : Data)

/-- The blocks of tile `ii` hold the inputs: the cotangent and the 16 rows after it, the output matrix, the value half and the 16 rows
    before it, the gate half and the 16 rows after it, the group matrices and the scale. The rows after the last token and before the
    first are free. -/
structure TileIn (ii : grid0.Coords) (D : FVec Ideal S256x2048 .f32) (Dh : FVec Ideal S16x2048 .f32) (WO : FVec Ideal S2048x2048 .bf16)
    (U : FVec Ideal S256x2048 .f32) (Uh : FVec Ideal S16x2048 .f32) (G : FVec Ideal S256x2048 .f32) (Gh : FVec Ideal S16x2048 .f32)
    (WG : FVec Ideal S4x512x512 .bf16) (SC : FVec Ideal S1x2048 .f32) : Prop where
  hD : R2 D fun r k => I.dx (256 * (ii 0).val + r) k
  hDh : RH (256 * ((ii 0).val + 1)) Dh fun r k => I.dx (256 * ((ii 0).val + 1) + r) k
  hWO : R2 WO fun e k => I.wo e k
  hU : R2 U fun r e => I.pr (256 * (ii 0).val + r) e
  hUh : ∀ (r : Fin 16) (e : Fin 2048), 0 < (ii 0).val → Uh (ix2 r e) = ((I.pr (256 * (ii 0).val - 16 + r.val) e.val : ℝ) : EReal)
  hG : R2 G fun r e => I.gate (256 * (ii 0).val + r) e
  hGh : RH (256 * ((ii 0).val + 1)) Gh fun r e => I.gate (256 * ((ii 0).val + 1) + r) e
  hWG : ∀ (g : Fin 4) (c d : Fin 512), WG (ix3 g c d) = ((I.wg g.val c.val d.val : ℝ) : EReal)
  hSC : R2 SC fun _ e => I.sc e

variable {I}
variable {ii : grid0.Coords} {D : FVec Ideal S256x2048 .f32} {Dh : FVec Ideal S16x2048 .f32} {WO : FVec Ideal S2048x2048 .bf16}
  {U : FVec Ideal S256x2048 .f32} {Uh : FVec Ideal S16x2048 .f32} {G : FVec Ideal S256x2048 .f32} {Gh : FVec Ideal S16x2048 .f32}
  {WG : FVec Ideal S4x512x512 .bf16} {SC : FVec Ideal S1x2048 .f32}
namespace TileIn
variable (T : TileIn I ii D Dh WO U Uh G Gh WG SC)
include T

theorem lt : (ii 0).val < 16 := (ii 0).isLt

theorem gt {p : ℕ} (g : ℕ) (inb) (hp : p = 512 * g) :
    R2 (View.ld (Val := Elt Ideal) (e' := .f32) G (Rect.unit (s := S256x2048) ![0, p] ![256, 512] inb)) fun r c => I.gate (256 * (ii 0).val + r) (Data.col g c) := by
  subst hp
  intro r c
  refine (ld2 (Val := Elt Ideal) (e := .f32) G inb r c).trans ?_
  refine (T.hG _ _).trans ?_
  simp only [Nat.zero_add]
  rfl

theorem gth {p : ℕ} (g : ℕ) (inb) (hp : p = 512 * g) :
    RH (256 * ((ii 0).val + 1)) (View.ld (Val := Elt Ideal) (e' := .f32) Gh (Rect.unit (s := S16x2048) ![0, p] ![16, 512] inb))
      fun r c => I.gate (256 * ((ii 0).val + 1) + r) (Data.col g c) := by
  subst hp
  intro r c h
  refine (ld2 (Val := Elt Ideal) (e := .f32) Gh inb r c).trans ?_
  refine (T.hGh _ _ (by simpa using h)).trans ?_
  simp only [Nat.zero_add]
  rfl

theorem sc {p : ℕ} (g : ℕ) (inb) (hp : p = 512 * g) :
    R2 (View.ld (Val := Elt Ideal) (e' := .f32) SC (Rect.unit (s := S1x2048) ![0, p] ![1, 512] inb)) fun _ c => I.sc (Data.col g c) := by
  subst hp
  intro r c
  refine (ld2 (Val := Elt Ideal) (e := .f32) SC inb r c).trans ?_
  exact T.hSC _ _

theorem wo {p : ℕ} (g : ℕ) (inb) (hp : p = 512 * g) :
    R2 (View.ld (Val := Elt Ideal) (e' := .bf16) WO (Rect.unit (s := S2048x2048) ![p, 0] ![512, 2048] inb)) fun c k => I.wo (Data.col g c) k := by
  subst hp
  intro r c
  refine (ld2 (Val := Elt Ideal) (e := .bf16) WO inb r c).trans ?_
  refine (T.hWO _ _).trans ?_
  simp only [Nat.zero_add]
  rfl

theorem wg {p : ℕ} (g : ℕ) (inb) (hp : p = g) :
    R3 (View.ld (Val := Elt Ideal) (e' := .bf16) WG (Rect.unit (s := S4x512x512) ![p, 0, 0] ![1, 512, 512] inb)) fun c d => I.wg g c d := by
  subst hp
  intro c d
  refine (ld3 (Val := Elt Ideal) (e := .bf16) WG inb 0 c d).trans ?_
  refine (T.hWG _ _ _).trans ?_
  simp only [Nat.zero_add]
  rfl

/-- The cotangent's rows and the 16 after them, as the scratch buffer holds them. -/
theorem dx {sp : Space} {κ : Kind} {sig : RefSig} (v : View sig κ sp S272x2048 .bf16) (i1 i2 i3) :
    RH (256 * (ii 0).val) (v.readCov (Val := Elt Ideal) [⟨Rect.unit (s := S272x2048) ![256, 0] ![16, 2048] i1, k0_pay3 (F := Ideal) Dh⟩,
        ⟨Rect.unit (s := S272x2048) ![0, 0] ![256, 2048] i2, k0_pay2 (F := Ideal) D⟩] (Rect.unit (s := S272x2048) ![0, 0] ![272, 2048] i3).toLoadRect)
      fun r k => I.dx (256 * (ii 0).val + r) k := by
  intro r k h
  refine (readCov2 (Val := Elt Ideal) v _ i3 r k).trans ?_
  by_cases hr : r.val < 256
  · refine (canon_off (Val := Elt Ideal) i1 _ _ _ _ (by left; show 0 + r.val < 256; omega)).trans ?_
    refine (canon_in (Val := Elt Ideal) i2 _ _ _ _ (⟨r.val, hr⟩ : Fin 256) k (by rfl) (by rfl)).trans ?_
    unfold_payloads
    pointwise
    exact T.hD _ _
  · refine (canon_in (Val := Elt Ideal) i1 _ _ _ _ (⟨r.val - 256, by omega⟩ : Fin 16) k (by show 0 + r.val = 256 + (r.val - 256); omega) (by rfl)).trans ?_
    unfold_payloads
    pointwise
    refine (T.hDh _ _ (by show _ + (r.val - 256) < 4096; omega)).trans ?_
    simp only [show 256 * ((ii 0).val + 1) + (r.val - 256) = 256 * (ii 0).val + r.val by omega]

/-- The value half `k` tokens back, as the scratch buffer holds it. -/
theorem back {sp : Space} {κ : Kind} {sig : RefSig} {o p : ℕ} (g k : ℕ) (v : View sig κ sp S272x2048 .f32) (i1 i2 i3) (hp : p = 512 * g) (ho : o + k = 16) :
    R2 (v.readCov (Val := Elt Ideal) [⟨Rect.unit (s := S272x2048) ![16, 0] ![256, 2048] i1, k0_pay7 (F := Ideal) U⟩,
        ⟨Rect.unit (s := S272x2048) ![0, 0] ![16, 2048] i2, k0_pay6 (F := Ideal) ii Uh⟩] (Rect.unit (s := S272x2048) ![o, p] ![256, 512] i3).toLoadRect)
      fun r c => I.back (256 * (ii 0).val + r) (Data.col g c) k := by
  subst hp
  intro r c
  have hpc : 512 * g + c.val < 2048 := lt_of_lt_of_le (Nat.add_lt_add_left c.isLt _) (i3 1)
  refine (readCov2 (Val := Elt Ideal) v _ i3 r c).trans ?_
  by_cases hr : o + r.val < 16
  · refine (canon_off (Val := Elt Ideal) i1 _ _ _ _ (by left; exact hr)).trans ?_
    refine (canon_in (Val := Elt Ideal) i2 _ _ _ _ (⟨o + r.val, hr⟩ : Fin 16) (⟨512 * g + c.val, hpc⟩ : Fin 2048) (by simp) (by simp)).trans ?_
    unfold_payloads
    pointwise
    have hb : Scalar.cmpi .sgt (BitVec.ofNat 32 (ii 0).val) 0#32 = BitVec.ofBool (decide (0 < (ii 0).val)) := by
      have hl := T.lt
      have h1 : (BitVec.ofNat 32 (ii 0).val).toInt = (((ii 0).val : ℕ) : ℤ) := by
        rw [BitVec.toInt_eq_toNat_of_lt] <;> rw [BitVec.toNat_ofNat, Nat.mod_eq_of_lt] <;> omega
      unfold Scalar.cmpi IntOp.cmpi
      simp only [BitVec.slt_eq_decide, h1]
      simp
    by_cases h0 : 0 < (ii 0).val
    · simp only [hb, h0, decide_true]
      refine (T.hUh _ _ h0).trans ?_
      unfold Data.back Data.col
      rw [if_pos (by omega)]
      simp only [show 256 * (ii 0).val - 16 + (o + r.val) = 256 * (ii 0).val + r.val - k by omega]
    · simp only [hb, h0, decide_false]
      unfold Data.back
      rw [if_neg (by omega)]
      first | rfl | simp
  · refine (canon_in (Val := Elt Ideal) i1 _ _ _ _ (⟨o + r.val - 16, by omega⟩ : Fin 256) (⟨512 * g + c.val, hpc⟩ : Fin 2048) (by show o + r.val = 16 + (o + r.val - 16); omega) (by simp)).trans ?_
    unfold_payloads
    pointwise
    refine (T.hU _ _).trans ?_
    unfold Data.back Data.col
    rw [if_pos (by omega)]
    simp only [show 256 * (ii 0).val + (o + r.val - 16) = 256 * (ii 0).val + r.val - k by omega]

end TileIn

/-- The window sum's cotangent `k` tokens on, as the scratch buffer holds it. -/
theorem q_on {sp : Space} {κ : Kind} {sig : RefSig} {o p i g : ℕ} (k : ℕ) (v : View sig κ sp S272x2048 .f32)
    {L : List (View.Piece (Elt Ideal) S272x2048 .f32)} (i1 i2 i3) (a : FVec Ideal S16x512 .f32)
    (b : FVec Ideal S256x512 .f32) (hb : R2 b fun r c => I.q g (256 * i + r) c) (ha : R2 a fun r c => I.q g (256 * (i + 1) + r) c) (ho : o = k) (hk : k ≤ 16) :
    R2 (v.readCov (Val := Elt Ideal) (⟨Rect.unit (s := S272x2048) ![256, p] ![16, 512] i1, a⟩ ::
        ⟨Rect.unit (s := S272x2048) ![0, p] ![256, 512] i2, b⟩ :: L) (Rect.unit (s := S272x2048) ![o, p] ![256, 512] i3).toLoadRect)
      fun r c => I.q g (256 * i + r + k) c := by
  subst ho
  intro r c
  refine (readCov2 (Val := Elt Ideal) v _ i3 r c).trans ?_
  by_cases hr : o + r.val < 256
  · refine (canon_off (Val := Elt Ideal) i1 _ _ _ _ (by left; exact hr)).trans ?_
    refine (canon_in (Val := Elt Ideal) i2 _ _ _ _ (⟨o + r.val, hr⟩ : Fin 256) c (by simp) (by rfl)).trans ?_
    refine (hb _ _).trans ?_
    simp only [show 256 * i + (o + r.val) = 256 * i + r.val + o by omega]
  · refine (canon_in (Val := Elt Ideal) i1 _ _ _ _ (⟨o + r.val - 256, by omega⟩ : Fin 16) c (by show o + r.val = 256 + (o + r.val - 256); omega) (by rfl)).trans ?_
    refine (ha _ _).trans ?_
    simp only [show 256 * (i + 1) + (o + r.val - 256) = 256 * i + r.val + o by omega]

end Cert.Mid
end
-- ==== Proof.Blocks.lean ====
module

public import proofs.«01_k».proof.Proof.Leaf
public import proofs.«01_k».proof.Proof.Gen.KernelIdeal.Value
public import Idealize.ShloMosaic.Lib.Pipeline.ValueKit

@[expose] public section

/-! # The blocks of a tile, read off the argument arrays -/

set_option maxRecDepth 16384
set_option maxHeartbeats 4000000

noncomputable section
namespace Cert.Mid
open Cert.KernelIdeal Cert.KernelIdeal.Gen Idealize.ShloMosaic Idealize.ShloMosaic.TcCoe Idealize.SL.Sem

/-- The real inputs that the five argument arrays hold. -/
def ofArrays (P : FVec Ideal S4096x4096 .f32) (W : FVec Ideal S4x512x512 .f32) (S : FVec Ideal S1x2048 .f32) (O : FVec Ideal S2048x2048 .f32)
    (X : FVec Ideal S4096x2048 .f32) : Data where
  pr t e := if h : t < 4096 ∧ e < 4096 then EReal.toReal (P (ix2 ⟨t, h.1⟩ ⟨e, h.2⟩)) else 0
  wg g a b := if h : g < 4 ∧ a < 512 ∧ b < 512 then EReal.toReal (W (ix3 ⟨g, h.1⟩ ⟨a, h.2.1⟩ ⟨b, h.2.2⟩)) else 0
  sc e := if h : e < 2048 then EReal.toReal (S (ix2 0 ⟨e, h⟩)) else 0
  wo e k := if h : e < 2048 ∧ k < 2048 then EReal.toReal (O (ix2 ⟨e, h.1⟩ ⟨k, h.2⟩)) else 0
  dx t k := if h : t < 4096 ∧ k < 2048 then EReal.toReal (X (ix2 ⟨t, h.1⟩ ⟨k, h.2⟩)) else 0

/-- An array whose entries are all real numbers. -/
def Real' {s : Shape} (v : s.Idx → EReal) : Prop := ∀ i, ((EReal.toReal (v i) : ℝ) : EReal) = v i

/-- The arrays' entries are real numbers. -/
structure AllReal (P : FVec Ideal S4096x4096 .f32) (W : FVec Ideal S4x512x512 .f32) (S : FVec Ideal S1x2048 .f32) (O : FVec Ideal S2048x2048 .f32)
    (X : FVec Ideal S4096x2048 .f32) : Prop where
  hP : Real' P
  hW : Real' W
  hS : Real' S
  hO : Real' O
  hX : Real' X

section
variable {P : FVec Ideal S4096x4096 .f32} {W : FVec Ideal S4x512x512 .f32} {S : FVec Ideal S1x2048 .f32} {O : FVec Ideal S2048x2048 .f32}
    {X : FVec Ideal S4096x2048 .f32} (H : AllReal P W S O X)
include H

theorem AllReal.pr (t e : Fin 4096) : P (ix2 t e) = (((ofArrays P W S O X).pr t.val e.val : ℝ) : EReal) := by
  show _ = (((if h : t.val < 4096 ∧ e.val < 4096 then _ else 0 : ℝ)) : EReal)
  rw [dif_pos ⟨t.isLt, e.isLt⟩]
  exact (H.hP _).symm
theorem AllReal.wg (g : Fin 4) (a b : Fin 512) : W (ix3 g a b) = (((ofArrays P W S O X).wg g.val a.val b.val : ℝ) : EReal) := by
  show _ = (((if h : g.val < 4 ∧ a.val < 512 ∧ b.val < 512 then _ else 0 : ℝ)) : EReal)
  rw [dif_pos ⟨g.isLt, a.isLt, b.isLt⟩]
  exact (H.hW _).symm
theorem AllReal.sc (z : Fin 1) (e : Fin 2048) : S (ix2 z e) = (((ofArrays P W S O X).sc e.val : ℝ) : EReal) := by
  obtain rfl : z = 0 := Subsingleton.elim _ _
  show _ = (((if h : e.val < 2048 then _ else 0 : ℝ)) : EReal)
  rw [dif_pos e.isLt]
  exact (H.hS _).symm
theorem AllReal.wo (e k : Fin 2048) : O (ix2 e k) = (((ofArrays P W S O X).wo e.val k.val : ℝ) : EReal) := by
  show _ = (((if h : e.val < 2048 ∧ k.val < 2048 then _ else 0 : ℝ)) : EReal)
  rw [dif_pos ⟨e.isLt, k.isLt⟩]
  exact (H.hO _).symm
theorem AllReal.dx (t : Fin 4096) (k : Fin 2048) : X (ix2 t k) = (((ofArrays P W S O X).dx t.val k.val : ℝ) : EReal) := by
  show _ = (((if h : t.val < 4096 ∧ k.val < 2048 then _ else 0 : ℝ)) : EReal)
  rw [dif_pos ⟨t.isLt, k.isLt⟩]
  exact (H.hX _).symm
end

theorem i0 : ∀ t : Fin cfg0.N, win0_0.index t = ![(grid0.coords t 0).val, 0] := by decide +kernel
theorem i1 : ∀ t : Fin cfg0.N, win0_1.index t = ![min (16 * ((grid0.coords t 0).val + 1)) 255, 0] := by decide +kernel
theorem i2 : ∀ t : Fin cfg0.N, win0_2.index t = ![0, 0] := by decide +kernel
theorem i3 : ∀ t : Fin cfg0.N, win0_3.index t = ![(grid0.coords t 0).val, 0] := by decide +kernel
theorem i4 : ∀ t : Fin cfg0.N, win0_4.index t = ![16 * (grid0.coords t 0).val - 1, 0] := by decide +kernel
theorem i5 : ∀ t : Fin cfg0.N, win0_5.index t = ![(grid0.coords t 0).val, 1] := by decide +kernel
theorem i6 : ∀ t : Fin cfg0.N, win0_6.index t = ![min (16 * ((grid0.coords t 0).val + 1)) 255, 1] := by decide +kernel
theorem i7 : ∀ t : Fin cfg0.N, win0_7.index t = ![0, 0, 0] := by decide +kernel
theorem i8 : ∀ t : Fin cfg0.N, win0_8.index t = ![0, 0] := by decide +kernel
theorem i9 : ∀ t : Fin cfg0.N, win0_9.index t = ![(grid0.coords t 0).val, 0] := by decide +kernel
theorem i10 : ∀ t : Fin cfg0.N, win0_10.index t = ![0, 0, 0] := by decide +kernel
theorem i11 : ∀ t : Fin cfg0.N, win0_11.index t = ![0, 0] := by decide +kernel
theorem co : ∀ t : Fin cfg0.N, (grid0.coords t 0).val = t.val := by decide +kernel

variable (m : (ℓ : Loc nD τ sig) → Buf (Elt Ideal) ℓ) (c : Dev nD)

/-- The five argument arrays on a device. -/
abbrev A0 : FVec Ideal S4096x4096 .f32 := m ((c : Thread nD τ).loc main_arg0)
abbrev A1 : FVec Ideal S4x512x512 .f32 := m ((c : Thread nD τ).loc main_arg1)
abbrev A2 : FVec Ideal S1x2048 .f32 := m ((c : Thread nD τ).loc main_arg2)
abbrev A3 : FVec Ideal S2048x2048 .f32 := m ((c : Thread nD τ).loc main_arg3)
abbrev A4 : FVec Ideal S4096x2048 .f32 := m ((c : Thread nD τ).loc main_arg4)

theorem blk0 (t : Fin cfg0.N) (r : Fin 256) (k : Fin 2048) (R : Fin 4096) (hR : R.val = 256 * (grid0.coords t 0).val + r.val) :
    (iblk m c 0 t : FVec Ideal S256x2048 .f32) (ix2 r k) = A4 m c (ix2 R k) := by
  blk_ext [iblk, V_main_arg4, i0 t]

theorem V3 (e k : Fin 2048) : (V m c main_v3 : FVec Ideal S2048x2048 .bf16) (ix2 e k) = A3 m c (ix2 e k) := by
  entry_read
  pointwise
theorem V2 (g : Fin 4) (a b : Fin 512) : (V m c main_v2 : FVec Ideal S4x512x512 .bf16) (ix3 g a b) = A1 m c (ix3 g a b) := by
  entry_read
  pointwise
theorem blk1 (t : Fin cfg0.N) (r : Fin 16) (k : Fin 2048) (R : Fin 4096) (hR : R.val = 256 * ((grid0.coords t 0).val + 1) + r.val) :
    (iblk m c 1 t : FVec Ideal S16x2048 .f32) (ix2 r k) = A4 m c (ix2 R k) := by
  blk_ext [iblk, V_main_arg4, i1 t]
theorem blk3 (t : Fin cfg0.N) (r : Fin 256) (k : Fin 2048) (R : Fin 4096) (K : Fin 4096) (hR : R.val = 256 * (grid0.coords t 0).val + r.val) (hK : K.val = k.val) :
    (iblk m c 3 t : FVec Ideal S256x2048 .f32) (ix2 r k) = A0 m c (ix2 R K) := by
  blk_ext [iblk, V_main_arg0, i3 t]
theorem blk4 (t : Fin cfg0.N) (r : Fin 16) (k : Fin 2048) (R : Fin 4096) (K : Fin 4096) (h : 0 < (grid0.coords t 0).val)
    (hR : R.val = 256 * (grid0.coords t 0).val - 16 + r.val) (hK : K.val = k.val) :
    (iblk m c 4 t : FVec Ideal S16x2048 .f32) (ix2 r k) = A0 m c (ix2 R K) := by
  blk_ext [iblk, V_main_arg0, i4 t]
theorem blk5 (t : Fin cfg0.N) (r : Fin 256) (k : Fin 2048) (R : Fin 4096) (K : Fin 4096) (hR : R.val = 256 * (grid0.coords t 0).val + r.val) (hK : K.val = 2048 + k.val) :
    (iblk m c 5 t : FVec Ideal S256x2048 .f32) (ix2 r k) = A0 m c (ix2 R K) := by
  blk_ext [iblk, V_main_arg0, i5 t]
theorem blk6 (t : Fin cfg0.N) (r : Fin 16) (k : Fin 2048) (R : Fin 4096) (K : Fin 4096) (hR : R.val = 256 * ((grid0.coords t 0).val + 1) + r.val) (hK : K.val = 2048 + k.val) :
    (iblk m c 6 t : FVec Ideal S16x2048 .f32) (ix2 r k) = A0 m c (ix2 R K) := by
  blk_ext [iblk, V_main_arg0, i6 t]
theorem blk8 (t : Fin cfg0.N) (r : Fin 1) (k : Fin 2048)  :
    (iblk m c 8 t : FVec Ideal S1x2048 .f32) (ix2 r k) = A2 m c (ix2 r k) := by
  blk_ext [iblk, V_main_arg2, i8 t]
theorem blk2 (t : Fin cfg0.N) (r : Fin 2048) (k : Fin 2048)  :
    (iblk m c 2 t : FVec Ideal S2048x2048 .bf16) (ix2 r k) = A3 m c (ix2 r k) := by
  refine Eq.trans ?_ (V3 m c r k)
  blk_ext [iblk, i2 t]
theorem blk7 (t : Fin cfg0.N) (g : Fin 4) (a b : Fin 512)  :
    (iblk m c 7 t : FVec Ideal S4x512x512 .bf16) (ix3 g a b) = A1 m c (ix3 g a b) := by
  refine Eq.trans ?_ (V2 m c g a b)
  blk_ext [iblk, i7 t]

/-- The real inputs of a device's argument arrays. -/
abbrev inp : Data := ofArrays (A0 m c) (A1 m c) (A2 m c) (A3 m c) (A4 m c)

theorem tileIn (H : AllReal (A0 m c) (A1 m c) (A2 m c) (A3 m c) (A4 m c)) (t : Fin cfg0.N) :
    TileIn (inp m c) (grid0.coords t) (iblk m c 0 t) (iblk m c 1 t) (iblk m c 2 t) (iblk m c 3 t) (iblk m c 4 t) (iblk m c 5 t)
      (iblk m c 6 t) (iblk m c 7 t) (iblk m c 8 t) := by
  have hl : (grid0.coords t 0).val < 16 := (grid0.coords t 0).isLt
  constructor
  · intro r k
    exact (blk0 m c t r k ⟨_, by omega⟩ rfl).trans (H.dx _ _)
  · intro r k h
    exact (blk1 m c t r k ⟨_, h⟩ rfl).trans (H.dx _ _)
  · intro r k
    exact (blk2 m c t r k).trans (H.wo _ _)
  · intro r k
    exact (blk3 m c t r k ⟨_, by omega⟩ ⟨k.val, lt_of_lt_of_le k.isLt (by norm_num)⟩ rfl rfl).trans (H.pr _ _)
  · intro r k h
    exact (blk4 m c t r k ⟨_, by omega⟩ ⟨k.val, lt_of_lt_of_le k.isLt (by norm_num)⟩ h rfl rfl).trans (H.pr _ _)
  · intro r k
    exact (blk5 m c t r k ⟨_, by omega⟩ ⟨_, by omega⟩ rfl rfl).trans (H.pr _ _)
  · intro r k h
    exact (blk6 m c t r k ⟨_, h⟩ ⟨_, by omega⟩ rfl rfl).trans (H.pr _ _)
  · intro g a b
    exact (blk7 m c t g a b).trans (H.wg _ _ _)
  · intro r k
    exact (blk8 m c t r k).trans (H.sc _ _)

end Cert.Mid
end
-- ==== Proof.Tile0.lean ====
module

public import proofs.«01_k».proof.Proof.Words

@[expose] public section

/-! # The values group 0 of a tile stores

Tile `i` holds the tokens from `256 * i` on; group 0 holds the channels from 0 on and averages over 2 tokens. -/

set_option maxRecDepth 16384
set_option maxHeartbeats 4000000

noncomputable section
namespace Cert.Mid
open Cert.KernelIdeal Cert.KernelIdeal.Gen Idealize.ShloMosaic

variable (I : Data) {i : ℕ}

/-- The pooled value of group 0. -/
theorem pool0 (ii : grid0.Coords) (v20 : FVec Ideal S256x2048 .f32) (v31 : FVec Ideal S256x512 .f32)
    (h20 : R2 v20 fun r e => I.pr (256 * (ii 0).val + r) e) (hv31 : R2 v31 fun r c => I.back (256 * (ii 0).val + r) (Data.col 0 c) 1) :
    R2 (k0_pay10 (F := Ideal) v20 (k0_pay8 ii) (k0_pay9 v20) v31) fun r c => I.pool 0 (256 * (ii 0).val + r) c := by
  intro r c
  have hi : (ii 0).val < 16 := (ii 0).isLt
  unfold_payloads
  pointwise
  simp only [base_word]
  rw [cnt_word (g := 0) (by omega) r.isLt (by rfl) (by norm_num)]
  simp only [h20 _ _, hv31 _ _, ← EReal.coe_add]
  rw [coe_div _ _ (cnt_pos _ _).ne', ← EReal.coe_sub]
  refine congrArg _ ?_
  unfold Data.pool
  simp only [Data.W, Finset.sum_range_succ, Finset.sum_range_zero, Nat.reduceAdd, Nat.reducePow, zero_add, Nat.reduceMul]
  simp only [Data.back, Data.col, Nat.zero_le, if_true, Nat.sub_zero, Nat.reduceMul, Nat.zero_add]

/-- The matrix of the group. -/
theorem w0 (w : FVec Ideal S1x512x512 .bf16) (hw : R3 w fun c d => I.wg 0 c d) :
    R2 (k0_pay18 (F := Ideal) w) fun c d => I.wg 0 c d := by
  intro r c
  unfold_payloads
  pointwise
  simp only [hw _ _, ← EReal.coe_mul, ← EReal.coe_add, ← EReal.coe_sub, coe_sum, coe_sg, one_sub_coe, one_add_coe]
  all_goals rfl

/-- The pooled value, narrowed. -/
theorem pb0 (pl : FVec Ideal S256x512 .f32) (hpl : R2 pl fun r c => I.pool 0 (256 * i + r) c) :
    R2 (k0_pay19 (F := Ideal) pl) fun r c => I.pool 0 (256 * i + r) c := by
  intro r c
  unfold_payloads
  pointwise
  simp only [hpl _ _, ← EReal.coe_mul, ← EReal.coe_add, ← EReal.coe_sub, coe_sum, coe_sg, one_sub_coe, one_add_coe]
  all_goals rfl

/-- The mixed value before the scale. -/
theorem yp0 (pl : FVec Ideal S256x512 .f32) (w : FVec Ideal S1x512x512 .bf16) (hpl : R2 pl fun r c => I.pool 0 (256 * i + r) c) (hw : R3 w fun c d => I.wg 0 c d) :
    R2 (k0_pay20 (F := Ideal) pl w) fun r c => I.yp 0 (256 * i + r) c := by
  intro r c
  unfold_payloads
  pointwise
  simp only [hpl _ _, hw _ _, ← EReal.coe_mul, ← EReal.coe_add, ← EReal.coe_sub, coe_sum, coe_sg, one_sub_coe, one_add_coe]
  all_goals rfl

/-- The cotangent of the product, for the rows before the last token. -/
theorem dz0 (dxb : FVec Ideal S272x2048 .bf16) (wo : FVec Ideal S512x2048 .bf16) (hdx : RH (256 * i) dxb fun r k => I.dx (256 * i + r) k) (hwo : R2 wo fun c k => I.wo (Data.col 0 c) k) :
    RH (256 * i) (k0_pay23 (F := Ideal) dxb wo) fun r c => I.dz (256 * i + r) (Data.col 0 c) := by
  intro r c hr
  unfold_payloads
  pointwise
  simp only [hdx r _ hr, hwo _ _, ← EReal.coe_mul, ← EReal.coe_add, ← EReal.coe_sub, coe_sum, coe_sg, one_sub_coe, one_add_coe]
  all_goals rfl

/-- The cotangent of the gate. -/
theorem dgate0 (hi : i < 16) (sc : FVec Ideal S1x512 .f32) (gt : FVec Ideal S256x512 .f32) (dxb : FVec Ideal S272x2048 .bf16) (wo : FVec Ideal S512x2048 .bf16) (yp : FVec Ideal S256x512 .f32) (hsc : R2 sc fun _ c => I.sc (Data.col 0 c)) (hgt : R2 gt fun r c => I.gate (256 * i + r) (Data.col 0 c)) (hdx : RH (256 * i) dxb fun r k => I.dx (256 * i + r) k) (hwo : R2 wo fun c k => I.wo (Data.col 0 c) k) (hyp : R2 yp fun r c => I.yp 0 (256 * i + r) c) :
    R2 (k0_pay26 (F := Ideal) sc yp gt (k0_pay21 gt) (Scalar.ofBits .f32 0x3F800000#32) dxb wo) fun r c => I.dgate 0 (256 * i + r) c := by
  intro r c
  unfold_payloads
  pointwise
  have hdx' := fun (r : Fin 256) (k : Fin 2048) => hdx ⟨r.val, by omega⟩ k (by show 256 * i + r.val < 4096; omega)
  simp only [hsc _ _, hgt _ _, hdx' _ _, hwo _ _, hyp _ _, ← EReal.coe_mul, ← EReal.coe_add, ← EReal.coe_sub, coe_sum, coe_sg, one_sub_coe, one_add_coe]
  all_goals rfl

/-- The cotangent of the mixed value, narrowed. -/
theorem dyp0 (hi : i < 16) (sc : FVec Ideal S1x512 .f32) (gt : FVec Ideal S256x512 .f32) (dxb : FVec Ideal S272x2048 .bf16) (wo : FVec Ideal S512x2048 .bf16) (hsc : R2 sc fun _ c => I.sc (Data.col 0 c)) (hgt : R2 gt fun r c => I.gate (256 * i + r) (Data.col 0 c)) (hdx : RH (256 * i) dxb fun r k => I.dx (256 * i + r) k) (hwo : R2 wo fun c k => I.wo (Data.col 0 c) k) :
    R2 (k0_pay28 (F := Ideal) sc gt (k0_pay21 gt) (Scalar.ofBits .f32 0x3F800000#32) dxb wo) fun r c => I.dyp 0 (256 * i + r) c := by
  intro r c
  unfold_payloads
  pointwise
  have hdx' := fun (r : Fin 256) (k : Fin 2048) => hdx ⟨r.val, by omega⟩ k (by show 256 * i + r.val < 4096; omega)
  simp only [hsc _ _, hgt _ _, hdx' _ _, hwo _ _, ← EReal.coe_mul, ← EReal.coe_add, ← EReal.coe_sub, coe_sum, coe_sg, one_sub_coe, one_add_coe]
  all_goals rfl

/-- One tile added to the gradient of the scale. -/
theorem dsc0 (hi : i < 16) (yp : FVec Ideal S256x512 .f32) (gt : FVec Ideal S256x512 .f32) (dxb : FVec Ideal S272x2048 .bf16) (wo : FVec Ideal S512x2048 .bf16) (acc : FVec Ideal S1x512 .f32) (hyp : R2 yp fun r c => I.yp 0 (256 * i + r) c) (hgt : R2 gt fun r c => I.gate (256 * i + r) (Data.col 0 c)) (hdx : RH (256 * i) dxb fun r k => I.dx (256 * i + r) k) (hwo : R2 wo fun c k => I.wo (Data.col 0 c) k) (z : Fin 1) (c : Fin 512) :
    (k0_pay27 (F := Ideal) yp gt (k0_pay21 gt) (Scalar.ofBits .f32 0x3F800000#32) dxb wo acc) (ix2 z c) = acc (ix2 z c) + ((∑ r : Fin 256, I.dscT 0 c.val (256 * i + r.val) : ℝ) : EReal) := by
  obtain rfl : z = 0 := Subsingleton.elim _ _
  unfold_payloads
  pointwise
  have hdx' := fun (r : Fin 256) (k : Fin 2048) => hdx ⟨r.val, by omega⟩ k (by show 256 * i + r.val < 4096; omega)
  simp only [hyp _ _, hgt _ _, hdx' _ _, hwo _ _, ← EReal.coe_mul, ← EReal.coe_add, ← EReal.coe_sub, coe_sum, coe_sg, one_sub_coe, one_add_coe]
  all_goals rfl

/-- One tile added to the gradient of the group matrix. -/
theorem dwg0 (hi : i < 16) (sc : FVec Ideal S1x512 .f32) (pb : FVec Ideal S256x512 .bf16) (gt : FVec Ideal S256x512 .f32) (dxb : FVec Ideal S272x2048 .bf16) (wo : FVec Ideal S512x2048 .bf16) (acc : FVec Ideal S1x512x512 .f32) (hsc : R2 sc fun _ c => I.sc (Data.col 0 c)) (hpb : R2 pb fun r c => I.pool 0 (256 * i + r) c) (hgt : R2 gt fun r c => I.gate (256 * i + r) (Data.col 0 c)) (hdx : RH (256 * i) dxb fun r k => I.dx (256 * i + r) k) (hwo : R2 wo fun c k => I.wo (Data.col 0 c) k) (z : Fin 1) (c d : Fin 512) :
    (k0_pay30 (F := Ideal) (k0_pay29 sc pb gt (k0_pay21 gt) (Scalar.ofBits .f32 0x3F800000#32) dxb wo acc)) (ix3 z c d) = acc (ix3 z c d) + ((∑ r : Fin 256, I.dwgT 0 c.val d.val (256 * i + r.val) : ℝ) : EReal) := by
  obtain rfl : z = 0 := Subsingleton.elim _ _
  unfold_payloads
  pointwise
  have hdx' := fun (r : Fin 256) (k : Fin 2048) => hdx ⟨r.val, by omega⟩ k (by show 256 * i + r.val < 4096; omega)
  simp only [hpb _ _, hsc _ _, hgt _ _, hdx' _ _, hwo _ _, ← EReal.coe_mul, ← EReal.coe_add, ← EReal.coe_sub, coe_sum, coe_sg, one_sub_coe, one_add_coe]
  all_goals rfl

/-- The cotangent of the pooled value. -/
theorem dpool0 (w : FVec Ideal S512x512 .bf16) (dyp : FVec Ideal S256x512 .bf16) (hw : R2 w fun c d => I.wg 0 c d) (hdyp : R2 dyp fun r c => I.dyp 0 (256 * i + r) c) :
    R2 (k0_pay31 (F := Ideal) w dyp) fun r c => I.dpool 0 (256 * i + r) c := by
  intro r c
  unfold_payloads
  pointwise
  simp only [hw _ _, hdyp _ _, ← EReal.coe_mul, ← EReal.coe_add, ← EReal.coe_sub, coe_sum, coe_sg, one_sub_coe, one_add_coe]
  all_goals rfl

/-- The cotangent of the window sum. -/
theorem q0 (hi : i < 16) (w : FVec Ideal S512x512 .bf16) (dyp : FVec Ideal S256x512 .bf16) (hw : R2 w fun c d => I.wg 0 c d) (hdyp : R2 dyp fun r c => I.dyp 0 (256 * i + r) c) :
    R2 (k0_pay32 (F := Ideal) (k0_pay16 (BitVec.ofNat 32 i)) w dyp) fun r c => I.q 0 (256 * i + r) c := by
  intro r c
  unfold_payloads
  pointwise
  simp only [base_word]
  rw [cnt_word (g := 0) (by omega) r.isLt (by rfl) (by norm_num)]
  simp only [hw _ _, hdyp _ _, ← EReal.coe_mul, ← EReal.coe_add, ← EReal.coe_sub, coe_sum, coe_sg, one_sub_coe, one_add_coe]
  rw [coe_div _ _ (cnt_pos _ _).ne']
  refine congrArg _ ?_
  rw [Data.q, if_pos (by omega)]
  all_goals rfl

/-- The same for the rows after the tile, zero past the last token. -/
theorem qh0 (hi : i < 16) (w : FVec Ideal S512x512 .bf16) (sc : FVec Ideal S1x512 .f32) (dzv : FVec Ideal S272x512 .f32) (gt : FVec Ideal S16x512 .f32) (hw : R2 w fun c d => I.wg 0 c d) (hsc : R2 sc fun _ c => I.sc (Data.col 0 c)) (hdz : RH (256 * i) dzv fun r c => I.dz (256 * i + r) (Data.col 0 c)) (hgt : RH (256 * (i + 1)) gt fun r c => I.gate (256 * (i + 1) + r) (Data.col 0 c)) :
    R2 (k0_pay33 (F := Ideal) (k0_pay17 (BitVec.ofNat 32 i)) (Scalar.cmpi .slt (BitVec.ofNat 32 i) 15#32) w sc dzv gt) fun r c => I.q 0 (256 * (i + 1) + r) c := by
  intro r c
  unfold_payloads
  pointwise
  rw [last_word hi]
  by_cases h15 : i < 15
  · rw [if_pos h15]
    simp only [next_word, base_word]
    rw [cnt_word (g := 0) (by omega) (by omega) (by rfl) (by norm_num)]
    have hdz' := fun (d : Fin 512) => hdz ⟨256 + r.val, by omega⟩ d (by show 256 * i + (256 + r.val) < 4096; omega)
    have hgt' := fun (d : Fin 512) => hgt r d (by omega)
    simp only [hw _ _, hsc _ _, hdz' _, hgt' _, ← EReal.coe_mul, ← EReal.coe_add, ← EReal.coe_sub, coe_sum, coe_sg, one_sub_coe, one_add_coe]
    rw [coe_div _ _ (cnt_pos _ _).ne']
    refine congrArg _ ?_
    rw [Data.q, if_pos (by omega)]
    unfold Data.dpool Data.dyp Data.dy
    simp only [show 256 * i + (256 + r.val) = 256 * (i + 1) + r.val by omega]
  · rw [if_neg h15, Data.q, if_neg (by omega), EReal.coe_zero]

/-- The cotangent of the value half of the projection. -/
theorem du0 (w : FVec Ideal S512x512 .bf16) (dyp : FVec Ideal S256x512 .bf16) (q0 q1 : FVec Ideal S256x512 .f32) (hw : R2 w fun c d => I.wg 0 c d) (hdyp : R2 dyp fun r c => I.dyp 0 (256 * i + r) c) (hq0 : R2 q0 fun r c => I.q 0 (256 * i + r + 0) c) (hq1 : R2 q1 fun r c => I.q 0 (256 * i + r + 1) c) :
    R2 (k0_pay35 (F := Ideal) (k0_pay34 w dyp q0 q1)) fun r c => I.du 0 (256 * i + r) c := by
  intro r c
  unfold_payloads
  pointwise
  simp only [hw _ _, hdyp _ _, hq0 _ _, hq1 _ _, ← EReal.coe_mul, ← EReal.coe_add, ← EReal.coe_sub, coe_sum, coe_sg, one_sub_coe, one_add_coe]
  refine congrArg _ ?_
  simp only [Data.du, Data.W, Finset.sum_range_succ, Finset.sum_range_zero, Nat.reduceAdd, Nat.reducePow, zero_add, Nat.reduceMul]
  unfold Data.dpool
  ring

end Cert.Mid
end
-- ==== Proof.Tile1.lean ====
module

public import proofs.«01_k».proof.Proof.Words

@[expose] public section

/-! # The values group 1 of a tile stores

Tile `i` holds the tokens from `256 * i` on; group 1 holds the channels from 512 on and averages over 4 tokens. -/

set_option maxRecDepth 16384
set_option maxHeartbeats 4000000

noncomputable section
namespace Cert.Mid
open Cert.KernelIdeal Cert.KernelIdeal.Gen Idealize.ShloMosaic

variable (I : Data) {i : ℕ}

/-- The pooled value of group 1. -/
theorem pool1 (ii : grid0.Coords) (v20 : FVec Ideal S256x2048 .f32) (v41 v43 v45 : FVec Ideal S256x512 .f32)
    (h20 : R2 v20 fun r e => I.pr (256 * (ii 0).val + r) e) (hv41 : R2 v41 fun r c => I.back (256 * (ii 0).val + r) (Data.col 1 c) 1) (hv43 : R2 v43 fun r c => I.back (256 * (ii 0).val + r) (Data.col 1 c) 2) (hv45 : R2 v45 fun r c => I.back (256 * (ii 0).val + r) (Data.col 1 c) 3) :
    R2 (k0_pay11 (F := Ideal) v20 (k0_pay8 ii) v41 v43 v45) fun r c => I.pool 1 (256 * (ii 0).val + r) c := by
  intro r c
  have hi : (ii 0).val < 16 := (ii 0).isLt
  unfold_payloads
  pointwise
  simp only [base_word]
  rw [cnt_word (g := 1) (by omega) r.isLt (by rfl) (by norm_num)]
  simp only [h20 _ _, hv41 _ _, hv43 _ _, hv45 _ _, ← EReal.coe_add]
  rw [coe_div _ _ (cnt_pos _ _).ne', ← EReal.coe_sub]
  refine congrArg _ ?_
  unfold Data.pool
  simp only [Data.W, Finset.sum_range_succ, Finset.sum_range_zero, Nat.reduceAdd, Nat.reducePow, zero_add, Nat.reduceMul]
  simp only [Data.back, Data.col, Nat.zero_le, if_true, Nat.sub_zero, Nat.reduceMul, Nat.zero_add]

/-- The matrix of the group. -/
theorem w1 (w : FVec Ideal S1x512x512 .bf16) (hw : R3 w fun c d => I.wg 1 c d) :
    R2 (k0_pay36 (F := Ideal) w) fun c d => I.wg 1 c d := by
  intro r c
  unfold_payloads
  pointwise
  simp only [hw _ _, ← EReal.coe_mul, ← EReal.coe_add, ← EReal.coe_sub, coe_sum, coe_sg, one_sub_coe, one_add_coe]
  all_goals rfl

/-- The pooled value, narrowed. -/
theorem pb1 (pl : FVec Ideal S256x512 .f32) (hpl : R2 pl fun r c => I.pool 1 (256 * i + r) c) :
    R2 (k0_pay37 (F := Ideal) pl) fun r c => I.pool 1 (256 * i + r) c := by
  intro r c
  unfold_payloads
  pointwise
  simp only [hpl _ _, ← EReal.coe_mul, ← EReal.coe_add, ← EReal.coe_sub, coe_sum, coe_sg, one_sub_coe, one_add_coe]
  all_goals rfl

/-- The mixed value before the scale. -/
theorem yp1 (pl : FVec Ideal S256x512 .f32) (w : FVec Ideal S1x512x512 .bf16) (hpl : R2 pl fun r c => I.pool 1 (256 * i + r) c) (hw : R3 w fun c d => I.wg 1 c d) :
    R2 (k0_pay38 (F := Ideal) pl w) fun r c => I.yp 1 (256 * i + r) c := by
  intro r c
  unfold_payloads
  pointwise
  simp only [hpl _ _, hw _ _, ← EReal.coe_mul, ← EReal.coe_add, ← EReal.coe_sub, coe_sum, coe_sg, one_sub_coe, one_add_coe]
  all_goals rfl

/-- The cotangent of the product, for the rows before the last token. -/
theorem dz1 (dxb : FVec Ideal S272x2048 .bf16) (wo : FVec Ideal S512x2048 .bf16) (hdx : RH (256 * i) dxb fun r k => I.dx (256 * i + r) k) (hwo : R2 wo fun c k => I.wo (Data.col 1 c) k) :
    RH (256 * i) (k0_pay40 (F := Ideal) dxb wo) fun r c => I.dz (256 * i + r) (Data.col 1 c) := by
  intro r c hr
  unfold_payloads
  pointwise
  simp only [hdx r _ hr, hwo _ _, ← EReal.coe_mul, ← EReal.coe_add, ← EReal.coe_sub, coe_sum, coe_sg, one_sub_coe, one_add_coe]
  all_goals rfl

/-- The cotangent of the gate. -/
theorem dgate1 (hi : i < 16) (sc : FVec Ideal S1x512 .f32) (gt : FVec Ideal S256x512 .f32) (dxb : FVec Ideal S272x2048 .bf16) (wo : FVec Ideal S512x2048 .bf16) (pl : FVec Ideal S256x512 .f32) (w : FVec Ideal S1x512x512 .bf16) (hsc : R2 sc fun _ c => I.sc (Data.col 1 c)) (hgt : R2 gt fun r c => I.gate (256 * i + r) (Data.col 1 c)) (hdx : RH (256 * i) dxb fun r k => I.dx (256 * i + r) k) (hwo : R2 wo fun c k => I.wo (Data.col 1 c) k) (hpl : R2 pl fun r c => I.pool 1 (256 * i + r) c) (hw : R3 w fun c d => I.wg 1 c d) :
    R2 (k0_pay43 (F := Ideal) pl w sc gt dxb wo) fun r c => I.dgate 1 (256 * i + r) c := by
  intro r c
  unfold_payloads
  pointwise
  have hdx' := fun (r : Fin 256) (k : Fin 2048) => hdx ⟨r.val, by omega⟩ k (by show 256 * i + r.val < 4096; omega)
  simp only [hsc _ _, hgt _ _, hdx' _ _, hwo _ _, hpl _ _, hw _ _, ← EReal.coe_mul, ← EReal.coe_add, ← EReal.coe_sub, coe_sum, coe_sg, one_sub_coe, one_add_coe]
  all_goals rfl

/-- The cotangent of the scaled value. -/
theorem dy1 (hi : i < 16) (gt : FVec Ideal S256x512 .f32) (dxb : FVec Ideal S272x2048 .bf16) (wo : FVec Ideal S512x2048 .bf16) (hgt : R2 gt fun r c => I.gate (256 * i + r) (Data.col 1 c)) (hdx : RH (256 * i) dxb fun r k => I.dx (256 * i + r) k) (hwo : R2 wo fun c k => I.wo (Data.col 1 c) k) :
    R2 (k0_pay42 (F := Ideal) gt dxb wo) fun r c => I.dy 1 (256 * i + r) c := by
  intro r c
  unfold_payloads
  pointwise
  have hdx' := fun (r : Fin 256) (k : Fin 2048) => hdx ⟨r.val, by omega⟩ k (by show 256 * i + r.val < 4096; omega)
  simp only [hgt _ _, hdx' _ _, hwo _ _, ← EReal.coe_mul, ← EReal.coe_add, ← EReal.coe_sub, coe_sum, coe_sg, one_sub_coe, one_add_coe]
  all_goals rfl

/-- The cotangent of the mixed value, narrowed. -/
theorem dyp1 (hi : i < 16) (sc : FVec Ideal S1x512 .f32) (dyv : FVec Ideal S256x512 .f32) (hsc : R2 sc fun _ c => I.sc (Data.col 1 c)) (hdy : R2 dyv fun r c => I.dy 1 (256 * i + r) c) :
    R2 (k0_pay45 (F := Ideal) sc dyv) fun r c => I.dyp 1 (256 * i + r) c := by
  intro r c
  unfold_payloads
  pointwise
  simp only [hsc _ _, hdy _ _, ← EReal.coe_mul, ← EReal.coe_add, ← EReal.coe_sub, coe_sum, coe_sg, one_sub_coe, one_add_coe]
  all_goals rfl

/-- One tile added to the gradient of the scale. -/
theorem dsc1 (hi : i < 16) (yp : FVec Ideal S256x512 .f32) (dyv : FVec Ideal S256x512 .f32) (acc : FVec Ideal S1x512 .f32) (hyp : R2 yp fun r c => I.yp 1 (256 * i + r) c) (hdy : R2 dyv fun r c => I.dy 1 (256 * i + r) c) (z : Fin 1) (c : Fin 512) :
    (k0_pay44 (F := Ideal) yp dyv acc) (ix2 z c) = acc (ix2 z c) + ((∑ r : Fin 256, I.dscT 1 c.val (256 * i + r.val) : ℝ) : EReal) := by
  obtain rfl : z = 0 := Subsingleton.elim _ _
  unfold_payloads
  pointwise
  simp only [hyp _ _, hdy _ _, ← EReal.coe_mul, ← EReal.coe_add, ← EReal.coe_sub, coe_sum, coe_sg, one_sub_coe, one_add_coe]
  all_goals rfl

/-- One tile added to the gradient of the group matrix. -/
theorem dwg1 (hi : i < 16) (sc : FVec Ideal S1x512 .f32) (pb : FVec Ideal S256x512 .bf16) (dyv : FVec Ideal S256x512 .f32) (acc : FVec Ideal S1x512x512 .f32) (hsc : R2 sc fun _ c => I.sc (Data.col 1 c)) (hpb : R2 pb fun r c => I.pool 1 (256 * i + r) c) (hdy : R2 dyv fun r c => I.dy 1 (256 * i + r) c) (z : Fin 1) (c d : Fin 512) :
    (k0_pay46 (F := Ideal) sc pb dyv acc) (ix3 z c d) = acc (ix3 z c d) + ((∑ r : Fin 256, I.dwgT 1 c.val d.val (256 * i + r.val) : ℝ) : EReal) := by
  obtain rfl : z = 0 := Subsingleton.elim _ _
  unfold_payloads
  pointwise
  simp only [hpb _ _, hsc _ _, hdy _ _, ← EReal.coe_mul, ← EReal.coe_add, ← EReal.coe_sub, coe_sum, coe_sg, one_sub_coe, one_add_coe]
  all_goals rfl

/-- The cotangent of the pooled value. -/
theorem dpool1 (w : FVec Ideal S512x512 .bf16) (sc : FVec Ideal S1x512 .f32) (dyv : FVec Ideal S256x512 .f32) (hw : R2 w fun c d => I.wg 1 c d) (hsc : R2 sc fun _ c => I.sc (Data.col 1 c)) (hdy : R2 dyv fun r c => I.dy 1 (256 * i + r) c) :
    R2 (k0_pay47 (F := Ideal) w sc dyv) fun r c => I.dpool 1 (256 * i + r) c := by
  intro r c
  unfold_payloads
  pointwise
  simp only [hw _ _, hsc _ _, hdy _ _, ← EReal.coe_mul, ← EReal.coe_add, ← EReal.coe_sub, coe_sum, coe_sg, one_sub_coe, one_add_coe]
  all_goals rfl

/-- The cotangent of the window sum. -/
theorem q1 (hi : i < 16) (w : FVec Ideal S512x512 .bf16) (sc : FVec Ideal S1x512 .f32) (dyv : FVec Ideal S256x512 .f32) (hw : R2 w fun c d => I.wg 1 c d) (hsc : R2 sc fun _ c => I.sc (Data.col 1 c)) (hdy : R2 dyv fun r c => I.dy 1 (256 * i + r) c) :
    R2 (k0_pay50 (F := Ideal) (k0_pay49 (k0_pay16 (BitVec.ofNat 32 i)) w sc dyv)) fun r c => I.q 1 (256 * i + r) c := by
  intro r c
  unfold_payloads
  pointwise
  simp only [base_word]
  rw [cnt_word (g := 1) (by omega) r.isLt (by rfl) (by norm_num)]
  simp only [hw _ _, hsc _ _, hdy _ _, ← EReal.coe_mul, ← EReal.coe_add, ← EReal.coe_sub, coe_sum, coe_sg, one_sub_coe, one_add_coe]
  rw [coe_div _ _ (cnt_pos _ _).ne']
  refine congrArg _ ?_
  rw [Data.q, if_pos (by omega)]
  all_goals rfl

/-- The same for the rows after the tile, zero past the last token. -/
theorem qh1 (hi : i < 16) (w : FVec Ideal S512x512 .bf16) (sc : FVec Ideal S1x512 .f32) (dzv : FVec Ideal S272x512 .f32) (gt : FVec Ideal S16x512 .f32) (hw : R2 w fun c d => I.wg 1 c d) (hsc : R2 sc fun _ c => I.sc (Data.col 1 c)) (hdz : RH (256 * i) dzv fun r c => I.dz (256 * i + r) (Data.col 1 c)) (hgt : RH (256 * (i + 1)) gt fun r c => I.gate (256 * (i + 1) + r) (Data.col 1 c)) :
    R2 (k0_pay51 (F := Ideal) (k0_pay17 (BitVec.ofNat 32 i)) (Scalar.cmpi .slt (BitVec.ofNat 32 i) 15#32) (k0_pay48 w sc dzv gt)) fun r c => I.q 1 (256 * (i + 1) + r) c := by
  intro r c
  unfold_payloads
  pointwise
  rw [last_word hi]
  by_cases h15 : i < 15
  · rw [if_pos h15]
    simp only [next_word, base_word]
    rw [cnt_word (g := 1) (by omega) (by omega) (by rfl) (by norm_num)]
    have hdz' := fun (d : Fin 512) => hdz ⟨256 + r.val, by omega⟩ d (by show 256 * i + (256 + r.val) < 4096; omega)
    have hgt' := fun (d : Fin 512) => hgt r d (by omega)
    simp only [hw _ _, hsc _ _, hdz' _, hgt' _, ← EReal.coe_mul, ← EReal.coe_add, ← EReal.coe_sub, coe_sum, coe_sg, one_sub_coe, one_add_coe]
    rw [coe_div _ _ (cnt_pos _ _).ne']
    refine congrArg _ ?_
    rw [Data.q, if_pos (by omega)]
    unfold Data.dpool Data.dyp Data.dy
    simp only [show 256 * i + (256 + r.val) = 256 * (i + 1) + r.val by omega]
  · rw [if_neg h15, Data.q, if_neg (by omega), EReal.coe_zero]

/-- The cotangent of the value half of the projection. -/
theorem du1 (dp : FVec Ideal S256x512 .f32) (q0 q1 q2 q3 : FVec Ideal S256x512 .f32) (hdp : R2 dp fun r c => I.dpool 1 (256 * i + r) c) (hq0 : R2 q0 fun r c => I.q 1 (256 * i + r + 0) c) (hq1 : R2 q1 fun r c => I.q 1 (256 * i + r + 1) c) (hq2 : R2 q2 fun r c => I.q 1 (256 * i + r + 2) c) (hq3 : R2 q3 fun r c => I.q 1 (256 * i + r + 3) c) :
    R2 (k0_pay52 (F := Ideal) dp q0 q1 q2 q3) fun r c => I.du 1 (256 * i + r) c := by
  intro r c
  unfold_payloads
  pointwise
  simp only [hdp _ _, hq0 _ _, hq1 _ _, hq2 _ _, hq3 _ _, ← EReal.coe_mul, ← EReal.coe_add, ← EReal.coe_sub, coe_sum, coe_sg, one_sub_coe, one_add_coe]
  refine congrArg _ ?_
  simp only [Data.du, Data.W, Finset.sum_range_succ, Finset.sum_range_zero, Nat.reduceAdd, Nat.reducePow, zero_add, Nat.reduceMul]
  unfold Data.dpool
  ring

end Cert.Mid
end
-- ==== Proof.Tile2.lean ====
module

public import proofs.«01_k».proof.Proof.Words

@[expose] public section

/-! # The values group 2 of a tile stores

Tile `i` holds the tokens from `256 * i` on; group 2 holds the channels from 1024 on and averages over 8 tokens. -/

set_option maxRecDepth 16384
set_option maxHeartbeats 4000000

noncomputable section
namespace Cert.Mid
open Cert.KernelIdeal Cert.KernelIdeal.Gen Idealize.ShloMosaic

variable (I : Data) {i : ℕ}

/-- The pooled value of group 2. -/
theorem pool2 (ii : grid0.Coords) (v20 : FVec Ideal S256x2048 .f32) (v55 v57 v59 v61 v63 v65 v67 : FVec Ideal S256x512 .f32)
    (h20 : R2 v20 fun r e => I.pr (256 * (ii 0).val + r) e) (hv55 : R2 v55 fun r c => I.back (256 * (ii 0).val + r) (Data.col 2 c) 1) (hv57 : R2 v57 fun r c => I.back (256 * (ii 0).val + r) (Data.col 2 c) 2) (hv59 : R2 v59 fun r c => I.back (256 * (ii 0).val + r) (Data.col 2 c) 3) (hv61 : R2 v61 fun r c => I.back (256 * (ii 0).val + r) (Data.col 2 c) 4) (hv63 : R2 v63 fun r c => I.back (256 * (ii 0).val + r) (Data.col 2 c) 5) (hv65 : R2 v65 fun r c => I.back (256 * (ii 0).val + r) (Data.col 2 c) 6) (hv67 : R2 v67 fun r c => I.back (256 * (ii 0).val + r) (Data.col 2 c) 7) :
    R2 (k0_pay13 (F := Ideal) v20 (k0_pay8 ii) (k0_pay12 v20 v55 v57 v59 v61 v63 v65) v67) fun r c => I.pool 2 (256 * (ii 0).val + r) c := by
  intro r c
  have hi : (ii 0).val < 16 := (ii 0).isLt
  unfold_payloads
  pointwise
  simp only [base_word]
  rw [cnt_word (g := 2) (by omega) r.isLt (by rfl) (by norm_num)]
  simp only [h20 _ _, hv55 _ _, hv57 _ _, hv59 _ _, hv61 _ _, hv63 _ _, hv65 _ _, hv67 _ _, ← EReal.coe_add]
  rw [coe_div _ _ (cnt_pos _ _).ne', ← EReal.coe_sub]
  refine congrArg _ ?_
  unfold Data.pool
  simp only [Data.W, Finset.sum_range_succ, Finset.sum_range_zero, Nat.reduceAdd, Nat.reducePow, zero_add, Nat.reduceMul]
  simp only [Data.back, Data.col, Nat.zero_le, if_true, Nat.sub_zero, Nat.reduceMul, Nat.zero_add]

/-- The matrix of the group. -/
theorem w2 (w : FVec Ideal S1x512x512 .bf16) (hw : R3 w fun c d => I.wg 2 c d) :
    R2 (k0_pay53 (F := Ideal) w) fun c d => I.wg 2 c d := by
  intro r c
  unfold_payloads
  pointwise
  simp only [hw _ _, ← EReal.coe_mul, ← EReal.coe_add, ← EReal.coe_sub, coe_sum, coe_sg, one_sub_coe, one_add_coe]
  all_goals rfl

/-- The pooled value, narrowed. -/
theorem pb2 (pl : FVec Ideal S256x512 .f32) (hpl : R2 pl fun r c => I.pool 2 (256 * i + r) c) :
    R2 (k0_pay54 (F := Ideal) pl) fun r c => I.pool 2 (256 * i + r) c := by
  intro r c
  unfold_payloads
  pointwise
  simp only [hpl _ _, ← EReal.coe_mul, ← EReal.coe_add, ← EReal.coe_sub, coe_sum, coe_sg, one_sub_coe, one_add_coe]
  all_goals rfl

/-- The mixed value before the scale. -/
theorem yp2 (pl : FVec Ideal S256x512 .f32) (w : FVec Ideal S1x512x512 .bf16) (hpl : R2 pl fun r c => I.pool 2 (256 * i + r) c) (hw : R3 w fun c d => I.wg 2 c d) :
    R2 (k0_pay55 (F := Ideal) pl w) fun r c => I.yp 2 (256 * i + r) c := by
  intro r c
  unfold_payloads
  pointwise
  simp only [hpl _ _, hw _ _, ← EReal.coe_mul, ← EReal.coe_add, ← EReal.coe_sub, coe_sum, coe_sg, one_sub_coe, one_add_coe]
  all_goals rfl

/-- The cotangent of the product, for the rows before the last token. -/
theorem dz2 (dxb : FVec Ideal S272x2048 .bf16) (wo : FVec Ideal S512x2048 .bf16) (hdx : RH (256 * i) dxb fun r k => I.dx (256 * i + r) k) (hwo : R2 wo fun c k => I.wo (Data.col 2 c) k) :
    RH (256 * i) (k0_pay59 (F := Ideal) dxb wo) fun r c => I.dz (256 * i + r) (Data.col 2 c) := by
  intro r c hr
  unfold_payloads
  pointwise
  simp only [hdx r _ hr, hwo _ _, ← EReal.coe_mul, ← EReal.coe_add, ← EReal.coe_sub, coe_sum, coe_sg, one_sub_coe, one_add_coe]
  all_goals rfl

/-- The cotangent of the gate. -/
theorem dgate2 (hi : i < 16) (sc : FVec Ideal S1x512 .f32) (gt : FVec Ideal S256x512 .f32) (dxb : FVec Ideal S272x2048 .bf16) (wo : FVec Ideal S512x2048 .bf16) (yp : FVec Ideal S256x512 .f32) (hsc : R2 sc fun _ c => I.sc (Data.col 2 c)) (hgt : R2 gt fun r c => I.gate (256 * i + r) (Data.col 2 c)) (hdx : RH (256 * i) dxb fun r k => I.dx (256 * i + r) k) (hwo : R2 wo fun c k => I.wo (Data.col 2 c) k) (hyp : R2 yp fun r c => I.yp 2 (256 * i + r) c) :
    R2 (k0_pay62 (F := Ideal) sc yp gt (k0_pay56 gt) k0_pay57 dxb wo) fun r c => I.dgate 2 (256 * i + r) c := by
  intro r c
  unfold_payloads
  pointwise
  have hdx' := fun (r : Fin 256) (k : Fin 2048) => hdx ⟨r.val, by omega⟩ k (by show 256 * i + r.val < 4096; omega)
  simp only [hsc _ _, hgt _ _, hdx' _ _, hwo _ _, hyp _ _, ← EReal.coe_mul, ← EReal.coe_add, ← EReal.coe_sub, coe_sum, coe_sg, one_sub_coe, one_add_coe]
  all_goals rfl

/-- The cotangent of the mixed value, narrowed. -/
theorem dyp2 (hi : i < 16) (sc : FVec Ideal S1x512 .f32) (gt : FVec Ideal S256x512 .f32) (dxb : FVec Ideal S272x2048 .bf16) (wo : FVec Ideal S512x2048 .bf16) (hsc : R2 sc fun _ c => I.sc (Data.col 2 c)) (hgt : R2 gt fun r c => I.gate (256 * i + r) (Data.col 2 c)) (hdx : RH (256 * i) dxb fun r k => I.dx (256 * i + r) k) (hwo : R2 wo fun c k => I.wo (Data.col 2 c) k) :
    R2 (k0_pay64 (F := Ideal) sc gt (k0_pay56 gt) k0_pay57 dxb wo) fun r c => I.dyp 2 (256 * i + r) c := by
  intro r c
  unfold_payloads
  pointwise
  have hdx' := fun (r : Fin 256) (k : Fin 2048) => hdx ⟨r.val, by omega⟩ k (by show 256 * i + r.val < 4096; omega)
  simp only [hsc _ _, hgt _ _, hdx' _ _, hwo _ _, ← EReal.coe_mul, ← EReal.coe_add, ← EReal.coe_sub, coe_sum, coe_sg, one_sub_coe, one_add_coe]
  all_goals rfl

/-- One tile added to the gradient of the scale. -/
theorem dsc2 (hi : i < 16) (yp : FVec Ideal S256x512 .f32) (gt : FVec Ideal S256x512 .f32) (dxb : FVec Ideal S272x2048 .bf16) (wo : FVec Ideal S512x2048 .bf16) (acc : FVec Ideal S1x512 .f32) (hyp : R2 yp fun r c => I.yp 2 (256 * i + r) c) (hgt : R2 gt fun r c => I.gate (256 * i + r) (Data.col 2 c)) (hdx : RH (256 * i) dxb fun r k => I.dx (256 * i + r) k) (hwo : R2 wo fun c k => I.wo (Data.col 2 c) k) (z : Fin 1) (c : Fin 512) :
    (k0_pay63 (F := Ideal) yp gt (k0_pay56 gt) k0_pay57 dxb wo acc) (ix2 z c) = acc (ix2 z c) + ((∑ r : Fin 256, I.dscT 2 c.val (256 * i + r.val) : ℝ) : EReal) := by
  obtain rfl : z = 0 := Subsingleton.elim _ _
  unfold_payloads
  pointwise
  have hdx' := fun (r : Fin 256) (k : Fin 2048) => hdx ⟨r.val, by omega⟩ k (by show 256 * i + r.val < 4096; omega)
  simp only [hyp _ _, hgt _ _, hdx' _ _, hwo _ _, ← EReal.coe_mul, ← EReal.coe_add, ← EReal.coe_sub, coe_sum, coe_sg, one_sub_coe, one_add_coe]
  all_goals rfl

/-- One tile added to the gradient of the group matrix. -/
theorem dwg2 (hi : i < 16) (sc : FVec Ideal S1x512 .f32) (pb : FVec Ideal S256x512 .bf16) (gt : FVec Ideal S256x512 .f32) (dxb : FVec Ideal S272x2048 .bf16) (wo : FVec Ideal S512x2048 .bf16) (acc : FVec Ideal S1x512x512 .f32) (hsc : R2 sc fun _ c => I.sc (Data.col 2 c)) (hpb : R2 pb fun r c => I.pool 2 (256 * i + r) c) (hgt : R2 gt fun r c => I.gate (256 * i + r) (Data.col 2 c)) (hdx : RH (256 * i) dxb fun r k => I.dx (256 * i + r) k) (hwo : R2 wo fun c k => I.wo (Data.col 2 c) k) (z : Fin 1) (c d : Fin 512) :
    (k0_pay66 (F := Ideal) (k0_pay65 sc pb gt (k0_pay56 gt) k0_pay57 dxb wo acc)) (ix3 z c d) = acc (ix3 z c d) + ((∑ r : Fin 256, I.dwgT 2 c.val d.val (256 * i + r.val) : ℝ) : EReal) := by
  obtain rfl : z = 0 := Subsingleton.elim _ _
  unfold_payloads
  pointwise
  have hdx' := fun (r : Fin 256) (k : Fin 2048) => hdx ⟨r.val, by omega⟩ k (by show 256 * i + r.val < 4096; omega)
  simp only [hpb _ _, hsc _ _, hgt _ _, hdx' _ _, hwo _ _, ← EReal.coe_mul, ← EReal.coe_add, ← EReal.coe_sub, coe_sum, coe_sg, one_sub_coe, one_add_coe]
  all_goals rfl

/-- The cotangent of the pooled value. -/
theorem dpool2 (w : FVec Ideal S512x512 .bf16) (dyp : FVec Ideal S256x512 .bf16) (hw : R2 w fun c d => I.wg 2 c d) (hdyp : R2 dyp fun r c => I.dyp 2 (256 * i + r) c) :
    R2 (k0_pay67 (F := Ideal) w dyp) fun r c => I.dpool 2 (256 * i + r) c := by
  intro r c
  unfold_payloads
  pointwise
  simp only [hw _ _, hdyp _ _, ← EReal.coe_mul, ← EReal.coe_add, ← EReal.coe_sub, coe_sum, coe_sg, one_sub_coe, one_add_coe]
  all_goals rfl

/-- The cotangent of the window sum. -/
theorem q2 (hi : i < 16) (w : FVec Ideal S512x512 .bf16) (dyp : FVec Ideal S256x512 .bf16) (hw : R2 w fun c d => I.wg 2 c d) (hdyp : R2 dyp fun r c => I.dyp 2 (256 * i + r) c) :
    R2 (k0_pay68 (F := Ideal) (k0_pay16 (BitVec.ofNat 32 i)) w dyp) fun r c => I.q 2 (256 * i + r) c := by
  intro r c
  unfold_payloads
  pointwise
  simp only [base_word]
  rw [cnt_word (g := 2) (by omega) r.isLt (by rfl) (by norm_num)]
  simp only [hw _ _, hdyp _ _, ← EReal.coe_mul, ← EReal.coe_add, ← EReal.coe_sub, coe_sum, coe_sg, one_sub_coe, one_add_coe]
  rw [coe_div _ _ (cnt_pos _ _).ne']
  refine congrArg _ ?_
  rw [Data.q, if_pos (by omega)]
  all_goals rfl

/-- The same for the rows after the tile, zero past the last token. -/
theorem qh2 (hi : i < 16) (w : FVec Ideal S512x512 .bf16) (sc : FVec Ideal S1x512 .f32) (dzv : FVec Ideal S272x512 .f32) (gt : FVec Ideal S16x512 .f32) (hw : R2 w fun c d => I.wg 2 c d) (hsc : R2 sc fun _ c => I.sc (Data.col 2 c)) (hdz : RH (256 * i) dzv fun r c => I.dz (256 * i + r) (Data.col 2 c)) (hgt : RH (256 * (i + 1)) gt fun r c => I.gate (256 * (i + 1) + r) (Data.col 2 c)) :
    R2 (k0_pay69 (F := Ideal) (k0_pay17 (BitVec.ofNat 32 i)) (Scalar.cmpi .slt (BitVec.ofNat 32 i) 15#32) w sc dzv gt) fun r c => I.q 2 (256 * (i + 1) + r) c := by
  intro r c
  unfold_payloads
  pointwise
  rw [last_word hi]
  by_cases h15 : i < 15
  · rw [if_pos h15]
    simp only [next_word, base_word]
    rw [cnt_word (g := 2) (by omega) (by omega) (by rfl) (by norm_num)]
    have hdz' := fun (d : Fin 512) => hdz ⟨256 + r.val, by omega⟩ d (by show 256 * i + (256 + r.val) < 4096; omega)
    have hgt' := fun (d : Fin 512) => hgt r d (by omega)
    simp only [hw _ _, hsc _ _, hdz' _, hgt' _, ← EReal.coe_mul, ← EReal.coe_add, ← EReal.coe_sub, coe_sum, coe_sg, one_sub_coe, one_add_coe]
    rw [coe_div _ _ (cnt_pos _ _).ne']
    refine congrArg _ ?_
    rw [Data.q, if_pos (by omega)]
    unfold Data.dpool Data.dyp Data.dy
    simp only [show 256 * i + (256 + r.val) = 256 * (i + 1) + r.val by omega]
  · rw [if_neg h15, Data.q, if_neg (by omega), EReal.coe_zero]

/-- The cotangent of the value half of the projection. -/
theorem du2 (w : FVec Ideal S512x512 .bf16) (dyp : FVec Ideal S256x512 .bf16) (q0 q1 q2 q3 q4 q5 q6 q7 : FVec Ideal S256x512 .f32) (hw : R2 w fun c d => I.wg 2 c d) (hdyp : R2 dyp fun r c => I.dyp 2 (256 * i + r) c) (hq0 : R2 q0 fun r c => I.q 2 (256 * i + r + 0) c) (hq1 : R2 q1 fun r c => I.q 2 (256 * i + r + 1) c) (hq2 : R2 q2 fun r c => I.q 2 (256 * i + r + 2) c) (hq3 : R2 q3 fun r c => I.q 2 (256 * i + r + 3) c) (hq4 : R2 q4 fun r c => I.q 2 (256 * i + r + 4) c) (hq5 : R2 q5 fun r c => I.q 2 (256 * i + r + 5) c) (hq6 : R2 q6 fun r c => I.q 2 (256 * i + r + 6) c) (hq7 : R2 q7 fun r c => I.q 2 (256 * i + r + 7) c) :
    R2 (k0_pay71 (F := Ideal) (k0_pay70 w dyp q0) q1 q2 q3 q4 q5 q6 q7) fun r c => I.du 2 (256 * i + r) c := by
  intro r c
  unfold_payloads
  pointwise
  simp only [hw _ _, hdyp _ _, hq0 _ _, hq1 _ _, hq2 _ _, hq3 _ _, hq4 _ _, hq5 _ _, hq6 _ _, hq7 _ _, ← EReal.coe_mul, ← EReal.coe_add, ← EReal.coe_sub, coe_sum, coe_sg, one_sub_coe, one_add_coe]
  refine congrArg _ ?_
  simp only [Data.du, Data.W, Finset.sum_range_succ, Finset.sum_range_zero, Nat.reduceAdd, Nat.reducePow, zero_add, Nat.reduceMul]
  unfold Data.dpool
  ring

end Cert.Mid
end
-- ==== Proof.Tile3.lean ====
module

public import proofs.«01_k».proof.Proof.Words

@[expose] public section

/-! # The values group 3 of a tile stores

Tile `i` holds the tokens from `256 * i` on; group 3 holds the channels from 1536 on and averages over 16 tokens. -/

set_option maxRecDepth 16384
set_option maxHeartbeats 4000000

noncomputable section
namespace Cert.Mid
open Cert.KernelIdeal Cert.KernelIdeal.Gen Idealize.ShloMosaic

variable (I : Data) {i : ℕ}

/-- The pooled value of group 3. -/
theorem pool3 (ii : grid0.Coords) (v20 : FVec Ideal S256x2048 .f32) (v77 v79 v81 v83 v85 v87 v89 v91 v93 v95 v97 v99 v101 v103 v105 : FVec Ideal S256x512 .f32)
    (h20 : R2 v20 fun r e => I.pr (256 * (ii 0).val + r) e) (hv77 : R2 v77 fun r c => I.back (256 * (ii 0).val + r) (Data.col 3 c) 1) (hv79 : R2 v79 fun r c => I.back (256 * (ii 0).val + r) (Data.col 3 c) 2) (hv81 : R2 v81 fun r c => I.back (256 * (ii 0).val + r) (Data.col 3 c) 3) (hv83 : R2 v83 fun r c => I.back (256 * (ii 0).val + r) (Data.col 3 c) 4) (hv85 : R2 v85 fun r c => I.back (256 * (ii 0).val + r) (Data.col 3 c) 5) (hv87 : R2 v87 fun r c => I.back (256 * (ii 0).val + r) (Data.col 3 c) 6) (hv89 : R2 v89 fun r c => I.back (256 * (ii 0).val + r) (Data.col 3 c) 7) (hv91 : R2 v91 fun r c => I.back (256 * (ii 0).val + r) (Data.col 3 c) 8) (hv93 : R2 v93 fun r c => I.back (256 * (ii 0).val + r) (Data.col 3 c) 9) (hv95 : R2 v95 fun r c => I.back (256 * (ii 0).val + r) (Data.col 3 c) 10) (hv97 : R2 v97 fun r c => I.back (256 * (ii 0).val + r) (Data.col 3 c) 11) (hv99 : R2 v99 fun r c => I.back (256 * (ii 0).val + r) (Data.col 3 c) 12) (hv101 : R2 v101 fun r c => I.back (256 * (ii 0).val + r) (Data.col 3 c) 13) (hv103 : R2 v103 fun r c => I.back (256 * (ii 0).val + r) (Data.col 3 c) 14) (hv105 : R2 v105 fun r c => I.back (256 * (ii 0).val + r) (Data.col 3 c) 15) :
    R2 (k0_pay15 (F := Ideal) v20 (k0_pay8 ii) (k0_pay14 v20 v77 v79 v81 v83 v85 v87 v89 v91 v93 v95 v97 v99) v101 v103 v105) fun r c => I.pool 3 (256 * (ii 0).val + r) c := by
  intro r c
  have hi : (ii 0).val < 16 := (ii 0).isLt
  unfold_payloads
  pointwise
  simp only [base_word]
  rw [cnt_word (g := 3) (by omega) r.isLt (by rfl) (by norm_num)]
  simp only [h20 _ _, hv77 _ _, hv79 _ _, hv81 _ _, hv83 _ _, hv85 _ _, hv87 _ _, hv89 _ _, hv91 _ _, hv93 _ _, hv95 _ _, hv97 _ _, hv99 _ _, hv101 _ _, hv103 _ _, hv105 _ _, ← EReal.coe_add]
  rw [coe_div _ _ (cnt_pos _ _).ne', ← EReal.coe_sub]
  refine congrArg _ ?_
  unfold Data.pool
  simp only [Data.W, Finset.sum_range_succ, Finset.sum_range_zero, Nat.reduceAdd, Nat.reducePow, zero_add, Nat.reduceMul]
  simp only [Data.back, Data.col, Nat.zero_le, if_true, Nat.sub_zero, Nat.reduceMul, Nat.zero_add]

/-- The matrix of the group. -/
theorem w3 (w : FVec Ideal S1x512x512 .bf16) (hw : R3 w fun c d => I.wg 3 c d) :
    R2 (k0_pay72 (F := Ideal) w) fun c d => I.wg 3 c d := by
  intro r c
  unfold_payloads
  pointwise
  simp only [hw _ _, ← EReal.coe_mul, ← EReal.coe_add, ← EReal.coe_sub, coe_sum, coe_sg, one_sub_coe, one_add_coe]
  all_goals rfl

/-- The pooled value, narrowed. -/
theorem pb3 (pl : FVec Ideal S256x512 .f32) (hpl : R2 pl fun r c => I.pool 3 (256 * i + r) c) :
    R2 (k0_pay73 (F := Ideal) pl) fun r c => I.pool 3 (256 * i + r) c := by
  intro r c
  unfold_payloads
  pointwise
  simp only [hpl _ _, ← EReal.coe_mul, ← EReal.coe_add, ← EReal.coe_sub, coe_sum, coe_sg, one_sub_coe, one_add_coe]
  all_goals rfl

/-- The mixed value before the scale. -/
theorem yp3 (pl : FVec Ideal S256x512 .f32) (w : FVec Ideal S1x512x512 .bf16) (hpl : R2 pl fun r c => I.pool 3 (256 * i + r) c) (hw : R3 w fun c d => I.wg 3 c d) :
    R2 (k0_pay74 (F := Ideal) pl w) fun r c => I.yp 3 (256 * i + r) c := by
  intro r c
  unfold_payloads
  pointwise
  simp only [hpl _ _, hw _ _, ← EReal.coe_mul, ← EReal.coe_add, ← EReal.coe_sub, coe_sum, coe_sg, one_sub_coe, one_add_coe]
  all_goals rfl

/-- The cotangent of the product, for the rows before the last token. -/
theorem dz3 (dxb : FVec Ideal S272x2048 .bf16) (wo : FVec Ideal S512x2048 .bf16) (hdx : RH (256 * i) dxb fun r k => I.dx (256 * i + r) k) (hwo : R2 wo fun c k => I.wo (Data.col 3 c) k) :
    RH (256 * i) (k0_pay77 (F := Ideal) dxb wo) fun r c => I.dz (256 * i + r) (Data.col 3 c) := by
  intro r c hr
  unfold_payloads
  pointwise
  simp only [hdx r _ hr, hwo _ _, ← EReal.coe_mul, ← EReal.coe_add, ← EReal.coe_sub, coe_sum, coe_sg, one_sub_coe, one_add_coe]
  all_goals rfl

/-- The cotangent of the gate. -/
theorem dgate3 (hi : i < 16) (sc : FVec Ideal S1x512 .f32) (gt : FVec Ideal S256x512 .f32) (dxb : FVec Ideal S272x2048 .bf16) (wo : FVec Ideal S512x2048 .bf16) (yp : FVec Ideal S256x512 .f32) (hsc : R2 sc fun _ c => I.sc (Data.col 3 c)) (hgt : R2 gt fun r c => I.gate (256 * i + r) (Data.col 3 c)) (hdx : RH (256 * i) dxb fun r k => I.dx (256 * i + r) k) (hwo : R2 wo fun c k => I.wo (Data.col 3 c) k) (hyp : R2 yp fun r c => I.yp 3 (256 * i + r) c) :
    R2 (k0_pay80 (F := Ideal) sc yp gt (k0_pay75 gt) dxb wo) fun r c => I.dgate 3 (256 * i + r) c := by
  intro r c
  unfold_payloads
  pointwise
  have hdx' := fun (r : Fin 256) (k : Fin 2048) => hdx ⟨r.val, by omega⟩ k (by show 256 * i + r.val < 4096; omega)
  simp only [hsc _ _, hgt _ _, hdx' _ _, hwo _ _, hyp _ _, ← EReal.coe_mul, ← EReal.coe_add, ← EReal.coe_sub, coe_sum, coe_sg, one_sub_coe, one_add_coe]
  all_goals rfl

/-- The cotangent of the mixed value, narrowed. -/
theorem dyp3 (hi : i < 16) (sc : FVec Ideal S1x512 .f32) (gt : FVec Ideal S256x512 .f32) (dxb : FVec Ideal S272x2048 .bf16) (wo : FVec Ideal S512x2048 .bf16) (hsc : R2 sc fun _ c => I.sc (Data.col 3 c)) (hgt : R2 gt fun r c => I.gate (256 * i + r) (Data.col 3 c)) (hdx : RH (256 * i) dxb fun r k => I.dx (256 * i + r) k) (hwo : R2 wo fun c k => I.wo (Data.col 3 c) k) :
    R2 (k0_pay82 (F := Ideal) sc (k0_pay76 gt) dxb wo) fun r c => I.dyp 3 (256 * i + r) c := by
  intro r c
  unfold_payloads
  pointwise
  have hdx' := fun (r : Fin 256) (k : Fin 2048) => hdx ⟨r.val, by omega⟩ k (by show 256 * i + r.val < 4096; omega)
  simp only [hsc _ _, hgt _ _, hdx' _ _, hwo _ _, ← EReal.coe_mul, ← EReal.coe_add, ← EReal.coe_sub, coe_sum, coe_sg, one_sub_coe, one_add_coe]
  all_goals rfl

/-- One tile added to the gradient of the scale. -/
theorem dsc3 (hi : i < 16) (yp : FVec Ideal S256x512 .f32) (gt : FVec Ideal S256x512 .f32) (dxb : FVec Ideal S272x2048 .bf16) (wo : FVec Ideal S512x2048 .bf16) (acc : FVec Ideal S1x512 .f32) (hyp : R2 yp fun r c => I.yp 3 (256 * i + r) c) (hgt : R2 gt fun r c => I.gate (256 * i + r) (Data.col 3 c)) (hdx : RH (256 * i) dxb fun r k => I.dx (256 * i + r) k) (hwo : R2 wo fun c k => I.wo (Data.col 3 c) k) (z : Fin 1) (c : Fin 512) :
    (k0_pay81 (F := Ideal) yp (k0_pay76 gt) dxb wo acc) (ix2 z c) = acc (ix2 z c) + ((∑ r : Fin 256, I.dscT 3 c.val (256 * i + r.val) : ℝ) : EReal) := by
  obtain rfl : z = 0 := Subsingleton.elim _ _
  unfold_payloads
  pointwise
  have hdx' := fun (r : Fin 256) (k : Fin 2048) => hdx ⟨r.val, by omega⟩ k (by show 256 * i + r.val < 4096; omega)
  simp only [hyp _ _, hgt _ _, hdx' _ _, hwo _ _, ← EReal.coe_mul, ← EReal.coe_add, ← EReal.coe_sub, coe_sum, coe_sg, one_sub_coe, one_add_coe]
  all_goals rfl

/-- One tile added to the gradient of the group matrix. -/
theorem dwg3 (hi : i < 16) (sc : FVec Ideal S1x512 .f32) (pb : FVec Ideal S256x512 .bf16) (gt : FVec Ideal S256x512 .f32) (dxb : FVec Ideal S272x2048 .bf16) (wo : FVec Ideal S512x2048 .bf16) (acc : FVec Ideal S1x512x512 .f32) (hsc : R2 sc fun _ c => I.sc (Data.col 3 c)) (hpb : R2 pb fun r c => I.pool 3 (256 * i + r) c) (hgt : R2 gt fun r c => I.gate (256 * i + r) (Data.col 3 c)) (hdx : RH (256 * i) dxb fun r k => I.dx (256 * i + r) k) (hwo : R2 wo fun c k => I.wo (Data.col 3 c) k) (z : Fin 1) (c d : Fin 512) :
    (k0_pay83 (F := Ideal) sc pb (k0_pay76 gt) dxb wo acc) (ix3 z c d) = acc (ix3 z c d) + ((∑ r : Fin 256, I.dwgT 3 c.val d.val (256 * i + r.val) : ℝ) : EReal) := by
  obtain rfl : z = 0 := Subsingleton.elim _ _
  unfold_payloads
  pointwise
  have hdx' := fun (r : Fin 256) (k : Fin 2048) => hdx ⟨r.val, by omega⟩ k (by show 256 * i + r.val < 4096; omega)
  simp only [hpb _ _, hsc _ _, hgt _ _, hdx' _ _, hwo _ _, ← EReal.coe_mul, ← EReal.coe_add, ← EReal.coe_sub, coe_sum, coe_sg, one_sub_coe, one_add_coe]
  all_goals rfl

/-- The cotangent of the pooled value. -/
theorem dpool3 (hi : i < 16) (w : FVec Ideal S512x512 .bf16) (sc : FVec Ideal S1x512 .f32) (gt : FVec Ideal S256x512 .f32) (dxb : FVec Ideal S272x2048 .bf16) (wo : FVec Ideal S512x2048 .bf16) (hw : R2 w fun c d => I.wg 3 c d) (hsc : R2 sc fun _ c => I.sc (Data.col 3 c)) (hgt : R2 gt fun r c => I.gate (256 * i + r) (Data.col 3 c)) (hdx : RH (256 * i) dxb fun r k => I.dx (256 * i + r) k) (hwo : R2 wo fun c k => I.wo (Data.col 3 c) k) :
    R2 (k0_pay84 (F := Ideal) w sc (k0_pay76 gt) dxb wo) fun r c => I.dpool 3 (256 * i + r) c := by
  intro r c
  unfold_payloads
  pointwise
  have hdx' := fun (r : Fin 256) (k : Fin 2048) => hdx ⟨r.val, by omega⟩ k (by show 256 * i + r.val < 4096; omega)
  simp only [hw _ _, hsc _ _, hgt _ _, hdx' _ _, hwo _ _, ← EReal.coe_mul, ← EReal.coe_add, ← EReal.coe_sub, coe_sum, coe_sg, one_sub_coe, one_add_coe]
  all_goals rfl

/-- The cotangent of the window sum. -/
theorem q3 (hi : i < 16) (dp : FVec Ideal S256x512 .f32) (hdp : R2 dp fun r c => I.dpool 3 (256 * i + r) c) :
    R2 (k0_pay85 (F := Ideal) (k0_pay16 (BitVec.ofNat 32 i)) dp) fun r c => I.q 3 (256 * i + r) c := by
  intro r c
  unfold_payloads
  pointwise
  simp only [base_word]
  rw [cnt_word (g := 3) (by omega) r.isLt (by rfl) (by norm_num)]
  simp only [hdp _ _, ← EReal.coe_mul, ← EReal.coe_add, ← EReal.coe_sub, coe_sum, coe_sg, one_sub_coe, one_add_coe]
  rw [coe_div _ _ (cnt_pos _ _).ne']
  refine congrArg _ ?_
  rw [Data.q, if_pos (by omega)]
  all_goals rfl

/-- The same for the rows after the tile, zero past the last token. -/
theorem qh3 (hi : i < 16) (w : FVec Ideal S512x512 .bf16) (sc : FVec Ideal S1x512 .f32) (dzv : FVec Ideal S272x512 .f32) (gt : FVec Ideal S16x512 .f32) (hw : R2 w fun c d => I.wg 3 c d) (hsc : R2 sc fun _ c => I.sc (Data.col 3 c)) (hdz : RH (256 * i) dzv fun r c => I.dz (256 * i + r) (Data.col 3 c)) (hgt : RH (256 * (i + 1)) gt fun r c => I.gate (256 * (i + 1) + r) (Data.col 3 c)) :
    R2 (k0_pay86 (F := Ideal) (k0_pay17 (BitVec.ofNat 32 i)) (Scalar.cmpi .slt (BitVec.ofNat 32 i) 15#32) w sc dzv gt) fun r c => I.q 3 (256 * (i + 1) + r) c := by
  intro r c
  unfold_payloads
  pointwise
  rw [last_word hi]
  by_cases h15 : i < 15
  · rw [if_pos h15]
    simp only [next_word, base_word]
    rw [cnt_word (g := 3) (by omega) (by omega) (by rfl) (by norm_num)]
    have hdz' := fun (d : Fin 512) => hdz ⟨256 + r.val, by omega⟩ d (by show 256 * i + (256 + r.val) < 4096; omega)
    have hgt' := fun (d : Fin 512) => hgt r d (by omega)
    simp only [hw _ _, hsc _ _, hdz' _, hgt' _, ← EReal.coe_mul, ← EReal.coe_add, ← EReal.coe_sub, coe_sum, coe_sg, one_sub_coe, one_add_coe]
    rw [coe_div _ _ (cnt_pos _ _).ne']
    refine congrArg _ ?_
    rw [Data.q, if_pos (by omega)]
    unfold Data.dpool Data.dyp Data.dy
    simp only [show 256 * i + (256 + r.val) = 256 * (i + 1) + r.val by omega]
  · rw [if_neg h15, Data.q, if_neg (by omega), EReal.coe_zero]

/-- The cotangent of the value half of the projection. -/
theorem du3 (dp : FVec Ideal S256x512 .f32) (q0 q1 q2 q3 q4 q5 q6 q7 q8 q9 q10 q11 q12 q13 q14 q15 : FVec Ideal S256x512 .f32) (hdp : R2 dp fun r c => I.dpool 3 (256 * i + r) c) (hq0 : R2 q0 fun r c => I.q 3 (256 * i + r + 0) c) (hq1 : R2 q1 fun r c => I.q 3 (256 * i + r + 1) c) (hq2 : R2 q2 fun r c => I.q 3 (256 * i + r + 2) c) (hq3 : R2 q3 fun r c => I.q 3 (256 * i + r + 3) c) (hq4 : R2 q4 fun r c => I.q 3 (256 * i + r + 4) c) (hq5 : R2 q5 fun r c => I.q 3 (256 * i + r + 5) c) (hq6 : R2 q6 fun r c => I.q 3 (256 * i + r + 6) c) (hq7 : R2 q7 fun r c => I.q 3 (256 * i + r + 7) c) (hq8 : R2 q8 fun r c => I.q 3 (256 * i + r + 8) c) (hq9 : R2 q9 fun r c => I.q 3 (256 * i + r + 9) c) (hq10 : R2 q10 fun r c => I.q 3 (256 * i + r + 10) c) (hq11 : R2 q11 fun r c => I.q 3 (256 * i + r + 11) c) (hq12 : R2 q12 fun r c => I.q 3 (256 * i + r + 12) c) (hq13 : R2 q13 fun r c => I.q 3 (256 * i + r + 13) c) (hq14 : R2 q14 fun r c => I.q 3 (256 * i + r + 14) c) (hq15 : R2 q15 fun r c => I.q 3 (256 * i + r + 15) c) :
    R2 (k0_pay1 (F := Ideal) (k0_pay88 (k0_pay87 dp q0 q1 q2) q3 q4 q5 q6 q7 q8 q9 q10 q11 q12 q13 q14) q15) fun r c => I.du 3 (256 * i + r) c := by
  intro r c
  unfold_payloads
  pointwise
  simp only [hdp _ _, hq0 _ _, hq1 _ _, hq2 _ _, hq3 _ _, hq4 _ _, hq5 _ _, hq6 _ _, hq7 _ _, hq8 _ _, hq9 _ _, hq10 _ _, hq11 _ _, hq12 _ _, hq13 _ _, hq14 _ _, hq15 _ _, ← EReal.coe_mul, ← EReal.coe_add, ← EReal.coe_sub, coe_sum, coe_sg, one_sub_coe, one_add_coe]
  refine congrArg _ ?_
  simp only [Data.du, Data.W, Finset.sum_range_succ, Finset.sum_range_zero, Nat.reduceAdd, Nat.reducePow, zero_add, Nat.reduceMul]
  unfold Data.dpool
  ring

end Cert.Mid
end
-- ==== Proof.Out9.lean ====
module

public import proofs.«01_k».proof.Proof.Leaf
public import proofs.«01_k».proof.Proof.Tile0
public import proofs.«01_k».proof.Proof.Tile1
public import proofs.«01_k».proof.Proof.Tile2
public import proofs.«01_k».proof.Proof.Tile3

@[expose] public section

/-! # The cotangent of the projection a tile stores -/

set_option maxRecDepth 16384
set_option maxHeartbeats 16000000

noncomputable section
namespace Cert.Mid
open Cert.KernelIdeal Cert.KernelIdeal.Gen Idealize.ShloMosaic Idealize.ShloMosaic.TcCoe Idealize.SL.Sem

variable {I : Data} {ii : grid0.Coords} {D : FVec Ideal S256x2048 .f32} {Dh : FVec Ideal S16x2048 .f32} {WO : FVec Ideal S2048x2048 .bf16}
  {U : FVec Ideal S256x2048 .f32} {Uh : FVec Ideal S16x2048 .f32} {G : FVec Ideal S256x2048 .f32} {Gh : FVec Ideal S16x2048 .f32}
  {WG : FVec Ideal S4x512x512 .bf16} {SC : FVec Ideal S1x2048 .f32}

theorem at2 {a b : ℕ} {v : (⟨2, ![a, b]⟩ : Shape).Idx → EReal} {f : ℕ → ℕ → ℝ} {y : EReal} (hv : R2 v f) (r : Fin a) (c : Fin b) (hy : ((f r c : ℝ) : EReal) = y) :
    v (ix2 r c) = y := (hv r c).trans hy

theorem out9B (m : (ℓ : Loc nD τ sig) → Buf (Elt Ideal) ℓ) (c : Dev nD) (t : Fin cfg0.N) (h : ¬ t.val % 16 = 0) (r : Fin 256) (e : Fin 4096)
    (T : TileIn I (grid0.coords t) (iblk m c 0 t) (iblk m c 1 t) (iblk m c 2 t) (iblk m c 3 t) (iblk m c 4 t) (iblk m c 5 t) (iblk m c 6 t)
      (iblk m c 7 t) (iblk m c 8 t)) :
    (outsAt0 m c t.val t.isLt).1 (ix2 r e) = ((I.dproj (256 * (grid0.coords t 0).val + r.val) e.val : ℝ) : EReal) := by
  rw [outsAt0_B m c t h]
  frame_open
  simp (disch := decide) only [↓ View.readCov_skip, ↓ View.readCov_cons_toLoadRect, ↓ View.readCov_fill]
  frame_out
  canon_tiles x hx
  · obtain ⟨r', c', rfl⟩ : ∃ (r' : Fin 256) (c' : Fin 512), x = ix2 r' c' := ⟨x 0, x 1, (ix2_eta x).symm⟩
    refine at2 (f := fun r c => I.du 3 (256 * (grid0.coords t 0).val + r) c) ?_ r' c' ?_
    · exact (du3 I _ _ _ _ _ _ _ _ _ _ _ _ _ _ _ _ _ (dpool3 I T.lt _ _ _ _ _ (w3 I _ (T.wg 3 _ (by rfl))) (T.sc 3 _ (by rfl)) (T.gt 3 _ (by rfl)) (T.dx _ _ _ _) (T.wo 3 _ (by rfl))) (q3 I T.lt _ (dpool3 I T.lt _ _ _ _ _ (w3 I _ (T.wg 3 _ (by rfl))) (T.sc 3 _ (by rfl)) (T.gt 3 _ (by rfl)) (T.dx _ _ _ _) (T.wo 3 _ (by rfl)))) (q_on 1 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 2 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 3 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 4 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 5 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 6 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 7 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 8 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 9 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 10 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 11 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 12 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 13 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 14 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 15 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)))
    refine congrArg _ ?_
    simp only [ix2_0, ix2_1] at hx0 hx1
    rw [hx0, hx1]
    exact (I.dproj_du 3 c'.isLt).symm
  · obtain ⟨r', c', rfl⟩ : ∃ (r' : Fin 256) (c' : Fin 512), x = ix2 r' c' := ⟨x 0, x 1, (ix2_eta x).symm⟩
    refine at2 (f := fun r c => I.dgate 3 (256 * (grid0.coords t 0).val + r) c) ?_ r' c' ?_
    · exact (dgate3 I T.lt _ _ _ _ _ (T.sc 3 _ (by rfl)) (T.gt 3 _ (by rfl)) (T.dx _ _ _ _) (T.wo 3 _ (by rfl)) (yp3 I _ _ (pool3 I _ _ _ _ _ _ _ _ _ _ _ _ _ _ _ _ _ T.hU (T.back 3 1 _ _ _ _ (by rfl) (by rfl)) (T.back 3 2 _ _ _ _ (by rfl) (by rfl)) (T.back 3 3 _ _ _ _ (by rfl) (by rfl)) (T.back 3 4 _ _ _ _ (by rfl) (by rfl)) (T.back 3 5 _ _ _ _ (by rfl) (by rfl)) (T.back 3 6 _ _ _ _ (by rfl) (by rfl)) (T.back 3 7 _ _ _ _ (by rfl) (by rfl)) (T.back 3 8 _ _ _ _ (by rfl) (by rfl)) (T.back 3 9 _ _ _ _ (by rfl) (by rfl)) (T.back 3 10 _ _ _ _ (by rfl) (by rfl)) (T.back 3 11 _ _ _ _ (by rfl) (by rfl)) (T.back 3 12 _ _ _ _ (by rfl) (by rfl)) (T.back 3 13 _ _ _ _ (by rfl) (by rfl)) (T.back 3 14 _ _ _ _ (by rfl) (by rfl)) (T.back 3 15 _ _ _ _ (by rfl) (by rfl))) (T.wg 3 _ (by rfl))))
    refine congrArg _ ?_
    simp only [ix2_0, ix2_1] at hx0 hx1
    rw [hx0, hx1]
    exact (I.dproj_dgate 3 c'.isLt).symm
  · obtain ⟨r', c', rfl⟩ : ∃ (r' : Fin 256) (c' : Fin 512), x = ix2 r' c' := ⟨x 0, x 1, (ix2_eta x).symm⟩
    refine at2 (f := fun r c => I.du 2 (256 * (grid0.coords t 0).val + r) c) ?_ r' c' ?_
    · exact (du2 I _ _ _ _ _ _ _ _ _ _ (w2 I _ (T.wg 2 _ (by rfl))) (dyp2 I T.lt _ _ _ _ (T.sc 2 _ (by rfl)) (T.gt 2 _ (by rfl)) (T.dx _ _ _ _) (T.wo 2 _ (by rfl))) (q2 I T.lt _ _ (w2 I _ (T.wg 2 _ (by rfl))) (dyp2 I T.lt _ _ _ _ (T.sc 2 _ (by rfl)) (T.gt 2 _ (by rfl)) (T.dx _ _ _ _) (T.wo 2 _ (by rfl)))) (q_on 1 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 2 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 3 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 4 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 5 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 6 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 7 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)))
    refine congrArg _ ?_
    simp only [ix2_0, ix2_1] at hx0 hx1
    rw [hx0, hx1]
    exact (I.dproj_du 2 c'.isLt).symm
  · obtain ⟨r', c', rfl⟩ : ∃ (r' : Fin 256) (c' : Fin 512), x = ix2 r' c' := ⟨x 0, x 1, (ix2_eta x).symm⟩
    refine at2 (f := fun r c => I.dgate 2 (256 * (grid0.coords t 0).val + r) c) ?_ r' c' ?_
    · exact (dgate2 I T.lt _ _ _ _ _ (T.sc 2 _ (by rfl)) (T.gt 2 _ (by rfl)) (T.dx _ _ _ _) (T.wo 2 _ (by rfl)) (yp2 I _ _ (pool2 I _ _ _ _ _ _ _ _ _ T.hU (T.back 2 1 _ _ _ _ (by rfl) (by rfl)) (T.back 2 2 _ _ _ _ (by rfl) (by rfl)) (T.back 2 3 _ _ _ _ (by rfl) (by rfl)) (T.back 2 4 _ _ _ _ (by rfl) (by rfl)) (T.back 2 5 _ _ _ _ (by rfl) (by rfl)) (T.back 2 6 _ _ _ _ (by rfl) (by rfl)) (T.back 2 7 _ _ _ _ (by rfl) (by rfl))) (T.wg 2 _ (by rfl))))
    refine congrArg _ ?_
    simp only [ix2_0, ix2_1] at hx0 hx1
    rw [hx0, hx1]
    exact (I.dproj_dgate 2 c'.isLt).symm
  · obtain ⟨r', c', rfl⟩ : ∃ (r' : Fin 256) (c' : Fin 512), x = ix2 r' c' := ⟨x 0, x 1, (ix2_eta x).symm⟩
    refine at2 (f := fun r c => I.du 1 (256 * (grid0.coords t 0).val + r) c) ?_ r' c' ?_
    · exact (du1 I _ _ _ _ _ (dpool1 I _ _ _ (w1 I _ (T.wg 1 _ (by rfl))) (T.sc 1 _ (by rfl)) (dy1 I T.lt _ _ _ (T.gt 1 _ (by rfl)) (T.dx _ _ _ _) (T.wo 1 _ (by rfl)))) (q1 I T.lt _ _ _ (w1 I _ (T.wg 1 _ (by rfl))) (T.sc 1 _ (by rfl)) (dy1 I T.lt _ _ _ (T.gt 1 _ (by rfl)) (T.dx _ _ _ _) (T.wo 1 _ (by rfl)))) (q_on 1 _ _ _ _ _ _ (q1 I T.lt _ _ _ (w1 I _ (T.wg 1 _ (by rfl))) (T.sc 1 _ (by rfl)) (dy1 I T.lt _ _ _ (T.gt 1 _ (by rfl)) (T.dx _ _ _ _) (T.wo 1 _ (by rfl)))) (qh1 I T.lt _ _ _ _ (w1 I _ (T.wg 1 _ (by rfl))) (T.sc 1 _ (by rfl)) (dz1 I _ _ (T.dx _ _ _ _) (T.wo 1 _ (by rfl))) (T.gth 1 _ (by rfl))) (by rfl) (by norm_num)) (q_on 2 _ _ _ _ _ _ (q1 I T.lt _ _ _ (w1 I _ (T.wg 1 _ (by rfl))) (T.sc 1 _ (by rfl)) (dy1 I T.lt _ _ _ (T.gt 1 _ (by rfl)) (T.dx _ _ _ _) (T.wo 1 _ (by rfl)))) (qh1 I T.lt _ _ _ _ (w1 I _ (T.wg 1 _ (by rfl))) (T.sc 1 _ (by rfl)) (dz1 I _ _ (T.dx _ _ _ _) (T.wo 1 _ (by rfl))) (T.gth 1 _ (by rfl))) (by rfl) (by norm_num)) (q_on 3 _ _ _ _ _ _ (q1 I T.lt _ _ _ (w1 I _ (T.wg 1 _ (by rfl))) (T.sc 1 _ (by rfl)) (dy1 I T.lt _ _ _ (T.gt 1 _ (by rfl)) (T.dx _ _ _ _) (T.wo 1 _ (by rfl)))) (qh1 I T.lt _ _ _ _ (w1 I _ (T.wg 1 _ (by rfl))) (T.sc 1 _ (by rfl)) (dz1 I _ _ (T.dx _ _ _ _) (T.wo 1 _ (by rfl))) (T.gth 1 _ (by rfl))) (by rfl) (by norm_num)))
    refine congrArg _ ?_
    simp only [ix2_0, ix2_1] at hx0 hx1
    rw [hx0, hx1]
    exact (I.dproj_du 1 c'.isLt).symm
  · obtain ⟨r', c', rfl⟩ : ∃ (r' : Fin 256) (c' : Fin 512), x = ix2 r' c' := ⟨x 0, x 1, (ix2_eta x).symm⟩
    refine at2 (f := fun r c => I.dgate 1 (256 * (grid0.coords t 0).val + r) c) ?_ r' c' ?_
    · exact (dgate1 I T.lt _ _ _ _ _ _ (T.sc 1 _ (by rfl)) (T.gt 1 _ (by rfl)) (T.dx _ _ _ _) (T.wo 1 _ (by rfl)) (pool1 I _ _ _ _ _ T.hU (T.back 1 1 _ _ _ _ (by rfl) (by rfl)) (T.back 1 2 _ _ _ _ (by rfl) (by rfl)) (T.back 1 3 _ _ _ _ (by rfl) (by rfl))) (T.wg 1 _ (by rfl)))
    refine congrArg _ ?_
    simp only [ix2_0, ix2_1] at hx0 hx1
    rw [hx0, hx1]
    exact (I.dproj_dgate 1 c'.isLt).symm
  · obtain ⟨r', c', rfl⟩ : ∃ (r' : Fin 256) (c' : Fin 512), x = ix2 r' c' := ⟨x 0, x 1, (ix2_eta x).symm⟩
    refine at2 (f := fun r c => I.du 0 (256 * (grid0.coords t 0).val + r) c) ?_ r' c' ?_
    · exact (du0 I _ _ _ _ (w0 I _ (T.wg 0 _ (by rfl))) (dyp0 I T.lt _ _ _ _ (T.sc 0 _ (by rfl)) (T.gt 0 _ (by rfl)) (T.dx _ _ _ _) (T.wo 0 _ (by rfl))) (q0 I T.lt _ _ (w0 I _ (T.wg 0 _ (by rfl))) (dyp0 I T.lt _ _ _ _ (T.sc 0 _ (by rfl)) (T.gt 0 _ (by rfl)) (T.dx _ _ _ _) (T.wo 0 _ (by rfl)))) (q_on 1 _ _ _ _ _ _ (q0 I T.lt _ _ (w0 I _ (T.wg 0 _ (by rfl))) (dyp0 I T.lt _ _ _ _ (T.sc 0 _ (by rfl)) (T.gt 0 _ (by rfl)) (T.dx _ _ _ _) (T.wo 0 _ (by rfl)))) (qh0 I T.lt _ _ _ _ (w0 I _ (T.wg 0 _ (by rfl))) (T.sc 0 _ (by rfl)) (dz0 I _ _ (T.dx _ _ _ _) (T.wo 0 _ (by rfl))) (T.gth 0 _ (by rfl))) (by rfl) (by norm_num)))
    refine congrArg _ ?_
    simp only [ix2_0, ix2_1] at hx0 hx1
    rw [hx0, hx1]
    rw [← I.dproj_du 0 c'.isLt, Nat.mul_zero, Nat.zero_add]
  · obtain ⟨r', c', rfl⟩ : ∃ (r' : Fin 256) (c' : Fin 512), x = ix2 r' c' := ⟨x 0, x 1, (ix2_eta x).symm⟩
    refine at2 (f := fun r c => I.dgate 0 (256 * (grid0.coords t 0).val + r) c) ?_ r' c' ?_
    · exact (dgate0 I T.lt _ _ _ _ _ (T.sc 0 _ (by rfl)) (T.gt 0 _ (by rfl)) (T.dx _ _ _ _) (T.wo 0 _ (by rfl)) (yp0 I _ _ (pool0 I _ _ _ T.hU (T.back 0 1 _ _ _ _ (by rfl) (by rfl))) (T.wg 0 _ (by rfl))))
    refine congrArg _ ?_
    simp only [ix2_0, ix2_1] at hx0 hx1
    rw [hx0, hx1]
    exact (I.dproj_dgate 0 c'.isLt).symm

theorem out9A (m : (ℓ : Loc nD τ sig) → Buf (Elt Ideal) ℓ) (c : Dev nD) (t : Fin cfg0.N) (h : t.val % 16 = 0) (r : Fin 256) (e : Fin 4096)
    (T : TileIn I (grid0.coords t) (iblk m c 0 t) (iblk m c 1 t) (iblk m c 2 t) (iblk m c 3 t) (iblk m c 4 t) (iblk m c 5 t) (iblk m c 6 t)
      (iblk m c 7 t) (iblk m c 8 t)) :
    (outsAt0 m c t.val t.isLt).1 (ix2 r e) = ((I.dproj (256 * (grid0.coords t 0).val + r.val) e.val : ℝ) : EReal) := by
  rw [outsAt0_A m c t h]
  frame_open
  simp (disch := decide) only [↓ View.readCov_skip, ↓ View.readCov_cons_toLoadRect, ↓ View.readCov_fill]
  frame_out
  canon_tiles x hx
  · obtain ⟨r', c', rfl⟩ : ∃ (r' : Fin 256) (c' : Fin 512), x = ix2 r' c' := ⟨x 0, x 1, (ix2_eta x).symm⟩
    refine at2 (f := fun r c => I.du 3 (256 * (grid0.coords t 0).val + r) c) ?_ r' c' ?_
    · exact (du3 I _ _ _ _ _ _ _ _ _ _ _ _ _ _ _ _ _ (dpool3 I T.lt _ _ _ _ _ (w3 I _ (T.wg 3 _ (by rfl))) (T.sc 3 _ (by rfl)) (T.gt 3 _ (by rfl)) (T.dx _ _ _ _) (T.wo 3 _ (by rfl))) (q3 I T.lt _ (dpool3 I T.lt _ _ _ _ _ (w3 I _ (T.wg 3 _ (by rfl))) (T.sc 3 _ (by rfl)) (T.gt 3 _ (by rfl)) (T.dx _ _ _ _) (T.wo 3 _ (by rfl)))) (q_on 1 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 2 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 3 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 4 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 5 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 6 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 7 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 8 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 9 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 10 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 11 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 12 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 13 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 14 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)) (q_on 15 _ _ _ _ _ _ (q3 I T.lt _ (dpool3 I T.lt _ _ _ _ _ (w3 I _ (T.wg 3 _ (by rfl))) (T.sc 3 _ (by rfl)) (T.gt 3 _ (by rfl)) (T.dx _ _ _ _) (T.wo 3 _ (by rfl)))) (qh3 I T.lt _ _ _ _ (w3 I _ (T.wg 3 _ (by rfl))) (T.sc 3 _ (by rfl)) (dz3 I _ _ (T.dx _ _ _ _) (T.wo 3 _ (by rfl))) (T.gth 3 _ (by rfl))) (by rfl) (by norm_num)))
    refine congrArg _ ?_
    simp only [ix2_0, ix2_1] at hx0 hx1
    rw [hx0, hx1]
    exact (I.dproj_du 3 c'.isLt).symm
  · obtain ⟨r', c', rfl⟩ : ∃ (r' : Fin 256) (c' : Fin 512), x = ix2 r' c' := ⟨x 0, x 1, (ix2_eta x).symm⟩
    refine at2 (f := fun r c => I.dgate 3 (256 * (grid0.coords t 0).val + r) c) ?_ r' c' ?_
    · exact (dgate3 I T.lt _ _ _ _ _ (T.sc 3 _ (by rfl)) (T.gt 3 _ (by rfl)) (T.dx _ _ _ _) (T.wo 3 _ (by rfl)) (yp3 I _ _ (pool3 I _ _ _ _ _ _ _ _ _ _ _ _ _ _ _ _ _ T.hU (T.back 3 1 _ _ _ _ (by rfl) (by rfl)) (T.back 3 2 _ _ _ _ (by rfl) (by rfl)) (T.back 3 3 _ _ _ _ (by rfl) (by rfl)) (T.back 3 4 _ _ _ _ (by rfl) (by rfl)) (T.back 3 5 _ _ _ _ (by rfl) (by rfl)) (T.back 3 6 _ _ _ _ (by rfl) (by rfl)) (T.back 3 7 _ _ _ _ (by rfl) (by rfl)) (T.back 3 8 _ _ _ _ (by rfl) (by rfl)) (T.back 3 9 _ _ _ _ (by rfl) (by rfl)) (T.back 3 10 _ _ _ _ (by rfl) (by rfl)) (T.back 3 11 _ _ _ _ (by rfl) (by rfl)) (T.back 3 12 _ _ _ _ (by rfl) (by rfl)) (T.back 3 13 _ _ _ _ (by rfl) (by rfl)) (T.back 3 14 _ _ _ _ (by rfl) (by rfl)) (T.back 3 15 _ _ _ _ (by rfl) (by rfl))) (T.wg 3 _ (by rfl))))
    refine congrArg _ ?_
    simp only [ix2_0, ix2_1] at hx0 hx1
    rw [hx0, hx1]
    exact (I.dproj_dgate 3 c'.isLt).symm
  · obtain ⟨r', c', rfl⟩ : ∃ (r' : Fin 256) (c' : Fin 512), x = ix2 r' c' := ⟨x 0, x 1, (ix2_eta x).symm⟩
    refine at2 (f := fun r c => I.du 2 (256 * (grid0.coords t 0).val + r) c) ?_ r' c' ?_
    · exact (du2 I _ _ _ _ _ _ _ _ _ _ (w2 I _ (T.wg 2 _ (by rfl))) (dyp2 I T.lt _ _ _ _ (T.sc 2 _ (by rfl)) (T.gt 2 _ (by rfl)) (T.dx _ _ _ _) (T.wo 2 _ (by rfl))) (q2 I T.lt _ _ (w2 I _ (T.wg 2 _ (by rfl))) (dyp2 I T.lt _ _ _ _ (T.sc 2 _ (by rfl)) (T.gt 2 _ (by rfl)) (T.dx _ _ _ _) (T.wo 2 _ (by rfl)))) (q_on 1 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 2 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 3 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 4 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 5 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 6 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)) (q_on 7 _ _ _ _ _ _ (q2 I T.lt _ _ (w2 I _ (T.wg 2 _ (by rfl))) (dyp2 I T.lt _ _ _ _ (T.sc 2 _ (by rfl)) (T.gt 2 _ (by rfl)) (T.dx _ _ _ _) (T.wo 2 _ (by rfl)))) (qh2 I T.lt _ _ _ _ (w2 I _ (T.wg 2 _ (by rfl))) (T.sc 2 _ (by rfl)) (dz2 I _ _ (T.dx _ _ _ _) (T.wo 2 _ (by rfl))) (T.gth 2 _ (by rfl))) (by rfl) (by norm_num)))
    refine congrArg _ ?_
    simp only [ix2_0, ix2_1] at hx0 hx1
    rw [hx0, hx1]
    exact (I.dproj_du 2 c'.isLt).symm
  · obtain ⟨r', c', rfl⟩ : ∃ (r' : Fin 256) (c' : Fin 512), x = ix2 r' c' := ⟨x 0, x 1, (ix2_eta x).symm⟩
    refine at2 (f := fun r c => I.dgate 2 (256 * (grid0.coords t 0).val + r) c) ?_ r' c' ?_
    · exact (dgate2 I T.lt _ _ _ _ _ (T.sc 2 _ (by rfl)) (T.gt 2 _ (by rfl)) (T.dx _ _ _ _) (T.wo 2 _ (by rfl)) (yp2 I _ _ (pool2 I _ _ _ _ _ _ _ _ _ T.hU (T.back 2 1 _ _ _ _ (by rfl) (by rfl)) (T.back 2 2 _ _ _ _ (by rfl) (by rfl)) (T.back 2 3 _ _ _ _ (by rfl) (by rfl)) (T.back 2 4 _ _ _ _ (by rfl) (by rfl)) (T.back 2 5 _ _ _ _ (by rfl) (by rfl)) (T.back 2 6 _ _ _ _ (by rfl) (by rfl)) (T.back 2 7 _ _ _ _ (by rfl) (by rfl))) (T.wg 2 _ (by rfl))))
    refine congrArg _ ?_
    simp only [ix2_0, ix2_1] at hx0 hx1
    rw [hx0, hx1]
    exact (I.dproj_dgate 2 c'.isLt).symm
  · obtain ⟨r', c', rfl⟩ : ∃ (r' : Fin 256) (c' : Fin 512), x = ix2 r' c' := ⟨x 0, x 1, (ix2_eta x).symm⟩
    refine at2 (f := fun r c => I.du 1 (256 * (grid0.coords t 0).val + r) c) ?_ r' c' ?_
    · exact (du1 I _ _ _ _ _ (dpool1 I _ _ _ (w1 I _ (T.wg 1 _ (by rfl))) (T.sc 1 _ (by rfl)) (dy1 I T.lt _ _ _ (T.gt 1 _ (by rfl)) (T.dx _ _ _ _) (T.wo 1 _ (by rfl)))) (q1 I T.lt _ _ _ (w1 I _ (T.wg 1 _ (by rfl))) (T.sc 1 _ (by rfl)) (dy1 I T.lt _ _ _ (T.gt 1 _ (by rfl)) (T.dx _ _ _ _) (T.wo 1 _ (by rfl)))) (q_on 1 _ _ _ _ _ _ (q1 I T.lt _ _ _ (w1 I _ (T.wg 1 _ (by rfl))) (T.sc 1 _ (by rfl)) (dy1 I T.lt _ _ _ (T.gt 1 _ (by rfl)) (T.dx _ _ _ _) (T.wo 1 _ (by rfl)))) (qh1 I T.lt _ _ _ _ (w1 I _ (T.wg 1 _ (by rfl))) (T.sc 1 _ (by rfl)) (dz1 I _ _ (T.dx _ _ _ _) (T.wo 1 _ (by rfl))) (T.gth 1 _ (by rfl))) (by rfl) (by norm_num)) (q_on 2 _ _ _ _ _ _ (q1 I T.lt _ _ _ (w1 I _ (T.wg 1 _ (by rfl))) (T.sc 1 _ (by rfl)) (dy1 I T.lt _ _ _ (T.gt 1 _ (by rfl)) (T.dx _ _ _ _) (T.wo 1 _ (by rfl)))) (qh1 I T.lt _ _ _ _ (w1 I _ (T.wg 1 _ (by rfl))) (T.sc 1 _ (by rfl)) (dz1 I _ _ (T.dx _ _ _ _) (T.wo 1 _ (by rfl))) (T.gth 1 _ (by rfl))) (by rfl) (by norm_num)) (q_on 3 _ _ _ _ _ _ (q1 I T.lt _ _ _ (w1 I _ (T.wg 1 _ (by rfl))) (T.sc 1 _ (by rfl)) (dy1 I T.lt _ _ _ (T.gt 1 _ (by rfl)) (T.dx _ _ _ _) (T.wo 1 _ (by rfl)))) (qh1 I T.lt _ _ _ _ (w1 I _ (T.wg 1 _ (by rfl))) (T.sc 1 _ (by rfl)) (dz1 I _ _ (T.dx _ _ _ _) (T.wo 1 _ (by rfl))) (T.gth 1 _ (by rfl))) (by rfl) (by norm_num)))
    refine congrArg _ ?_
    simp only [ix2_0, ix2_1] at hx0 hx1
    rw [hx0, hx1]
    exact (I.dproj_du 1 c'.isLt).symm
  · obtain ⟨r', c', rfl⟩ : ∃ (r' : Fin 256) (c' : Fin 512), x = ix2 r' c' := ⟨x 0, x 1, (ix2_eta x).symm⟩
    refine at2 (f := fun r c => I.dgate 1 (256 * (grid0.coords t 0).val + r) c) ?_ r' c' ?_
    · exact (dgate1 I T.lt _ _ _ _ _ _ (T.sc 1 _ (by rfl)) (T.gt 1 _ (by rfl)) (T.dx _ _ _ _) (T.wo 1 _ (by rfl)) (pool1 I _ _ _ _ _ T.hU (T.back 1 1 _ _ _ _ (by rfl) (by rfl)) (T.back 1 2 _ _ _ _ (by rfl) (by rfl)) (T.back 1 3 _ _ _ _ (by rfl) (by rfl))) (T.wg 1 _ (by rfl)))
    refine congrArg _ ?_
    simp only [ix2_0, ix2_1] at hx0 hx1
    rw [hx0, hx1]
    exact (I.dproj_dgate 1 c'.isLt).symm
  · obtain ⟨r', c', rfl⟩ : ∃ (r' : Fin 256) (c' : Fin 512), x = ix2 r' c' := ⟨x 0, x 1, (ix2_eta x).symm⟩
    refine at2 (f := fun r c => I.du 0 (256 * (grid0.coords t 0).val + r) c) ?_ r' c' ?_
    · exact (du0 I _ _ _ _ (w0 I _ (T.wg 0 _ (by rfl))) (dyp0 I T.lt _ _ _ _ (T.sc 0 _ (by rfl)) (T.gt 0 _ (by rfl)) (T.dx _ _ _ _) (T.wo 0 _ (by rfl))) (q0 I T.lt _ _ (w0 I _ (T.wg 0 _ (by rfl))) (dyp0 I T.lt _ _ _ _ (T.sc 0 _ (by rfl)) (T.gt 0 _ (by rfl)) (T.dx _ _ _ _) (T.wo 0 _ (by rfl)))) (q_on 1 _ _ _ _ _ _ (q0 I T.lt _ _ (w0 I _ (T.wg 0 _ (by rfl))) (dyp0 I T.lt _ _ _ _ (T.sc 0 _ (by rfl)) (T.gt 0 _ (by rfl)) (T.dx _ _ _ _) (T.wo 0 _ (by rfl)))) (qh0 I T.lt _ _ _ _ (w0 I _ (T.wg 0 _ (by rfl))) (T.sc 0 _ (by rfl)) (dz0 I _ _ (T.dx _ _ _ _) (T.wo 0 _ (by rfl))) (T.gth 0 _ (by rfl))) (by rfl) (by norm_num)))
    refine congrArg _ ?_
    simp only [ix2_0, ix2_1] at hx0 hx1
    rw [hx0, hx1]
    rw [← I.dproj_du 0 c'.isLt, Nat.mul_zero, Nat.zero_add]
  · obtain ⟨r', c', rfl⟩ : ∃ (r' : Fin 256) (c' : Fin 512), x = ix2 r' c' := ⟨x 0, x 1, (ix2_eta x).symm⟩
    refine at2 (f := fun r c => I.dgate 0 (256 * (grid0.coords t 0).val + r) c) ?_ r' c' ?_
    · exact (dgate0 I T.lt _ _ _ _ _ (T.sc 0 _ (by rfl)) (T.gt 0 _ (by rfl)) (T.dx _ _ _ _) (T.wo 0 _ (by rfl)) (yp0 I _ _ (pool0 I _ _ _ T.hU (T.back 0 1 _ _ _ _ (by rfl) (by rfl))) (T.wg 0 _ (by rfl))))
    refine congrArg _ ?_
    simp only [ix2_0, ix2_1] at hx0 hx1
    rw [hx0, hx1]
    exact (I.dproj_dgate 0 c'.isLt).symm

end Cert.Mid
end
-- ==== Proof.Out10.lean ====
module

public import proofs.«01_k».proof.Proof.Leaf
public import proofs.«01_k».proof.Proof.Tile0
public import proofs.«01_k».proof.Proof.Tile1
public import proofs.«01_k».proof.Proof.Tile2
public import proofs.«01_k».proof.Proof.Tile3

@[expose] public section

/-! # What a tile adds to the cotangents of the group weights -/

set_option maxRecDepth 16384
set_option maxHeartbeats 16000000

noncomputable section
namespace Cert.Mid
open Cert.KernelIdeal Cert.KernelIdeal.Gen Idealize.ShloMosaic Idealize.ShloMosaic.TcCoe Idealize.SL.Sem

variable {I : Data} {ii : grid0.Coords} {D : FVec Ideal S256x2048 .f32} {Dh : FVec Ideal S16x2048 .f32} {WO : FVec Ideal S2048x2048 .bf16}
  {U : FVec Ideal S256x2048 .f32} {Uh : FVec Ideal S16x2048 .f32} {G : FVec Ideal S256x2048 .f32} {Gh : FVec Ideal S16x2048 .f32}
  {WG : FVec Ideal S4x512x512 .bf16} {SC : FVec Ideal S1x2048 .f32}

/-- A group's stored sum at an index: what was held there and the tile's addition. -/
theorem at3 {g : ℕ} {X : FVec Ideal S4x512x512 .f32} {inb} {v : FVec Ideal S1x512x512 .f32} {f : ℕ → ℕ → ℕ → ℝ}
    (hv : ∀ (z : Fin 1) (a d : Fin 512), v (ix3 z a d)
      = View.ld (Val := Elt Ideal) (e' := .f32) X (Rect.unit (s := S4x512x512) ![g, 0, 0] ![1, 512, 512] inb) (ix3 z a d) + ((f g a.val d.val : ℝ) : EReal))
    (x : S1x512x512.Idx) (G : Fin 4) (a d : Fin 512) (h0 : G.val = g + (x 0).val) (h1 : a.val = (x 1).val) (h2 : d.val = (x 2).val) :
    v x = X (ix3 G a d) + ((f G.val a.val d.val : ℝ) : EReal) := by
  obtain ⟨z, a', d', rfl⟩ : ∃ (z : Fin 1) (a' d' : Fin 512), x = ix3 z a' d' := ⟨x 0, x 1, x 2, (ix3_eta x).symm⟩
  obtain rfl : a = a' := Fin.ext h1
  obtain rfl : d = d' := Fin.ext h2
  obtain rfl : z = 0 := Subsingleton.elim _ _
  have hg : g = G.val := h0.symm
  refine (hv 0 a d).trans ?_
  rw [ld3 (Val := Elt Ideal)]
  have hi : (ix3 (⟨g + (0 : Fin 1).val, lt_of_lt_of_le (Nat.add_lt_add_left (0 : Fin 1).isLt g) (inb 0)⟩ : Fin 4)
      (⟨0 + a.val, by omega⟩ : Fin 512) (⟨0 + d.val, by omega⟩ : Fin 512) : S4x512x512.Idx) = ix3 G a d :=
    congr (congr (congrArg _ (Fin.ext hg)) (Fin.ext (Nat.zero_add _))) (Fin.ext (Nat.zero_add _))
  rw [← hg]
  exact congrArg (fun i => X i + _) hi

/-- The same at the first tile, where zeros were held. -/
theorem at3z {g : ℕ} {inb} {v : FVec Ideal S1x512x512 .f32} {f : ℕ → ℕ → ℕ → ℝ}
    (hv : ∀ (z : Fin 1) (a d : Fin 512), v (ix3 z a d)
      = View.ld (Val := Elt Ideal) (e' := .f32) (k0_pay4 (F := Ideal)) (Rect.unit (s := S4x512x512) ![g, 0, 0] ![1, 512, 512] inb) (ix3 z a d)
        + ((f g a.val d.val : ℝ) : EReal))
    (x : S1x512x512.Idx) (inb' : ∀ x, (![g, 0, 0] : Fin 3 → ℕ) x + (![1, 512, 512] : Fin 3 → ℕ) x ≤ S4x512x512.size x) :
    v x = (fun y : S4x512x512.Idx => ((f (y 0).val (y 1).val (y 2).val : ℝ) : EReal)) ((Rect.unit (s := S4x512x512) ![g, 0, 0] ![1, 512, 512] inb').emb x) := by
  have hz : ∀ y, (k0_pay4 (F := Ideal)) y = 0 := by
    intro y
    unfold_payloads
    pointwise
  set y := (Rect.unit (s := S4x512x512) ![g, 0, 0] ![1, 512, 512] inb').emb x with hy
  have h0 : (y 0).val = g + (x 0).val := by rw [hy, Rect.emb_apply]; show g + 1 * (x 0).val = _; omega
  have h1 : (y 1).val = (x 1).val := by rw [hy, Rect.emb_apply]; show 0 + 1 * (x 1).val = _; omega
  have h2 : (y 2).val = (x 2).val := by rw [hy, Rect.emb_apply]; show 0 + 1 * (x 2).val = _; omega
  refine (at3 (f := f) hv x (y 0) (y 1) (y 2) h0 h1 h2).trans ?_
  rw [hz, zero_add]

/-- An index lies in its group's block. -/
theorem mem3 (g : ℕ) (y : S4x512x512.Idx) (inb : ∀ x, (![g, 0, 0] : Fin 3 → ℕ) x + (![1, 512, 512] : Fin 3 → ℕ) x ≤ S4x512x512.size x) (h : (y 0).val = g) :
    y ∈ (Rect.unit (s := S4x512x512) ![g, 0, 0] ![1, 512, 512] inb).set := by
  refine Rect.mem_set_unit.mpr fun x => ?_
  match x with
  | ⟨0, _⟩ => exact ⟨h.ge, by show (y 0).val < g + 1; omega⟩
  | ⟨1, _⟩ => exact ⟨Nat.zero_le _, by show (y 1).val < 0 + 512; have := (y 1).isLt; exact (by simpa using this)⟩
  | ⟨2, _⟩ => exact ⟨Nat.zero_le _, by show (y 2).val < 0 + 512; have := (y 2).isLt; exact (by simpa using this)⟩

theorem out10B (m : (ℓ : Loc nD τ sig) → Buf (Elt Ideal) ℓ) (c : Dev nD) (t : Fin cfg0.N) (h : ¬ t.val % 16 = 0) (g : Fin 4) (a d : Fin 512)
    (T : TileIn I (grid0.coords t) (iblk m c 0 t) (iblk m c 1 t) (iblk m c 2 t) (iblk m c 3 t) (iblk m c 4 t) (iblk m c 5 t) (iblk m c 6 t)
      (iblk m c 7 t) (iblk m c 8 t)) :
    (outsAt0 m c t.val t.isLt).2.1 (ix3 g a d)
      = (outsAt0 m c (t.val - 1) (Nat.lt_of_le_of_lt (Nat.sub_le _ _) t.isLt)).2.1 (ix3 g a d)
        + ((∑ r : Fin 256, I.dwgT g.val a.val d.val (256 * (grid0.coords t 0).val + r.val) : ℝ) : EReal) := by
  rw [outsAt0_B m c t h]
  frame_open
  simp (disch := decide) only [↓ View.readCov_skip, ↓ View.readCov_cons_toLoadRect, ↓ View.readCov_fill]
  frame_out
  canon_tiles x hx
  · refine at3 (g := 3) (inb := inb_S4x512x512_S1x512x512_3_0_0) (f := fun g a d => ∑ r : Fin 256, I.dwgT g a d (256 * (grid0.coords t 0).val + r.val)) (fun z a d => ?_) x g a d (by simpa using hx0) hx1 hx2
    exact dwg3 I T.lt _ _ _ _ _ _ (T.sc 3 _ (by rfl)) (pb3 I _ (pool3 I _ _ _ _ _ _ _ _ _ _ _ _ _ _ _ _ _ T.hU (T.back 3 1 _ _ _ _ (by rfl) (by rfl)) (T.back 3 2 _ _ _ _ (by rfl) (by rfl)) (T.back 3 3 _ _ _ _ (by rfl) (by rfl)) (T.back 3 4 _ _ _ _ (by rfl) (by rfl)) (T.back 3 5 _ _ _ _ (by rfl) (by rfl)) (T.back 3 6 _ _ _ _ (by rfl) (by rfl)) (T.back 3 7 _ _ _ _ (by rfl) (by rfl)) (T.back 3 8 _ _ _ _ (by rfl) (by rfl)) (T.back 3 9 _ _ _ _ (by rfl) (by rfl)) (T.back 3 10 _ _ _ _ (by rfl) (by rfl)) (T.back 3 11 _ _ _ _ (by rfl) (by rfl)) (T.back 3 12 _ _ _ _ (by rfl) (by rfl)) (T.back 3 13 _ _ _ _ (by rfl) (by rfl)) (T.back 3 14 _ _ _ _ (by rfl) (by rfl)) (T.back 3 15 _ _ _ _ (by rfl) (by rfl)))) (T.gt 3 _ (by rfl)) (T.dx _ _ _ _) (T.wo 3 _ (by rfl)) _ _ _
  · refine at3 (g := 2) (inb := inb_S4x512x512_S1x512x512_2_0_0) (f := fun g a d => ∑ r : Fin 256, I.dwgT g a d (256 * (grid0.coords t 0).val + r.val)) (fun z a d => ?_) x g a d (by simpa using hx0) hx1 hx2
    exact dwg2 I T.lt _ _ _ _ _ _ (T.sc 2 _ (by rfl)) (pb2 I _ (pool2 I _ _ _ _ _ _ _ _ _ T.hU (T.back 2 1 _ _ _ _ (by rfl) (by rfl)) (T.back 2 2 _ _ _ _ (by rfl) (by rfl)) (T.back 2 3 _ _ _ _ (by rfl) (by rfl)) (T.back 2 4 _ _ _ _ (by rfl) (by rfl)) (T.back 2 5 _ _ _ _ (by rfl) (by rfl)) (T.back 2 6 _ _ _ _ (by rfl) (by rfl)) (T.back 2 7 _ _ _ _ (by rfl) (by rfl)))) (T.gt 2 _ (by rfl)) (T.dx _ _ _ _) (T.wo 2 _ (by rfl)) _ _ _
  · refine at3 (g := 1) (inb := inb_S4x512x512_S1x512x512_1_0_0) (f := fun g a d => ∑ r : Fin 256, I.dwgT g a d (256 * (grid0.coords t 0).val + r.val)) (fun z a d => ?_) x g a d (by simpa using hx0) hx1 hx2
    exact dwg1 I T.lt _ _ _ _ (T.sc 1 _ (by rfl)) (pb1 I _ (pool1 I _ _ _ _ _ T.hU (T.back 1 1 _ _ _ _ (by rfl) (by rfl)) (T.back 1 2 _ _ _ _ (by rfl) (by rfl)) (T.back 1 3 _ _ _ _ (by rfl) (by rfl)))) (dy1 I T.lt _ _ _ (T.gt 1 _ (by rfl)) (T.dx _ _ _ _) (T.wo 1 _ (by rfl))) _ _ _
  · refine at3 (g := 0) (inb := inb_S4x512x512_S1x512x512_0_0_0) (f := fun g a d => ∑ r : Fin 256, I.dwgT g a d (256 * (grid0.coords t 0).val + r.val)) (fun z a d => ?_) x g a d (by simpa using hx0) hx1 hx2
    exact dwg0 I T.lt _ _ _ _ _ _ (T.sc 0 _ (by rfl)) (pb0 I _ (pool0 I _ _ _ T.hU (T.back 0 1 _ _ _ _ (by rfl) (by rfl)))) (T.gt 0 _ (by rfl)) (T.dx _ _ _ _) (T.wo 0 _ (by rfl)) _ _ _

theorem out10A (m : (ℓ : Loc nD τ sig) → Buf (Elt Ideal) ℓ) (c : Dev nD) (t : Fin cfg0.N) (h : t.val % 16 = 0) (g : Fin 4) (a d : Fin 512)
    (T : TileIn I (grid0.coords t) (iblk m c 0 t) (iblk m c 1 t) (iblk m c 2 t) (iblk m c 3 t) (iblk m c 4 t) (iblk m c 5 t) (iblk m c 6 t)
      (iblk m c 7 t) (iblk m c 8 t)) :
    (outsAt0 m c t.val t.isLt).2.1 (ix3 g a d)
      = ((∑ r : Fin 256, I.dwgT g.val a.val d.val (256 * (grid0.coords t 0).val + r.val) : ℝ) : EReal) := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32)
    (fun y : S4x512x512.Idx => (((fun g a d => ∑ r : Fin 256, I.dwgT g a d (256 * (grid0.coords t 0).val + r.val)) (y 0).val (y 1).val (y 2).val : ℝ) : EReal))
    [_] [_, _, _, _] ⟨fun x => ?_, fun x => ?_, fun x => ?_, fun x => ?_, trivial⟩ (ix3 g a d) ?_
  · refine at3z (g := 3) (inb := inb_S4x512x512_S1x512x512_3_0_0) (f := fun g a d => ∑ r : Fin 256, I.dwgT g a d (256 * (grid0.coords t 0).val + r.val)) (fun z a d => ?_) x inb_S4x512x512_S1x512x512_3_0_0
    exact dwg3 I T.lt _ _ _ _ _ _ (T.sc 3 _ (by rfl)) (pb3 I _ (pool3 I _ _ _ _ _ _ _ _ _ _ _ _ _ _ _ _ _ T.hU (T.back 3 1 _ _ _ _ (by rfl) (by rfl)) (T.back 3 2 _ _ _ _ (by rfl) (by rfl)) (T.back 3 3 _ _ _ _ (by rfl) (by rfl)) (T.back 3 4 _ _ _ _ (by rfl) (by rfl)) (T.back 3 5 _ _ _ _ (by rfl) (by rfl)) (T.back 3 6 _ _ _ _ (by rfl) (by rfl)) (T.back 3 7 _ _ _ _ (by rfl) (by rfl)) (T.back 3 8 _ _ _ _ (by rfl) (by rfl)) (T.back 3 9 _ _ _ _ (by rfl) (by rfl)) (T.back 3 10 _ _ _ _ (by rfl) (by rfl)) (T.back 3 11 _ _ _ _ (by rfl) (by rfl)) (T.back 3 12 _ _ _ _ (by rfl) (by rfl)) (T.back 3 13 _ _ _ _ (by rfl) (by rfl)) (T.back 3 14 _ _ _ _ (by rfl) (by rfl)) (T.back 3 15 _ _ _ _ (by rfl) (by rfl)))) (T.gt 3 _ (by rfl)) (T.dx _ _ _ _) (T.wo 3 _ (by rfl)) _ _ _
  · refine at3z (g := 2) (inb := inb_S4x512x512_S1x512x512_2_0_0) (f := fun g a d => ∑ r : Fin 256, I.dwgT g a d (256 * (grid0.coords t 0).val + r.val)) (fun z a d => ?_) x inb_S4x512x512_S1x512x512_2_0_0
    exact dwg2 I T.lt _ _ _ _ _ _ (T.sc 2 _ (by rfl)) (pb2 I _ (pool2 I _ _ _ _ _ _ _ _ _ T.hU (T.back 2 1 _ _ _ _ (by rfl) (by rfl)) (T.back 2 2 _ _ _ _ (by rfl) (by rfl)) (T.back 2 3 _ _ _ _ (by rfl) (by rfl)) (T.back 2 4 _ _ _ _ (by rfl) (by rfl)) (T.back 2 5 _ _ _ _ (by rfl) (by rfl)) (T.back 2 6 _ _ _ _ (by rfl) (by rfl)) (T.back 2 7 _ _ _ _ (by rfl) (by rfl)))) (T.gt 2 _ (by rfl)) (T.dx _ _ _ _) (T.wo 2 _ (by rfl)) _ _ _
  · refine at3z (g := 1) (inb := inb_S4x512x512_S1x512x512_1_0_0) (f := fun g a d => ∑ r : Fin 256, I.dwgT g a d (256 * (grid0.coords t 0).val + r.val)) (fun z a d => ?_) x inb_S4x512x512_S1x512x512_1_0_0
    exact dwg1 I T.lt _ _ _ _ (T.sc 1 _ (by rfl)) (pb1 I _ (pool1 I _ _ _ _ _ T.hU (T.back 1 1 _ _ _ _ (by rfl) (by rfl)) (T.back 1 2 _ _ _ _ (by rfl) (by rfl)) (T.back 1 3 _ _ _ _ (by rfl) (by rfl)))) (dy1 I T.lt _ _ _ (T.gt 1 _ (by rfl)) (T.dx _ _ _ _) (T.wo 1 _ (by rfl))) _ _ _
  · refine at3z (g := 0) (inb := inb_S4x512x512_S1x512x512_0_0_0) (f := fun g a d => ∑ r : Fin 256, I.dwgT g a d (256 * (grid0.coords t 0).val + r.val)) (fun z a d => ?_) x inb_S4x512x512_S1x512x512_0_0_0
    exact dwg0 I T.lt _ _ _ _ _ _ (T.sc 0 _ (by rfl)) (pb0 I _ (pool0 I _ _ _ T.hU (T.back 0 1 _ _ _ _ (by rfl) (by rfl)))) (T.gt 0 _ (by rfl)) (T.dx _ _ _ _) (T.wo 0 _ (by rfl)) _ _ _
  · have hg := g.isLt
    rcases (by omega : g.val = 3 ∨ g.val = 2 ∨ g.val = 1 ∨ g.val = 0) with h | h | h | h
    · exact ⟨_, List.mem_cons_self, mem3 3 _ inb_S4x512x512_S1x512x512_3_0_0 h⟩
    · exact ⟨_, List.mem_cons_of_mem _ List.mem_cons_self, mem3 2 _ inb_S4x512x512_S1x512x512_2_0_0 h⟩
    · exact ⟨_, List.mem_cons_of_mem _ (List.mem_cons_of_mem _ List.mem_cons_self), mem3 1 _ inb_S4x512x512_S1x512x512_1_0_0 h⟩
    · exact ⟨_, List.mem_cons_of_mem _ (List.mem_cons_of_mem _ (List.mem_cons_of_mem _ List.mem_cons_self)), mem3 0 _ inb_S4x512x512_S1x512x512_0_0_0 h⟩

end Cert.Mid
end
-- ==== Proof.Out11.lean ====
module

public import proofs.«01_k».proof.Proof.Leaf
public import proofs.«01_k».proof.Proof.Tile0
public import proofs.«01_k».proof.Proof.Tile1
public import proofs.«01_k».proof.Proof.Tile2
public import proofs.«01_k».proof.Proof.Tile3

@[expose] public section

/-! # What a tile adds to the cotangents of the scale -/

set_option maxRecDepth 16384
set_option maxHeartbeats 16000000

noncomputable section
namespace Cert.Mid
open Cert.KernelIdeal Cert.KernelIdeal.Gen Idealize.ShloMosaic Idealize.ShloMosaic.TcCoe Idealize.SL.Sem

variable {I : Data} {ii : grid0.Coords} {D : FVec Ideal S256x2048 .f32} {Dh : FVec Ideal S16x2048 .f32} {WO : FVec Ideal S2048x2048 .bf16}
  {U : FVec Ideal S256x2048 .f32} {Uh : FVec Ideal S16x2048 .f32} {G : FVec Ideal S256x2048 .f32} {Gh : FVec Ideal S16x2048 .f32}
  {WG : FVec Ideal S4x512x512 .bf16} {SC : FVec Ideal S1x2048 .f32}

/-- A group's stored sum of the scale at an index: what was held there and the tile's addition. -/
theorem at2s {g p : ℕ} {X : FVec Ideal S1x2048 .f32} {inb} {v : FVec Ideal S1x512 .f32} {f : ℕ → ℕ → ℝ} (hp : p = 512 * g)
    (hv : ∀ (z : Fin 1) (d : Fin 512), v (ix2 z d)
      = View.ld (Val := Elt Ideal) (e' := .f32) X (Rect.unit (s := S1x2048) ![0, p] ![1, 512] inb) (ix2 z d) + ((f g d.val : ℝ) : EReal))
    (x : S1x512.Idx) (z : Fin 1) (e : Fin 2048) (h1 : e.val = p + (x 1).val) :
    v x = X (ix2 z e) + ((f (e.val / 512) (e.val % 512) : ℝ) : EReal) := by
  obtain ⟨z', d', rfl⟩ : ∃ (z : Fin 1) (d' : Fin 512), x = ix2 z d' := ⟨x 0, x 1, (ix2_eta x).symm⟩
  obtain rfl : z = z' := Subsingleton.elim _ _
  have h1' : e.val = p + d'.val := h1
  have hd := d'.isLt
  rw [show e.val / 512 = g by omega, show e.val % 512 = d'.val by omega]
  refine (hv z d').trans ?_
  rw [ld2 (Val := Elt Ideal)]
  have hi : (ix2 (⟨0 + z.val, by omega⟩ : Fin 1) (⟨p + d'.val, by omega⟩ : Fin 2048) : S1x2048.Idx) = ix2 z e :=
    congr (congrArg _ (Fin.ext (Nat.zero_add _))) (Fin.ext h1'.symm)
  exact congrArg (fun i => X i + _) hi

/-- The same at the first tile, where zeros were held. -/
theorem at2z {g p : ℕ} {inb} {v : FVec Ideal S1x512 .f32} {f : ℕ → ℕ → ℝ} (hp : p = 512 * g)
    (hv : ∀ (z : Fin 1) (d : Fin 512), v (ix2 z d)
      = View.ld (Val := Elt Ideal) (e' := .f32) (k0_pay5 (F := Ideal)) (Rect.unit (s := S1x2048) ![0, p] ![1, 512] inb) (ix2 z d) + ((f g d.val : ℝ) : EReal))
    (x : S1x512.Idx) (inb' : ∀ x, (![0, p] : Fin 2 → ℕ) x + (![1, 512] : Fin 2 → ℕ) x ≤ S1x2048.size x) :
    v x = (fun y : S1x2048.Idx => ((f ((y 1).val / 512) ((y 1).val % 512) : ℝ) : EReal)) ((Rect.unit (s := S1x2048) ![0, p] ![1, 512] inb').emb x) := by
  have hz : ∀ y, (k0_pay5 (F := Ideal)) y = 0 := by
    intro y
    unfold_payloads
    pointwise
  set y := (Rect.unit (s := S1x2048) ![0, p] ![1, 512] inb').emb x with hy
  have h1 : (y 1).val = p + (x 1).val := by rw [hy, Rect.emb_apply]; show p + 1 * (x 1).val = _; omega
  refine (at2s (f := f) hp hv x (y 0) (y 1) h1).trans ?_
  rw [hz, zero_add]

/-- An index lies in its group's columns. -/
theorem mem2 (p : ℕ) (y : S1x2048.Idx) (inb : ∀ x, (![0, p] : Fin 2 → ℕ) x + (![1, 512] : Fin 2 → ℕ) x ≤ S1x2048.size x) (h : p ≤ (y 1).val ∧ (y 1).val < p + 512) :
    y ∈ (Rect.unit (s := S1x2048) ![0, p] ![1, 512] inb).set := by
  refine Rect.mem_set_unit.mpr fun x => ?_
  match x with
  | ⟨0, _⟩ => exact ⟨Nat.zero_le _, by show (y 0).val < 0 + 1; have := (y 0).isLt; exact (by simpa using this)⟩
  | ⟨1, _⟩ => exact h

theorem out11B (m : (ℓ : Loc nD τ sig) → Buf (Elt Ideal) ℓ) (c : Dev nD) (t : Fin cfg0.N) (h : ¬ t.val % 16 = 0) (z : Fin 1) (e : Fin 2048)
    (T : TileIn I (grid0.coords t) (iblk m c 0 t) (iblk m c 1 t) (iblk m c 2 t) (iblk m c 3 t) (iblk m c 4 t) (iblk m c 5 t) (iblk m c 6 t)
      (iblk m c 7 t) (iblk m c 8 t)) :
    (outsAt0 m c t.val t.isLt).2.2 (ix2 z e)
      = (outsAt0 m c (t.val - 1) (Nat.lt_of_le_of_lt (Nat.sub_le _ _) t.isLt)).2.2 (ix2 z e)
        + ((∑ r : Fin 256, I.dscT (e.val / 512) (e.val % 512) (256 * (grid0.coords t 0).val + r.val) : ℝ) : EReal) := by
  rw [outsAt0_B m c t h]
  frame_open
  simp (disch := decide) only [↓ View.readCov_skip, ↓ View.readCov_cons_toLoadRect, ↓ View.readCov_fill]
  frame_out
  canon_tiles x hx
  · refine at2s (g := 3) (p := 1536) (inb := inb_S1x2048_S1x512_0_1536) (f := fun g d => ∑ r : Fin 256, I.dscT g d (256 * (grid0.coords t 0).val + r.val)) (by rfl) (fun z d => ?_) x z e (by simpa using hx1)
    exact dsc3 I T.lt _ _ _ _ _ (yp3 I _ _ (pool3 I _ _ _ _ _ _ _ _ _ _ _ _ _ _ _ _ _ T.hU (T.back 3 1 _ _ _ _ (by rfl) (by rfl)) (T.back 3 2 _ _ _ _ (by rfl) (by rfl)) (T.back 3 3 _ _ _ _ (by rfl) (by rfl)) (T.back 3 4 _ _ _ _ (by rfl) (by rfl)) (T.back 3 5 _ _ _ _ (by rfl) (by rfl)) (T.back 3 6 _ _ _ _ (by rfl) (by rfl)) (T.back 3 7 _ _ _ _ (by rfl) (by rfl)) (T.back 3 8 _ _ _ _ (by rfl) (by rfl)) (T.back 3 9 _ _ _ _ (by rfl) (by rfl)) (T.back 3 10 _ _ _ _ (by rfl) (by rfl)) (T.back 3 11 _ _ _ _ (by rfl) (by rfl)) (T.back 3 12 _ _ _ _ (by rfl) (by rfl)) (T.back 3 13 _ _ _ _ (by rfl) (by rfl)) (T.back 3 14 _ _ _ _ (by rfl) (by rfl)) (T.back 3 15 _ _ _ _ (by rfl) (by rfl))) (T.wg 3 _ (by rfl))) (T.gt 3 _ (by rfl)) (T.dx _ _ _ _) (T.wo 3 _ (by rfl)) _ _
  · refine at2s (g := 2) (p := 1024) (inb := inb_S1x2048_S1x512_0_1024) (f := fun g d => ∑ r : Fin 256, I.dscT g d (256 * (grid0.coords t 0).val + r.val)) (by rfl) (fun z d => ?_) x z e (by simpa using hx1)
    exact dsc2 I T.lt _ _ _ _ _ (yp2 I _ _ (pool2 I _ _ _ _ _ _ _ _ _ T.hU (T.back 2 1 _ _ _ _ (by rfl) (by rfl)) (T.back 2 2 _ _ _ _ (by rfl) (by rfl)) (T.back 2 3 _ _ _ _ (by rfl) (by rfl)) (T.back 2 4 _ _ _ _ (by rfl) (by rfl)) (T.back 2 5 _ _ _ _ (by rfl) (by rfl)) (T.back 2 6 _ _ _ _ (by rfl) (by rfl)) (T.back 2 7 _ _ _ _ (by rfl) (by rfl))) (T.wg 2 _ (by rfl))) (T.gt 2 _ (by rfl)) (T.dx _ _ _ _) (T.wo 2 _ (by rfl)) _ _
  · refine at2s (g := 1) (p := 512) (inb := inb_S1x2048_S1x512_0_512) (f := fun g d => ∑ r : Fin 256, I.dscT g d (256 * (grid0.coords t 0).val + r.val)) (by rfl) (fun z d => ?_) x z e (by simpa using hx1)
    exact dsc1 I T.lt _ _ _ (yp1 I _ _ (pool1 I _ _ _ _ _ T.hU (T.back 1 1 _ _ _ _ (by rfl) (by rfl)) (T.back 1 2 _ _ _ _ (by rfl) (by rfl)) (T.back 1 3 _ _ _ _ (by rfl) (by rfl))) (T.wg 1 _ (by rfl))) (dy1 I T.lt _ _ _ (T.gt 1 _ (by rfl)) (T.dx _ _ _ _) (T.wo 1 _ (by rfl))) _ _
  · refine at2s (g := 0) (p := 0) (inb := inb_S1x2048_S1x512_0_0) (f := fun g d => ∑ r : Fin 256, I.dscT g d (256 * (grid0.coords t 0).val + r.val)) (by rfl) (fun z d => ?_) x z e (by simpa using hx1)
    exact dsc0 I T.lt _ _ _ _ _ (yp0 I _ _ (pool0 I _ _ _ T.hU (T.back 0 1 _ _ _ _ (by rfl) (by rfl))) (T.wg 0 _ (by rfl))) (T.gt 0 _ (by rfl)) (T.dx _ _ _ _) (T.wo 0 _ (by rfl)) _ _

theorem out11A (m : (ℓ : Loc nD τ sig) → Buf (Elt Ideal) ℓ) (c : Dev nD) (t : Fin cfg0.N) (h : t.val % 16 = 0) (z : Fin 1) (e : Fin 2048)
    (T : TileIn I (grid0.coords t) (iblk m c 0 t) (iblk m c 1 t) (iblk m c 2 t) (iblk m c 3 t) (iblk m c 4 t) (iblk m c 5 t) (iblk m c 6 t)
      (iblk m c 7 t) (iblk m c 8 t)) :
    (outsAt0 m c t.val t.isLt).2.2 (ix2 z e)
      = ((∑ r : Fin 256, I.dscT (e.val / 512) (e.val % 512) (256 * (grid0.coords t 0).val + r.val) : ℝ) : EReal) := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32)
    (fun y : S1x2048.Idx => (((fun g d => ∑ r : Fin 256, I.dscT g d (256 * (grid0.coords t 0).val + r.val)) ((y 1).val / 512) ((y 1).val % 512) : ℝ) : EReal))
    [_] [_, _, _, _] ⟨fun x => ?_, fun x => ?_, fun x => ?_, fun x => ?_, trivial⟩ (ix2 z e) ?_
  · refine at2z (g := 3) (p := 1536) (inb := inb_S1x2048_S1x512_0_1536) (f := fun g d => ∑ r : Fin 256, I.dscT g d (256 * (grid0.coords t 0).val + r.val)) (by rfl) (fun z d => ?_) x inb_S1x2048_S1x512_0_1536
    exact dsc3 I T.lt _ _ _ _ _ (yp3 I _ _ (pool3 I _ _ _ _ _ _ _ _ _ _ _ _ _ _ _ _ _ T.hU (T.back 3 1 _ _ _ _ (by rfl) (by rfl)) (T.back 3 2 _ _ _ _ (by rfl) (by rfl)) (T.back 3 3 _ _ _ _ (by rfl) (by rfl)) (T.back 3 4 _ _ _ _ (by rfl) (by rfl)) (T.back 3 5 _ _ _ _ (by rfl) (by rfl)) (T.back 3 6 _ _ _ _ (by rfl) (by rfl)) (T.back 3 7 _ _ _ _ (by rfl) (by rfl)) (T.back 3 8 _ _ _ _ (by rfl) (by rfl)) (T.back 3 9 _ _ _ _ (by rfl) (by rfl)) (T.back 3 10 _ _ _ _ (by rfl) (by rfl)) (T.back 3 11 _ _ _ _ (by rfl) (by rfl)) (T.back 3 12 _ _ _ _ (by rfl) (by rfl)) (T.back 3 13 _ _ _ _ (by rfl) (by rfl)) (T.back 3 14 _ _ _ _ (by rfl) (by rfl)) (T.back 3 15 _ _ _ _ (by rfl) (by rfl))) (T.wg 3 _ (by rfl))) (T.gt 3 _ (by rfl)) (T.dx _ _ _ _) (T.wo 3 _ (by rfl)) _ _
  · refine at2z (g := 2) (p := 1024) (inb := inb_S1x2048_S1x512_0_1024) (f := fun g d => ∑ r : Fin 256, I.dscT g d (256 * (grid0.coords t 0).val + r.val)) (by rfl) (fun z d => ?_) x inb_S1x2048_S1x512_0_1024
    exact dsc2 I T.lt _ _ _ _ _ (yp2 I _ _ (pool2 I _ _ _ _ _ _ _ _ _ T.hU (T.back 2 1 _ _ _ _ (by rfl) (by rfl)) (T.back 2 2 _ _ _ _ (by rfl) (by rfl)) (T.back 2 3 _ _ _ _ (by rfl) (by rfl)) (T.back 2 4 _ _ _ _ (by rfl) (by rfl)) (T.back 2 5 _ _ _ _ (by rfl) (by rfl)) (T.back 2 6 _ _ _ _ (by rfl) (by rfl)) (T.back 2 7 _ _ _ _ (by rfl) (by rfl))) (T.wg 2 _ (by rfl))) (T.gt 2 _ (by rfl)) (T.dx _ _ _ _) (T.wo 2 _ (by rfl)) _ _
  · refine at2z (g := 1) (p := 512) (inb := inb_S1x2048_S1x512_0_512) (f := fun g d => ∑ r : Fin 256, I.dscT g d (256 * (grid0.coords t 0).val + r.val)) (by rfl) (fun z d => ?_) x inb_S1x2048_S1x512_0_512
    exact dsc1 I T.lt _ _ _ (yp1 I _ _ (pool1 I _ _ _ _ _ T.hU (T.back 1 1 _ _ _ _ (by rfl) (by rfl)) (T.back 1 2 _ _ _ _ (by rfl) (by rfl)) (T.back 1 3 _ _ _ _ (by rfl) (by rfl))) (T.wg 1 _ (by rfl))) (dy1 I T.lt _ _ _ (T.gt 1 _ (by rfl)) (T.dx _ _ _ _) (T.wo 1 _ (by rfl))) _ _
  · refine at2z (g := 0) (p := 0) (inb := inb_S1x2048_S1x512_0_0) (f := fun g d => ∑ r : Fin 256, I.dscT g d (256 * (grid0.coords t 0).val + r.val)) (by rfl) (fun z d => ?_) x inb_S1x2048_S1x512_0_0
    exact dsc0 I T.lt _ _ _ _ _ (yp0 I _ _ (pool0 I _ _ _ T.hU (T.back 0 1 _ _ _ _ (by rfl) (by rfl))) (T.wg 0 _ (by rfl))) (T.gt 0 _ (by rfl)) (T.dx _ _ _ _) (T.wo 0 _ (by rfl)) _ _
  · have hg : e.val < 2048 := e.isLt
    rcases (by omega : (1536 ≤ e.val ∧ e.val < 1536 + 512) ∨ (1024 ≤ e.val ∧ e.val < 1024 + 512) ∨ (512 ≤ e.val ∧ e.val < 512 + 512) ∨ (0 ≤ e.val ∧ e.val < 0 + 512))
      with h | h | h | h
    · exact ⟨_, List.mem_cons_self, mem2 1536 _ inb_S1x2048_S1x512_0_1536 h⟩
    · exact ⟨_, List.mem_cons_of_mem _ List.mem_cons_self, mem2 1024 _ inb_S1x2048_S1x512_0_1024 h⟩
    · exact ⟨_, List.mem_cons_of_mem _ (List.mem_cons_of_mem _ List.mem_cons_self), mem2 512 _ inb_S1x2048_S1x512_0_512 h⟩
    · exact ⟨_, List.mem_cons_of_mem _ (List.mem_cons_of_mem _ (List.mem_cons_of_mem _ List.mem_cons_self)), mem2 0 _ inb_S1x2048_S1x512_0_0 h⟩

end Cert.Mid
end
-- ==== Proof.Arrays.lean ====
module

public import proofs.«01_k».proof.Proof.Blocks
public import proofs.«01_k».proof.Proof.Out9
public import proofs.«01_k».proof.Proof.Out10
public import proofs.«01_k».proof.Proof.Out11

@[expose] public section

/-! # The result arrays of the kernel's call -/

set_option maxRecDepth 16384
set_option maxHeartbeats 4000000

noncomputable section
namespace Cert.Mid
open Cert.KernelIdeal Cert.KernelIdeal.Gen Idealize.ShloMosaic Idealize.ShloMosaic.TcCoe Idealize.SL.Sem

/-- The cotangent of the projection, as an array. -/
def G9 (I : Data) : FVec Ideal S4096x4096 .bf16 := fun y => ((I.dproj (y 0).val (y 1).val : ℝ) : EReal)
/-- The cotangent of the group matrices, as an array: a sum over the tokens. -/
def G10 (I : Data) : FVec Ideal S4x512x512 .f32 := fun y => ((∑ t ∈ Finset.range 4096, I.dwgT (y 0).val (y 1).val (y 2).val t : ℝ) : EReal)
/-- The cotangent of the scale, as an array: a sum over the tokens. -/
def G11 (I : Data) : FVec Ideal S1x2048 .f32 := fun y => ((∑ t ∈ Finset.range 4096, I.dscT ((y 1).val / 512) ((y 1).val % 512) t : ℝ) : EReal)

variable (m : (ℓ : Loc nD τ sig) → Buf (Elt Ideal) ℓ) (c : Dev nD) (H : AllReal (A0 m c) (A1 m c) (A2 m c) (A3 m c) (A4 m c))

theorem sum_next (f : ℕ → ℝ) (n : ℕ) :
    ((∑ t ∈ Finset.range (256 * n), f t : ℝ) : EReal) + ((∑ r : Fin 256, f (256 * n + r.val) : ℝ) : EReal)
      = ((∑ t ∈ Finset.range (256 * (n + 1)), f t : ℝ) : EReal) := by
  rw [← EReal.coe_add, Fin.sum_univ_eq_sum_range (fun r => f (256 * n + r)) 256, ← Finset.sum_range_add, Nat.mul_add, Nat.mul_one]

include H

theorem acc10 (g : Fin 4) (a d : Fin 512) : ∀ (n : ℕ) (h : n < cfg0.N),
    (outsAt0 m c n h).2.1 (ix3 g a d) = ((∑ t ∈ Finset.range (256 * (n + 1)), (inp m c).dwgT g.val a.val d.val t : ℝ) : EReal)
  | 0, h => by
    refine (out10A m c ⟨0, h⟩ (by rfl) g a d (tileIn m c H ⟨0, h⟩)).trans ?_
    rw [← sum_next, co]
    simp
  | n + 1, h => by
    have hn : cfg0.N = 16 := by decide +kernel
    refine (out10B m c ⟨n + 1, h⟩ (by show ¬ (n + 1) % 16 = 0; omega) g a d (tileIn m c H ⟨n + 1, h⟩)).trans ?_
    rw [← sum_next, co]
    exact congrArg (· + _) (acc10 g a d n _)

theorem acc11 (z : Fin 1) (e : Fin 2048) : ∀ (n : ℕ) (h : n < cfg0.N),
    (outsAt0 m c n h).2.2 (ix2 z e) = ((∑ t ∈ Finset.range (256 * (n + 1)), (inp m c).dscT (e.val / 512) (e.val % 512) t : ℝ) : EReal)
  | 0, h => by
    refine (out11A m c ⟨0, h⟩ (by rfl) z e (tileIn m c H ⟨0, h⟩)).trans ?_
    rw [← sum_next, co]
    simp
  | n + 1, h => by
    have hn : cfg0.N = 16 := by decide +kernel
    refine (out11B m c ⟨n + 1, h⟩ (by show ¬ (n + 1) % 16 = 0; omega) z e (tileIn m c H ⟨n + 1, h⟩)).trans ?_
    rw [← sum_next, co]
    exact congrArg (· + _) (acc11 z e n _)

theorem out9 (t : Fin cfg0.N) (r : Fin 256) (e : Fin 4096) :
    (outsAt0 m c t.val t.isLt).1 (ix2 r e) = (((inp m c).dproj (256 * (grid0.coords t 0).val + r.val) e.val : ℝ) : EReal) := by
  by_cases h : t.val % 16 = 0
  · exact out9A m c t h r e (tileIn m c H t)
  · exact out9B m c t h r e (tileIn m c H t)

theorem array9 : (dats m 0 c).arrAt 9 cfg0.N = G9 (inp m c) := by
  refine (dats m 0 c).arrAt_eq_of_covers 9 _ (by decide +kernel) fun t hf y => ?_
  blk_simp
  rw [after0_9]
  obtain ⟨r, e, rfl⟩ : ∃ (r : Fin 256) (e : Fin 4096), y = (ix2 r e : S256x4096.Idx) := ⟨y 0, y 1, (ix2_eta (y : S256x4096.Idx)).symm⟩
  refine (out9 m c H t r e).trans ?_
  have h0 : (((win0_9.blk t).view.emb (ix2 r e : S256x4096.Idx) : S4096x4096.Idx) 0).val = 256 * (grid0.coords t 0).val + r.val := by
    blk_simp [i9 t]
    omega
  have h1 : (((win0_9.blk t).view.emb (ix2 r e : S256x4096.Idx) : S4096x4096.Idx) 1).val = e.val := by
    blk_simp [i9 t]
  exact (congrArg₂ (fun a b => (((inp m c).dproj a b : ℝ) : EReal)) h0 h1).symm

theorem array10 : (dats m 0 c).arrAt 10 cfg0.N = G10 (inp m c) := by
  refine (dats m 0 c).arrAt_eq_of_after_last 10 t0_15 (by decide +kernel) _ fun j => ?_
  blk_simp
  rw [after0_10]
  obtain ⟨g, a, d, rfl⟩ : ∃ (g : Fin 4) (a d : Fin 512), j = (ix3 g a d : S4x512x512.Idx) := ⟨j 0, j 1, j 2, (ix3_eta (j : S4x512x512.Idx)).symm⟩
  exact acc10 m c H g a d 15 t0_15.isLt

theorem array11 : (dats m 0 c).arrAt 11 cfg0.N = G11 (inp m c) := by
  refine (dats m 0 c).arrAt_eq_of_after_last 11 t0_15 (by decide +kernel) _ fun j => ?_
  blk_simp
  rw [after0_11]
  obtain ⟨z, e, rfl⟩ : ∃ (z : Fin 1) (e : Fin 2048), j = (ix2 z e : S1x2048.Idx) := ⟨j 0, j 1, (ix2_eta (j : S1x2048.Idx)).symm⟩
  exact acc11 m c H z e 15 t0_15.isLt

end Cert.Mid
end
-- ==== Proof.RefOps.lean ====
module

public import proofs.«01_k».proof.Proof.Spec
public import Idealize.ShloMosaic.Lib.Pointwise
public import Idealize.ShloMosaic.Lib.Routing.OpsPair

@[expose] public section

/-! # Running sums, gathers and scatters of the reference at one index -/

set_option maxRecDepth 16384

noncomputable section
namespace Cert.Mid
open Idealize.ShloMosaic

/-- The entries of a matrix with a leading axis of length one are the real numbers `f`. -/
abbrev T3 {b n : ℕ} (v : (⟨3, ![1, b, n]⟩ : Shape).Idx → EReal) (f : ℕ → ℕ → ℝ) : Prop :=
  ∀ i, v i = ((f (i 1).val (i 2).val : ℝ) : EReal)
/-- The entries of an array over token, group and channel with a leading axis of length one are the real numbers `f`. -/
abbrev T4 {a b n : ℕ} (v : (⟨4, ![1, a, b, n]⟩ : Shape).Idx → EReal) (f : ℕ → ℕ → ℕ → ℝ) : Prop :=
  ∀ i, v i = ((f (i 1).val (i 2).val (i 3).val : ℝ) : EReal)

theorem foldl_add {ι : Type} (l : List ι) (g : ι → EReal) : ∀ z : EReal, l.foldl (fun r n => r + g n) z = z + (l.map g).sum := by
  induction l with
  | nil => intro z; simp
  | cons a l ih => intro z; simp only [List.foldl_cons, List.map_cons, List.sum_cons, ih, add_assoc]

theorem numel4 (N : ℕ) : (⟨4, ![1, N, 1, 1]⟩ : Shape).numel = N := by
  show ∏ a : Fin 4, (![1, N, 1, 1] : Fin 4 → Nat) a = N
  simp [Fin.prod_univ_succ]

theorem symm4 {N : ℕ} (n : Fin (⟨4, ![1, N, 1, 1]⟩ : Shape).numel) : (((⟨4, ![1, N, 1, 1]⟩ : Shape).rowMajor.symm n) 1).val = n.val := by
  have h := Shape.rowMajor_val_four ((⟨4, ![1, N, 1, 1]⟩ : Shape).rowMajor.symm n)
  rw [Equiv.apply_symm_apply] at h
  generalize (⟨4, ![1, N, 1, 1]⟩ : Shape).rowMajor.symm n = w at h ⊢
  have h0 : (w 0).val < 1 := (w 0).isLt
  have h2 : (w 2).val < 1 := (w 2).isLt
  have h3 : (w 3).val < 1 := (w 3).isLt
  rw [h]
  show (w 1).val = (((w 0).val * N + (w 1).val) * 1 + (w 2).val) * 1 + (w 3).val
  rw [Nat.lt_one_iff.1 h0, Nat.lt_one_iff.1 h2, Nat.lt_one_iff.1 h3]
  omega

/-- A sum over a window along the second axis, one term a position. -/
theorem windowSum {N G C : ℕ} (lo hi : Fin 4 → ℕ) (x : (⟨4, ![1, N, G, C]⟩ : Shape).Idx → EReal)
    (h : (⟨4, ![1, N, G, C]⟩ : Shape).ReduceWindows ![1, N, 1, 1] ![1, 1, 1, 1] lo hi ⟨4, ![1, N, G, C]⟩) (j : (⟨4, ![1, N, G, C]⟩ : Shape).Idx)
    (F : ℕ → ℝ)
    (hpos : ∀ (w : (⟨4, ![1, N, 1, 1]⟩ : Shape).Idx) (hin : ∀ a, lo a ≤ (j (Fin.cast h.1.symm a)).val * (![1, 1, 1, 1] : Fin 4 → ℕ) a + (w a).val
          ∧ (j (Fin.cast h.1.symm a)).val * (![1, 1, 1, 1] : Fin 4 → ℕ) a + (w a).val - lo a < (⟨4, ![1, N, G, C]⟩ : Shape).size a),
      x (fun a => ⟨(j (Fin.cast h.1.symm a)).val * (![1, 1, 1, 1] : Fin 4 → ℕ) a + (w a).val - lo a, (hin a).2⟩) = ((F (w 1).val : ℝ) : EReal))
    (hneg : ∀ (w : (⟨4, ![1, N, 1, 1]⟩ : Shape).Idx), ¬ (∀ a, lo a ≤ (j (Fin.cast h.1.symm a)).val * (![1, 1, 1, 1] : Fin 4 → ℕ) a + (w a).val
          ∧ (j (Fin.cast h.1.symm a)).val * (![1, 1, 1, 1] : Fin 4 → ℕ) a + (w a).val - lo a < (⟨4, ![1, N, G, C]⟩ : Shape).size a) → (0 : EReal) = ((F (w 1).val : ℝ) : EReal)) :
    Ideal.hostReduceWindowAdd ![1, N, 1, 1] ![1, 1, 1, 1] lo hi h x 0 j = ((∑ n ∈ Finset.range N, F n : ℝ) : EReal) := by
  unfold Ideal.hostReduceWindowAdd Host.reduceWindow
  refine (foldl_add _ _ _).trans ?_
  rw [zero_add, ← Fin.sum_univ_def]
  refine (Finset.sum_congr rfl fun n _ => show _ = ((F n.val : ℝ) : EReal) from ?_).trans ?_
  · rw [← symm4 n]
    dsimp only
    split
    · next hin => exact hpos _ hin
    · next hin => exact hneg _ hin
  · rw [coe_sum, Fin.sum_univ_eq_sum_range]
    exact congrArg (fun M => ((∑ n ∈ Finset.range M, F n : ℝ) : EReal)) (numel4 N)

/-- The running sum from the first row. -/
theorem prefixSum {N M G C : ℕ} (hM : M + 1 = N) (x : (⟨4, ![1, N, G, C]⟩ : Shape).Idx → EReal) (f : ℕ → ℕ → ℕ → ℝ) (hx : T4 x f)
    (h : (⟨4, ![1, N, G, C]⟩ : Shape).ReduceWindows ![1, N, 1, 1] ![1, 1, 1, 1] ![0, M, 0, 0] ![0, 0, 0, 0] ⟨4, ![1, N, G, C]⟩) :
    T4 (Ideal.hostReduceWindowAdd ![1, N, 1, 1] ![1, 1, 1, 1] ![0, M, 0, 0] ![0, 0, 0, 0] h x 0) (fun t g c => ∑ s ∈ Finset.range (t + 1), f s g c) := by
  intro j
  have h1 : (j 1).val < N := (j 1).isLt
  refine (windowSum _ _ x h j (fun n => if M ≤ (j 1).val + n then f ((j 1).val + n - M) (j 2).val (j 3).val else 0) ?_ ?_).trans ?_
  · intro w hin
    have w0 : (w 0).val < 1 := (w 0).isLt
    have w1 : (w 1).val < N := (w 1).isLt
    have w2 : (w 2).val < 1 := (w 2).isLt
    have w3 : (w 3).val < 1 := (w 3).isLt
    have j0 : (j 0).val < 1 := (j 0).isLt
    have j2 : (j 2).val < G := (j 2).isLt
    have j3 : (j 3).val < C := (j 3).isLt
    have e := (hin 1).1
    change M ≤ (j 1).val * 1 + (w 1).val at e
    rw [if_pos (by omega), hx]
    have a1 : (j 1).val * 1 + (w 1).val - M = (j 1).val + (w 1).val - M := by omega
    have a2 : (j 2).val * 1 + (w 2).val - 0 = (j 2).val := by omega
    have a3 : (j 3).val * 1 + (w 3).val - 0 = (j 3).val := by omega
    show ((f ((j 1).val * 1 + (w 1).val - M) ((j 2).val * 1 + (w 2).val - 0) ((j 3).val * 1 + (w 3).val - 0) : ℝ) : EReal) = _
    rw [a1, a2, a3]
  · intro w hin
    have w0 : (w 0).val < 1 := (w 0).isLt
    have w1 : (w 1).val < N := (w 1).isLt
    have w2 : (w 2).val < 1 := (w 2).isLt
    have w3 : (w 3).val < 1 := (w 3).isLt
    have j0 : (j 0).val < 1 := (j 0).isLt
    have j2 : (j 2).val < G := (j 2).isLt
    have j3 : (j 3).val < C := (j 3).isLt
    rw [if_neg, EReal.coe_zero]
    intro hle
    refine hin fun a => ?_
    match a with
    | ⟨0, _⟩ => show 0 ≤ (j 0).val * 1 + (w 0).val ∧ (j 0).val * 1 + (w 0).val - 0 < 1; omega
    | ⟨1, _⟩ => show M ≤ (j 1).val * 1 + (w 1).val ∧ (j 1).val * 1 + (w 1).val - M < N; omega
    | ⟨2, _⟩ => show 0 ≤ (j 2).val * 1 + (w 2).val ∧ (j 2).val * 1 + (w 2).val - 0 < G; omega
    | ⟨3, _⟩ => show 0 ≤ (j 3).val * 1 + (w 3).val ∧ (j 3).val * 1 + (w 3).val - 0 < C; omega
  · refine congrArg (fun r : ℝ => (r : EReal)) ?_
    generalize (j 1).val = t at h1 ⊢
    have e : N = (M - t) + (t + 1) := by omega
    rw [e, Finset.sum_range_add, Finset.sum_eq_zero, zero_add]
    · refine Finset.sum_congr rfl fun s hs => ?_
      have := Finset.mem_range.1 hs
      rw [if_pos (by omega)]
      congr 1
      omega
    · intro s hs
      have := Finset.mem_range.1 hs
      rw [if_neg (by omega)]

/-- The running sum to the last row. -/
theorem suffixSum {N M G C : ℕ} (x : (⟨4, ![1, N, G, C]⟩ : Shape).Idx → EReal) (f : ℕ → ℕ → ℕ → ℝ) (hx : T4 x f)
    (h : (⟨4, ![1, N, G, C]⟩ : Shape).ReduceWindows ![1, N, 1, 1] ![1, 1, 1, 1] ![0, 0, 0, 0] ![0, M, 0, 0] ⟨4, ![1, N, G, C]⟩) :
    T4 (Ideal.hostReduceWindowAdd ![1, N, 1, 1] ![1, 1, 1, 1] ![0, 0, 0, 0] ![0, M, 0, 0] h x 0)
      (fun t g c => ∑ n ∈ Finset.range N, if t + n < N then f (t + n) g c else 0) := by
  intro j
  refine windowSum _ _ x h j (fun n => if (j 1).val + n < N then f ((j 1).val + n) (j 2).val (j 3).val else 0) ?_ ?_
  · intro w hin
    have w0 : (w 0).val < 1 := (w 0).isLt
    have w1 : (w 1).val < N := (w 1).isLt
    have w2 : (w 2).val < 1 := (w 2).isLt
    have w3 : (w 3).val < 1 := (w 3).isLt
    have j0 : (j 0).val < 1 := (j 0).isLt
    have j2 : (j 2).val < G := (j 2).isLt
    have j3 : (j 3).val < C := (j 3).isLt
    have e := (hin 1).2
    change (j 1).val * 1 + (w 1).val - 0 < N at e
    rw [if_pos (by omega), hx]
    have a1 : (j 1).val * 1 + (w 1).val - 0 = (j 1).val + (w 1).val := by omega
    have a2 : (j 2).val * 1 + (w 2).val - 0 = (j 2).val := by omega
    have a3 : (j 3).val * 1 + (w 3).val - 0 = (j 3).val := by omega
    show ((f ((j 1).val * 1 + (w 1).val - 0) ((j 2).val * 1 + (w 2).val - 0) ((j 3).val * 1 + (w 3).val - 0) : ℝ) : EReal) = _
    rw [a1, a2, a3]
  · intro w hin
    have w0 : (w 0).val < 1 := (w 0).isLt
    have w1 : (w 1).val < N := (w 1).isLt
    have w2 : (w 2).val < 1 := (w 2).isLt
    have w3 : (w 3).val < 1 := (w 3).isLt
    have j0 : (j 0).val < 1 := (j 0).isLt
    have j2 : (j 2).val < G := (j 2).isLt
    have j3 : (j 3).val < C := (j 3).isLt
    rw [if_neg, EReal.coe_zero]
    intro hle
    refine hin fun a => ?_
    match a with
    | ⟨0, _⟩ => show 0 ≤ (j 0).val * 1 + (w 0).val ∧ (j 0).val * 1 + (w 0).val - 0 < 1; omega
    | ⟨1, _⟩ => show 0 ≤ (j 1).val * 1 + (w 1).val ∧ (j 1).val * 1 + (w 1).val - 0 < N; omega
    | ⟨2, _⟩ => show 0 ≤ (j 2).val * 1 + (w 2).val ∧ (j 2).val * 1 + (w 2).val - 0 < G; omega
    | ⟨3, _⟩ => show 0 ≤ (j 3).val * 1 + (w 3).val ∧ (j 3).val * 1 + (w 3).val - 0 < C; omega

end Cert.Mid
end
-- ==== Proof.RefIdx.lean ====
module

public import proofs.«01_k».proof.Proof.RefOps
public import proofs.«01_k».proof.Proof.Gen.ReferenceIdeal.Read

@[expose] public section

/-! # The reference's gather and scatter at one index -/

set_option maxRecDepth 16384

noncomputable section
namespace Cert.Mid
open Cert.ReferenceIdeal Idealize.ShloMosaic

abbrev gth := gather_S1x4097x4x512_S4096x4x2_S1x4096x4x512_03_12_n_n_12_2_111512
abbrev sct := scatter_S1x4097x4x512_S4096x4x2_S1x4096x4x512_03_12_12_2

theorem gth_si (j : S1x4096x4x512.Idx) (k : Fin 2) : gth.siIdx j k = (ix3 ⟨(j 1).val, (j 1).isLt⟩ ⟨(j 2).val, (j 2).isLt⟩ k : S4096x4x2.Idx) := by
  funext b
  match b with
  | ⟨0, _⟩ => rfl
  | ⟨1, _⟩ => rfl
  | ⟨2, _⟩ => rfl

theorem sct_si (j : S1x4096x4x512.Idx) (k : Fin 2) : sct.siIdx j k = (ix3 ⟨(j 1).val, (j 1).isLt⟩ ⟨(j 2).val, (j 2).isLt⟩ k : S4096x4x2.Idx) := by
  funext b
  match b with
  | ⟨0, _⟩ => rfl
  | ⟨1, _⟩ => rfl
  | ⟨2, _⟩ => rfl

/-- The gather reads the row that the first index word names, in the group that the second names. -/
theorem gather_at {α : Type} (v : S1x4097x4x512.Idx → α) (idx : IVec S4096x4x2 32) (j : S1x4096x4x512.Idx) (l : Fin 4097) (g : Fin 4)
    (hl : (idx (ix3 ⟨(j 1).val, (j 1).isLt⟩ ⟨(j 2).val, (j 2).isLt⟩ 0)).toInt = (l.val : ℤ))
    (hg : (idx (ix3 ⟨(j 1).val, (j 1).isLt⟩ ⟨(j 2).val, (j 2).isLt⟩ 1)).toInt = (g.val : ℤ)) :
    Host.gather gth v idx j = v (ix4 ⟨(j 0).val, (j 0).isLt⟩ l g ⟨(j 3).val, (j 3).isLt⟩) := by
  show v (gth.operandIdx j idx) = _
  refine congrArg v (funext fun a => Fin.ext ?_)
  have hl' := l.isLt
  have hg' := g.isLt
  match a with
  | ⟨0, _⟩ => show 0 + 0 + (j 0).val = (j 0).val; omega
  | ⟨1, _⟩ =>
    show min (idx (gth.siIdx j (0 : Fin 2))).toInt.toNat (4097 - 1) + 0 + 0 = l.val
    rw [gth_si, hl, Int.toNat_natCast]; omega
  | ⟨2, _⟩ =>
    show min (idx (gth.siIdx j (1 : Fin 2))).toInt.toNat (4 - 1) + 0 + 0 = g.val
    rw [gth_si, hg, Int.toNat_natCast]; omega
  | ⟨3, _⟩ => show 0 + 0 + (j 3).val = (j 3).val; omega

/-- The scatter adds to a row every update whose first index word names the row and whose second names the group. -/
theorem scatter_iff (idx : IVec S4096x4x2 32) (j : S1x4096x4x512.Idx) (i : S1x4097x4x512.Idx) (l g : ℕ)
    (hl : (idx (ix3 ⟨(j 1).val, (j 1).isLt⟩ ⟨(j 2).val, (j 2).isLt⟩ 0)).toInt = (l : ℤ))
    (hg : (idx (ix3 ⟨(j 1).val, (j 1).isLt⟩ ⟨(j 2).val, (j 2).isLt⟩ 1)).toInt = (g : ℤ)) :
    sct.resultIdx? j idx = some i ↔ l = (i 1).val ∧ g = (i 2).val ∧ (j 3).val = (i 3).val := by
  have e0 : sct.start j idx 0 + (sct.window j 0 : ℤ) = ((j 0).val : ℤ) := by
    show (0 : ℤ) + ((j 0).val : ℤ) = _; omega
  have e1 : sct.start j idx 1 + (sct.window j 1 : ℤ) = (l : ℤ) := by
    show (idx (sct.siIdx j (0 : Fin 2))).toInt + ((0 : ℕ) : ℤ) = _; rw [sct_si, hl]; omega
  have e2 : sct.start j idx 2 + (sct.window j 2 : ℤ) = (g : ℤ) := by
    show (idx (sct.siIdx j (1 : Fin 2))).toInt + ((0 : ℕ) : ℤ) = _; rw [sct_si, hg]; omega
  have e3 : sct.start j idx 3 + (sct.window j 3 : ℤ) = ((j 3).val : ℤ) := by
    show (0 : ℤ) + ((j 3).val : ℤ) = _; omega
  rw [Routing.resultIdx?_eq_some]
  have j0 : (j 0).val < 1 := (j 0).isLt
  have i0 : (i 0).val < 1 := (i 0).isLt
  constructor
  · intro h
    have h1 := h 1
    have h2 := h 2
    have h3 := h 3
    rw [e1] at h1
    rw [e2] at h2
    rw [e3] at h3
    omega
  · rintro ⟨h1, h2, h3⟩ a
    match a with
    | ⟨0, _⟩ => exact e0.trans (congrArg (fun n : ℕ => (n : ℤ)) (show (j 0).val = (i 0).val by omega))
    | ⟨1, _⟩ => exact e1.trans (congrArg (fun n : ℕ => (n : ℤ)) h1)
    | ⟨2, _⟩ => exact e2.trans (congrArg (fun n : ℕ => (n : ℤ)) h2)
    | ⟨3, _⟩ => exact e3.trans (congrArg (fun n : ℕ => (n : ℤ)) h3)

end Cert.Mid
end
-- ==== Proof.RefWords.lean ====
module

public import proofs.«01_k».proof.Proof.RefIdx
public import proofs.«01_k».proof.Proof.Words

@[expose] public section

/-! # The reference's index words and window counts -/

set_option maxRecDepth 16384

noncomputable section
namespace Cert.Mid
open Cert.ReferenceIdeal Cert.ReferenceIdeal.Read Idealize.ShloMosaic

/-- The first row of the window of token `t`, among the running sums. -/
abbrev low (g t : ℕ) : ℕ := t + 1 - Data.W g

theorem toInt_small {n : ℕ} (h : n < 2 ^ 31) : (BitVec.ofNat 32 n).toInt = (n : ℤ) := by
  rw [BitVec.toInt_eq_toNat_of_lt] <;> rw [BitVec.toNat_ofNat, Nat.mod_eq_of_lt] <;> omega

theorem W_le {g : ℕ} (h : g < 4) : Data.W g ≤ 16 := by
  unfold Data.W
  interval_cases g <;> decide
theorem W_pos (g : ℕ) : 0 < Data.W g := by unfold Data.W; positivity

theorem w11 (i : S4.Idx) : val_main_v11 (F := Ideal) i = BitVec.ofNat 32 (Data.W (i 0).val) := by
  have h : (i 0).val < 4 := (i 0).isLt
  rw [val_main_v11_apply, val_main_v10_apply, val_main_v9_apply]
  show IntOp.shli .host 2#32 (BitVec.ofNat 32 (i 0).val) = _
  generalize (i 0).val = g at h ⊢
  interval_cases g <;> rfl

theorem w14 (i : S4096.Idx) : val_main_v14 (F := Ideal) i = BitVec.ofNat 32 ((i 0).val + 1) := by
  rw [val_main_v14_apply, val_main_v13_apply, val_main_v12_apply]
  show 1#32 + BitVec.ofNat 32 (i 0).val = _
  rw [Nat.add_comm, BitVec.ofNat_add]

theorem w21 (i : S4096x4.Idx) : val_main_v21 (F := Ideal) i = BitVec.ofNat 32 (low (i 1).val (i 0).val) := by
  have ht : (i 0).val < 4096 := (i 0).isLt
  have hW := W_le (show (i 1).val < 4 from (i 1).isLt)
  rw [val_main_v21_apply, val_main_v19_apply, val_main_v20_apply, val_main_v17_apply, val_main_v15_apply, val_main_v18_apply, val_main_v16_apply, w11, w14]
  show IntOp.maxsi (BitVec.ofNat 32 ((i 0).val + 1) - BitVec.ofNat 32 (Data.W (i 1).val)) 0#32 = BitVec.ofNat 32 ((i 0).val + 1 - Data.W (i 1).val)
  generalize (i 0).val = t at ht ⊢
  generalize Data.W (i 1).val = w at hW ⊢
  have e : (BitVec.ofNat 32 (t + 1) - BitVec.ofNat 32 w).toInt = (t : ℤ) + 1 - w := by
    rw [BitVec.toInt_sub, toInt_small (by omega), toInt_small (by omega)]
    rw [Int.bmod_eq_of_le] <;> push_cast <;> omega
  unfold IntOp.maxsi
  simp only [BitVec.slt_iff_toInt_lt, e]
  apply BitVec.eq_of_toInt_eq
  rw [toInt_small (show t + 1 - w < 2 ^ 31 by omega)]
  split
  · next h => rw [show (0#32).toInt = 0 from rfl] at *; omega
  · next h => rw [show (0#32).toInt = 0 from rfl] at *; omega

theorem w28 (i : S4096x4.Idx) : val_main_v28 (F := Ideal) i = BitVec.ofNat 32 (low (i 1).val (i 0).val) := by
  have ht : (i 0).val < 4096 := (i 0).isLt
  rw [val_main_v28_apply, val_main_v25_apply, val_main_v24_apply, w21]
  have e : IntOp.cmpi .slt (BitVec.ofNat 32 (low (i 1).val (i 0).val)) 0#32 = 0#1 := by
    unfold IntOp.cmpi
    simp only [BitVec.slt_eq_decide, toInt_small (show low (i 1).val (i 0).val < 2 ^ 31 by unfold low; omega)]
    rw [show (0#32).toInt = 0 from rfl, decide_eq_false (not_lt.2 (Int.natCast_nonneg _))]
    rfl
  show Scalar.select (IntOp.cmpi .slt (BitVec.ofNat 32 (low (i 1).val (i 0).val)) 0#32) _ _ = _
  rw [e]
  rfl

theorem w34 (i : S4096x4.Idx) : val_main_v34 (F := Ideal) i = BitVec.ofNat 32 (i 1).val := by
  have h : (i 1).val < 4 := (i 1).isLt
  rw [val_main_v34_apply, val_main_v33_apply, val_main_v30_apply, val_main_v29_apply, val_main_v32_apply, val_main_v23_apply, val_main_v22_apply]
  show Scalar.select (IntOp.cmpi .slt (BitVec.ofNat 32 (i 1).val) 0#32) _ (BitVec.ofNat 32 (i 1).val) = _
  generalize (i 1).val = g at h ⊢
  interval_cases g <;> rfl

theorem w37_0 (t : Fin 4096) (g : Fin 4) : (val_main_v37 (F := Ideal) (ix3 t g 0)).toInt = ((low g.val t.val : ℕ) : ℤ) := by
  have e : val_main_v37 (F := Ideal) (ix3 t g 0) = val_main_v35 (F := Ideal) (ix3 t g 0) := by
    unfold val_main_v37
    refine concatenate_pair_apply_left (t := S4096x4x2) (s₁ := S4096x4x1) (s₂ := S4096x4x1) (2 : Fin 3) (val_main_v35 (F := Ideal)) (val_main_v36 (F := Ideal))
      _ (ix3 t g 0) rfl (ix3 t g 0) (fun b => ?_)
    match b with
    | ⟨0, _⟩ => rfl
    | ⟨1, _⟩ => rfl
    | ⟨2, _⟩ => rfl
  rw [e, val_main_v35_apply, w28]
  exact toInt_small (by have := t.isLt; show low g.val t.val < _; unfold low; omega)

theorem w37_1 (t : Fin 4096) (g : Fin 4) : (val_main_v37 (F := Ideal) (ix3 t g 1)).toInt = ((g.val : ℕ) : ℤ) := by
  have e : val_main_v37 (F := Ideal) (ix3 t g 1) = val_main_v36 (F := Ideal) (ix3 t g 0) := by
    unfold val_main_v37
    refine concatenate_pair_apply_right (t := S4096x4x2) (s₁ := S4096x4x1) (s₂ := S4096x4x1) (2 : Fin 3) (val_main_v35 (F := Ideal)) (val_main_v36 (F := Ideal))
      _ (ix3 t g 1) rfl rfl (ix3 t g 0) (fun b hb => ?_) rfl
    match b with
    | ⟨0, _⟩ => rfl
    | ⟨1, _⟩ => rfl
    | ⟨2, _⟩ => exact absurd rfl hb
  rw [e, val_main_v36_apply, w34]
  exact toInt_small (by have := g.isLt; show g.val < _; omega)

theorem w43 (i : S4096x4.Idx) : val_main_v43 (F := Ideal) i = ((Data.cnt (i 1).val (i 0).val : ℝ) : EReal) := by
  have ht : (i 0).val < 4096 := (i 0).isLt
  have hW := W_le (show (i 1).val < 4 from (i 1).isLt)
  rw [val_main_v43_apply, val_main_v42_apply, val_main_v40_apply, val_main_v15_apply, val_main_v41_apply, val_main_v39_apply, w11, w14]
  have := cnt_word (b := (i 0).val) (r := 0) (g := (i 1).val) (by omega) (by omega) rfl hW
  rw [Nat.add_zero] at this
  refine Eq.trans ?_ this
  show FloatOps.sitofp (F := Ideal) .f32 (IntOp.minsi (BitVec.ofNat 32 ((i 0).val + 1)) (BitVec.ofNat 32 (Data.W (i 1).val))) = _
  congr 2
  show _ = BitVec.ofNat 32 (i 0).val + BitVec.ofNat 32 0 + 1#32
  rw [BitVec.ofNat_add]
  simp

/-- The window count, at token and group. -/
theorem v46_real (i : S1x4096x4x1.Idx) : val_main_v46 (F := Ideal) i = ((Data.cnt (i 2).val (i 1).val : ℝ) : EReal) := by
  rw [val_main_v46_apply, w43]

end Cert.Mid
end
-- ==== Proof.RefFwd.lean ====
module

public import proofs.«01_k».proof.Proof.RefWords
public import proofs.«01_k».proof.Proof.Blocks

@[expose] public section

/-! # The reference's forward values: the pooled value, the mixed value, the gate -/

set_option maxRecDepth 16384

noncomputable section
namespace Cert.Mid
open Cert.ReferenceIdeal Cert.ReferenceIdeal.Read Idealize.ShloMosaic

theorem cg2 (f : ℕ → ℕ → ℝ) {a b a' b' : ℕ} (h1 : a = a') (h2 : b = b') : ((f a b : ℝ) : EReal) = ((f a' b' : ℝ) : EReal) := by rw [h1, h2]
theorem cg3 (f : ℕ → ℕ → ℕ → ℝ) {a b c a' b' c' : ℕ} (h1 : a = a') (h2 : b = b') (h3 : c = c') :
    ((f a b c : ℝ) : EReal) = ((f a' b' c' : ℝ) : EReal) := by rw [h1, h2, h3]

/-- A channel's group and place in the group name the channel. -/
theorem col_div (e : ℕ) : Data.col (e / 512) (e % 512) = e := Nat.div_add_mod e 512

/-- A window's sum is the difference of two running sums. -/
theorem window_eq (I : Data) (g t e : ℕ) :
    (∑ s ∈ Finset.range (t + 1), I.pr s e) - ∑ s ∈ Finset.range (low g t), I.pr s e = ∑ k ∈ Finset.range (Data.W g), I.back t e k := by
  have hW := W_pos g
  unfold low
  generalize Data.W g = w at hW ⊢
  have h1 : ∑ s ∈ Finset.range (t + 1), I.pr s e
      = (∑ s ∈ Finset.range (t + 1 - w), I.pr s e) + ∑ s ∈ Finset.range (min (t + 1) w), I.pr (t + 1 - w + s) e := by
    rw [← Finset.sum_range_add (fun s => I.pr s e)]
    congr 2
    omega
  have h2 : ∑ k ∈ Finset.range w, I.back t e k = ∑ s ∈ Finset.range (min (t + 1) w), I.pr (t - s) e := by
    have e1 : w = min (t + 1) w + (w - min (t + 1) w) := by omega
    rw [e1, Finset.sum_range_add, ← e1]
    rw [Finset.sum_eq_zero (s := Finset.range (w - min (t + 1) w)), add_zero]
    · refine Finset.sum_congr rfl fun k hk => ?_
      have := Finset.mem_range.1 hk
      unfold Data.back
      rw [if_pos (by omega)]
    · intro k hk
      have := Finset.mem_range.1 hk
      unfold Data.back
      rw [if_neg (by omega)]
  rw [h1, h2, add_sub_cancel_left, ← Finset.sum_range_reflect]
  refine Finset.sum_congr rfl fun k hk => ?_
  have := Finset.mem_range.1 hk
  congr 1
  omega

section
variable {P : FVec Ideal S4096x4096 .f32} {W : FVec Ideal S4x512x512 .f32} {S : FVec Ideal S1x2048 .f32} {O : FVec Ideal S2048x2048 .f32}
    {X : FVec Ideal S4096x2048 .f32} (H : AllReal P W S O X)
include H

theorem prAt (i : S4096x4096.Idx) : P i = (((ofArrays P W S O X).pr (i 0).val (i 1).val : ℝ) : EReal) :=
  (congrArg P (ix2_eta i).symm).trans (H.pr (i 0) (i 1))
theorem wgAt (i : S4x512x512.Idx) : W i = (((ofArrays P W S O X).wg (i 0).val (i 1).val (i 2).val : ℝ) : EReal) :=
  (congrArg W (ix3_eta i).symm).trans (H.wg (i 0) (i 1) (i 2))
theorem scAt (i : S1x2048.Idx) : S i = (((ofArrays P W S O X).sc (i 1).val : ℝ) : EReal) :=
  (congrArg S (ix2_eta i).symm).trans (H.sc (i 0) (i 1))
theorem woAt (i : S2048x2048.Idx) : O i = (((ofArrays P W S O X).wo (i 0).val (i 1).val : ℝ) : EReal) :=
  (congrArg O (ix2_eta i).symm).trans (H.wo (i 0) (i 1))
theorem dxAt (i : S4096x2048.Idx) : X i = (((ofArrays P W S O X).dx (i 0).val (i 1).val : ℝ) : EReal) :=
  (congrArg X (ix2_eta i).symm).trans (H.dx (i 0) (i 1))

theorem v1_real : T3 (val_main_v1 (F := Ideal) P) (fun t e => (ofArrays P W S O X).pr t e) := by
  intro i
  rw [val_main_v1_apply, val_main_v0_apply]
  exact prAt H _
theorem v2_real : T3 (val_main_v2 (F := Ideal) P) (fun t e => (ofArrays P W S O X).gate t e) := by
  intro i
  rw [val_main_v2_apply, val_main_v0_apply]
  exact prAt H _
theorem v3_real : T4 (val_main_v3 (F := Ideal) P) (fun t g c => (ofArrays P W S O X).pr t (Data.col g c)) := by
  intro i
  have i0 : (i 0).val < 1 := (i 0).isLt
  have i1 : (i 1).val < 4096 := (i 1).isLt
  have i2 : (i 2).val < 4 := (i 2).isLt
  have i3 : (i 3).val < 512 := (i 3).isLt
  rw [val_main_v3_apply]
  refine (v1_real H _).trans (cg2 (ofArrays P W S O X).pr ?_ ?_)
  · show ((((i 0).val * 4096 + (i 1).val) * 4 + (i 2).val) * 512 + (i 3).val) / 2048 % 4096 = (i 1).val
    omega
  · show ((((i 0).val * 4096 + (i 1).val) * 4 + (i 2).val) * 512 + (i 3).val) % 2048 = 512 * (i 2).val + (i 3).val
    omega

theorem v4_real : T4 (val_main_v4 (F := Ideal) P) (fun t g c => ∑ s ∈ Finset.range (t + 1), (ofArrays P W S O X).pr s (Data.col g c)) := by
  intro i
  unfold val_main_v4 Host.reduceWindowAdd
  have e : val_main_call0_call0_v0 (F := Ideal) (Shape.Idx.first Gen.h_S_) = (0 : EReal) := by
    rw [val_main_call0_call0_v0_apply]
    exact Ideal.ofBits_zero_f32
  rw [Ideal.hostReduceWindowAdd_def, e]
  exact prefixSum (by norm_num) _ (fun t g c => (ofArrays P W S O X).pr t (Data.col g c)) (v3_real H) _ i

theorem v7_real : T4 (val_main_v7 (F := Ideal) P) (fun t g c => ∑ s ∈ Finset.range t, (ofArrays P W S O X).pr s (Data.col g c)) := by
  intro i
  have i0 : (i 0).val < 1 := (i 0).isLt
  have i1 : (i 1).val < 4097 := (i 1).isLt
  unfold val_main_v7
  by_cases h : (i 1).val = 0
  · refine (concatenate_pair_apply_left (t := S1x4097x4x512) (s₁ := S1x1x4x512) (s₂ := S1x4096x4x512) (1 : Fin 4) _ _ _ i rfl
      (ix4 0 0 ⟨(i 2).val, (i 2).isLt⟩ ⟨(i 3).val, (i 3).isLt⟩) (fun b => ?_)).trans ?_
    · match b with
      | ⟨0, _⟩ => show 0 = (i 0).val; omega
      | ⟨1, _⟩ => exact h.symm
      | ⟨2, _⟩ => rfl
      | ⟨3, _⟩ => rfl
    · rw [val_main_v6_apply, h]
      simp only [Finset.range_zero, Finset.sum_empty, EReal.coe_zero]
      exact Ideal.ofBits_zero_f32
  · refine (concatenate_pair_apply_right (t := S1x4097x4x512) (s₁ := S1x1x4x512) (s₂ := S1x4096x4x512) (1 : Fin 4) _ _ _ i rfl rfl
      (ix4 0 ⟨(i 1).val - 1, by omega⟩ ⟨(i 2).val, (i 2).isLt⟩ ⟨(i 3).val, (i 3).isLt⟩) (fun b hb => ?_) ?_).trans ?_
    · match b with
      | ⟨0, _⟩ => show 0 = (i 0).val; omega
      | ⟨1, _⟩ => exact absurd rfl hb
      | ⟨2, _⟩ => rfl
      | ⟨3, _⟩ => rfl
    · show (i 1).val - 1 + 1 = (i 1).val
      omega
    · refine (v4_real H _).trans ?_
      show ((∑ s ∈ Finset.range ((i 1).val - 1 + 1), (ofArrays P W S O X).pr s (Data.col (i 2).val (i 3).val) : ℝ) : EReal) = _
      rw [show (i 1).val - 1 + 1 = (i 1).val by omega]

theorem v38_real : T4 (val_main_v38 (F := Ideal) P) (fun t g c => ∑ s ∈ Finset.range (low g t), (ofArrays P W S O X).pr s (Data.col g c)) := by
  intro i
  have i1 : (i 1).val < 4096 := (i 1).isLt
  unfold val_main_v38
  rw [gather_at (val_main_v7 (F := Ideal) P) (val_main_v37 (F := Ideal)) i ⟨low (i 2).val (i 1).val, by unfold low; omega⟩ ⟨(i 2).val, (i 2).isLt⟩
    (w37_0 ⟨(i 1).val, (i 1).isLt⟩ ⟨(i 2).val, (i 2).isLt⟩) (w37_1 ⟨(i 1).val, (i 1).isLt⟩ ⟨(i 2).val, (i 2).isLt⟩)]
  exact v7_real H _

theorem v49_real : T4 (val_main_v49 (F := Ideal) P) (fun t g c => (ofArrays P W S O X).pool g t c) := by
  intro i
  have e : val_main_v45 (F := Ideal) P i = ((∑ k ∈ Finset.range (Data.W (i 2).val), (ofArrays P W S O X).back (i 1).val (Data.col (i 2).val (i 3).val) k : ℝ) : EReal) := by
    rw [val_main_v45_apply, val_main_v44_apply, v7_real H, v38_real H]
    rw [Ideal.subf_def, ← EReal.coe_sub, ← window_eq]
    show ((((∑ s ∈ Finset.range (1 + (i 1).val), _) - _ : ℝ)) : EReal) = _
    rw [Nat.add_comm 1]
  rw [val_main_v49_apply, val_main_v48_apply, e, val_main_v47_apply, v46_real, v3_real H]
  rw [Ideal.subf_def, Ideal.hostDivf_def, coe_div _ _ (ne_of_gt (cnt_pos _ _)), ← EReal.coe_sub]
  rfl

theorem v51_real : T4 (val_main_v51 (F := Ideal) P W) (fun t g d => (ofArrays P W S O X).yp g t d) := by
  intro i
  rw [val_main_v51_apply, val_main_v50_apply]
  refine (Finset.sum_congr rfl fun k _ => ?_).trans (coe_sum _ (fun k : Fin 512 => (ofArrays P W S O X).pool (i 2).val (i 1).val k.val * (ofArrays P W S O X).wg (i 2).val k.val (i 3).val))
  rw [wgAt H, v49_real H, ← EReal.coe_mul, mul_comm]

theorem v52_real : T3 (val_main_v52 (F := Ideal) P W) (fun t e => (ofArrays P W S O X).yp (e / 512) t (e % 512)) := by
  intro i
  have i0 : (i 0).val < 1 := (i 0).isLt
  have i1 : (i 1).val < 4096 := (i 1).isLt
  have i2 : (i 2).val < 2048 := (i 2).isLt
  rw [val_main_v52_apply]
  refine (v51_real H _).trans (cg3 (fun t g d => (ofArrays P W S O X).yp g t d) ?_ ?_ ?_)
  · show (((i 0).val * 4096 + (i 1).val) * 2048 + (i 2).val) / 2048 % 4096 = (i 1).val
    omega
  · show (((i 0).val * 4096 + (i 1).val) * 2048 + (i 2).val) / 512 % 4 = (i 2).val / 512
    omega
  · show (((i 0).val * 4096 + (i 1).val) * 2048 + (i 2).val) % 512 = (i 2).val % 512
    omega

theorem sg_real : T3 (val_main_v56_2 (F := Ideal) P) (fun t e => Data.sg ((ofArrays P W S O X).gate t e)) := by
  intro i
  rw [val_main_v56_2_apply, val_main_call1_v4_apply, val_main_call1_v3_apply, val_main_call1_v2_apply, val_main_call1_v1_apply, val_main_call1_v0_apply, v2_real H]
  refine Eq.trans ?_ (coe_sg ((ofArrays P W S O X).gate (i 1).val (i 2).val))
  rw [zero_sub]
  have e0 : val_main_call1_cst_0 (F := Ideal) (idx_main_call1_v4 i) = (1 : EReal) := Ideal.ofBits_one_f32
  have e1 : val_main_call1_cst (F := Ideal) (idx_main_call1_v2 i) = (1 : EReal) := Ideal.ofBits_one_f32
  rw [e0, e1, Ideal.hostDivf_def, Ideal.addf_def, Ideal.hostUnary_exp_def, Ideal.hostNegf_def, Ideal.negf_def]

theorem sg1_real : T3 (val_main_v56_1 (F := Ideal) P) (fun t e => Data.sg ((ofArrays P W S O X).gate t e) * (1 - Data.sg ((ofArrays P W S O X).gate t e))) := by
  intro i
  rw [val_main_v56_1_apply, val_main_call1_v7_apply, val_main_call1_v6_apply, sg_real H]
  show _ * (Ideal.ofBits .f32 0x3F800000#32 - _) = _
  rw [Ideal.ofBits_one_f32, one_sub_coe, ← EReal.coe_mul]

theorem silu_real : T3 (val_main_v56_0 (F := Ideal) P) (fun t e => (ofArrays P W S O X).gate t e * Data.sg ((ofArrays P W S O X).gate t e)) := by
  intro i
  rw [val_main_v56_0_apply, v2_real H, sg_real H, Ideal.mulf_def, ← EReal.coe_mul]

theorem scale_real (i : S1x4096x2048.Idx) : val_main_v54 (F := Ideal) S i = (((ofArrays P W S O X).sc (i 2).val : ℝ) : EReal) := by
  rw [val_main_v54_apply, val_main_v53_apply]
  exact scAt H _
theorem scale_real' (i : S1x4096x2048.Idx) : val_main_v68 (F := Ideal) S i = (((ofArrays P W S O X).sc (i 2).val : ℝ) : EReal) := by
  rw [val_main_v68_apply, val_main_v53_apply]
  exact scAt H _

end
end Cert.Mid
end
-- ==== Proof.RefBwd.lean ====
module

public import proofs.«01_k».proof.Proof.RefFwd
public import Idealize.ShloMosaic.Lib.TwoAxisContraction

@[expose] public section

/-! # The reference's backward values up to the cotangent of the window's sum -/

set_option maxRecDepth 16384

noncomputable section
namespace Cert.Mid
open Cert.ReferenceIdeal Cert.ReferenceIdeal.Read Idealize.ShloMosaic

section
variable {P : FVec Ideal S4096x4096 .f32} {W : FVec Ideal S4x512x512 .f32} {S : FVec Ideal S1x2048 .f32} {O : FVec Ideal S2048x2048 .f32}
    {X : FVec Ideal S4096x2048 .f32} (H : AllReal P W S O X)
include H

theorem v61_real : T3 (val_main_v61 (F := Ideal) O X) (fun t e => (ofArrays P W S O X).dz t e) := by
  intro i
  rw [val_main_v61_apply]
  refine (Finset.sum_congr rfl fun k _ => ?_).trans (coe_sum _ (fun k : Fin 2048 => (ofArrays P W S O X).dx (i 1).val k.val * (ofArrays P W S O X).wo (i 2).val k.val))
  rw [val_main_v60_apply, dxAt H, woAt H, ← EReal.coe_mul]

theorem v63_real : T3 (val_main_v63 (F := Ideal) P O X) (fun t e => (ofArrays P W S O X).dz t e * ((ofArrays P W S O X).gate t e * Data.sg ((ofArrays P W S O X).gate t e))) := by
  intro i
  rw [val_main_v63_apply, v61_real H, silu_real H, Ideal.mulf_def, ← EReal.coe_mul]

theorem dy_flat (t e : ℕ) : (ofArrays P W S O X).dz t e * ((ofArrays P W S O X).gate t e * Data.sg ((ofArrays P W S O X).gate t e)) = (ofArrays P W S O X).dy (e / 512) t (e % 512) := by
  unfold Data.dy
  rw [col_div]

theorem v64_real : T3 (val_main_v64 (F := Ideal) P W S O X) (fun t e => (ofArrays P W S O X).dgate (e / 512) t (e % 512)) := by
  intro i
  have e : val_main_v62 (F := Ideal) P W S O X i
      = ((((ofArrays P W S O X).yp ((i 2).val / 512) (i 1).val ((i 2).val % 512) * (ofArrays P W S O X).sc (i 2).val) * (ofArrays P W S O X).dz (i 1).val (i 2).val : ℝ) : EReal) := by
    rw [val_main_v62_apply, val_main_v55_apply, v52_real H, scale_real H, v61_real H, Ideal.mulf_def, Ideal.mulf_def, ← EReal.coe_mul, ← EReal.coe_mul]
  rw [val_main_v64_apply, val_main_call2_v1_apply, val_main_call2_v2_apply, val_main_call2_v0_apply, e, v2_real H, sg_real H, sg1_real H]
  simp only [Ideal.mulf_def, Ideal.addf_def, ← EReal.coe_mul, ← EReal.coe_add]
  unfold Data.dgate
  rw [col_div]
  congr 1
  ring

theorem v69_real : T3 (val_main_v69 (F := Ideal) P S O X) (fun t e => (ofArrays P W S O X).dyp (e / 512) t (e % 512)) := by
  intro i
  rw [val_main_v69_apply, v63_real H, scale_real' H, Ideal.mulf_def, ← EReal.coe_mul]
  refine congrArg (fun r : ℝ => (r : EReal)) ?_
  show _ * (ofArrays P W S O X).sc (i 2).val = (ofArrays P W S O X).dyp ((i 2).val / 512) (i 1).val ((i 2).val % 512)
  unfold Data.dyp
  rw [col_div, ← dy_flat H]

theorem v72_real : T4 (val_main_v72 (F := Ideal) P S O X) (fun t g d => (ofArrays P W S O X).dyp g t d) := by
  intro i
  have i0 : (i 0).val < 1 := (i 0).isLt
  have i1 : (i 1).val < 4096 := (i 1).isLt
  have i2 : (i 2).val < 4 := (i 2).isLt
  have i3 : (i 3).val < 512 := (i 3).isLt
  rw [val_main_v72_apply]
  refine (v69_real H _).trans (cg3 (fun t g d => (ofArrays P W S O X).dyp g t d) ?_ ?_ ?_)
  · show ((((i 0).val * 4096 + (i 1).val) * 4 + (i 2).val) * 512 + (i 3).val) / 2048 % 4096 = (i 1).val
    omega
  · show ((((i 0).val * 4096 + (i 1).val) * 4 + (i 2).val) * 512 + (i 3).val) % 2048 / 512 = (i 2).val
    omega
  · show ((((i 0).val * 4096 + (i 1).val) * 4 + (i 2).val) * 512 + (i 3).val) % 2048 % 512 = (i 3).val
    omega

theorem v73_real (i : S4x512x1x4096.Idx) : val_main_v73 (F := Ideal) P S O X i = (((ofArrays P W S O X).dyp (i 0).val (i 3).val (i 1).val : ℝ) : EReal) := by
  rw [val_main_v73_apply]
  exact v72_real H _

theorem v75_real : T4 (val_main_v75 (F := Ideal) P W S O X) (fun t g c => (ofArrays P W S O X).dpool g t c) := by
  intro i
  rw [val_main_v75_apply, val_main_v74_apply]
  refine (Finset.sum_congr rfl fun k _ => ?_).trans (coe_sum _ (fun k : Fin 512 => (ofArrays P W S O X).dyp (i 2).val (i 1).val k.val * (ofArrays P W S O X).wg (i 2).val (i 3).val k.val))
  rw [wgAt H, v73_real H, ← EReal.coe_mul]

/-- The scale's gradient. -/
theorem v71_real (i : S1x2048.Idx) : val_main_v71 (F := Ideal) P W O X i
    = ((∑ t ∈ Finset.range 4096, (ofArrays P W S O X).dscT ((i 1).val / 512) ((i 1).val % 512) t : ℝ) : EReal) := by
  have e66 : ∀ i : S1x2048.Idx, val_main_v66 (F := Ideal) P W O X i
      = ((∑ t ∈ Finset.range 4096, (ofArrays P W S O X).dscT ((i 1).val / 512) ((i 1).val % 512) t : ℝ) : EReal) := by
    intro i
    have z : val_main_cst_7 (F := Ideal) (Shape.Idx.first Gen.h_S_) = (0 : EReal) := Ideal.ofBits_zero_f32
    rw [val_main_v66_apply, z, zero_add, ← Fin.sum_univ_eq_sum_range]
    refine (Finset.sum_congr rfl fun k _ => ?_).trans (coe_sum _ (fun k : Fin 4096 => (ofArrays P W S O X).dscT ((i 1).val / 512) ((i 1).val % 512) k.val))
    rw [val_main_v65_apply, v52_real H, v63_real H, Ideal.mulf_def, ← EReal.coe_mul, mul_comm]
    refine congrArg (fun r : ℝ => (r : EReal)) ?_
    exact congrArg (· * (ofArrays P W S O X).yp ((i 1).val / 512) k.val ((i 1).val % 512)) (dy_flat H k.val (i 1).val)
  have z : val_main_cst_8 (F := Ideal) (Shape.Idx.first Gen.h_S_) = (0 : EReal) := Ideal.ofBits_zero_f32
  rw [val_main_v71_apply]
  unfold val_main_v70
  rw [Idealize.ShloMosaic.ValueIdx.hostReduceAdd_apply, z]
  unfold Ideal.hostReduceAdd
  rw [zero_add, Finset.sum_eq_single (ix3 0 0 ⟨(i 1).val, (i 1).isLt⟩ : S1x1x2048.Idx)]
  · rw [val_main_v67_apply, e66]
    have i1 : (i 1).val < 2048 := (i 1).isLt
    show ((∑ t ∈ Finset.range 4096, (ofArrays P W S O X).dscT (((0 * 1 + 0) * 2048 + (i 1).val) % 2048 / 512) (((0 * 1 + 0) * 2048 + (i 1).val) % 2048 % 512) t : ℝ) : EReal) = _
    rw [show ((0 * 1 + 0) * 2048 + (i 1).val) % 2048 = (i 1).val by omega]
  · intro b hb hne
    refine absurd ?_ hne
    have hd := (Finset.mem_filter.1 hb).2
    have h2 : (b 2).val = (i 1).val := congrArg (fun v => (v 0).val) hd
    have b0 : (b 0).val < 1 := (b 0).isLt
    have b1 : (b 1).val < 1 := (b 1).isLt
    funext a
    refine Fin.ext ?_
    match a with
    | ⟨0, _⟩ => exact Nat.lt_one_iff.1 b0
    | ⟨1, _⟩ => exact Nat.lt_one_iff.1 b1
    | ⟨2, _⟩ => exact h2
  · intro hn
    refine absurd (Finset.mem_filter.2 ⟨Finset.mem_univ _, ?_⟩) hn
    funext a
    match a with
    | ⟨0, _⟩ => rfl

/-- The group matrices' gradient. -/
theorem v77_real (i : S4x512x512.Idx) : val_main_v77 (F := Ideal) P S O X i
    = ((∑ t ∈ Finset.range 4096, (ofArrays P W S O X).dwgT (i 0).val (i 1).val (i 2).val t : ℝ) : EReal) := by
  rw [val_main_v77_apply]
  unfold val_main_v76
  simp only [Host.dotGeneral]
  rw [Ideal.dotGeneral_apply, ValueIdx.sum_contr2 dot_S4x512x1x4096_S1x4096x4x512_S4x512x512_23_01_1_3_0_2 1 4096 rfl rfl rfl, Fin.sum_univ_one, ← Fin.sum_univ_eq_sum_range]
  refine (Finset.sum_congr rfl fun k _ => ?_).trans (coe_sum _ (fun k : Fin 4096 => (ofArrays P W S O X).dwgT (i 0).val (i 1).val (i 2).val k.val))
  rw [v73_real H, v49_real H, ← EReal.coe_mul, mul_comm]
  have hk := ValueIdx.contrEquiv2_symm_val1 dot_S4x512x1x4096_S1x4096x4x512_S4x512x512_23_01_1_3_0_2 1 4096 rfl rfl rfl (0, k)
  refine congrArg (fun r : ℝ => (r : EReal)) ?_
  unfold Data.dwgT
  refine congrArg₂ (· * ·) ?_ ?_
  · exact congrArg (fun n => (ofArrays P W S O X).pool (i 0).val n (i 1).val) hk
  · exact congrArg (fun n => (ofArrays P W S O X).dyp (i 0).val n (i 2).val) hk

end
end Cert.Mid
end
-- ==== Proof.RefOut.lean ====
module

public import proofs.«01_k».proof.Proof.RefBwd
public import Idealize.ShloMosaic.Lib.KernelVsHost

@[expose] public section

/-! # The reference's results -/

set_option maxRecDepth 16384

noncomputable section
namespace Cert.Mid
open Cert.ReferenceIdeal Cert.ReferenceIdeal.Read Idealize.ShloMosaic

/-- A sum of differences at distance `w` keeps the first and the last `w` terms. -/
theorem sum_shift (f : ℕ → ℝ) (n w : ℕ) : ∑ k ∈ Finset.range n, (f k - f (k + w)) = ∑ k ∈ Finset.range w, f k - ∑ k ∈ Finset.range w, f (n + k) := by
  have h1 := Finset.sum_range_add f n w
  have h2 := Finset.sum_range_add f w n
  rw [Nat.add_comm w n] at h2
  rw [Finset.sum_sub_distrib]
  simp only [Nat.add_comm _ w]
  linarith

section
variable {P : FVec Ideal S4096x4096 .f32} {W : FVec Ideal S4x512x512 .f32} {S : FVec Ideal S1x2048 .f32} {O : FVec Ideal S2048x2048 .f32}
    {X : FVec Ideal S4096x2048 .f32} (H : AllReal P W S O X)
include H

theorem v80_real : T4 (val_main_v80 (F := Ideal) P W S O X) (fun t g c => (ofArrays P W S O X).q g t c) := by
  intro i
  have i1 : (i 1).val < 4096 := (i 1).isLt
  rw [val_main_v80_apply, v75_real H, val_main_v79_apply, v46_real, Ideal.hostDivf_def, coe_div _ _ (ne_of_gt (cnt_pos _ _))]
  refine congrArg (fun r : ℝ => (r : EReal)) ?_
  show _ = if (i 1).val < 4096 then _ else _
  rw [if_pos i1]

theorem v81_real : T4 (val_main_v81 (F := Ideal) P W S O X) (fun t g c => -(ofArrays P W S O X).q g t c) := by
  intro i
  rw [val_main_v81_apply, v80_real H, Ideal.hostNegf_def, Ideal.negf_def, EReal.coe_neg]

/-- What the scatter adds to a row past the first: the update of the token one window further on. -/
theorem v84_real (i : S1x4097x4x512.Idx) (r : ℕ) (hr : (i 1).val = 1 + r) :
    val_main_v84 (F := Ideal) P W S O X i = ((-(ofArrays P W S O X).q (i 2).val (r + Data.W (i 2).val) (i 3).val : ℝ) : EReal) := by
  have i0 : (i 0).val < 1 := (i 0).isLt
  have hW := W_pos (i 2).val
  have z : val_main_v83 (F := Ideal) i = (0 : EReal) := by
    rw [val_main_v83_apply]
    exact Ideal.ofBits_zero_f32
  have key : ∀ j : S1x4096x4x512.Idx, sct.resultIdx? j (val_main_v37 (F := Ideal)) = some i ↔
      low (j 2).val (j 1).val = (i 1).val ∧ (j 2).val = (i 2).val ∧ (j 3).val = (i 3).val := fun j =>
    scatter_iff (val_main_v37 (F := Ideal)) j i (low (j 2).val (j 1).val) (j 2).val
      (w37_0 ⟨(j 1).val, (j 1).isLt⟩ ⟨(j 2).val, (j 2).isLt⟩) (w37_1 ⟨(j 1).val, (j 1).isLt⟩ ⟨(j 2).val, (j 2).isLt⟩)
  show Ideal.hostScatterAdd sct (val_main_v83 (F := Ideal)) (val_main_v37 (F := Ideal)) (val_main_v81 (F := Ideal) P W S O X) i = _
  unfold Ideal.hostScatterAdd
  rw [z, zero_add]
  by_cases h : r + Data.W (i 2).val < 4096
  · rw [Finset.sum_eq_single (ix4 0 ⟨r + Data.W (i 2).val, h⟩ ⟨(i 2).val, (i 2).isLt⟩ ⟨(i 3).val, (i 3).isLt⟩ : S1x4096x4x512.Idx)]
    · exact v81_real H _
    · intro j hj hne
      refine absurd ?_ hne
      obtain ⟨h1, h2, h3⟩ := (key j).1 (Finset.mem_filter.1 hj).2
      have j0 : (j 0).val < 1 := (j 0).isLt
      rw [h2, hr] at h1
      unfold low at h1
      funext a
      refine Fin.ext ?_
      match a with
      | ⟨0, _⟩ => exact Nat.lt_one_iff.1 j0
      | ⟨1, _⟩ =>
        show (j 1).val = r + Data.W (i 2).val
        omega
      | ⟨2, _⟩ => exact h2
      | ⟨3, _⟩ => exact h3
    · intro hn
      refine (hn (Finset.mem_filter.2 ⟨Finset.mem_univ _, (key _).2 ⟨?_, rfl, rfl⟩⟩)).elim
      show r + Data.W (i 2).val + 1 - Data.W (i 2).val = (i 1).val
      omega
  · rw [Finset.sum_eq_zero]
    · unfold Data.q
      rw [if_neg h, neg_zero, EReal.coe_zero]
    · intro j hj
      obtain ⟨h1, h2, h3⟩ := (key j).1 (Finset.mem_filter.1 hj).2
      have j1 : (j 1).val < 4096 := (j 1).isLt
      rw [h2, hr] at h1
      unfold low at h1
      omega

theorem v82_real (i : S1x4097x4x512.Idx) (r : ℕ) (hr : (i 1).val = 1 + r) :
    val_main_v82 (F := Ideal) P W S O X i = (((ofArrays P W S O X).q (i 2).val r (i 3).val : ℝ) : EReal) := by
  have i1 : (i 1).val < 4097 := (i 1).isLt
  have hr' : r < 4096 := by omega
  unfold val_main_v82
  refine (pad_apply_of_inside (s := S1x4096x4x512) (t := S1x4097x4x512) _ _ _ _ _ _ _ i (ix4 ⟨(i 0).val, (i 0).isLt⟩ ⟨r, hr'⟩ ⟨(i 2).val, (i 2).isLt⟩ ⟨(i 3).val, (i 3).isLt⟩)
    (fun a => ?_)).trans (v80_real H _)
  match a with
  | ⟨0, _⟩ => show (i 0).val = 0 + (i 0).val * (0 + 1); omega
  | ⟨1, _⟩ => show (i 1).val = 1 + r * (0 + 1); omega
  | ⟨2, _⟩ => show (i 2).val = 0 + (i 2).val * (0 + 1); omega
  | ⟨3, _⟩ => show (i 3).val = 0 + (i 3).val * (0 + 1); omega

theorem v87_real : T4 (val_main_v87 (F := Ideal) P W S O X) (fun t g c => (ofArrays P W S O X).q g t c - (ofArrays P W S O X).q g (t + Data.W g) c) := by
  intro i
  rw [val_main_v87_apply, val_main_v85_apply, v82_real H _ (i 1).val rfl, v84_real H _ (i 1).val rfl, Ideal.addf_def, ← EReal.coe_add, ← sub_eq_add_neg]

theorem v88_real : T4 (val_main_v88 (F := Ideal) P W S O X) (fun t g c => ∑ k ∈ Finset.range (Data.W g), (ofArrays P W S O X).q g (t + k) c) := by
  intro i
  unfold val_main_v88 Host.reduceWindowAdd
  have e : val_main_call3_call0_v0 (F := Ideal) (Shape.Idx.first Gen.h_S_) = (0 : EReal) := by
    rw [val_main_call3_call0_v0_apply]
    exact Ideal.ofBits_zero_f32
  rw [Ideal.hostReduceWindowAdd_def, e]
  refine (suffixSum _ (fun t g c => (ofArrays P W S O X).q g t c - (ofArrays P W S O X).q g (t + Data.W g) c) (v87_real H) _ i).trans ?_
  refine congrArg (fun r : ℝ => (r : EReal)) ?_
  dsimp only
  generalize (i 1).val = t
  generalize (i 2).val = g
  generalize (i 3).val = c
  have hz : ∀ t, 4096 ≤ t → (ofArrays P W S O X).q g t c = 0 := fun t h => if_neg (by omega)
  have h1 : ∀ n, (if t + n < 4096 then (ofArrays P W S O X).q g (t + n) c - (ofArrays P W S O X).q g (t + n + Data.W g) c else 0)
      = (fun n => (ofArrays P W S O X).q g (t + n) c) n - (fun n => (ofArrays P W S O X).q g (t + n) c) (n + Data.W g) := by
    intro n
    split
    · show _ = (ofArrays P W S O X).q g (t + n) c - (ofArrays P W S O X).q g (t + (n + Data.W g)) c
      rw [Nat.add_assoc]
    · next h =>
      show 0 = (ofArrays P W S O X).q g (t + n) c - (ofArrays P W S O X).q g (t + (n + Data.W g)) c
      rw [hz _ (by omega), hz _ (by omega), sub_zero]
  rw [Finset.sum_congr rfl fun n _ => h1 n, sum_shift, Finset.sum_eq_zero (s := Finset.range (Data.W g)) (f := fun k => (fun n => (ofArrays P W S O X).q g (t + n) c) (4096 + k)), sub_zero]
  intro k _
  exact hz _ (by omega)

theorem v89_real : T4 (val_main_v89 (F := Ideal) P W S O X) (fun t g c => (ofArrays P W S O X).du g t c) := by
  intro i
  rw [val_main_v89_apply, val_main_v78_apply, v75_real H, v88_real H, Ideal.hostNegf_def, Ideal.negf_def, Ideal.addf_def, ← EReal.coe_neg, ← EReal.coe_add]
  refine congrArg (fun r : ℝ => (r : EReal)) ?_
  unfold Data.du
  ring

theorem v90_real : T3 (val_main_v90 (F := Ideal) P W S O X) (fun t e => (ofArrays P W S O X).du (e / 512) t (e % 512)) := by
  intro i
  have i0 : (i 0).val < 1 := (i 0).isLt
  have i1 : (i 1).val < 4096 := (i 1).isLt
  have i2 : (i 2).val < 2048 := (i 2).isLt
  rw [val_main_v90_apply]
  refine (v89_real H _).trans (cg3 (fun t g d => (ofArrays P W S O X).du g t d) ?_ ?_ ?_)
  · show (((i 0).val * 4096 + (i 1).val) * 2048 + (i 2).val) / 2048 % 4096 = (i 1).val
    omega
  · show (((i 0).val * 4096 + (i 1).val) * 2048 + (i 2).val) / 512 % 4 = (i 2).val / 512
    omega
  · show (((i 0).val * 4096 + (i 1).val) * 2048 + (i 2).val) % 512 = (i 2).val % 512
    omega

theorem v93_real : T3 (val_main_v93 (F := Ideal) P W S O X) (fun t e => (ofArrays P W S O X).dproj t e) := by
  intro i
  have i0 : (i 0).val < 1 := (i 0).isLt
  have i2 : (i 2).val < 4096 := (i 2).isLt
  rw [val_main_v93_apply, Ideal.addf_def]
  unfold val_main_v91 val_main_v92
  show _ = (((if (i 2).val < 2048 then (ofArrays P W S O X).du ((i 2).val / 512) (i 1).val ((i 2).val % 512)
    else (ofArrays P W S O X).dgate (((i 2).val - 2048) / 512) (i 1).val (((i 2).val - 2048) % 512) : ℝ)) : EReal)
  by_cases h : (i 2).val < 2048
  · rw [pad_apply_of_not_inside (s := S1x4096x2048) (t := S1x4096x4096) ![0, 0, 2048] _ _ _ _ _ _ i (2 : Fin 3) (by
        show ¬ (2048 ≤ (i 2).val ∧ _)
        omega)]
    rw [pad_apply_of_inside (s := S1x4096x2048) (t := S1x4096x4096) ![0, 0, 0] _ _ _ _ _ _ i (ix3 ⟨(i 0).val, (i 0).isLt⟩ ⟨(i 1).val, (i 1).isLt⟩ ⟨(i 2).val, h⟩) (fun a => by
      match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega)]
    have z : val_main_cst_11 (F := Ideal) (Shape.Idx.first Gen.h_S_) = (0 : EReal) := Ideal.ofBits_zero_f32
    rw [z, zero_add, if_pos h]
    exact v90_real H _
  · rw [pad_apply_of_not_inside (s := S1x4096x2048) (t := S1x4096x4096) ![0, 0, 0] _ _ _ _ _ _ i (2 : Fin 3) (by
        show ¬ (0 ≤ (i 2).val ∧ ((i 2).val - 0) % (0 + 1) = 0 ∧ ((i 2).val - 0) / (0 + 1) < 2048)
        rw [Nat.div_one]
        omega)]
    rw [pad_apply_of_inside (s := S1x4096x2048) (t := S1x4096x4096) ![0, 0, 2048] _ _ _ _ _ _ i (ix3 ⟨(i 0).val, (i 0).isLt⟩ ⟨(i 1).val, (i 1).isLt⟩ ⟨(i 2).val - 2048, by omega⟩) (fun a => by
      match a with
      | ⟨0, _⟩ => show (i 0).val = 0 + (i 0).val * (0 + 1); omega
      | ⟨1, _⟩ => show (i 1).val = 0 + (i 1).val * (0 + 1); omega
      | ⟨2, _⟩ => show (i 2).val = 2048 + ((i 2).val - 2048) * (0 + 1); omega)]
    have z : val_main_cst_12 (F := Ideal) (Shape.Idx.first Gen.h_S_) = (0 : EReal) := Ideal.ofBits_zero_f32
    rw [z, add_zero, if_neg h]
    exact v64_real H _

theorem v95_real (i : S4096x4096.Idx) : val_main_v95 (F := Ideal) P W S O X i = (((ofArrays P W S O X).dproj (i 0).val (i 1).val : ℝ) : EReal) := by
  have z : val_main_cst_13 (F := Ideal) (Shape.Idx.first Gen.h_S_) = (0 : EReal) := Ideal.ofBits_zero_f32
  rw [val_main_v95_apply, val_main_v94_apply, z, zero_add, Fin.sum_univ_one]
  exact v93_real H _

end
end Cert.Mid
end
-- ==== Proof.Finite.lean ====
module

public import proofs.«01_k».proof.Proof.Blocks
public import proofs.«01_k».proof.Defs

@[expose] public section

/-! # What the precondition says: every entry is a real number -/

noncomputable section
namespace Cert.Mid
open Cert.KernelIdeal Idealize.ShloMosaic

instance preFacts : Cert.Pre_finite.Facts := ⟨by decide, by decide, by decide, by decide, by decide⟩

theorem inf_word : Ideal.ofBits .f32 0x7F800000#32 = ⊤ := by simp [Ideal.ofBits, Ideal.ieee]

/-- A number whose absolute value lies below infinity is a real number. -/
theorem real_of_lt {x : EReal} (h : Ideal.cmp .olt (max x (-x)) (Ideal.ofBits .f32 0x7F800000#32) = 1#1) : ((EReal.toReal x : ℝ) : EReal) = x := by
  rw [inf_word] at h
  have hlt : max x (-x) < ⊤ := by
    by_contra hn
    simp [Ideal.cmp, hn] at h
  refine EReal.coe_toReal (fun e => ?_) (fun e => ?_)
  · rw [e] at hlt
    simp at hlt
  · rw [e] at hlt
    simp at hlt

theorem allReal (m : (ℓ : Loc nD τ sig) → Buf (Elt Ideal) ℓ) (h : Cert.Pre_KernelIdeal_finite m) (c : Dev nD) :
    AllReal (A0 m c) (A1 m c) (A2 m c) (A3 m c) (A4 m c) := by
  obtain ⟨h0, h1, h2, h3, h4⟩ := h c
  exact ⟨fun i => real_of_lt (congrFun h0 i), fun i => real_of_lt (congrFun h1 i), fun i => real_of_lt (congrFun h2 i),
    fun i => real_of_lt (congrFun h3 i), fun i => real_of_lt (congrFun h4 i)⟩

end Cert.Mid
end
-- ==== Proof.Algebraic.lean ====
module

public import proofs.«01_k».proof.Proof.Arrays
public import proofs.«01_k».proof.Proof.RefOut
public import proofs.«01_k».proof.Proof.Finite
public import proofs.«01_k».proof.Proof.Gen.ReferenceIdeal.Run

@[expose] public section

/-! # The kernel's three results are the reference's -/

noncomputable section
namespace Cert.Mid
open Idealize.ShloMosaic Idealize.ShloMosaic.TcCoe Idealize.SL.Sem

theorem algebraic : Cert.algebraic_KernelIdeal_ReferenceIdeal_pre_finite := by
  intro m g m' g' hpre hagree
  refine ⟨fun c => G9 (inp m c), fun c => G10 (inp m c), fun c => G11 (inp m c), ?_, ?_⟩
  · refine (θ_run Cert.KernelIdeal.defs _ _).mono (fun r h c => ?_) (Cert.KernelIdeal.Value.run_blocks (F := Ideal) m g)
    obtain ⟨h0, h1, h2, hargs⟩ := h c
    have H := allReal m hpre c
    exact ⟨h0.trans (array9 m c H), h1.trans (array10 m c H), h2.trans (array11 m c H), hargs⟩
  · refine (θ_run Cert.ReferenceIdeal.defs _ _).mono (fun r h c => ?_) (Cert.ReferenceIdeal.Value.run (F := Ideal) m' g')
    obtain ⟨h0, h1, h2, hargs⟩ := h c
    obtain ⟨a0, a1, a2, a3, a4⟩ := hagree c
    have H := allReal m hpre c
    refine ⟨h0.trans ?_, h1.trans ?_, h2.trans ?_, hargs⟩
    · refine (Cert.ReferenceIdeal.Read.val_main_v95_eq m' c).trans ?_
      rw [a0, a1, a2, a3, a4]
      exact funext fun i => v95_real H i
    · refine (Cert.ReferenceIdeal.Read.val_main_v77_eq m' c).trans ?_
      rw [a0, a2, a3, a4]
      exact funext fun i => v77_real (W := A1 m c) H i
    · refine (Cert.ReferenceIdeal.Read.val_main_v71_eq m' c).trans ?_
      rw [a0, a1, a3, a4]
      exact funext fun i => v71_real (S := A2 m c) H i

end Cert.Mid
end
-- ==== Proof.NormBRun.lean ====
module

public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Gen.Kernel10Ideal.Frame
public import Idealize.ShloMosaic.Lib.Pipeline.TableIdle
public import Idealize.ShloMosaic.Lib.Pipeline.ValueKit
public import Idealize.ShloMosaic.Lib.Pointwise
public import Idealize.ShloMosaic.Lib.Pipeline.ReadBack
public import Idealize.ShloMosaic.Lib.Claim

@[expose] public section

/-! # The forward product behind the norm in the attention mixers: the call's run

At the first column block of a row tile the body norms the tile and keeps it, in its scratch and as its second result;
at every column block it stores the product of the kept tile and the weight's block. So the second result's buffer is
left alone at the other column blocks, the last of which writes it back. -/

set_option maxRecDepth 16384

noncomputable section
namespace Cert.NormB
open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points -/

theorem size : cfg0.N = 32 := N_0

/-- Whether a point is the first of its row tile. -/
abbrev First (i : grid0.Coords) : Prop := k0_cond1 i = 1#1

theorem first_iff : ∀ t : Fin cfg0.N, First (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [First, k0_cond1, e0, e1]
    word_cmp
   : ∀ t : Fin grid0.N, First (grid0.coords t) ↔ t.val % 8 = 0)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, t.val % 8 = 0 → cfg0.idle 4 (grid0.coords t) = false := by decide +kernel
theorem idle4 : ∀ t : Fin cfg0.N, ¬ t.val % 8 = 0 → cfg0.idle 4 (grid0.coords t) = true := by decide +kernel

/-- Before which points the second result's buffer holds nothing that is still to be written back. -/
def bare : ℕ → Bool := fun n => n % 8 == 0
theorem bare_step : ∀ t : Fin cfg0.N,
    bare (t.val + 1) = ((cfg0.win 4).flush t || (cfg0.idle 4 (cfg0.grid.coords t) && bare t.val)) := by decide +kernel
theorem fresh4 (t : Fin cfg0.N) : cfg0.fresh 4 t.val = bare t.val :=
  Pipeline.Cfg.fresh_tab cfg0 4 bare rfl bare_step t.val (Nat.le_of_lt t.isLt)

/-! ## The memory that a point works on -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048x1024 .bf16 := win0_2.stage (cfg0.slots t 2)
abbrev ms3 (t : Fin cfg0.N) : Memref sig .tc .vmem S1024x1024 .f32 := win0_3.stage (cfg0.slots t 3)
abbrev ms4 (t : Fin cfg0.N) : Memref sig .tc .vmem S1024x2048 .bf16 := win0_4.stage (cfg0.slots t 4)
abbrev kept : Memref sig .tc .vmem S1024x2048 .bf16 := Memref.whole cc0_scratch0
abbrev V3 : View sig .tc .vmem S1024x1024 .f32 := (Memref.whole cc0_stg3_0 : Memref sig .tc .vmem S1024x1024 .f32).view
abbrev V4 : View sig .tc .vmem S1024x2048 .bf16 := (Memref.whole cc0_stg4_0 : Memref sig .tc .vmem S1024x2048 .bf16).view

theorem scratch_eq (c : Dev nD) :
    (Pipeline.ΦA spec0 c : sProp 𝕄) = iprop(iprop((∃ d, owns (c : Thread nD τ) kept fullShare d)) ∗ (∃ r, prngReg c r)) := by
  unfold Pipeline.ΦA; rw [scopedRest0_eq]; simp only [kept, owns_whole]; try rfl

/-! ## The body's two runs -/

section Body
variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S1x2048x1024 .bf16) (h4 : a4.IsWhole) (a5 : Memref sig .tc .vmem S1024x1024 .f32) (h5 : a5.IsWhole)
  (a6 : Memref sig .tc .vmem S1024x2048 .bf16) (h6 : a6.IsWhole) (a7 : Memref sig .tc .vmem S1024x2048 .bf16) (h7 : a7.IsWhole)

set_option maxHeartbeats 1000000 in
/-- At a row tile's first point: the pieces that the body stores in its two results and its scratch. -/
def runFirst (hc : First i) (x0 : Vec F S1024x2048 .f32) (x1 : Vec F S1x2048 .f32) (x2 : Vec F S1x2048x1024 .bf16) :
    Σ' (L3 : List (View.Piece (Elt F) S1024x1024 .f32)), Σ' (L4 : List (View.Piece (Elt F) S1024x2048 .bf16)),
      { LS : List (View.Piece (Elt F) S1024x2048 .bf16) // ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d) ∗ (∃ d, owns (c : Thread nD τ) a7 fullShare d)
            ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L3)
              ∗ (∃ f, a6.view.loc (c : Thread nD τ) ↦[a6.view.set]{fullShare} a6.view.writes (Elt F) f L4)
              ∗ (∃ f, a7.view.loc (c : Thread nD τ) ↦[a7.view.set]{fullShare} a7.view.writes (Elt F) f LS)) -∗ K ⟨⟩))
          ⊢ wp frame (wpE (defs₀ (F := F)) Variants.none c none) E (cc0_b0_in i a2 h2 a3 h3 a4 h4 a5 h5 a6 h6 a7 h7) K } := by
  refine ⟨?_, ?_, ?_, fun E K => ?run⟩
  case run =>
    simp only [cc0_b0_in_eq_skeleton]; unfold cc0_b0_in_skel
    unfold owns
    iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
    obtain rfl := h2.eq_unread hf0; obtain rfl := h3.eq_unread hf1; obtain rfl := h4.eq_unread hf2
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]; · iexists _; iexact H4
    iexists _; iexact HS

set_option maxHeartbeats 1000000 in
/-- At the others: the pieces that it stores in its first result; the second and the scratch are left alone. -/
def runLater (hc : ¬ First i) (x0 : Vec F S1024x2048 .f32) (x1 : Vec F S1x2048 .f32) (x2 : Vec F S1x2048x1024 .bf16) (x4 xs : Vec F S1024x2048 .bf16) :
    { L3 : List (View.Piece (Elt F) S1024x1024 .f32) // ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare x4 ∗ owns (c : Thread nD τ) a7 fullShare xs
            ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L3)
              ∗ owns (c : Thread nD τ) a6 fullShare x4 ∗ owns (c : Thread nD τ) a7 fullShare xs) -∗ K ⟨⟩))
          ⊢ wp frame (wpE (defs₀ (F := F)) Variants.none c none) E (cc0_b0_in i a2 h2 a3 h3 a4 h4 a5 h5 a6 h6 a7 h7) K } := by
  refine ⟨?_, fun E K => ?run⟩
  case run =>
    simp only [cc0_b0_in_eq_skeleton]; unfold cc0_b0_in_skel
    unfold owns
    iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
    obtain rfl := h2.eq_unread hf0; obtain rfl := h3.eq_unread hf1; obtain rfl := h4.eq_unread hf2
    obtain rfl := h6.eq_unread hf4; obtain rfl := h7.eq_unread hfs
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]
    · iexists _; isplitr; · ipureintro; exact h6.read_unread _
      iexact H4
    iexists _; isplitr; · ipureintro; exact h7.read_unread _
    iexact HS

variable (x0 : Vec F S1024x2048 .f32) (x1 : Vec F S1x2048 .f32) (x2 : Vec F S1x2048x1024 .bf16) (x4 xs : Vec F S1024x2048 .bf16)

theorem first3_cover (hc : First i) (y : S1024x1024.Idx) : ∃ p ∈ (runFirst c i a2 h2 a3 h3 a4 h4 a5 h5 a6 h6 a7 h7 hc x0 x1 x2).1, y ∈ p.1.set :=
  View.cover_of_tiledL (runFirst c i a2 h2 a3 h3 a4 h4 a5 h5 a6 h6 a7 h7 hc x0 x1 x2).1 S1024x1024.size (by sl_kernel_rfl) y
theorem first3_junk (hc : First i) : V3.read (Elt F) (V3.writes (Elt F) V3.junk (runFirst c i a2 h2 a3 h3 a4 h4 a5 h5 a6 h6 a7 h7 hc x0 x1 x2).1) = k0_pay3 (k0_pay2 x0 x1) x2 := by
  frame_out
theorem first3 (hc : First i) (v : View sig .tc .vmem S1024x1024 .f32) (f : BufTy.Contents (Elt F) v.ty) :
    v.read (Elt F) (v.writes (Elt F) f (runFirst c i a2 h2 a3 h3 a4 h4 a5 h5 a6 h6 a7 h7 hc x0 x1 x2).1) = k0_pay3 (k0_pay2 x0 x1) x2 := by
  have h := v.read_writes_of_cover f V3 V3.junk (runFirst c i a2 h2 a3 h3 a4 h4 a5 h5 a6 h6 a7 h7 hc x0 x1 x2).1 (first3_cover c i a2 h2 a3 h3 a4 h4 a5 h5 a6 h6 a7 h7 x0 x1 x2 hc)
  exact h.trans (first3_junk c i a2 h2 a3 h3 a4 h4 a5 h5 a6 h6 a7 h7 x0 x1 x2 hc)
theorem first4_cover (hc : First i) (y : S1024x2048.Idx) : ∃ p ∈ (runFirst c i a2 h2 a3 h3 a4 h4 a5 h5 a6 h6 a7 h7 hc x0 x1 x2).2.1, y ∈ p.1.set :=
  View.cover_of_tiledL (runFirst c i a2 h2 a3 h3 a4 h4 a5 h5 a6 h6 a7 h7 hc x0 x1 x2).2.1 S1024x2048.size (by sl_kernel_rfl) y
theorem first4_junk (hc : First i) : V4.read (Elt F) (V4.writes (Elt F) V4.junk (runFirst c i a2 h2 a3 h3 a4 h4 a5 h5 a6 h6 a7 h7 hc x0 x1 x2).2.1) = k0_pay1 x0 x1 := by
  frame_out
theorem first4 (hc : First i) (v : View sig .tc .vmem S1024x2048 .bf16) (f : BufTy.Contents (Elt F) v.ty) :
    v.read (Elt F) (v.writes (Elt F) f (runFirst c i a2 h2 a3 h3 a4 h4 a5 h5 a6 h6 a7 h7 hc x0 x1 x2).2.1) = k0_pay1 x0 x1 := by
  have h := v.read_writes_of_cover f V4 V4.junk (runFirst c i a2 h2 a3 h3 a4 h4 a5 h5 a6 h6 a7 h7 hc x0 x1 x2).2.1 (first4_cover c i a2 h2 a3 h3 a4 h4 a5 h5 a6 h6 a7 h7 x0 x1 x2 hc)
  exact h.trans (first4_junk c i a2 h2 a3 h3 a4 h4 a5 h5 a6 h6 a7 h7 x0 x1 x2 hc)
theorem firstS_cover (hc : First i) (y : S1024x2048.Idx) : ∃ p ∈ (runFirst c i a2 h2 a3 h3 a4 h4 a5 h5 a6 h6 a7 h7 hc x0 x1 x2).2.2.1, y ∈ p.1.set :=
  View.cover_of_tiledL (runFirst c i a2 h2 a3 h3 a4 h4 a5 h5 a6 h6 a7 h7 hc x0 x1 x2).2.2.1 S1024x2048.size (by sl_kernel_rfl) y
theorem firstS_junk (hc : First i) : V4.read (Elt F) (V4.writes (Elt F) V4.junk (runFirst c i a2 h2 a3 h3 a4 h4 a5 h5 a6 h6 a7 h7 hc x0 x1 x2).2.2.1) = k0_pay2 x0 x1 := by
  frame_out
theorem firstS (hc : First i) (v : View sig .tc .vmem S1024x2048 .bf16) (f : BufTy.Contents (Elt F) v.ty) :
    v.read (Elt F) (v.writes (Elt F) f (runFirst c i a2 h2 a3 h3 a4 h4 a5 h5 a6 h6 a7 h7 hc x0 x1 x2).2.2.1) = k0_pay2 x0 x1 := by
  have h := v.read_writes_of_cover f V4 V4.junk (runFirst c i a2 h2 a3 h3 a4 h4 a5 h5 a6 h6 a7 h7 hc x0 x1 x2).2.2.1 (firstS_cover c i a2 h2 a3 h3 a4 h4 a5 h5 a6 h6 a7 h7 x0 x1 x2 hc)
  exact h.trans (firstS_junk c i a2 h2 a3 h3 a4 h4 a5 h5 a6 h6 a7 h7 x0 x1 x2 hc)
theorem later3_cover (hc : ¬ First i) (y : S1024x1024.Idx) : ∃ p ∈ (runLater c i a2 h2 a3 h3 a4 h4 a5 h5 a6 h6 a7 h7 hc x0 x1 x2 x4 xs).1, y ∈ p.1.set :=
  View.cover_of_tiledL (runLater c i a2 h2 a3 h3 a4 h4 a5 h5 a6 h6 a7 h7 hc x0 x1 x2 x4 xs).1 S1024x1024.size (by sl_kernel_rfl) y
theorem later3_junk (hc : ¬ First i) : V3.read (Elt F) (V3.writes (Elt F) V3.junk (runLater c i a2 h2 a3 h3 a4 h4 a5 h5 a6 h6 a7 h7 hc x0 x1 x2 x4 xs).1) = k0_pay3 xs x2 := by
  frame_out
theorem later3 (hc : ¬ First i) (v : View sig .tc .vmem S1024x1024 .f32) (f : BufTy.Contents (Elt F) v.ty) :
    v.read (Elt F) (v.writes (Elt F) f (runLater c i a2 h2 a3 h3 a4 h4 a5 h5 a6 h6 a7 h7 hc x0 x1 x2 x4 xs).1) = k0_pay3 xs x2 := by
  have h := v.read_writes_of_cover f V3 V3.junk (runLater c i a2 h2 a3 h3 a4 h4 a5 h5 a6 h6 a7 h7 hc x0 x1 x2 x4 xs).1 (later3_cover c i a2 h2 a3 h3 a4 h4 a5 h5 a6 h6 a7 h7 x0 x1 x2 x4 xs hc)
  exact h.trans (later3_junk c i a2 h2 a3 h3 a4 h4 a5 h5 a6 h6 a7 h7 x0 x1 x2 x4 xs hc)

end Body

end Cert.NormB
end
-- ==== Proof.NormBFrame.lean ====
module

public import proofs.«01_k».proof.Proof.NormBRun
public import Idealize.ShloMosaic.Lib.Pipeline.TableIdle
public import Idealize.ShloMosaic.Lib.Pipeline.ValueKit
public import Idealize.ShloMosaic.Lib.Claim

@[expose] public section

/-! # The forward product behind the norm in the attention mixers: the frame

What the buffers hold at each point, in closed form: the kept tile is the normed tile of the point's row tile, read at
that tile's first point. The second result's buffer holds it from there on, so the write-back at the row tile's last
point writes it. -/

set_option maxRecDepth 16384

noncomputable section
namespace Cert.NormB
open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row tile of a point. -/
def start (t : Fin cfg0.N) : Fin cfg0.N := ⟨t.val / 8 * 8, Nat.lt_of_le_of_lt (Nat.div_mul_le_self _ _) t.isLt⟩

theorem start_first (t : Fin cfg0.N) (h : t.val % 8 = 0) : start t = t := Fin.ext (by show t.val / 8 * 8 = t.val; omega)
theorem start_pred (t : Fin cfg0.N) (h : ¬ t.val % 8 = 0) (hp : t.val - 1 < cfg0.N) : start ⟨t.val - 1, hp⟩ = start t :=
  Fin.ext (by show (t.val - 1) / 8 * 8 = t.val / 8 * 8; omega)

/-- What the scratch holds after a point, and what the two results' buffers hold. -/
def tileAt (c : Dev nD) (t : Fin cfg0.N) : Vec F S1024x2048 .bf16 := k0_pay2 (iblk m c 0 (start t)) (iblk m c 1 (start t))
def normAt (c : Dev nD) (t : Fin cfg0.N) : Vec F S1024x2048 .bf16 := k0_pay1 (iblk m c 0 (start t)) (iblk m c 1 (start t))
def prodAt (c : Dev nD) (t : Fin cfg0.N) : Vec F S1024x1024 .f32 := k0_pay3 (tileAt m c t) (iblk m c 2 t)

theorem tileAt_first (c : Dev nD) (t : Fin cfg0.N) (h : t.val % 8 = 0) : tileAt m c t = k0_pay2 (iblk m c 0 t) (iblk m c 1 t) := by
  unfold tileAt; rw [start_first t h]
theorem normAt_first (c : Dev nD) (t : Fin cfg0.N) (h : t.val % 8 = 0) : normAt m c t = k0_pay1 (iblk m c 0 t) (iblk m c 1 t) := by
  unfold normAt; rw [start_first t h]
theorem tileAt_pred (c : Dev nD) (t : Fin cfg0.N) (h : ¬ t.val % 8 = 0) (hp : t.val - 1 < cfg0.N) : tileAt m c ⟨t.val - 1, hp⟩ = tileAt m c t := by
  unfold tileAt; rw [start_pred t h hp]
theorem normAt_pred (c : Dev nD) (t : Fin cfg0.N) (h : ¬ t.val % 8 = 0) (hp : t.val - 1 < cfg0.N) : normAt m c ⟨t.val - 1, hp⟩ = normAt m c t := by
  unfold normAt; rw [start_pred t h hp]

/-- What holds between the points: before the first nothing is known of the scratch, afterwards it holds the tile. -/
def Inv (c : Dev nD) : (n : ℕ) → n ≤ cfg0.N → sProp 𝕄
  | 0, _ => Pipeline.ΦA spec0 c
  | n + 1, hn => iprop(iprop(owns (c : Thread nD τ) kept fullShare (tileAt m c ⟨n, hn⟩)) ∗ (∃ r, prngReg c r))

theorem inv_zero (c : Dev nD) (n : ℕ) (h : n ≤ cfg0.N) (hz : n = 0) : Inv m c n h = Pipeline.ΦA spec0 c := by subst hz; rfl
theorem inv_succ (c : Dev nD) (n : ℕ) (hn : n < cfg0.N) :
    Inv m c (n + 1) hn = iprop(iprop(owns (c : Thread nD τ) kept fullShare (tileAt m c ⟨n, hn⟩)) ∗ (∃ r, prngReg c r)) := rfl
theorem inv_pos (c : Dev nD) (n : ℕ) (h : n ≤ cfg0.N) (hz : n ≠ 0) :
    Inv m c n h = iprop(iprop(owns (c : Thread nD τ) kept fullShare (tileAt m c ⟨n - 1, by omega⟩)) ∗ (∃ r, prngReg c r)) := by
  cases n with
  | zero => exact absurd rfl hz
  | succ n => rfl

/-- The pipeline's contents: the inputs' blocks, and the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prodAt m c t
    | ⟨4, _⟩ => normAt m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_cast (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = prodAt m c t := by dsimp only [dats]
theorem after4 (c : Dev nD) (t : Fin cfg0.N) : (dats m 0 c).after 4 t = normAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h : t.val % 8 = 0
  · rw [live4 t h] at hi; exact absurd hi Bool.false_ne_true
  · exact (normAt_pred m c t h _).symm

/-- At the later points of a row tile the second result's buffer holds the tile already. -/
theorem before4 (c : Dev nD) (t : Fin cfg0.N) (h : ¬ t.val % 8 = 0) (d) : (dats m 0 c).before 4 t d = normAt m c t := by
  rw [Dat.before_out_traj _ 4 rfl (fun _ _ => rfl) (carry4 m c) t.val t rfl d,
    if_neg (by rw [fresh4]; unfold bare; simp [h]), after4]
  exact normAt_pred m c t h _

/-! ## The body at a point -/

def atStart (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def atEnd (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  rw [← after0 m c t]
theorem leaves1 (c : Dev nD) (t : Fin cfg0.N) : (dats m 0 c).leavesExact 1 t = owns (c : Thread nD τ) (ms1 t) fullShare (iblk m c 1 t) := by
  rw [← after1 m c t]
theorem leaves2 (c : Dev nD) (t : Fin cfg0.N) : (dats m 0 c).leavesExact 2 t = owns (c : Thread nD τ) (ms2 t) fullShare (iblk m c 2 t) := by
  rw [← after2 m c t]
theorem leaves3 (c : Dev nD) (t : Fin cfg0.N) : (dats m 0 c).leavesExact 3 t = owns (c : Thread nD τ) (ms3 t) fullShare (prodAt m c t) := by
  rw [← after3 m c t]
theorem leaves4 (c : Dev nD) (t : Fin cfg0.N) (h : t.val % 8 = 0) :
    (dats m 0 c).leavesExact 4 t = owns (c : Thread nD τ) (ms4 t) fullShare (normAt m c t) := by
  rw [← after4 m c t]; unfold Dat.leavesExact; rw [live4 t h]
theorem leaves4_later (c : Dev nD) (t : Fin cfg0.N) (h : ¬ t.val % 8 = 0) :
    owns (c : Thread nD τ) (ms4 t) fullShare (normAt m c t) ⊢ (dats m 0 c).leavesExact 4 t := by
  unfold Dat.leavesExact; rw [idle4 t h]
  cases hf : (cfg0.win 4).flush t with
  | true => simp only [hf]; rw [after4]
  | false =>
    simp only [hf, before4 m c t h]
    iintro H
    iexists (normAt m c t); iexact H

set_option maxHeartbeats 3200000 in
theorem body_first (c : Dev nD) (t : Fin cfg0.N) (h : t.val % 8 = 0) :
    iprop((iprop((∃ d, owns (c : Thread nD τ) kept fullShare d)) ∗ (∃ r, prngReg c r)) ∗ (dats m 0 c).owesAt () t.castSucc
      ∗ (∃ d : Unit, owns (c : Thread nD τ) (ms0 t) fullShare (iblk m c 0 t))
      ∗ (∃ d : Unit, owns (c : Thread nD τ) (ms1 t) fullShare (iblk m c 1 t))
      ∗ (∃ d : Unit, owns (c : Thread nD τ) (ms2 t) fullShare (iblk m c 2 t))
      ∗ (∃ d, owns (c : Thread nD τ) (ms3 t) fullShare d) ∗ (∃ d, owns (c : Thread nD τ) (ms4 t) fullShare d))
      ⊢ wp frame (wpE (defs₀ (F := F)) Variants.none c none) Set.univ (bodyAt0 t) (fun _ => atEnd m c t) := by
  unfold atEnd bodyAt0
  rw [show (dats m 0 c).owesAt () t.succ = (dats m 0 c).owesAt () t.castSucc from rfl,
    show (dats m 0 c).Φ t.succ = Inv m c (t.val + 1) t.isLt from rfl, inv_succ,
    leaves0, leaves1, leaves2, leaves3, leaves4 m c t h]
  iintro ⟨⟨HS, Hg⟩, Ho, ⟨%d0, H0⟩, ⟨%d1, H1⟩, ⟨%d2, H2⟩, H3, H4⟩
  iapply ((runFirst c (grid0.coords t) _ _ _ _ _ _ _ _ _ _ _ _ ((first_iff t).mpr h) (iblk m c 0 t) (iblk m c 1 t) (iblk m c 2 t)).2.2.2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, ⟨%e3, H3⟩, ⟨%e4, H4⟩, ⟨%es, HS⟩⟩
  isplitl [HS Hg]
  · isplitl [HS]
    · unfold owns; iexists _; isplitr
      swap; · iexact HS
      ipureintro; exact (firstS c _ _ _ _ _ _ _ _ _ _ _ _ _ _ _ _ _ _ _).trans (tileAt_first m c t h).symm
    iexact Hg
  isplitl [Ho]; · iexact Ho
  isplitl [H0]; · iexact H0
  isplitl [H1]; · iexact H1
  isplitl [H2]; · iexact H2
  isplitl [H3]
  · unfold owns; iexists _; isplitr
    swap; · iexact H3
    ipureintro
    refine (first3 c _ _ _ _ _ _ _ _ _ _ _ _ _ _ _ _ _ _ _).trans ?_
    unfold prodAt; rw [tileAt_first m c t h]
  unfold owns; iexists _; isplitr
  swap; · iexact H4
  ipureintro; exact (first4 c _ _ _ _ _ _ _ _ _ _ _ _ _ _ _ _ _ _ _).trans (normAt_first m c t h).symm

set_option maxHeartbeats 3200000 in
theorem body_later (c : Dev nD) (t : Fin cfg0.N) (h : ¬ t.val % 8 = 0) :
    iprop((iprop(owns (c : Thread nD τ) kept fullShare (tileAt m c t)) ∗ (∃ r, prngReg c r)) ∗ (dats m 0 c).owesAt () t.castSucc
      ∗ (∃ d : Unit, owns (c : Thread nD τ) (ms0 t) fullShare (iblk m c 0 t))
      ∗ (∃ d : Unit, owns (c : Thread nD τ) (ms1 t) fullShare (iblk m c 1 t))
      ∗ (∃ d : Unit, owns (c : Thread nD τ) (ms2 t) fullShare (iblk m c 2 t))
      ∗ (∃ d, owns (c : Thread nD τ) (ms3 t) fullShare d) ∗ owns (c : Thread nD τ) (ms4 t) fullShare (normAt m c t))
      ⊢ wp frame (wpE (defs₀ (F := F)) Variants.none c none) Set.univ (bodyAt0 t) (fun _ => atEnd m c t) := by
  unfold atEnd bodyAt0
  rw [show (dats m 0 c).owesAt () t.succ = (dats m 0 c).owesAt () t.castSucc from rfl,
    show (dats m 0 c).Φ t.succ = Inv m c (t.val + 1) t.isLt from rfl, inv_succ,
    leaves0, leaves1, leaves2, leaves3]
  iintro ⟨⟨HS, Hg⟩, Ho, ⟨%d0, H0⟩, ⟨%d1, H1⟩, ⟨%d2, H2⟩, H3, H4⟩
  iapply ((runLater c (grid0.coords t) _ _ _ _ _ _ _ _ _ _ _ _ (fun hc => h ((first_iff t).mp hc)) (iblk m c 0 t) (iblk m c 1 t) (iblk m c 2 t)
    (normAt m c t) (tileAt m c t)).2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, ⟨%e3, H3⟩, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact later3 c _ _ _ _ _ _ _ _ _ _ _ _ _ _ _ _ _ _ _ _ _
  iapply (leaves4_later m c t h); iexact H4

set_option maxHeartbeats 1600000 in
theorem body_at (c : Dev nD) (t : Fin cfg0.N) :
    atStart m c t ⊢ wp frame (wpE (defs₀ (F := F)) Variants.none c none) Set.univ (bodyAt0 t) (fun _ => atEnd m c t) := by
  unfold atStart
  simp only [before0, before1, before2]
  rw [inv_cast]
  by_cases h : t.val % 8 = 0
  · refine (?_ : _ ⊢ _).trans (body_first m c t h)
    by_cases hz : t.val = 0
    · rw [inv_zero m c _ _ hz, scratch_eq]
      iintro ⟨HP, Ho, ⟨%d0, H0⟩, ⟨%d1, H1⟩, ⟨%d2, H2⟩, ⟨%d3, H3⟩, ⟨%d4, H4⟩⟩
      isplitl [HP]; · iexact HP
      isplitl [Ho]; · iexact Ho
      isplitl [H0]; · iexists (); iexact H0
      isplitl [H1]; · iexists (); iexact H1
      isplitl [H2]; · iexists (); iexact H2
      isplitl [H3]; · iexists _; iexact H3
      iexists _; iexact H4
    · rw [inv_pos m c _ _ hz]
      iintro ⟨⟨HS, Hg⟩, Ho, ⟨%d0, H0⟩, ⟨%d1, H1⟩, ⟨%d2, H2⟩, ⟨%d3, H3⟩, ⟨%d4, H4⟩⟩
      isplitl [HS Hg]
      · isplitl [HS]; · iexists _; iexact HS
        iexact Hg
      isplitl [Ho]; · iexact Ho
      isplitl [H0]; · iexists (); iexact H0
      isplitl [H1]; · iexists (); iexact H1
      isplitl [H2]; · iexists (); iexact H2
      isplitl [H3]; · iexists _; iexact H3
      iexists _; iexact H4
  · refine (?_ : _ ⊢ _).trans (body_later m c t h)
    have hz : t.val ≠ 0 := fun e => h (by rw [e])
    rw [inv_pos m c _ _ hz, tileAt_pred m c t h]
    simp only [before4 m c t h]
    iintro ⟨HP, Ho, ⟨%d0, H0⟩, ⟨%d1, H1⟩, ⟨%d2, H2⟩, ⟨%d3, H3⟩, ⟨%d4, H4⟩⟩
    isplitl [HP]; · iexact HP
    isplitl [Ho]; · iexact Ho
    isplitl [H0]; · iexists (); iexact H0
    isplitl [H1]; · iexists (); iexact H1
    isplitl [H2]; · iexists (); iexact H2
    isplitl [H3]; · iexists _; iexact H3
    iexact H4

theorem table_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (body_at m c t) rfl .rfl fun _ => .rfl

theorem enter (c : Dev nD) : Pipeline.ΦA spec0 c ⊢ (dats m 0 c).Φ 0 := by
  rw [show (dats m 0 c).Φ 0 = Inv m c 0 (Nat.zero_le _) from rfl, inv_zero m c 0 _ rfl]

theorem leave (c : Dev nD) : (dats m 0 c).Φ (Fin.last cfg0.N) ⊢ Pipeline.ΦA spec0 c := by
  have hz : (Fin.last cfg0.N).val ≠ 0 := by rw [Fin.val_last, size]; decide
  rw [show (dats m 0 c).Φ (Fin.last cfg0.N) = Inv m c (Fin.last cfg0.N).val (Nat.le_of_lt_succ (Fin.last cfg0.N).isLt) from rfl,
    inv_pos m c _ _ hz, scratch_eq]
  iintro ⟨HS, Hg⟩
  isplitl [HS]; · iexists _; iexact HS
  iexact Hg

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiet m ρ)

/-- Every run ends, leaves the arguments alone and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.NormB
end
-- ==== Proof.NormARun.lean ====
module

public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.Gen.Kernel11Ideal.Frame
public import Idealize.ShloMosaic.Lib.Pipeline.TableIdle
public import Idealize.ShloMosaic.Lib.Pipeline.ValueKit
public import Idealize.ShloMosaic.Lib.Pointwise
public import Idealize.ShloMosaic.Lib.Pipeline.ReadBack
public import Idealize.ShloMosaic.Lib.Claim

@[expose] public section

/-! # The forward product behind the norm in the pooling mixers: the call's run

At the first column block of a row tile the body norms the tile and keeps it, in its scratch and as its second result;
at every column block it stores the product of the kept tile and the weight's block. So the second result's buffer is
left alone at the other column blocks, the last of which writes it back. -/

set_option maxRecDepth 16384

noncomputable section
namespace Cert.NormA
open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points -/

theorem size : cfg0.N = 32 := N_0

/-- Whether a point is the first of its row tile. -/
abbrev First (i : grid0.Coords) : Prop := k0_cond1 i = 1#1

theorem first_iff : ∀ t : Fin cfg0.N, First (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [First, k0_cond1, e0, e1]
    word_cmp
   : ∀ t : Fin grid0.N, First (grid0.coords t) ↔ t.val % 8 = 0)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, t.val % 8 = 0 → cfg0.idle 4 (grid0.coords t) = false := by decide +kernel
theorem idle4 : ∀ t : Fin cfg0.N, ¬ t.val % 8 = 0 → cfg0.idle 4 (grid0.coords t) = true := by decide +kernel

/-- Before which points the second result's buffer holds nothing that is still to be written back. -/
def bare : ℕ → Bool := fun n => n % 8 == 0
theorem bare_step : ∀ t : Fin cfg0.N,
    bare (t.val + 1) = ((cfg0.win 4).flush t || (cfg0.idle 4 (cfg0.grid.coords t) && bare t.val)) := by decide +kernel
theorem fresh4 (t : Fin cfg0.N) : cfg0.fresh 4 t.val = bare t.val :=
  Pipeline.Cfg.fresh_tab cfg0 4 bare rfl bare_step t.val (Nat.le_of_lt t.isLt)

/-! ## The memory that a point works on -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048x512 .bf16 := win0_2.stage (cfg0.slots t 2)
abbrev ms3 (t : Fin cfg0.N) : Memref sig .tc .vmem S1024x512 .f32 := win0_3.stage (cfg0.slots t 3)
abbrev ms4 (t : Fin cfg0.N) : Memref sig .tc .vmem S1024x2048 .bf16 := win0_4.stage (cfg0.slots t 4)
abbrev kept : Memref sig .tc .vmem S1024x2048 .bf16 := Memref.whole cc0_scratch0
abbrev V3 : View sig .tc .vmem S1024x512 .f32 := (Memref.whole cc0_stg3_0 : Memref sig .tc .vmem S1024x512 .f32).view
abbrev V4 : View sig .tc .vmem S1024x2048 .bf16 := (Memref.whole cc0_stg4_0 : Memref sig .tc .vmem S1024x2048 .bf16).view

theorem scratch_eq (c : Dev nD) :
    (Pipeline.ΦA spec0 c : sProp 𝕄) = iprop(iprop((∃ d, owns (c : Thread nD τ) kept fullShare d)) ∗ (∃ r, prngReg c r)) := by
  unfold Pipeline.ΦA; rw [scopedRest0_eq]; simp only [kept, owns_whole]; try rfl

/-! ## The body's two runs -/

section Body
variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S1x2048x512 .bf16) (h4 : a4.IsWhole) (a5 : Memref sig .tc .vmem S1024x512 .f32) (h5 : a5.IsWhole)
  (a6 : Memref sig .tc .vmem S1024x2048 .bf16) (h6 : a6.IsWhole) (a7 : Memref sig .tc .vmem S1024x2048 .bf16) (h7 : a7.IsWhole)

set_option maxHeartbeats 1000000 in
/-- At a row tile's first point: the pieces that the body stores in its two results and its scratch. -/
def runFirst (hc : First i) (x0 : Vec F S1024x2048 .f32) (x1 : Vec F S1x2048 .f32) (x2 : Vec F S1x2048x512 .bf16) :
    Σ' (L3 : List (View.Piece (Elt F) S1024x512 .f32)), Σ' (L4 : List (View.Piece (Elt F) S1024x2048 .bf16)),
      { LS : List (View.Piece (Elt F) S1024x2048 .bf16) // ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d) ∗ (∃ d, owns (c : Thread nD τ) a7 fullShare d)
            ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L3)
              ∗ (∃ f, a6.view.loc (c : Thread nD τ) ↦[a6.view.set]{fullShare} a6.view.writes (Elt F) f L4)
              ∗ (∃ f, a7.view.loc (c : Thread nD τ) ↦[a7.view.set]{fullShare} a7.view.writes (Elt F) f LS)) -∗ K ⟨⟩))
          ⊢ wp frame (wpE (defs₀ (F := F)) Variants.none c none) E (cc0_a0_in i a2 h2 a3 h3 a4 h4 a5 h5 a6 h6 a7 h7) K } := by
  refine ⟨?_, ?_, ?_, fun E K => ?run⟩
  case run =>
    simp only [cc0_a0_in_eq_skeleton]; unfold cc0_a0_in_skel
    unfold owns
    iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
    obtain rfl := h2.eq_unread hf0; obtain rfl := h3.eq_unread hf1; obtain rfl := h4.eq_unread hf2
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]; · iexists _; iexact H4
    iexists _; iexact HS

set_option maxHeartbeats 1000000 in
/-- At the others: the pieces that it stores in its first result; the second and the scratch are left alone. -/
def runLater (hc : ¬ First i) (x0 : Vec F S1024x2048 .f32) (x1 : Vec F S1x2048 .f32) (x2 : Vec F S1x2048x512 .bf16) (x4 xs : Vec F S1024x2048 .bf16) :
    { L3 : List (View.Piece (Elt F) S1024x512 .f32) // ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare x4 ∗ owns (c : Thread nD τ) a7 fullShare xs
            ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L3)
              ∗ owns (c : Thread nD τ) a6 fullShare x4 ∗ owns (c : Thread nD τ) a7 fullShare xs) -∗ K ⟨⟩))
          ⊢ wp frame (wpE (defs₀ (F := F)) Variants.none c none) E (cc0_a0_in i a2 h2 a3 h3 a4 h4 a5 h5 a6 h6 a7 h7) K } := by
  refine ⟨?_, fun E K => ?run⟩
  case run =>
    simp only [cc0_a0_in_eq_skeleton]; unfold cc0_a0_in_skel
    unfold owns
    iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
    obtain rfl := h2.eq_unread hf0; obtain rfl := h3.eq_unread hf1; obtain rfl := h4.eq_unread hf2
    obtain rfl := h6.eq_unread hf4; obtain rfl := h7.eq_unread hfs
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]
    · iexists _; isplitr; · ipureintro; exact h6.read_unread _
      iexact H4
    iexists _; isplitr; · ipureintro; exact h7.read_unread _
    iexact HS

variable (x0 : Vec F S1024x2048 .f32) (x1 : Vec F S1x2048 .f32) (x2 : Vec F S1x2048x512 .bf16) (x4 xs : Vec F S1024x2048 .bf16)

theorem first3_cover (hc : First i) (y : S1024x512.Idx) : ∃ p ∈ (runFirst c i a2 h2 a3 h3 a4 h4 a5 h5 a6 h6 a7 h7 hc x0 x1 x2).1, y ∈ p.1.set :=
  View.cover_of_tiledL (runFirst c i a2 h2 a3 h3 a4 h4 a5 h5 a6 h6 a7 h7 hc x0 x1 x2).1 S1024x512.size (by sl_kernel_rfl) y
theorem first3_junk (hc : First i) : V3.read (Elt F) (V3.writes (Elt F) V3.junk (runFirst c i a2 h2 a3 h3 a4 h4 a5 h5 a6 h6 a7 h7 hc x0 x1 x2).1) = k0_pay3 (k0_pay2 x0 x1) x2 := by
  frame_out
theorem first3 (hc : First i) (v : View sig .tc .vmem S1024x512 .f32) (f : BufTy.Contents (Elt F) v.ty) :
    v.read (Elt F) (v.writes (Elt F) f (runFirst c i a2 h2 a3 h3 a4 h4 a5 h5 a6 h6 a7 h7 hc x0 x1 x2).1) = k0_pay3 (k0_pay2 x0 x1) x2 := by
  have h := v.read_writes_of_cover f V3 V3.junk (runFirst c i a2 h2 a3 h3 a4 h4 a5 h5 a6 h6 a7 h7 hc x0 x1 x2).1 (first3_cover c i a2 h2 a3 h3 a4 h4 a5 h5 a6 h6 a7 h7 x0 x1 x2 hc)
  exact h.trans (first3_junk c i a2 h2 a3 h3 a4 h4 a5 h5 a6 h6 a7 h7 x0 x1 x2 hc)
theorem first4_cover (hc : First i) (y : S1024x2048.Idx) : ∃ p ∈ (runFirst c i a2 h2 a3 h3 a4 h4 a5 h5 a6 h6 a7 h7 hc x0 x1 x2).2.1, y ∈ p.1.set :=
  View.cover_of_tiledL (runFirst c i a2 h2 a3 h3 a4 h4 a5 h5 a6 h6 a7 h7 hc x0 x1 x2).2.1 S1024x2048.size (by sl_kernel_rfl) y
theorem first4_junk (hc : First i) : V4.read (Elt F) (V4.writes (Elt F) V4.junk (runFirst c i a2 h2 a3 h3 a4 h4 a5 h5 a6 h6 a7 h7 hc x0 x1 x2).2.1) = k0_pay1 x0 x1 := by
  frame_out
theorem first4 (hc : First i) (v : View sig .tc .vmem S1024x2048 .bf16) (f : BufTy.Contents (Elt F) v.ty) :
    v.read (Elt F) (v.writes (Elt F) f (runFirst c i a2 h2 a3 h3 a4 h4 a5 h5 a6 h6 a7 h7 hc x0 x1 x2).2.1) = k0_pay1 x0 x1 := by
  have h := v.read_writes_of_cover f V4 V4.junk (runFirst c i a2 h2 a3 h3 a4 h4 a5 h5 a6 h6 a7 h7 hc x0 x1 x2).2.1 (first4_cover c i a2 h2 a3 h3 a4 h4 a5 h5 a6 h6 a7 h7 x0 x1 x2 hc)
  exact h.trans (first4_junk c i a2 h2 a3 h3 a4 h4 a5 h5 a6 h6 a7 h7 x0 x1 x2 hc)
theorem firstS_cover (hc : First i) (y : S1024x2048.Idx) : ∃ p ∈ (runFirst c i a2 h2 a3 h3 a4 h4 a5 h5 a6 h6 a7 h7 hc x0 x1 x2).2.2.1, y ∈ p.1.set :=
  View.cover_of_tiledL (runFirst c i a2 h2 a3 h3 a4 h4 a5 h5 a6 h6 a7 h7 hc x0 x1 x2).2.2.1 S1024x2048.size (by sl_kernel_rfl) y
theorem firstS_junk (hc : First i) : V4.read (Elt F) (V4.writes (Elt F) V4.junk (runFirst c i a2 h2 a3 h3 a4 h4 a5 h5 a6 h6 a7 h7 hc x0 x1 x2).2.2.1) = k0_pay2 x0 x1 := by
  frame_out
theorem firstS (hc : First i) (v : View sig .tc .vmem S1024x2048 .bf16) (f : BufTy.Contents (Elt F) v.ty) :
    v.read (Elt F) (v.writes (Elt F) f (runFirst c i a2 h2 a3 h3 a4 h4 a5 h5 a6 h6 a7 h7 hc x0 x1 x2).2.2.1) = k0_pay2 x0 x1 := by
  have h := v.read_writes_of_cover f V4 V4.junk (runFirst c i a2 h2 a3 h3 a4 h4 a5 h5 a6 h6 a7 h7 hc x0 x1 x2).2.2.1 (firstS_cover c i a2 h2 a3 h3 a4 h4 a5 h5 a6 h6 a7 h7 x0 x1 x2 hc)
  exact h.trans (firstS_junk c i a2 h2 a3 h3 a4 h4 a5 h5 a6 h6 a7 h7 x0 x1 x2 hc)
theorem later3_cover (hc : ¬ First i) (y : S1024x512.Idx) : ∃ p ∈ (runLater c i a2 h2 a3 h3 a4 h4 a5 h5 a6 h6 a7 h7 hc x0 x1 x2 x4 xs).1, y ∈ p.1.set :=
  View.cover_of_tiledL (runLater c i a2 h2 a3 h3 a4 h4 a5 h5 a6 h6 a7 h7 hc x0 x1 x2 x4 xs).1 S1024x512.size (by sl_kernel_rfl) y
theorem later3_junk (hc : ¬ First i) : V3.read (Elt F) (V3.writes (Elt F) V3.junk (runLater c i a2 h2 a3 h3 a4 h4 a5 h5 a6 h6 a7 h7 hc x0 x1 x2 x4 xs).1) = k0_pay3 xs x2 := by
  frame_out
theorem later3 (hc : ¬ First i) (v : View sig .tc .vmem S1024x512 .f32) (f : BufTy.Contents (Elt F) v.ty) :
    v.read (Elt F) (v.writes (Elt F) f (runLater c i a2 h2 a3 h3 a4 h4 a5 h5 a6 h6 a7 h7 hc x0 x1 x2 x4 xs).1) = k0_pay3 xs x2 := by
  have h := v.read_writes_of_cover f V3 V3.junk (runLater c i a2 h2 a3 h3 a4 h4 a5 h5 a6 h6 a7 h7 hc x0 x1 x2 x4 xs).1 (later3_cover c i a2 h2 a3 h3 a4 h4 a5 h5 a6 h6 a7 h7 x0 x1 x2 x4 xs hc)
  exact h.trans (later3_junk c i a2 h2 a3 h3 a4 h4 a5 h5 a6 h6 a7 h7 x0 x1 x2 x4 xs hc)

end Body

end Cert.NormA
end
-- ==== Proof.NormAFrame.lean ====
module

public import proofs.«01_k».proof.Proof.NormARun
public import Idealize.ShloMosaic.Lib.Pipeline.TableIdle
public import Idealize.ShloMosaic.Lib.Pipeline.ValueKit
public import Idealize.ShloMosaic.Lib.Claim

@[expose] public section

/-! # The forward product behind the norm in the pooling mixers: the frame

What the buffers hold at each point, in closed form: the kept tile is the normed tile of the point's row tile, read at
that tile's first point. The second result's buffer holds it from there on, so the write-back at the row tile's last
point writes it. -/

set_option maxRecDepth 16384

noncomputable section
namespace Cert.NormA
open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row tile of a point. -/
def start (t : Fin cfg0.N) : Fin cfg0.N := ⟨t.val / 8 * 8, Nat.lt_of_le_of_lt (Nat.div_mul_le_self _ _) t.isLt⟩

theorem start_first (t : Fin cfg0.N) (h : t.val % 8 = 0) : start t = t := Fin.ext (by show t.val / 8 * 8 = t.val; omega)
theorem start_pred (t : Fin cfg0.N) (h : ¬ t.val % 8 = 0) (hp : t.val - 1 < cfg0.N) : start ⟨t.val - 1, hp⟩ = start t :=
  Fin.ext (by show (t.val - 1) / 8 * 8 = t.val / 8 * 8; omega)

/-- What the scratch holds after a point, and what the two results' buffers hold. -/
def tileAt (c : Dev nD) (t : Fin cfg0.N) : Vec F S1024x2048 .bf16 := k0_pay2 (iblk m c 0 (start t)) (iblk m c 1 (start t))
def normAt (c : Dev nD) (t : Fin cfg0.N) : Vec F S1024x2048 .bf16 := k0_pay1 (iblk m c 0 (start t)) (iblk m c 1 (start t))
def prodAt (c : Dev nD) (t : Fin cfg0.N) : Vec F S1024x512 .f32 := k0_pay3 (tileAt m c t) (iblk m c 2 t)

theorem tileAt_first (c : Dev nD) (t : Fin cfg0.N) (h : t.val % 8 = 0) : tileAt m c t = k0_pay2 (iblk m c 0 t) (iblk m c 1 t) := by
  unfold tileAt; rw [start_first t h]
theorem normAt_first (c : Dev nD) (t : Fin cfg0.N) (h : t.val % 8 = 0) : normAt m c t = k0_pay1 (iblk m c 0 t) (iblk m c 1 t) := by
  unfold normAt; rw [start_first t h]
theorem tileAt_pred (c : Dev nD) (t : Fin cfg0.N) (h : ¬ t.val % 8 = 0) (hp : t.val - 1 < cfg0.N) : tileAt m c ⟨t.val - 1, hp⟩ = tileAt m c t := by
  unfold tileAt; rw [start_pred t h hp]
theorem normAt_pred (c : Dev nD) (t : Fin cfg0.N) (h : ¬ t.val % 8 = 0) (hp : t.val - 1 < cfg0.N) : normAt m c ⟨t.val - 1, hp⟩ = normAt m c t := by
  unfold normAt; rw [start_pred t h hp]

/-- What holds between the points: before the first nothing is known of the scratch, afterwards it holds the tile. -/
def Inv (c : Dev nD) : (n : ℕ) → n ≤ cfg0.N → sProp 𝕄
  | 0, _ => Pipeline.ΦA spec0 c
  | n + 1, hn => iprop(iprop(owns (c : Thread nD τ) kept fullShare (tileAt m c ⟨n, hn⟩)) ∗ (∃ r, prngReg c r))

theorem inv_zero (c : Dev nD) (n : ℕ) (h : n ≤ cfg0.N) (hz : n = 0) : Inv m c n h = Pipeline.ΦA spec0 c := by subst hz; rfl
theorem inv_succ (c : Dev nD) (n : ℕ) (hn : n < cfg0.N) :
    Inv m c (n + 1) hn = iprop(iprop(owns (c : Thread nD τ) kept fullShare (tileAt m c ⟨n, hn⟩)) ∗ (∃ r, prngReg c r)) := rfl
theorem inv_pos (c : Dev nD) (n : ℕ) (h : n ≤ cfg0.N) (hz : n ≠ 0) :
    Inv m c n h = iprop(iprop(owns (c : Thread nD τ) kept fullShare (tileAt m c ⟨n - 1, by omega⟩)) ∗ (∃ r, prngReg c r)) := by
  cases n with
  | zero => exact absurd rfl hz
  | succ n => rfl

/-- The pipeline's contents: the inputs' blocks, and the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prodAt m c t
    | ⟨4, _⟩ => normAt m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_cast (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = prodAt m c t := by dsimp only [dats]
theorem after4 (c : Dev nD) (t : Fin cfg0.N) : (dats m 0 c).after 4 t = normAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h : t.val % 8 = 0
  · rw [live4 t h] at hi; exact absurd hi Bool.false_ne_true
  · exact (normAt_pred m c t h _).symm

/-- At the later points of a row tile the second result's buffer holds the tile already. -/
theorem before4 (c : Dev nD) (t : Fin cfg0.N) (h : ¬ t.val % 8 = 0) (d) : (dats m 0 c).before 4 t d = normAt m c t := by
  rw [Dat.before_out_traj _ 4 rfl (fun _ _ => rfl) (carry4 m c) t.val t rfl d,
    if_neg (by rw [fresh4]; unfold bare; simp [h]), after4]
  exact normAt_pred m c t h _

/-! ## The body at a point -/

def atStart (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def atEnd (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  rw [← after0 m c t]
theorem leaves1 (c : Dev nD) (t : Fin cfg0.N) : (dats m 0 c).leavesExact 1 t = owns (c : Thread nD τ) (ms1 t) fullShare (iblk m c 1 t) := by
  rw [← after1 m c t]
theorem leaves2 (c : Dev nD) (t : Fin cfg0.N) : (dats m 0 c).leavesExact 2 t = owns (c : Thread nD τ) (ms2 t) fullShare (iblk m c 2 t) := by
  rw [← after2 m c t]
theorem leaves3 (c : Dev nD) (t : Fin cfg0.N) : (dats m 0 c).leavesExact 3 t = owns (c : Thread nD τ) (ms3 t) fullShare (prodAt m c t) := by
  rw [← after3 m c t]
theorem leaves4 (c : Dev nD) (t : Fin cfg0.N) (h : t.val % 8 = 0) :
    (dats m 0 c).leavesExact 4 t = owns (c : Thread nD τ) (ms4 t) fullShare (normAt m c t) := by
  rw [← after4 m c t]; unfold Dat.leavesExact; rw [live4 t h]
theorem leaves4_later (c : Dev nD) (t : Fin cfg0.N) (h : ¬ t.val % 8 = 0) :
    owns (c : Thread nD τ) (ms4 t) fullShare (normAt m c t) ⊢ (dats m 0 c).leavesExact 4 t := by
  unfold Dat.leavesExact; rw [idle4 t h]
  cases hf : (cfg0.win 4).flush t with
  | true => simp only [hf]; rw [after4]
  | false =>
    simp only [hf, before4 m c t h]
    iintro H
    iexists (normAt m c t); iexact H

set_option maxHeartbeats 3200000 in
theorem body_first (c : Dev nD) (t : Fin cfg0.N) (h : t.val % 8 = 0) :
    iprop((iprop((∃ d, owns (c : Thread nD τ) kept fullShare d)) ∗ (∃ r, prngReg c r)) ∗ (dats m 0 c).owesAt () t.castSucc
      ∗ (∃ d : Unit, owns (c : Thread nD τ) (ms0 t) fullShare (iblk m c 0 t))
      ∗ (∃ d : Unit, owns (c : Thread nD τ) (ms1 t) fullShare (iblk m c 1 t))
      ∗ (∃ d : Unit, owns (c : Thread nD τ) (ms2 t) fullShare (iblk m c 2 t))
      ∗ (∃ d, owns (c : Thread nD τ) (ms3 t) fullShare d) ∗ (∃ d, owns (c : Thread nD τ) (ms4 t) fullShare d))
      ⊢ wp frame (wpE (defs₀ (F := F)) Variants.none c none) Set.univ (bodyAt0 t) (fun _ => atEnd m c t) := by
  unfold atEnd bodyAt0
  rw [show (dats m 0 c).owesAt () t.succ = (dats m 0 c).owesAt () t.castSucc from rfl,
    show (dats m 0 c).Φ t.succ = Inv m c (t.val + 1) t.isLt from rfl, inv_succ,
    leaves0, leaves1, leaves2, leaves3, leaves4 m c t h]
  iintro ⟨⟨HS, Hg⟩, Ho, ⟨%d0, H0⟩, ⟨%d1, H1⟩, ⟨%d2, H2⟩, H3, H4⟩
  iapply ((runFirst c (grid0.coords t) _ _ _ _ _ _ _ _ _ _ _ _ ((first_iff t).mpr h) (iblk m c 0 t) (iblk m c 1 t) (iblk m c 2 t)).2.2.2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, ⟨%e3, H3⟩, ⟨%e4, H4⟩, ⟨%es, HS⟩⟩
  isplitl [HS Hg]
  · isplitl [HS]
    · unfold owns; iexists _; isplitr
      swap; · iexact HS
      ipureintro; exact (firstS c _ _ _ _ _ _ _ _ _ _ _ _ _ _ _ _ _ _ _).trans (tileAt_first m c t h).symm
    iexact Hg
  isplitl [Ho]; · iexact Ho
  isplitl [H0]; · iexact H0
  isplitl [H1]; · iexact H1
  isplitl [H2]; · iexact H2
  isplitl [H3]
  · unfold owns; iexists _; isplitr
    swap; · iexact H3
    ipureintro
    refine (first3 c _ _ _ _ _ _ _ _ _ _ _ _ _ _ _ _ _ _ _).trans ?_
    unfold prodAt; rw [tileAt_first m c t h]
  unfold owns; iexists _; isplitr
  swap; · iexact H4
  ipureintro; exact (first4 c _ _ _ _ _ _ _ _ _ _ _ _ _ _ _ _ _ _ _).trans (normAt_first m c t h).symm

set_option maxHeartbeats 3200000 in
theorem body_later (c : Dev nD) (t : Fin cfg0.N) (h : ¬ t.val % 8 = 0) :
    iprop((iprop(owns (c : Thread nD τ) kept fullShare (tileAt m c t)) ∗ (∃ r, prngReg c r)) ∗ (dats m 0 c).owesAt () t.castSucc
      ∗ (∃ d : Unit, owns (c : Thread nD τ) (ms0 t) fullShare (iblk m c 0 t))
      ∗ (∃ d : Unit, owns (c : Thread nD τ) (ms1 t) fullShare (iblk m c 1 t))
      ∗ (∃ d : Unit, owns (c : Thread nD τ) (ms2 t) fullShare (iblk m c 2 t))
      ∗ (∃ d, owns (c : Thread nD τ) (ms3 t) fullShare d) ∗ owns (c : Thread nD τ) (ms4 t) fullShare (normAt m c t))
      ⊢ wp frame (wpE (defs₀ (F := F)) Variants.none c none) Set.univ (bodyAt0 t) (fun _ => atEnd m c t) := by
  unfold atEnd bodyAt0
  rw [show (dats m 0 c).owesAt () t.succ = (dats m 0 c).owesAt () t.castSucc from rfl,
    show (dats m 0 c).Φ t.succ = Inv m c (t.val + 1) t.isLt from rfl, inv_succ,
    leaves0, leaves1, leaves2, leaves3]
  iintro ⟨⟨HS, Hg⟩, Ho, ⟨%d0, H0⟩, ⟨%d1, H1⟩, ⟨%d2, H2⟩, H3, H4⟩
  iapply ((runLater c (grid0.coords t) _ _ _ _ _ _ _ _ _ _ _ _ (fun hc => h ((first_iff t).mp hc)) (iblk m c 0 t) (iblk m c 1 t) (iblk m c 2 t)
    (normAt m c t) (tileAt m c t)).2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, ⟨%e3, H3⟩, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact later3 c _ _ _ _ _ _ _ _ _ _ _ _ _ _ _ _ _ _ _ _ _
  iapply (leaves4_later m c t h); iexact H4

set_option maxHeartbeats 1600000 in
theorem body_at (c : Dev nD) (t : Fin cfg0.N) :
    atStart m c t ⊢ wp frame (wpE (defs₀ (F := F)) Variants.none c none) Set.univ (bodyAt0 t) (fun _ => atEnd m c t) := by
  unfold atStart
  simp only [before0, before1, before2]
  rw [inv_cast]
  by_cases h : t.val % 8 = 0
  · refine (?_ : _ ⊢ _).trans (body_first m c t h)
    by_cases hz : t.val = 0
    · rw [inv_zero m c _ _ hz, scratch_eq]
      iintro ⟨HP, Ho, ⟨%d0, H0⟩, ⟨%d1, H1⟩, ⟨%d2, H2⟩, ⟨%d3, H3⟩, ⟨%d4, H4⟩⟩
      isplitl [HP]; · iexact HP
      isplitl [Ho]; · iexact Ho
      isplitl [H0]; · iexists (); iexact H0
      isplitl [H1]; · iexists (); iexact H1
      isplitl [H2]; · iexists (); iexact H2
      isplitl [H3]; · iexists _; iexact H3
      iexists _; iexact H4
    · rw [inv_pos m c _ _ hz]
      iintro ⟨⟨HS, Hg⟩, Ho, ⟨%d0, H0⟩, ⟨%d1, H1⟩, ⟨%d2, H2⟩, ⟨%d3, H3⟩, ⟨%d4, H4⟩⟩
      isplitl [HS Hg]
      · isplitl [HS]; · iexists _; iexact HS
        iexact Hg
      isplitl [Ho]; · iexact Ho
      isplitl [H0]; · iexists (); iexact H0
      isplitl [H1]; · iexists (); iexact H1
      isplitl [H2]; · iexists (); iexact H2
      isplitl [H3]; · iexists _; iexact H3
      iexists _; iexact H4
  · refine (?_ : _ ⊢ _).trans (body_later m c t h)
    have hz : t.val ≠ 0 := fun e => h (by rw [e])
    rw [inv_pos m c _ _ hz, tileAt_pred m c t h]
    simp only [before4 m c t h]
    iintro ⟨HP, Ho, ⟨%d0, H0⟩, ⟨%d1, H1⟩, ⟨%d2, H2⟩, ⟨%d3, H3⟩, ⟨%d4, H4⟩⟩
    isplitl [HP]; · iexact HP
    isplitl [Ho]; · iexact Ho
    isplitl [H0]; · iexists (); iexact H0
    isplitl [H1]; · iexists (); iexact H1
    isplitl [H2]; · iexists (); iexact H2
    isplitl [H3]; · iexists _; iexact H3
    iexact H4

theorem table_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (body_at m c t) rfl .rfl fun _ => .rfl

theorem enter (c : Dev nD) : Pipeline.ΦA spec0 c ⊢ (dats m 0 c).Φ 0 := by
  rw [show (dats m 0 c).Φ 0 = Inv m c 0 (Nat.zero_le _) from rfl, inv_zero m c 0 _ rfl]

theorem leave (c : Dev nD) : (dats m 0 c).Φ (Fin.last cfg0.N) ⊢ Pipeline.ΦA spec0 c := by
  have hz : (Fin.last cfg0.N).val ≠ 0 := by rw [Fin.val_last, size]; decide
  rw [show (dats m 0 c).Φ (Fin.last cfg0.N) = Inv m c (Fin.last cfg0.N).val (Nat.le_of_lt_succ (Fin.last cfg0.N).isLt) from rfl,
    inv_pos m c _ _ hz, scratch_eq]
  iintro ⟨HS, Hg⟩
  isplitl [HS]; · iexists _; iexact HS
  iexact Hg

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiet m ρ)

/-- Every run ends, leaves the arguments alone and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.NormA
end
-- ==== Proof.NormKvRun.lean ====
module

public import proofs.«01_k».proof.Proof.Gen.Kernel12Ideal.Launch
public import proofs.«01_k».proof.Proof.Gen.Kernel12Ideal.Skeleton
public import proofs.«01_k».proof.Proof.Gen.Kernel12Ideal.Points
public import proofs.«01_k».proof.Proof.Gen.Kernel12Ideal.Frame
public import Idealize.ShloMosaic.Lib.Pipeline.TableIdle
public import Idealize.ShloMosaic.Lib.Pipeline.ValueKit
public import Idealize.ShloMosaic.Lib.Pointwise
public import Idealize.ShloMosaic.Lib.Pipeline.ReadBack
public import Idealize.ShloMosaic.Lib.Claim

@[expose] public section

/-! # The keys and values behind their norm: the call's run

At the first column block of a row tile the body norms the tile and keeps it, in its scratch and as its second result;
at every column block it stores the product of the kept tile and the weight's block. So the second result's buffer is
left alone at the other column blocks, the last of which writes it back. -/

set_option maxRecDepth 16384

noncomputable section
namespace Cert.NormKv
open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points -/

theorem size : cfg0.N = 16 := N_0

/-- Whether a point is the first of its row tile. -/
abbrev First (i : grid0.Coords) : Prop := k0_cond1 i = 1#1

theorem first_iff : ∀ t : Fin cfg0.N, First (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [First, k0_cond1, e0, e1]
    word_cmp
   : ∀ t : Fin grid0.N, First (grid0.coords t) ↔ t.val % 4 = 0)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, t.val % 4 = 0 → cfg0.idle 4 (grid0.coords t) = false := by decide +kernel
theorem idle4 : ∀ t : Fin cfg0.N, ¬ t.val % 4 = 0 → cfg0.idle 4 (grid0.coords t) = true := by decide +kernel

/-- Before which points the second result's buffer holds nothing that is still to be written back. -/
def bare : ℕ → Bool := fun n => n % 4 == 0
theorem bare_step : ∀ t : Fin cfg0.N,
    bare (t.val + 1) = ((cfg0.win 4).flush t || (cfg0.idle 4 (cfg0.grid.coords t) && bare t.val)) := by decide +kernel
theorem fresh4 (t : Fin cfg0.N) : cfg0.fresh 4 t.val = bare t.val :=
  Pipeline.Cfg.fresh_tab cfg0 4 bare rfl bare_step t.val (Nat.le_of_lt t.isLt)

/-! ## The memory that a point works on -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S1024x1024 .f32 := win0_3.stage (cfg0.slots t 3)
abbrev ms4 (t : Fin cfg0.N) : Memref sig .tc .vmem S1024x2048 .bf16 := win0_4.stage (cfg0.slots t 4)
abbrev kept : Memref sig .tc .vmem S1024x2048 .bf16 := Memref.whole cc0_scratch0
abbrev V3 : View sig .tc .vmem S1024x1024 .f32 := (Memref.whole cc0_stg3_0 : Memref sig .tc .vmem S1024x1024 .f32).view
abbrev V4 : View sig .tc .vmem S1024x2048 .bf16 := (Memref.whole cc0_stg4_0 : Memref sig .tc .vmem S1024x2048 .bf16).view

theorem scratch_eq (c : Dev nD) :
    (Pipeline.ΦA spec0 c : sProp 𝕄) = iprop(iprop((∃ d, owns (c : Thread nD τ) kept fullShare d)) ∗ (∃ r, prngReg c r)) := by
  unfold Pipeline.ΦA; rw [scopedRest0_eq]; simp only [kept, owns_whole]; try rfl

/-! ## The body's two runs -/

section Body
variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S2048x1024 .bf16) (h4 : a4.IsWhole) (a5 : Memref sig .tc .vmem S1024x1024 .f32) (h5 : a5.IsWhole)
  (a6 : Memref sig .tc .vmem S1024x2048 .bf16) (h6 : a6.IsWhole) (a7 : Memref sig .tc .vmem S1024x2048 .bf16) (h7 : a7.IsWhole)

set_option maxHeartbeats 1000000 in
/-- At a row tile's first point: the pieces that the body stores in its two results and its scratch. -/
def runFirst (hc : First i) (x0 : Vec F S1024x2048 .f32) (x1 : Vec F S1x2048 .f32) (x2 : Vec F S2048x1024 .bf16) :
    Σ' (L3 : List (View.Piece (Elt F) S1024x1024 .f32)), Σ' (L4 : List (View.Piece (Elt F) S1024x2048 .bf16)),
      { LS : List (View.Piece (Elt F) S1024x2048 .bf16) // ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d) ∗ (∃ d, owns (c : Thread nD τ) a7 fullShare d)
            ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L3)
              ∗ (∃ f, a6.view.loc (c : Thread nD τ) ↦[a6.view.set]{fullShare} a6.view.writes (Elt F) f L4)
              ∗ (∃ f, a7.view.loc (c : Thread nD τ) ↦[a7.view.set]{fullShare} a7.view.writes (Elt F) f LS)) -∗ K ⟨⟩))
          ⊢ wp frame (wpE (defs₀ (F := F)) Variants.none c none) E (cc0_kv_in i a2 h2 a3 h3 a4 h4 a5 h5 a6 h6 a7 h7) K } := by
  refine ⟨?_, ?_, ?_, fun E K => ?run⟩
  case run =>
    simp only [cc0_kv_in_eq_skeleton]; unfold cc0_kv_in_skel
    unfold owns
    iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
    obtain rfl := h2.eq_unread hf0; obtain rfl := h3.eq_unread hf1; obtain rfl := h4.eq_unread hf2
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]; · iexists _; iexact H4
    iexists _; iexact HS

set_option maxHeartbeats 1000000 in
/-- At the others: the pieces that it stores in its first result; the second and the scratch are left alone. -/
def runLater (hc : ¬ First i) (x0 : Vec F S1024x2048 .f32) (x1 : Vec F S1x2048 .f32) (x2 : Vec F S2048x1024 .bf16) (x4 xs : Vec F S1024x2048 .bf16) :
    { L3 : List (View.Piece (Elt F) S1024x1024 .f32) // ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ owns (c : Thread nD τ) a6 fullShare x4 ∗ owns (c : Thread nD τ) a7 fullShare xs
            ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L3)
              ∗ owns (c : Thread nD τ) a6 fullShare x4 ∗ owns (c : Thread nD τ) a7 fullShare xs) -∗ K ⟨⟩))
          ⊢ wp frame (wpE (defs₀ (F := F)) Variants.none c none) E (cc0_kv_in i a2 h2 a3 h3 a4 h4 a5 h5 a6 h6 a7 h7) K } := by
  refine ⟨?_, fun E K => ?run⟩
  case run =>
    simp only [cc0_kv_in_eq_skeleton]; unfold cc0_kv_in_skel
    unfold owns
    iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
    obtain rfl := h2.eq_unread hf0; obtain rfl := h3.eq_unread hf1; obtain rfl := h4.eq_unread hf2
    obtain rfl := h6.eq_unread hf4; obtain rfl := h7.eq_unread hfs
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]
    · iexists _; isplitr; · ipureintro; exact h6.read_unread _
      iexact H4
    iexists _; isplitr; · ipureintro; exact h7.read_unread _
    iexact HS

variable (x0 : Vec F S1024x2048 .f32) (x1 : Vec F S1x2048 .f32) (x2 : Vec F S2048x1024 .bf16) (x4 xs : Vec F S1024x2048 .bf16)

theorem first3_cover (hc : First i) (y : S1024x1024.Idx) : ∃ p ∈ (runFirst c i a2 h2 a3 h3 a4 h4 a5 h5 a6 h6 a7 h7 hc x0 x1 x2).1, y ∈ p.1.set :=
  View.cover_of_tiledL (runFirst c i a2 h2 a3 h3 a4 h4 a5 h5 a6 h6 a7 h7 hc x0 x1 x2).1 S1024x1024.size (by sl_kernel_rfl) y
theorem first3_junk (hc : First i) : V3.read (Elt F) (V3.writes (Elt F) V3.junk (runFirst c i a2 h2 a3 h3 a4 h4 a5 h5 a6 h6 a7 h7 hc x0 x1 x2).1) = k0_pay3 (k0_pay2 x0 x1) x2 := by
  frame_out
theorem first3 (hc : First i) (v : View sig .tc .vmem S1024x1024 .f32) (f : BufTy.Contents (Elt F) v.ty) :
    v.read (Elt F) (v.writes (Elt F) f (runFirst c i a2 h2 a3 h3 a4 h4 a5 h5 a6 h6 a7 h7 hc x0 x1 x2).1) = k0_pay3 (k0_pay2 x0 x1) x2 := by
  have h := v.read_writes_of_cover f V3 V3.junk (runFirst c i a2 h2 a3 h3 a4 h4 a5 h5 a6 h6 a7 h7 hc x0 x1 x2).1 (first3_cover c i a2 h2 a3 h3 a4 h4 a5 h5 a6 h6 a7 h7 x0 x1 x2 hc)
  exact h.trans (first3_junk c i a2 h2 a3 h3 a4 h4 a5 h5 a6 h6 a7 h7 x0 x1 x2 hc)
theorem first4_cover (hc : First i) (y : S1024x2048.Idx) : ∃ p ∈ (runFirst c i a2 h2 a3 h3 a4 h4 a5 h5 a6 h6 a7 h7 hc x0 x1 x2).2.1, y ∈ p.1.set :=
  View.cover_of_tiledL (runFirst c i a2 h2 a3 h3 a4 h4 a5 h5 a6 h6 a7 h7 hc x0 x1 x2).2.1 S1024x2048.size (by sl_kernel_rfl) y
theorem first4_junk (hc : First i) : V4.read (Elt F) (V4.writes (Elt F) V4.junk (runFirst c i a2 h2 a3 h3 a4 h4 a5 h5 a6 h6 a7 h7 hc x0 x1 x2).2.1) = k0_pay1 x0 x1 := by
  frame_out
theorem first4 (hc : First i) (v : View sig .tc .vmem S1024x2048 .bf16) (f : BufTy.Contents (Elt F) v.ty) :
    v.read (Elt F) (v.writes (Elt F) f (runFirst c i a2 h2 a3 h3 a4 h4 a5 h5 a6 h6 a7 h7 hc x0 x1 x2).2.1) = k0_pay1 x0 x1 := by
  have h := v.read_writes_of_cover f V4 V4.junk (runFirst c i a2 h2 a3 h3 a4 h4 a5 h5 a6 h6 a7 h7 hc x0 x1 x2).2.1 (first4_cover c i a2 h2 a3 h3 a4 h4 a5 h5 a6 h6 a7 h7 x0 x1 x2 hc)
  exact h.trans (first4_junk c i a2 h2 a3 h3 a4 h4 a5 h5 a6 h6 a7 h7 x0 x1 x2 hc)
theorem firstS_cover (hc : First i) (y : S1024x2048.Idx) : ∃ p ∈ (runFirst c i a2 h2 a3 h3 a4 h4 a5 h5 a6 h6 a7 h7 hc x0 x1 x2).2.2.1, y ∈ p.1.set :=
  View.cover_of_tiledL (runFirst c i a2 h2 a3 h3 a4 h4 a5 h5 a6 h6 a7 h7 hc x0 x1 x2).2.2.1 S1024x2048.size (by sl_kernel_rfl) y
theorem firstS_junk (hc : First i) : V4.read (Elt F) (V4.writes (Elt F) V4.junk (runFirst c i a2 h2 a3 h3 a4 h4 a5 h5 a6 h6 a7 h7 hc x0 x1 x2).2.2.1) = k0_pay2 x0 x1 := by
  frame_out
theorem firstS (hc : First i) (v : View sig .tc .vmem S1024x2048 .bf16) (f : BufTy.Contents (Elt F) v.ty) :
    v.read (Elt F) (v.writes (Elt F) f (runFirst c i a2 h2 a3 h3 a4 h4 a5 h5 a6 h6 a7 h7 hc x0 x1 x2).2.2.1) = k0_pay2 x0 x1 := by
  have h := v.read_writes_of_cover f V4 V4.junk (runFirst c i a2 h2 a3 h3 a4 h4 a5 h5 a6 h6 a7 h7 hc x0 x1 x2).2.2.1 (firstS_cover c i a2 h2 a3 h3 a4 h4 a5 h5 a6 h6 a7 h7 x0 x1 x2 hc)
  exact h.trans (firstS_junk c i a2 h2 a3 h3 a4 h4 a5 h5 a6 h6 a7 h7 x0 x1 x2 hc)
theorem later3_cover (hc : ¬ First i) (y : S1024x1024.Idx) : ∃ p ∈ (runLater c i a2 h2 a3 h3 a4 h4 a5 h5 a6 h6 a7 h7 hc x0 x1 x2 x4 xs).1, y ∈ p.1.set :=
  View.cover_of_tiledL (runLater c i a2 h2 a3 h3 a4 h4 a5 h5 a6 h6 a7 h7 hc x0 x1 x2 x4 xs).1 S1024x1024.size (by sl_kernel_rfl) y
theorem later3_junk (hc : ¬ First i) : V3.read (Elt F) (V3.writes (Elt F) V3.junk (runLater c i a2 h2 a3 h3 a4 h4 a5 h5 a6 h6 a7 h7 hc x0 x1 x2 x4 xs).1) = k0_pay3 xs x2 := by
  frame_out
theorem later3 (hc : ¬ First i) (v : View sig .tc .vmem S1024x1024 .f32) (f : BufTy.Contents (Elt F) v.ty) :
    v.read (Elt F) (v.writes (Elt F) f (runLater c i a2 h2 a3 h3 a4 h4 a5 h5 a6 h6 a7 h7 hc x0 x1 x2 x4 xs).1) = k0_pay3 xs x2 := by
  have h := v.read_writes_of_cover f V3 V3.junk (runLater c i a2 h2 a3 h3 a4 h4 a5 h5 a6 h6 a7 h7 hc x0 x1 x2 x4 xs).1 (later3_cover c i a2 h2 a3 h3 a4 h4 a5 h5 a6 h6 a7 h7 x0 x1 x2 x4 xs hc)
  exact h.trans (later3_junk c i a2 h2 a3 h3 a4 h4 a5 h5 a6 h6 a7 h7 x0 x1 x2 x4 xs hc)

end Body

end Cert.NormKv
end
-- ==== Proof.NormKvFrame.lean ====
module

public import proofs.«01_k».proof.Proof.NormKvRun
public import Idealize.ShloMosaic.Lib.Pipeline.TableIdle
public import Idealize.ShloMosaic.Lib.Pipeline.ValueKit
public import Idealize.ShloMosaic.Lib.Claim

@[expose] public section

/-! # The keys and values behind their norm: the frame

What the buffers hold at each point, in closed form: the kept tile is the normed tile of the point's row tile, read at
that tile's first point. The second result's buffer holds it from there on, so the write-back at the row tile's last
point writes it. -/

set_option maxRecDepth 16384

noncomputable section
namespace Cert.NormKv
open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row tile of a point. -/
def start (t : Fin cfg0.N) : Fin cfg0.N := ⟨t.val / 4 * 4, Nat.lt_of_le_of_lt (Nat.div_mul_le_self _ _) t.isLt⟩

theorem start_first (t : Fin cfg0.N) (h : t.val % 4 = 0) : start t = t := Fin.ext (by show t.val / 4 * 4 = t.val; omega)
theorem start_pred (t : Fin cfg0.N) (h : ¬ t.val % 4 = 0) (hp : t.val - 1 < cfg0.N) : start ⟨t.val - 1, hp⟩ = start t :=
  Fin.ext (by show (t.val - 1) / 4 * 4 = t.val / 4 * 4; omega)

/-- What the scratch holds after a point, and what the two results' buffers hold. -/
def tileAt (c : Dev nD) (t : Fin cfg0.N) : Vec F S1024x2048 .bf16 := k0_pay2 (iblk m c 0 (start t)) (iblk m c 1 (start t))
def normAt (c : Dev nD) (t : Fin cfg0.N) : Vec F S1024x2048 .bf16 := k0_pay1 (iblk m c 0 (start t)) (iblk m c 1 (start t))
def prodAt (c : Dev nD) (t : Fin cfg0.N) : Vec F S1024x1024 .f32 := k0_pay3 (tileAt m c t) (iblk m c 2 t)

theorem tileAt_first (c : Dev nD) (t : Fin cfg0.N) (h : t.val % 4 = 0) : tileAt m c t = k0_pay2 (iblk m c 0 t) (iblk m c 1 t) := by
  unfold tileAt; rw [start_first t h]
theorem normAt_first (c : Dev nD) (t : Fin cfg0.N) (h : t.val % 4 = 0) : normAt m c t = k0_pay1 (iblk m c 0 t) (iblk m c 1 t) := by
  unfold normAt; rw [start_first t h]
theorem tileAt_pred (c : Dev nD) (t : Fin cfg0.N) (h : ¬ t.val % 4 = 0) (hp : t.val - 1 < cfg0.N) : tileAt m c ⟨t.val - 1, hp⟩ = tileAt m c t := by
  unfold tileAt; rw [start_pred t h hp]
theorem normAt_pred (c : Dev nD) (t : Fin cfg0.N) (h : ¬ t.val % 4 = 0) (hp : t.val - 1 < cfg0.N) : normAt m c ⟨t.val - 1, hp⟩ = normAt m c t := by
  unfold normAt; rw [start_pred t h hp]

/-- What holds between the points: before the first nothing is known of the scratch, afterwards it holds the tile. -/
def Inv (c : Dev nD) : (n : ℕ) → n ≤ cfg0.N → sProp 𝕄
  | 0, _ => Pipeline.ΦA spec0 c
  | n + 1, hn => iprop(iprop(owns (c : Thread nD τ) kept fullShare (tileAt m c ⟨n, hn⟩)) ∗ (∃ r, prngReg c r))

theorem inv_zero (c : Dev nD) (n : ℕ) (h : n ≤ cfg0.N) (hz : n = 0) : Inv m c n h = Pipeline.ΦA spec0 c := by subst hz; rfl
theorem inv_succ (c : Dev nD) (n : ℕ) (hn : n < cfg0.N) :
    Inv m c (n + 1) hn = iprop(iprop(owns (c : Thread nD τ) kept fullShare (tileAt m c ⟨n, hn⟩)) ∗ (∃ r, prngReg c r)) := rfl
theorem inv_pos (c : Dev nD) (n : ℕ) (h : n ≤ cfg0.N) (hz : n ≠ 0) :
    Inv m c n h = iprop(iprop(owns (c : Thread nD τ) kept fullShare (tileAt m c ⟨n - 1, by omega⟩)) ∗ (∃ r, prngReg c r)) := by
  cases n with
  | zero => exact absurd rfl hz
  | succ n => rfl

/-- The pipeline's contents: the inputs' blocks, and the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prodAt m c t
    | ⟨4, _⟩ => normAt m c t
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_cast (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = prodAt m c t := by dsimp only [dats]
theorem after4 (c : Dev nD) (t : Fin cfg0.N) : (dats m 0 c).after 4 t = normAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h : t.val % 4 = 0
  · rw [live4 t h] at hi; exact absurd hi Bool.false_ne_true
  · exact (normAt_pred m c t h _).symm

/-- At the later points of a row tile the second result's buffer holds the tile already. -/
theorem before4 (c : Dev nD) (t : Fin cfg0.N) (h : ¬ t.val % 4 = 0) (d) : (dats m 0 c).before 4 t d = normAt m c t := by
  rw [Dat.before_out_traj _ 4 rfl (fun _ _ => rfl) (carry4 m c) t.val t rfl d,
    if_neg (by rw [fresh4]; unfold bare; simp [h]), after4]
  exact normAt_pred m c t h _

/-! ## The body at a point -/

def atStart (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def atEnd (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  rw [← after0 m c t]
theorem leaves1 (c : Dev nD) (t : Fin cfg0.N) : (dats m 0 c).leavesExact 1 t = owns (c : Thread nD τ) (ms1 t) fullShare (iblk m c 1 t) := by
  rw [← after1 m c t]
theorem leaves2 (c : Dev nD) (t : Fin cfg0.N) : (dats m 0 c).leavesExact 2 t = owns (c : Thread nD τ) (ms2 t) fullShare (iblk m c 2 t) := by
  rw [← after2 m c t]
theorem leaves3 (c : Dev nD) (t : Fin cfg0.N) : (dats m 0 c).leavesExact 3 t = owns (c : Thread nD τ) (ms3 t) fullShare (prodAt m c t) := by
  rw [← after3 m c t]
theorem leaves4 (c : Dev nD) (t : Fin cfg0.N) (h : t.val % 4 = 0) :
    (dats m 0 c).leavesExact 4 t = owns (c : Thread nD τ) (ms4 t) fullShare (normAt m c t) := by
  rw [← after4 m c t]; unfold Dat.leavesExact; rw [live4 t h]
theorem leaves4_later (c : Dev nD) (t : Fin cfg0.N) (h : ¬ t.val % 4 = 0) :
    owns (c : Thread nD τ) (ms4 t) fullShare (normAt m c t) ⊢ (dats m 0 c).leavesExact 4 t := by
  unfold Dat.leavesExact; rw [idle4 t h]
  cases hf : (cfg0.win 4).flush t with
  | true => simp only [hf]; rw [after4]
  | false =>
    simp only [hf, before4 m c t h]
    iintro H
    iexists (normAt m c t); iexact H

set_option maxHeartbeats 3200000 in
theorem body_first (c : Dev nD) (t : Fin cfg0.N) (h : t.val % 4 = 0) :
    iprop((iprop((∃ d, owns (c : Thread nD τ) kept fullShare d)) ∗ (∃ r, prngReg c r)) ∗ (dats m 0 c).owesAt () t.castSucc
      ∗ (∃ d : Unit, owns (c : Thread nD τ) (ms0 t) fullShare (iblk m c 0 t))
      ∗ (∃ d : Unit, owns (c : Thread nD τ) (ms1 t) fullShare (iblk m c 1 t))
      ∗ (∃ d : Unit, owns (c : Thread nD τ) (ms2 t) fullShare (iblk m c 2 t))
      ∗ (∃ d, owns (c : Thread nD τ) (ms3 t) fullShare d) ∗ (∃ d, owns (c : Thread nD τ) (ms4 t) fullShare d))
      ⊢ wp frame (wpE (defs₀ (F := F)) Variants.none c none) Set.univ (bodyAt0 t) (fun _ => atEnd m c t) := by
  unfold atEnd bodyAt0
  rw [show (dats m 0 c).owesAt () t.succ = (dats m 0 c).owesAt () t.castSucc from rfl,
    show (dats m 0 c).Φ t.succ = Inv m c (t.val + 1) t.isLt from rfl, inv_succ,
    leaves0, leaves1, leaves2, leaves3, leaves4 m c t h]
  iintro ⟨⟨HS, Hg⟩, Ho, ⟨%d0, H0⟩, ⟨%d1, H1⟩, ⟨%d2, H2⟩, H3, H4⟩
  iapply ((runFirst c (grid0.coords t) _ _ _ _ _ _ _ _ _ _ _ _ ((first_iff t).mpr h) (iblk m c 0 t) (iblk m c 1 t) (iblk m c 2 t)).2.2.2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, ⟨%e3, H3⟩, ⟨%e4, H4⟩, ⟨%es, HS⟩⟩
  isplitl [HS Hg]
  · isplitl [HS]
    · unfold owns; iexists _; isplitr
      swap; · iexact HS
      ipureintro; exact (firstS c _ _ _ _ _ _ _ _ _ _ _ _ _ _ _ _ _ _ _).trans (tileAt_first m c t h).symm
    iexact Hg
  isplitl [Ho]; · iexact Ho
  isplitl [H0]; · iexact H0
  isplitl [H1]; · iexact H1
  isplitl [H2]; · iexact H2
  isplitl [H3]
  · unfold owns; iexists _; isplitr
    swap; · iexact H3
    ipureintro
    refine (first3 c _ _ _ _ _ _ _ _ _ _ _ _ _ _ _ _ _ _ _).trans ?_
    unfold prodAt; rw [tileAt_first m c t h]
  unfold owns; iexists _; isplitr
  swap; · iexact H4
  ipureintro; exact (first4 c _ _ _ _ _ _ _ _ _ _ _ _ _ _ _ _ _ _ _).trans (normAt_first m c t h).symm

set_option maxHeartbeats 3200000 in
theorem body_later (c : Dev nD) (t : Fin cfg0.N) (h : ¬ t.val % 4 = 0) :
    iprop((iprop(owns (c : Thread nD τ) kept fullShare (tileAt m c t)) ∗ (∃ r, prngReg c r)) ∗ (dats m 0 c).owesAt () t.castSucc
      ∗ (∃ d : Unit, owns (c : Thread nD τ) (ms0 t) fullShare (iblk m c 0 t))
      ∗ (∃ d : Unit, owns (c : Thread nD τ) (ms1 t) fullShare (iblk m c 1 t))
      ∗ (∃ d : Unit, owns (c : Thread nD τ) (ms2 t) fullShare (iblk m c 2 t))
      ∗ (∃ d, owns (c : Thread nD τ) (ms3 t) fullShare d) ∗ owns (c : Thread nD τ) (ms4 t) fullShare (normAt m c t))
      ⊢ wp frame (wpE (defs₀ (F := F)) Variants.none c none) Set.univ (bodyAt0 t) (fun _ => atEnd m c t) := by
  unfold atEnd bodyAt0
  rw [show (dats m 0 c).owesAt () t.succ = (dats m 0 c).owesAt () t.castSucc from rfl,
    show (dats m 0 c).Φ t.succ = Inv m c (t.val + 1) t.isLt from rfl, inv_succ,
    leaves0, leaves1, leaves2, leaves3]
  iintro ⟨⟨HS, Hg⟩, Ho, ⟨%d0, H0⟩, ⟨%d1, H1⟩, ⟨%d2, H2⟩, H3, H4⟩
  iapply ((runLater c (grid0.coords t) _ _ _ _ _ _ _ _ _ _ _ _ (fun hc => h ((first_iff t).mp hc)) (iblk m c 0 t) (iblk m c 1 t) (iblk m c 2 t)
    (normAt m c t) (tileAt m c t)).2 Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, ⟨%e3, H3⟩, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact later3 c _ _ _ _ _ _ _ _ _ _ _ _ _ _ _ _ _ _ _ _ _
  iapply (leaves4_later m c t h); iexact H4

set_option maxHeartbeats 1600000 in
theorem body_at (c : Dev nD) (t : Fin cfg0.N) :
    atStart m c t ⊢ wp frame (wpE (defs₀ (F := F)) Variants.none c none) Set.univ (bodyAt0 t) (fun _ => atEnd m c t) := by
  unfold atStart
  simp only [before0, before1, before2]
  rw [inv_cast]
  by_cases h : t.val % 4 = 0
  · refine (?_ : _ ⊢ _).trans (body_first m c t h)
    by_cases hz : t.val = 0
    · rw [inv_zero m c _ _ hz, scratch_eq]
      iintro ⟨HP, Ho, ⟨%d0, H0⟩, ⟨%d1, H1⟩, ⟨%d2, H2⟩, ⟨%d3, H3⟩, ⟨%d4, H4⟩⟩
      isplitl [HP]; · iexact HP
      isplitl [Ho]; · iexact Ho
      isplitl [H0]; · iexists (); iexact H0
      isplitl [H1]; · iexists (); iexact H1
      isplitl [H2]; · iexists (); iexact H2
      isplitl [H3]; · iexists _; iexact H3
      iexists _; iexact H4
    · rw [inv_pos m c _ _ hz]
      iintro ⟨⟨HS, Hg⟩, Ho, ⟨%d0, H0⟩, ⟨%d1, H1⟩, ⟨%d2, H2⟩, ⟨%d3, H3⟩, ⟨%d4, H4⟩⟩
      isplitl [HS Hg]
      · isplitl [HS]; · iexists _; iexact HS
        iexact Hg
      isplitl [Ho]; · iexact Ho
      isplitl [H0]; · iexists (); iexact H0
      isplitl [H1]; · iexists (); iexact H1
      isplitl [H2]; · iexists (); iexact H2
      isplitl [H3]; · iexists _; iexact H3
      iexists _; iexact H4
  · refine (?_ : _ ⊢ _).trans (body_later m c t h)
    have hz : t.val ≠ 0 := fun e => h (by rw [e])
    rw [inv_pos m c _ _ hz, tileAt_pred m c t h]
    simp only [before4 m c t h]
    iintro ⟨HP, Ho, ⟨%d0, H0⟩, ⟨%d1, H1⟩, ⟨%d2, H2⟩, ⟨%d3, H3⟩, ⟨%d4, H4⟩⟩
    isplitl [HP]; · iexact HP
    isplitl [Ho]; · iexact Ho
    isplitl [H0]; · iexists (); iexact H0
    isplitl [H1]; · iexists (); iexact H1
    isplitl [H2]; · iexists (); iexact H2
    isplitl [H3]; · iexists _; iexact H3
    iexact H4

theorem table_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, table_row]
  exact triple_restated (body_at m c t) rfl .rfl fun _ => .rfl

theorem enter (c : Dev nD) : Pipeline.ΦA spec0 c ⊢ (dats m 0 c).Φ 0 := by
  rw [show (dats m 0 c).Φ 0 = Inv m c 0 (Nat.zero_le _) from rfl, inv_zero m c 0 _ rfl]

theorem leave (c : Dev nD) : (dats m 0 c).Φ (Fin.last cfg0.N) ⊢ Pipeline.ΦA spec0 c := by
  have hz : (Fin.last cfg0.N).val ≠ 0 := by rw [Fin.val_last, size]; decide
  rw [show (dats m 0 c).Φ (Fin.last cfg0.N) = Inv m c (Fin.last cfg0.N).val (Nat.le_of_lt_succ (Fin.last cfg0.N).isLt) from rfl,
    inv_pos m c _ _ hz, scratch_eq]
  iintro ⟨HS, Hg⟩
  isplitl [HS]; · iexists _; iexact HS
  iexact Hg

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiet m ρ)

/-- Every run ends, leaves the arguments alone and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.NormKv
end
-- ==== Proof.NormPlain.lean ====
module

public import proofs.«01_k».proof.Proof.NormBFrame
public import proofs.«01_k».proof.Proof.NormAFrame
public import proofs.«01_k».proof.Proof.NormKvFrame
public import proofs.«01_k».proof.Proof.Gen.Kernel10.Frame
public import proofs.«01_k».proof.Proof.Gen.Kernel11.Frame
public import proofs.«01_k».proof.Proof.Gen.Kernel12.Frame
public import proofs.«01_k».proof.Defs

@[expose] public section

/-! # The forward products behind a norm: the frames of the kernels as printed

The program printed for bits and the one printed for exact arithmetic are the same text, so that a run of the one at
bits is a run of the other. -/

set_option maxRecDepth 16384

noncomputable section
namespace Cert.NormPlain
open Idealize.ShloMosaic Idealize.ShloMosaic.TcCoe Idealize.SL.Sem

variable {F : FTy → Type} [FloatOps F]

theorem table10 : Cert.Kernel10.defs₀ (F := F) = Cert.Kernel10Ideal.defs₀ (F := F) := by
  unfold Cert.Kernel10.defs₀ Cert.Kernel10Ideal.defs₀
  refine congrArg Defs.onTc ?_
  funext l a
  match l, a with
  | 0, (t, s) => rfl
theorem defs10 : Cert.Kernel10.defs (F := F) = Cert.Kernel10Ideal.defs (F := F) := congrArg (Pipeline.defs _) table10
theorem main10 : Cert.Kernel10.main (F := F) = Cert.Kernel10Ideal.main (F := F) := rfl

theorem frame10 : Cert.quiescent_Kernel10 := fun m ρ _ => by
  have h := Cert.NormB.frame (F := Bits) m ρ
  rw [← defs10, ← main10] at h
  exact h

theorem table11 : Cert.Kernel11.defs₀ (F := F) = Cert.Kernel11Ideal.defs₀ (F := F) := by
  unfold Cert.Kernel11.defs₀ Cert.Kernel11Ideal.defs₀
  refine congrArg Defs.onTc ?_
  funext l a
  match l, a with
  | 0, (t, s) => rfl
theorem defs11 : Cert.Kernel11.defs (F := F) = Cert.Kernel11Ideal.defs (F := F) := congrArg (Pipeline.defs _) table11
theorem main11 : Cert.Kernel11.main (F := F) = Cert.Kernel11Ideal.main (F := F) := rfl

theorem frame11 : Cert.quiescent_Kernel11 := fun m ρ _ => by
  have h := Cert.NormA.frame (F := Bits) m ρ
  rw [← defs11, ← main11] at h
  exact h

theorem table12 : Cert.Kernel12.defs₀ (F := F) = Cert.Kernel12Ideal.defs₀ (F := F) := by
  unfold Cert.Kernel12.defs₀ Cert.Kernel12Ideal.defs₀
  refine congrArg Defs.onTc ?_
  funext l a
  match l, a with
  | 0, (t, s) => rfl
theorem defs12 : Cert.Kernel12.defs (F := F) = Cert.Kernel12Ideal.defs (F := F) := congrArg (Pipeline.defs _) table12
theorem main12 : Cert.Kernel12.main (F := F) = Cert.Kernel12Ideal.main (F := F) := rfl

theorem frame12 : Cert.quiescent_Kernel12 := fun m ρ _ => by
  have h := Cert.NormKv.frame (F := Bits) m ρ
  rw [← defs12, ← main12] at h
  exact h

end Cert.NormPlain
end
-- ==== Proof.Sums.lean ====
module

public import Idealize.ShloMosaic.Lib.Pipeline.ValueKit
public import Idealize.ShloMosaic.Lib.Pointwise
public import Idealize.ShloMosaic.Lib.Pipeline.ReadBack
public import Idealize.ShloMosaic.PureOps.Ideal

@[expose] public section

/-! # Arrays read at numbers, and sums over blocks of rows -/

noncomputable section
namespace Cert.Lin
open Idealize.ShloMosaic

/-- The entry of a two-axis array at two numbers: zero outside the array. -/
def at2 {a b : ℕ} (v : (⟨2, ![a, b]⟩ : Shape).Idx → EReal) (r q : ℕ) : EReal :=
  if h : r < a ∧ q < b then v (ix2 ⟨r, h.1⟩ ⟨q, h.2⟩) else 0

theorem at2_eq {a b : ℕ} (v : (⟨2, ![a, b]⟩ : Shape).Idx → EReal) {r q : ℕ} (hr : r < a) (hq : q < b) : at2 v r q = v (ix2 ⟨r, hr⟩ ⟨q, hq⟩) :=
  dif_pos ⟨hr, hq⟩

/-- A load of a rectangle of a two-axis array. -/
theorem ld_at2 {A N a n o p : ℕ} (X : (⟨2, ![A, N]⟩ : Shape).Idx → Elt Ideal .f32)
    (inb : ∀ x, (![o, p] : Fin 2 → ℕ) x + (![a, n] : Fin 2 → ℕ) x ≤ (⟨2, ![A, N]⟩ : Shape).size x) (r : Fin a) (q : Fin n) :
    View.ld X (Rect.unit (s := ⟨2, ![A, N]⟩) ![o, p] ![a, n] inb) (ix2 r q) = at2 (X : (⟨2, ![A, N]⟩ : Shape).Idx → EReal) (o + r.val) (p + q.val) := by
  refine Eq.trans ?_ (at2_eq (X : (⟨2, ![A, N]⟩ : Shape).Idx → EReal) (lt_of_lt_of_le (Nat.add_lt_add_left r.isLt o) (inb 0))
    (lt_of_lt_of_le (Nat.add_lt_add_left q.isLt p) (inb 1))).symm
  rw [View.ld_unit]
  refine congrArg X (funext fun x => ?_)
  match x with
  | ⟨0, _⟩ => rfl
  | ⟨1, _⟩ => rfl

/-- The sum over the first `n` blocks of `w` numbers and the sum over the next block. -/
theorem sum_next {M : Type*} [AddCommMonoid M] (f : ℕ → M) (w n : ℕ) :
    ∑ t ∈ Finset.range (w * n), f t + ∑ r : Fin w, f (w * n + r.val) = ∑ t ∈ Finset.range (w * (n + 1)), f t := by
  rw [Fin.sum_univ_eq_sum_range (fun r => f (w * n + r)) w, ← Finset.sum_range_add, Nat.mul_add, Nat.mul_one]

end Cert.Lin
end
-- ==== Proof.Dn.lean ====
module

public import proofs.«01_k».proof.Proof.Sums
public import proofs.«01_k».proof.Proof.Spec
public import Mathlib.Data.EReal.Inv

@[expose] public section

/-! # The gradient of a norm and of the product after it, at one token and one channel

The kernel scales the whole bracket by the inverse root, the reference adds the parts. Both are the same over the
extended reals without any condition on the entries: where a token's mean square is infinite its inverse root is zero,
and where it is real the token's own entries are real, so that the one sum that may be infinite meets real factors only. -/

noncomputable section
namespace Cert.Dn
open Idealize.ShloMosaic

/-- The two-axis entry of a three-axis array at numbers: zero outside the array. -/
def at3 {a b c : ℕ} (v : (⟨3, ![a, b, c]⟩ : Shape).Idx → EReal) (p r q : ℕ) : EReal :=
  if h : p < a ∧ r < b ∧ q < c then v (ix3 ⟨p, h.1⟩ ⟨r, h.2.1⟩ ⟨q, h.2.2⟩) else 0

theorem at3_eq {a b c : ℕ} (v : (⟨3, ![a, b, c]⟩ : Shape).Idx → EReal) {p r q : ℕ} (hp : p < a) (hr : r < b) (hq : q < c) :
    at3 v p r q = v (ix3 ⟨p, hp⟩ ⟨r, hr⟩ ⟨q, hq⟩) :=
  dif_pos ⟨hp, hr, hq⟩

abbrev n2048 : EReal := Ideal.ofBits .f32 0x45000000#32
abbrev eps : EReal := Ideal.ofBits .f32 0x358637BD#32
abbrev mhalf : EReal := Ideal.ofBits .f32 0xBF000000#32

/-- A token's mean square, with the small constant. -/
abbrev var (x : ℕ → EReal) : EReal := Ideal.div (∑ c : Fin 2048, x c.val * x c.val) n2048 + eps
abbrev root (x : ℕ → EReal) : EReal := Ideal.rsqrt (var x)
/-- The kernel's form: `d` the product's gradient at the token, `g` the gain, `s` what is added to. -/
abbrev kdx (x d g : ℕ → EReal) (s : EReal) (q : ℕ) : EReal :=
  s + root x * (d q * g q - x q * root x * Ideal.div (∑ c : Fin 2048, d c.val * g c.val * (x c.val * root x)) n2048)
/-- The reference's form. -/
abbrev slope (x d g : ℕ → EReal) : EReal :=
  Ideal.div ((∑ c : Fin 2048, x c.val * (d c.val * g c.val)) * (mhalf * Ideal.div (root x) (var x))) n2048
abbrev rdx (x d g : ℕ → EReal) (s : EReal) (q : ℕ) : EReal :=
  s + (d q * g q * root x + x q * slope x d g + slope x d g * x q)

theorem n2048_eq : n2048 = ((2048 : ℝ) : EReal) := by
  simp [n2048, Ideal.ofBits, Ideal.ieee]
  rw [← EReal.coe_mul]
  norm_num
theorem mhalf_eq : mhalf = ((-(1 / 2) : ℝ) : EReal) := by
  simp [mhalf, Ideal.ofBits, Ideal.ieee]
  rw [← EReal.coe_mul]
  norm_num
theorem eps_eq : ∃ e : ℝ, 0 < e ∧ eps = (e : EReal) := by
  refine ⟨8796093 * 2⁻¹ ^ 43, by positivity, ?_⟩
  simp [eps, Ideal.ofBits, Ideal.ieee]

theorem div_2048 (y : EReal) : Ideal.div y n2048 = y * (((1 / 2048 : ℝ)) : EReal) := by
  rw [n2048_eq, Ideal.div_coe (by norm_num)]

/-- A nonnegative real factor is taken out of a sum. -/
theorem sum_mul {ι : Type*} (s : Finset ι) (f : ι → EReal) {r : ℝ} (hr : 0 ≤ r) : ∑ k ∈ s, f k * (r : EReal) = (∑ k ∈ s, f k) * (r : EReal) := by
  classical
  induction s using Finset.induction_on with
  | empty => simp
  | insert a t h ih =>
    rw [Finset.sum_insert h, Finset.sum_insert h, ih, EReal.right_distrib_of_nonneg_of_ne_top (EReal.coe_nonneg.2 hr) (EReal.coe_ne_top r)]

theorem square_nonneg (y : EReal) : 0 ≤ y * y := by
  rcases le_total 0 y with h | h
  · exact mul_nonneg h h
  · have := mul_nonneg (EReal.neg_nonneg.2 h) (EReal.neg_nonneg.2 h)
    rwa [neg_mul_neg] at this

/-- The mean square is infinite, or it is a positive real number and so is every entry real. -/
theorem var_cases (x : ℕ → EReal) : var x = ⊤ ∨ ∃ v : ℝ, 0 < v ∧ var x = (v : EReal) ∧ ∀ q : ℕ, q < 2048 → ∃ r : ℝ, x q = (r : EReal) := by
  obtain ⟨e, he, ee⟩ := eps_eq
  have h0 : 0 ≤ ∑ c : Fin 2048, x c.val * x c.val := Finset.sum_nonneg fun c _ => square_nonneg _
  unfold var
  rw [div_2048, ee]
  by_cases ht : ∑ c : Fin 2048, x c.val * x c.val = ⊤
  · left
    rw [ht, EReal.top_mul_coe_of_pos (by norm_num), EReal.top_add_coe]
  · right
    have hb : ∑ c : Fin 2048, x c.val * x c.val ≠ ⊥ := fun h => by rw [h] at h0; simp at h0
    have hx : ∀ q : ℕ, q < 2048 → ∃ r : ℝ, x q = (r : EReal) := by
      intro q hq
      have hle : x q * x q ≤ ∑ c : Fin 2048, x c.val * x c.val :=
        Finset.single_le_sum (f := fun c : Fin 2048 => x c.val * x c.val) (fun c _ => square_nonneg _) (Finset.mem_univ (⟨q, hq⟩ : Fin 2048))
      have hlt : x q * x q < ⊤ := lt_of_le_of_lt hle (lt_top_iff_ne_top.2 ht)
      refine ⟨(x q).toReal, (EReal.coe_toReal (fun h => ?_) (fun h => ?_)).symm⟩
      · rw [h] at hlt; simp at hlt
      · rw [h] at hlt; simp at hlt
    generalize hS : ∑ c : Fin 2048, x c.val * x c.val = S at h0 ht hb ⊢
    lift S to ℝ using ⟨ht, hb⟩
    have h0' : 0 ≤ S := EReal.coe_nonneg.1 h0
    exact ⟨S * (1 / 2048) + e, by positivity, by rw [EReal.coe_add, EReal.coe_mul], hx⟩

/-- The bracket, the sum `T` being any extended real. -/
theorem bracket (a T : EReal) {x i v : ℝ} (hv : 0 < v) (hi : i = (Real.sqrt v)⁻¹) :
    (i : EReal) * (a - (x : EReal) * (i : EReal) * Ideal.div (T * (i : EReal)) n2048)
      = a * (i : EReal) + (x : EReal) * Ideal.div (T * (mhalf * Ideal.div (i : EReal) (v : EReal))) n2048
        + Ideal.div (T * (mhalf * Ideal.div (i : EReal) (v : EReal))) n2048 * (x : EReal) := by
  have hs : 0 < Real.sqrt v := Real.sqrt_pos.2 hv
  have hip : 0 < i := by rw [hi]; positivity
  have hvi : i * i = v⁻¹ := by
    rw [hi, ← mul_inv, Real.mul_self_sqrt hv.le]
  rw [div_2048, div_2048, mhalf_eq, Ideal.div_coe hv.ne', sub_eq_add_neg,
    EReal.left_distrib_of_nonneg_of_ne_top (EReal.coe_nonneg.2 hip.le) (EReal.coe_ne_top i), mul_comm (i : EReal) a, add_assoc]
  congr 1
  rw [← EReal.coe_mul, ← EReal.coe_mul, ← EReal.coe_mul]
  have hneg : -(1 / 2) * (i * (1 / v)) < 0 := by
    have : 0 < i * (1 / v) := by positivity
    linarith
  induction T with
  | coe T =>
    rw [← EReal.coe_mul, ← EReal.coe_mul, ← EReal.coe_mul, ← EReal.coe_neg, ← EReal.coe_mul, ← EReal.coe_mul, ← EReal.coe_mul, ← EReal.coe_mul, ← EReal.coe_mul, ← EReal.coe_add]
    congr 1
    rw [one_div v, ← hvi]
    ring
  | top =>
    rw [EReal.top_mul_coe_of_pos hip, EReal.top_mul_coe_of_neg hneg, EReal.top_mul_coe_of_pos (by norm_num), EReal.bot_mul_coe_of_pos (by norm_num)]
    rcases lt_trichotomy x 0 with h | h | h
    · have h' : x * i < 0 := mul_neg_of_neg_of_pos h hip
      rw [EReal.coe_mul_top_of_neg h', EReal.coe_mul_bot_of_neg h, EReal.bot_mul_coe_of_neg h, EReal.neg_bot, EReal.coe_mul_top_of_pos hip]
      rfl
    · subst h
      simp
    · have h' : 0 < x * i := mul_pos h hip
      rw [EReal.coe_mul_top_of_pos h', EReal.coe_mul_bot_of_pos h, EReal.bot_mul_coe_of_pos h, EReal.neg_top, EReal.coe_mul_bot_of_pos hip]
      rfl
  | bot =>
    rw [EReal.bot_mul_coe_of_pos hip, EReal.bot_mul_coe_of_neg hneg, EReal.top_mul_coe_of_pos (by norm_num), EReal.bot_mul_coe_of_pos (by norm_num)]
    rcases lt_trichotomy x 0 with h | h | h
    · have h' : x * i < 0 := mul_neg_of_neg_of_pos h hip
      rw [EReal.coe_mul_bot_of_neg h', EReal.coe_mul_top_of_neg h, EReal.top_mul_coe_of_neg h, EReal.neg_top, EReal.coe_mul_bot_of_pos hip]
      rfl
    · subst h
      simp
    · have h' : 0 < x * i := mul_pos h hip
      rw [EReal.coe_mul_bot_of_pos h', EReal.coe_mul_top_of_pos h, EReal.top_mul_coe_of_pos h, EReal.neg_bot, EReal.coe_mul_top_of_pos hip]
      rfl

theorem kdx_eq (x d g : ℕ → EReal) (s : EReal) {q : ℕ} (hq : q < 2048) : kdx x d g s q = rdx x d g s q := by
  rcases var_cases x with hT | ⟨v, hv, hV, hx⟩
  · have hi : root x = 0 := by
      unfold root
      rw [hT, Ideal.rsqrt_top]
    unfold kdx rdx slope
    rw [hi, hT]
    have hz : Ideal.div 0 ⊤ = 0 := by simp [Ideal.div]
    rw [hz, mul_zero, mul_zero, div_2048, div_2048]
    simp
  · have hi : root x = (((Real.sqrt v)⁻¹ : ℝ) : EReal) := by
      unfold root
      rw [hV, Ideal.rsqrt_coe, if_neg (not_lt.2 hv.le), if_neg hv.ne']
    have hsum : ∑ c : Fin 2048, d c.val * g c.val * (x c.val * root x) = (∑ c : Fin 2048, x c.val * (d c.val * g c.val)) * root x := by
      rw [hi, ← sum_mul _ _ (by positivity)]
      refine Finset.sum_congr rfl fun c _ => ?_
      rw [mul_comm (x c.val) (d c.val * g c.val), mul_assoc (d c.val * g c.val)]
    obtain ⟨r, hr⟩ := hx q hq
    unfold kdx rdx slope
    rw [hsum, hi, hV, hr, bracket _ _ hv rfl]

theorem root_congr {x y : ℕ → EReal} (h : ∀ k : Fin 2048, x k.val = y k.val) : root x = root y := by
  unfold root var
  simp only [h]

theorem kdx_congr {x y d d' g g' : ℕ → EReal} (h : ∀ k : Fin 2048, x k.val = y k.val) (hd : ∀ k : Fin 2048, d k.val = d' k.val)
    (hg : ∀ k : Fin 2048, g k.val = g' k.val) (s : EReal) (q : Fin 2048) : kdx x d g s q.val = kdx y d' g' s q.val := by
  unfold kdx
  rw [root_congr h]
  simp only [h, hd, hg]

end Cert.Dn
end
-- ==== Proof.NormB.lean ====
module

public import proofs.«01_k».proof.Proof.NormBFrame
public import proofs.«01_k».proof.Proof.Dn

@[expose] public section

/-! # The forward product behind the norm in the attention mixers: what the call leaves -/

set_option maxRecDepth 16384
set_option maxHeartbeats 4000000

noncomputable section
namespace Cert.NormB
open Cert.Kernel10Ideal Cert.Kernel10Ideal.Gen Cert.Lin Cert.Dn Idealize.ShloMosaic Idealize.ShloMosaic.TcCoe Idealize.SL.Sem

theorem i0 : ∀ t : Fin cfg0.N, win0_0.index t = ![t.val / 8, 0] := by decide +kernel
theorem i1 : ∀ t : Fin cfg0.N, win0_1.index t = ![0, 0] := by decide +kernel
theorem i2 : ∀ t : Fin cfg0.N, win0_2.index t = ![t.val % 8, 0, 0] := by decide +kernel
theorem i3 : ∀ t : Fin cfg0.N, win0_3.index t = ![t.val / 8, t.val % 8] := by decide +kernel
theorem i4 : ∀ t : Fin cfg0.N, win0_4.index t = ![t.val / 8, 0] := by decide +kernel

variable (m : (ℓ : Loc nD τ sig) → Buf (Elt Ideal) ℓ) (c : Dev nD)

/-- The arrays that the call reads. -/
abbrev X : FVec Ideal S4096x2048 .f32 := V m c main_arg0
abbrev Gn : FVec Ideal S1x2048 .f32 := V m c main_arg1
abbrev W : FVec Ideal S8x2048x1024 .bf16 := V m c main_v2

theorem blk0 (t : Fin cfg0.N) (r : Fin 1024) (k : Fin 2048) :
    (iblk m c 0 t : FVec Ideal S1024x2048 .f32) (ix2 r k) = at2 (X m c) (1024 * (t.val / 8) + r.val) k.val := by
  have ht : t.val < 32 := lt_of_lt_of_eq t.isLt size
  rw [at2_eq (X m c) (show 1024 * (t.val / 8) + r.val < 4096 by omega) k.isLt]
  blk_ext [iblk, i0 t]

theorem blk1 (t : Fin cfg0.N) (z : Fin 1) (k : Fin 2048) : (iblk m c 1 t : FVec Ideal S1x2048 .f32) (ix2 z k) = at2 (Gn m c) 0 k.val := by
  rw [at2_eq (Gn m c) (by omega) k.isLt]
  blk_ext [iblk, i1 t]

/-- The weight's entry, whichever block it lies in. -/
abbrev wt (k q : ℕ) : EReal := at3 (W m c) (q / 1024) k (q % 1024)

theorem blk2 (t : Fin cfg0.N) (z : Fin 1) (k : Fin 2048) (q : Fin 1024) :
    (iblk m c 2 t : FVec Ideal S1x2048x1024 .bf16) (ix3 z k q) = wt m c k.val (1024 * (t.val % 8) + q.val) := by
  unfold wt
  rw [show (1024 * (t.val % 8) + q.val) / 1024 = t.val % 8 by omega, show (1024 * (t.val % 8) + q.val) % 1024 = q.val by omega,
    at3_eq (W m c) (show t.val % 8 < 8 by omega) k.isLt q.isLt]
  blk_ext [iblk, i2 t]

/-- A normed entry. -/
abbrev nrm (t k : ℕ) : EReal := at2 (X m c) t k * root (fun l => at2 (X m c) t l) * at2 (Gn m c) 0 k

theorem pay1 (x : FVec Ideal S1024x2048 .f32) (g : FVec Ideal S1x2048 .f32) (r : Fin 1024) (k : Fin 2048) :
    k0_pay1 (F := Ideal) x g (ix2 r k) = x (ix2 r k) * root (fun l => at2 x r.val l) * g (ix2 0 k) := by
  have e : ∀ (l : Fin 2048), at2 x r.val l.val = x (ix2 r l) := fun l => at2_eq x r.isLt l.isLt
  unfold root var
  simp only [e]
  unfold_payloads
  pointwise

theorem pay2 (x : FVec Ideal S1024x2048 .f32) (g : FVec Ideal S1x2048 .f32) (r : Fin 1024) (k : Fin 2048) :
    k0_pay2 (F := Ideal) x g (ix2 r k) = k0_pay1 (F := Ideal) x g (ix2 r k) := by
  unfold k0_pay2
  generalize k0_pay1 (F := Ideal) x g = y
  pointwise

theorem pay3 (h : FVec Ideal S1024x2048 .bf16) (w : FVec Ideal S1x2048x1024 .bf16) (r : Fin 1024) (q : Fin 1024) :
    k0_pay3 (F := Ideal) h w (ix2 r q) = ∑ k : Fin 2048, h (ix2 r k) * w (ix3 0 k q) := by
  unfold_payloads
  pointwise

theorem norm_at (t : Fin cfg0.N) (r : Fin 1024) (k : Fin 2048) : normAt m c t (ix2 r k) = nrm m c (1024 * (t.val / 8) + r.val) k.val := by
  unfold normAt
  refine (pay1 _ _ r k).trans ?_
  have hs : (start t).val / 8 = t.val / 8 := by show t.val / 8 * 8 / 8 = t.val / 8; omega
  have e : ∀ l : Fin 2048, at2 (iblk m c 0 (start t) : FVec Ideal S1024x2048 .f32) r.val l.val = at2 (X m c) (1024 * (t.val / 8) + r.val) l.val := fun l => by
    rw [at2_eq (iblk m c 0 (start t) : FVec Ideal S1024x2048 .f32) r.isLt l.isLt, ← hs]
    exact blk0 m c (start t) r l
  unfold nrm root var
  simp only [e]
  rw [blk0, blk1, hs]

theorem tile_at (t : Fin cfg0.N) (r : Fin 1024) (k : Fin 2048) : tileAt m c t (ix2 r k) = nrm m c (1024 * (t.val / 8) + r.val) k.val :=
  (pay2 _ _ r k).trans (norm_at m c t r k)

/-- The product. -/
abbrev prod (t q : ℕ) : EReal := ∑ k : Fin 2048, nrm m c t k.val * wt m c k.val q

theorem prod_at (t : Fin cfg0.N) (r : Fin 1024) (q : Fin 1024) :
    prodAt m c t (ix2 r q) = prod m c (1024 * (t.val / 8) + r.val) (1024 * (t.val % 8) + q.val) := by
  unfold prodAt prod
  refine (pay3 _ _ r q).trans (Finset.sum_congr rfl fun k _ => ?_)
  rw [tile_at]
  exact congrArg (nrm m c _ _ * ·) (blk2 m c t 0 k q)

def G3 : FVec Ideal S4096x8192 .f32 := fun y => prod m c (y 0).val (y 1).val
def G4 : FVec Ideal S4096x2048 .bf16 := fun y => nrm m c (y 0).val (y 1).val

theorem array3 : (dats m 0 c).arrAt 3 cfg0.N = G3 m c := by
  refine (dats m 0 c).arrAt_eq_of_covers 3 _ (by decide +kernel) fun t hf y => ?_
  blk_simp
  rw [after3]
  obtain ⟨r, q, rfl⟩ : ∃ (r : Fin 1024) (q : Fin 1024), y = (ix2 r q : S1024x1024.Idx) := ⟨y 0, y 1, (ix2_eta (y : S1024x1024.Idx)).symm⟩
  refine (prod_at m c t r q).trans ?_
  have h0 : (((win0_3.blk t).view.emb (ix2 r q : S1024x1024.Idx) : S4096x8192.Idx) 0).val = 1024 * (t.val / 8) + r.val := by
    blk_simp [i3 t]
    omega
  have h1 : (((win0_3.blk t).view.emb (ix2 r q : S1024x1024.Idx) : S4096x8192.Idx) 1).val = 1024 * (t.val % 8) + q.val := by
    blk_simp [i3 t]
    omega
  show _ = prod m c _ _
  rw [h0, h1]

theorem array4 : (dats m 0 c).arrAt 4 cfg0.N = G4 m c := by
  refine (dats m 0 c).arrAt_eq_of_covers 4 _ (by decide +kernel) fun t hf y => ?_
  blk_simp
  rw [after4]
  obtain ⟨r, k, rfl⟩ : ∃ (r : Fin 1024) (k : Fin 2048), y = (ix2 r k : S1024x2048.Idx) := ⟨y 0, y 1, (ix2_eta (y : S1024x2048.Idx)).symm⟩
  refine (norm_at m c t r k).trans ?_
  have h0 : (((win0_4.blk t).view.emb (ix2 r k : S1024x2048.Idx) : S4096x2048.Idx) 0).val = 1024 * (t.val / 8) + r.val := by
    blk_simp [i4 t]
    omega
  have h1 : (((win0_4.blk t).view.emb (ix2 r k : S1024x2048.Idx) : S4096x2048.Idx) 1).val = k.val := by
    blk_simp [i4 t]
  show _ = nrm m c _ _
  rw [h0, h1]

/-- Every run ends with the results above, and leaves the arguments alone. -/
theorem run (ρ : Dev nD → PrngReg) : θ_run defs (onTc (τ := τ) (main (F := Ideal))) ⟨m, fun _ => 0, ρ⟩ fun r => ∀ c : Dev nD,
      r.2.mem ((c.tc : Thread nD τ).loc main_v3_0) = G3 m c
      ∧ r.2.mem ((c.tc : Thread nD τ).loc main_v3_1) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 3 |>.trans (array3 m c), (h.1 c).1 4 |>.trans (array4 m c), h.2.1 c⟩)
    (θ_run_and (run_main m ρ) (frame m ρ))

end Cert.NormB
end
-- ==== Proof.AlgNormB.lean ====
module

public import proofs.«01_k».proof.Proof.NormB
public import proofs.«01_k».proof.Proof.Gen.Reference10Ideal.Run
public import proofs.«01_k».proof.Proof.Gen.Reference10Ideal.Read
public import proofs.«01_k».proof.Defs

@[expose] public section

/-! # The forward product behind the norm in the attention mixers: the call's results are the reference's -/

set_option maxRecDepth 16384
set_option maxHeartbeats 4000000

noncomputable section
namespace Cert.NormB
open Cert.Kernel10Ideal Cert.Kernel10Ideal.Gen Cert.Lin Cert.Dn Cert.Reference10Ideal.Read Idealize.ShloMosaic Idealize.ShloMosaic.TcCoe Idealize.SL.Sem

section Reference
variable (A0 : FVec Ideal S4096x2048 .f32) (A1 : FVec Ideal S1x2048 .f32) (A2 : FVec Ideal S2048x8192 .f32)

theorem self (i : S4096x2048.Idx) : A0 i = at2 A0 (i 0).val (i 1).val := by
  rw [at2_eq A0 (i 0).isLt (i 1).isLt]
  exact congrArg A0 (ix2_eta i).symm

theorem v7 (i : Cert.Reference10Ideal.S4096x1.Idx) : val_main_v7 (F := Ideal) A0 i = root (at2 A0 (i 0).val) := by
  rw [val_main_v7_apply, val_main_v6_apply, val_main_v4_apply, val_main_v2_apply, val_main_v3_apply, val_main_v5_apply, val_main_v1_apply]
  have e : ∀ k : Fin 2048, val_main_v0 (F := Ideal) A0 (idx_main_v1 (idx_main_v2 i) k) = at2 A0 (i 0).val k.val * at2 A0 (i 0).val k.val := fun k => by
    rw [val_main_v0_apply, self A0]
    rfl
  simp only [e]
  show Ideal.rsqrt (Ideal.div (Ideal.ofBits .f32 0x00000000#32 + _) n2048 + eps) = _
  rw [Ideal.ofBits_zero_f32, zero_add]

abbrev rnrm (t k : ℕ) : EReal := at2 A0 t k * root (at2 A0 t) * at2 A1 0 k

theorem v11 (i : S4096x2048.Idx) : val_main_v11 (F := Ideal) A0 A1 i = rnrm A0 A1 (i 0).val (i 1).val := by
  rw [val_main_v11_apply, val_main_v9_apply, val_main_v8_apply, v7, val_main_v10_apply, self A0]
  unfold rnrm
  rw [at2_eq A1 (by omega) (i 1).isLt]
  refine congrArg (at2 A0 (i 0).val (i 1).val * root (at2 A0 (i 0).val) * ·) (congrArg A1 (funext fun a => ?_))
  match a with
  | ⟨0, _⟩ => rfl
  | ⟨1, _⟩ => rfl

theorem v12 (i : S4096x8192.Idx) : val_main_v12 (F := Ideal) A0 A1 A2 i = ∑ k : Fin 2048, rnrm A0 A1 (i 0).val k.val * at2 A2 k.val (i 1).val := by
  rw [val_main_v12_apply]
  refine Finset.sum_congr rfl fun k _ => ?_
  rw [v11, at2_eq A2 k.isLt (i 1).isLt]
  refine congrArg (rnrm A0 A1 (i 0).val k.val * ·) (congrArg A2 (funext fun a => ?_))
  match a with
  | ⟨0, _⟩ => rfl
  | ⟨1, _⟩ => rfl

end Reference

variable (m : (ℓ : Loc nD τ sig) → Buf (Elt Ideal) ℓ) (c : Dev nD)

abbrev B0 : FVec Ideal S4096x2048 .f32 := m ((c : Thread nD τ).loc main_arg0)
abbrev B1 : FVec Ideal S1x2048 .f32 := m ((c : Thread nD τ).loc main_arg1)
abbrev B2 : FVec Ideal S2048x8192 .f32 := m ((c : Thread nD τ).loc main_arg2)

theorem nrm_eq (t k : ℕ) : nrm m c t k = rnrm (B0 m c) (B1 m c) t k := by
  unfold nrm rnrm X Gn
  rw [V_main_arg0, V_main_arg1]

/-- The blocks that the host cuts the weight into. -/
theorem W_eq (a : Fin 8) (q : Fin 2048) (k : Fin 1024) : W m c (ix3 a q k) = at2 (B2 m c) q.val (1024 * a.val + k.val) := by
  rw [at2_eq (B2 m c) q.isLt (show 1024 * a.val + k.val < 8192 by omega)]
  unfold W
  entry_read
  refine (transpose_apply [1, 0, 2] _ transposes_S2048x8x1024_S8x2048x1024_1_0_2 (ix3 a q k : S8x2048x1024.Idx) (ix3 q a k : S2048x8x1024.Idx) (fun b => ?_)).trans ?_
  · match b with
    | ⟨0, _⟩ => rfl
    | ⟨1, _⟩ => rfl
    | ⟨2, _⟩ => rfl
  refine (shapeCast_apply _ shapeCasts_S2048x8192_S2048x8x1024 (ix3 q a k : S2048x8x1024.Idx)
    (ix2 ⟨q.val, q.isLt⟩ ⟨1024 * a.val + k.val, by omega⟩ : S2048x8192.Idx) ?_).trans rfl
  rw [Shape.rowMajor_val_two, Shape.rowMajor_val_three]
  show q.val * 8192 + (1024 * a.val + k.val) = (q.val * 8 + a.val) * 1024 + k.val
  omega

theorem wt_eq (k : Fin 2048) (q : ℕ) (hq : q < 8192) : wt m c k.val q = at2 (B2 m c) k.val q := by
  unfold wt
  rw [at3_eq (W m c) (show q / 1024 < 8 by omega) k.isLt (show q % 1024 < 1024 by omega), W_eq]
  show at2 (B2 m c) k.val (1024 * (q / 1024) + q % 1024) = _
  rw [Nat.div_add_mod]

theorem eq3 (i : S4096x8192.Idx) : val_main_v12 (F := Ideal) (B0 m c) (B1 m c) (B2 m c) i = G3 m c i := by
  have h1 : (i 1).val < 8192 := (i 1).isLt
  rw [v12]
  unfold G3 prod
  refine Finset.sum_congr rfl fun k _ => ?_
  rw [wt_eq m c k _ h1, nrm_eq]

theorem eq4 (i : S4096x2048.Idx) : val_main_v13 (F := Ideal) (B0 m c) (B1 m c) i = G4 m c i := by
  rw [val_main_v13_apply, Ideal.truncf_def, v11]
  exact (nrm_eq m c _ _).symm

theorem algebraic : Cert.algebraic_Kernel10Ideal_Reference10Ideal := by
  intro m g m' g' hpre hagree
  refine ⟨fun c => G3 m c, fun c => G4 m c, run m g, ?_⟩
  refine (θ_run Cert.Reference10Ideal.defs _ _).mono (fun r h c => ?_) (Cert.Reference10Ideal.Value.run (F := Ideal) m' g')
  obtain ⟨h0, h1, hargs⟩ := h c
  obtain ⟨a0, a1, a2⟩ := hagree c
  refine ⟨h0.trans ?_, h1.trans ?_, hargs⟩
  · refine (val_main_v12_eq _ _ _).trans ?_
    rw [a0, a1, a2]
    exact funext fun i => eq3 m c i
  · refine (val_main_v13_eq _ _).trans ?_
    rw [a0, a1]
    exact funext fun i => eq4 m c i

end Cert.NormB
end
-- ==== Proof.NormA.lean ====
module

public import proofs.«01_k».proof.Proof.NormAFrame
public import proofs.«01_k».proof.Proof.Dn

@[expose] public section

/-! # The forward product behind the norm in the pooling mixers: what the call leaves -/

set_option maxRecDepth 16384
set_option maxHeartbeats 4000000

noncomputable section
namespace Cert.NormA
open Cert.Kernel11Ideal Cert.Kernel11Ideal.Gen Cert.Lin Cert.Dn Idealize.ShloMosaic Idealize.ShloMosaic.TcCoe Idealize.SL.Sem

theorem i0 : ∀ t : Fin cfg0.N, win0_0.index t = ![t.val / 8, 0] := by decide +kernel
theorem i1 : ∀ t : Fin cfg0.N, win0_1.index t = ![0, 0] := by decide +kernel
theorem i2 : ∀ t : Fin cfg0.N, win0_2.index t = ![t.val % 8, 0, 0] := by decide +kernel
theorem i3 : ∀ t : Fin cfg0.N, win0_3.index t = ![t.val / 8, t.val % 8] := by decide +kernel
theorem i4 : ∀ t : Fin cfg0.N, win0_4.index t = ![t.val / 8, 0] := by decide +kernel

variable (m : (ℓ : Loc nD τ sig) → Buf (Elt Ideal) ℓ) (c : Dev nD)

/-- The arrays that the call reads. -/
abbrev X : FVec Ideal S4096x2048 .f32 := V m c main_arg0
abbrev Gn : FVec Ideal S1x2048 .f32 := V m c main_arg1
abbrev W : FVec Ideal S8x2048x512 .bf16 := V m c main_v2

theorem blk0 (t : Fin cfg0.N) (r : Fin 1024) (k : Fin 2048) :
    (iblk m c 0 t : FVec Ideal S1024x2048 .f32) (ix2 r k) = at2 (X m c) (1024 * (t.val / 8) + r.val) k.val := by
  have ht : t.val < 32 := lt_of_lt_of_eq t.isLt size
  rw [at2_eq (X m c) (show 1024 * (t.val / 8) + r.val < 4096 by omega) k.isLt]
  blk_ext [iblk, i0 t]

theorem blk1 (t : Fin cfg0.N) (z : Fin 1) (k : Fin 2048) : (iblk m c 1 t : FVec Ideal S1x2048 .f32) (ix2 z k) = at2 (Gn m c) 0 k.val := by
  rw [at2_eq (Gn m c) (by omega) k.isLt]
  blk_ext [iblk, i1 t]

/-- The weight's entry, whichever block it lies in. -/
abbrev wt (k q : ℕ) : EReal := at3 (W m c) (q / 512) k (q % 512)

theorem blk2 (t : Fin cfg0.N) (z : Fin 1) (k : Fin 2048) (q : Fin 512) :
    (iblk m c 2 t : FVec Ideal S1x2048x512 .bf16) (ix3 z k q) = wt m c k.val (512 * (t.val % 8) + q.val) := by
  unfold wt
  rw [show (512 * (t.val % 8) + q.val) / 512 = t.val % 8 by omega, show (512 * (t.val % 8) + q.val) % 512 = q.val by omega,
    at3_eq (W m c) (show t.val % 8 < 8 by omega) k.isLt q.isLt]
  blk_ext [iblk, i2 t]

/-- A normed entry. -/
abbrev nrm (t k : ℕ) : EReal := at2 (X m c) t k * root (fun l => at2 (X m c) t l) * at2 (Gn m c) 0 k

theorem pay1 (x : FVec Ideal S1024x2048 .f32) (g : FVec Ideal S1x2048 .f32) (r : Fin 1024) (k : Fin 2048) :
    k0_pay1 (F := Ideal) x g (ix2 r k) = x (ix2 r k) * root (fun l => at2 x r.val l) * g (ix2 0 k) := by
  have e : ∀ (l : Fin 2048), at2 x r.val l.val = x (ix2 r l) := fun l => at2_eq x r.isLt l.isLt
  unfold root var
  simp only [e]
  unfold_payloads
  pointwise

theorem pay2 (x : FVec Ideal S1024x2048 .f32) (g : FVec Ideal S1x2048 .f32) (r : Fin 1024) (k : Fin 2048) :
    k0_pay2 (F := Ideal) x g (ix2 r k) = k0_pay1 (F := Ideal) x g (ix2 r k) := by
  unfold k0_pay2
  generalize k0_pay1 (F := Ideal) x g = y
  pointwise

theorem pay3 (h : FVec Ideal S1024x2048 .bf16) (w : FVec Ideal S1x2048x512 .bf16) (r : Fin 1024) (q : Fin 512) :
    k0_pay3 (F := Ideal) h w (ix2 r q) = ∑ k : Fin 2048, h (ix2 r k) * w (ix3 0 k q) := by
  unfold_payloads
  pointwise

theorem norm_at (t : Fin cfg0.N) (r : Fin 1024) (k : Fin 2048) : normAt m c t (ix2 r k) = nrm m c (1024 * (t.val / 8) + r.val) k.val := by
  unfold normAt
  refine (pay1 _ _ r k).trans ?_
  have hs : (start t).val / 8 = t.val / 8 := by show t.val / 8 * 8 / 8 = t.val / 8; omega
  have e : ∀ l : Fin 2048, at2 (iblk m c 0 (start t) : FVec Ideal S1024x2048 .f32) r.val l.val = at2 (X m c) (1024 * (t.val / 8) + r.val) l.val := fun l => by
    rw [at2_eq (iblk m c 0 (start t) : FVec Ideal S1024x2048 .f32) r.isLt l.isLt, ← hs]
    exact blk0 m c (start t) r l
  unfold nrm root var
  simp only [e]
  rw [blk0, blk1, hs]

theorem tile_at (t : Fin cfg0.N) (r : Fin 1024) (k : Fin 2048) : tileAt m c t (ix2 r k) = nrm m c (1024 * (t.val / 8) + r.val) k.val :=
  (pay2 _ _ r k).trans (norm_at m c t r k)

/-- The product. -/
abbrev prod (t q : ℕ) : EReal := ∑ k : Fin 2048, nrm m c t k.val * wt m c k.val q

theorem prod_at (t : Fin cfg0.N) (r : Fin 1024) (q : Fin 512) :
    prodAt m c t (ix2 r q) = prod m c (1024 * (t.val / 8) + r.val) (512 * (t.val % 8) + q.val) := by
  unfold prodAt prod
  refine (pay3 _ _ r q).trans (Finset.sum_congr rfl fun k _ => ?_)
  rw [tile_at]
  exact congrArg (nrm m c _ _ * ·) (blk2 m c t 0 k q)

def G3 : FVec Ideal S4096x4096 .f32 := fun y => prod m c (y 0).val (y 1).val
def G4 : FVec Ideal S4096x2048 .bf16 := fun y => nrm m c (y 0).val (y 1).val

theorem array3 : (dats m 0 c).arrAt 3 cfg0.N = G3 m c := by
  refine (dats m 0 c).arrAt_eq_of_covers 3 _ (by decide +kernel) fun t hf y => ?_
  blk_simp
  rw [after3]
  obtain ⟨r, q, rfl⟩ : ∃ (r : Fin 1024) (q : Fin 512), y = (ix2 r q : S1024x512.Idx) := ⟨y 0, y 1, (ix2_eta (y : S1024x512.Idx)).symm⟩
  refine (prod_at m c t r q).trans ?_
  have h0 : (((win0_3.blk t).view.emb (ix2 r q : S1024x512.Idx) : S4096x4096.Idx) 0).val = 1024 * (t.val / 8) + r.val := by
    blk_simp [i3 t]
    omega
  have h1 : (((win0_3.blk t).view.emb (ix2 r q : S1024x512.Idx) : S4096x4096.Idx) 1).val = 512 * (t.val % 8) + q.val := by
    blk_simp [i3 t]
    omega
  show _ = prod m c _ _
  rw [h0, h1]

theorem array4 : (dats m 0 c).arrAt 4 cfg0.N = G4 m c := by
  refine (dats m 0 c).arrAt_eq_of_covers 4 _ (by decide +kernel) fun t hf y => ?_
  blk_simp
  rw [after4]
  obtain ⟨r, k, rfl⟩ : ∃ (r : Fin 1024) (k : Fin 2048), y = (ix2 r k : S1024x2048.Idx) := ⟨y 0, y 1, (ix2_eta (y : S1024x2048.Idx)).symm⟩
  refine (norm_at m c t r k).trans ?_
  have h0 : (((win0_4.blk t).view.emb (ix2 r k : S1024x2048.Idx) : S4096x2048.Idx) 0).val = 1024 * (t.val / 8) + r.val := by
    blk_simp [i4 t]
    omega
  have h1 : (((win0_4.blk t).view.emb (ix2 r k : S1024x2048.Idx) : S4096x2048.Idx) 1).val = k.val := by
    blk_simp [i4 t]
  show _ = nrm m c _ _
  rw [h0, h1]

/-- Every run ends with the results above, and leaves the arguments alone. -/
theorem run (ρ : Dev nD → PrngReg) : θ_run defs (onTc (τ := τ) (main (F := Ideal))) ⟨m, fun _ => 0, ρ⟩ fun r => ∀ c : Dev nD,
      r.2.mem ((c.tc : Thread nD τ).loc main_v3_0) = G3 m c
      ∧ r.2.mem ((c.tc : Thread nD τ).loc main_v3_1) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 3 |>.trans (array3 m c), (h.1 c).1 4 |>.trans (array4 m c), h.2.1 c⟩)
    (θ_run_and (run_main m ρ) (frame m ρ))

end Cert.NormA
end
-- ==== Proof.AlgNormA.lean ====
module

public import proofs.«01_k».proof.Proof.NormA
public import proofs.«01_k».proof.Proof.Gen.Reference11Ideal.Run
public import proofs.«01_k».proof.Proof.Gen.Reference11Ideal.Read
public import proofs.«01_k».proof.Defs

@[expose] public section

/-! # The forward product behind the norm in the pooling mixers: the call's results are the reference's -/

set_option maxRecDepth 16384
set_option maxHeartbeats 4000000

noncomputable section
namespace Cert.NormA
open Cert.Kernel11Ideal Cert.Kernel11Ideal.Gen Cert.Lin Cert.Dn Cert.Reference11Ideal.Read Idealize.ShloMosaic Idealize.ShloMosaic.TcCoe Idealize.SL.Sem

section Reference
variable (A0 : FVec Ideal S4096x2048 .f32) (A1 : FVec Ideal S1x2048 .f32) (A2 : FVec Ideal S2048x4096 .f32)

theorem self (i : S4096x2048.Idx) : A0 i = at2 A0 (i 0).val (i 1).val := by
  rw [at2_eq A0 (i 0).isLt (i 1).isLt]
  exact congrArg A0 (ix2_eta i).symm

theorem v7 (i : Cert.Reference11Ideal.S4096x1.Idx) : val_main_v7 (F := Ideal) A0 i = root (at2 A0 (i 0).val) := by
  rw [val_main_v7_apply, val_main_v6_apply, val_main_v4_apply, val_main_v2_apply, val_main_v3_apply, val_main_v5_apply, val_main_v1_apply]
  have e : ∀ k : Fin 2048, val_main_v0 (F := Ideal) A0 (idx_main_v1 (idx_main_v2 i) k) = at2 A0 (i 0).val k.val * at2 A0 (i 0).val k.val := fun k => by
    rw [val_main_v0_apply, self A0]
    rfl
  simp only [e]
  show Ideal.rsqrt (Ideal.div (Ideal.ofBits .f32 0x00000000#32 + _) n2048 + eps) = _
  rw [Ideal.ofBits_zero_f32, zero_add]

abbrev rnrm (t k : ℕ) : EReal := at2 A0 t k * root (at2 A0 t) * at2 A1 0 k

theorem v11 (i : S4096x2048.Idx) : val_main_v11 (F := Ideal) A0 A1 i = rnrm A0 A1 (i 0).val (i 1).val := by
  rw [val_main_v11_apply, val_main_v9_apply, val_main_v8_apply, v7, val_main_v10_apply, self A0]
  unfold rnrm
  rw [at2_eq A1 (by omega) (i 1).isLt]
  refine congrArg (at2 A0 (i 0).val (i 1).val * root (at2 A0 (i 0).val) * ·) (congrArg A1 (funext fun a => ?_))
  match a with
  | ⟨0, _⟩ => rfl
  | ⟨1, _⟩ => rfl

theorem v12 (i : S4096x4096.Idx) : val_main_v12 (F := Ideal) A0 A1 A2 i = ∑ k : Fin 2048, rnrm A0 A1 (i 0).val k.val * at2 A2 k.val (i 1).val := by
  rw [val_main_v12_apply]
  refine Finset.sum_congr rfl fun k _ => ?_
  rw [v11, at2_eq A2 k.isLt (i 1).isLt]
  refine congrArg (rnrm A0 A1 (i 0).val k.val * ·) (congrArg A2 (funext fun a => ?_))
  match a with
  | ⟨0, _⟩ => rfl
  | ⟨1, _⟩ => rfl

end Reference

variable (m : (ℓ : Loc nD τ sig) → Buf (Elt Ideal) ℓ) (c : Dev nD)

abbrev B0 : FVec Ideal S4096x2048 .f32 := m ((c : Thread nD τ).loc main_arg0)
abbrev B1 : FVec Ideal S1x2048 .f32 := m ((c : Thread nD τ).loc main_arg1)
abbrev B2 : FVec Ideal S2048x4096 .f32 := m ((c : Thread nD τ).loc main_arg2)

theorem nrm_eq (t k : ℕ) : nrm m c t k = rnrm (B0 m c) (B1 m c) t k := by
  unfold nrm rnrm X Gn
  rw [V_main_arg0, V_main_arg1]

/-- The blocks that the host cuts the weight into. -/
theorem W_eq (a : Fin 8) (q : Fin 2048) (k : Fin 512) : W m c (ix3 a q k) = at2 (B2 m c) q.val (512 * a.val + k.val) := by
  rw [at2_eq (B2 m c) q.isLt (show 512 * a.val + k.val < 4096 by omega)]
  unfold W
  entry_read
  refine (transpose_apply [1, 0, 2] _ transposes_S2048x8x512_S8x2048x512_1_0_2 (ix3 a q k : S8x2048x512.Idx) (ix3 q a k : S2048x8x512.Idx) (fun b => ?_)).trans ?_
  · match b with
    | ⟨0, _⟩ => rfl
    | ⟨1, _⟩ => rfl
    | ⟨2, _⟩ => rfl
  refine (shapeCast_apply _ shapeCasts_S2048x4096_S2048x8x512 (ix3 q a k : S2048x8x512.Idx)
    (ix2 ⟨q.val, q.isLt⟩ ⟨512 * a.val + k.val, by omega⟩ : S2048x4096.Idx) ?_).trans rfl
  rw [Shape.rowMajor_val_two, Shape.rowMajor_val_three]
  show q.val * 4096 + (512 * a.val + k.val) = (q.val * 8 + a.val) * 512 + k.val
  omega

theorem wt_eq (k : Fin 2048) (q : ℕ) (hq : q < 4096) : wt m c k.val q = at2 (B2 m c) k.val q := by
  unfold wt
  rw [at3_eq (W m c) (show q / 512 < 8 by omega) k.isLt (show q % 512 < 512 by omega), W_eq]
  show at2 (B2 m c) k.val (512 * (q / 512) + q % 512) = _
  rw [Nat.div_add_mod]

theorem eq3 (i : S4096x4096.Idx) : val_main_v12 (F := Ideal) (B0 m c) (B1 m c) (B2 m c) i = G3 m c i := by
  have h1 : (i 1).val < 4096 := (i 1).isLt
  rw [v12]
  unfold G3 prod
  refine Finset.sum_congr rfl fun k _ => ?_
  rw [wt_eq m c k _ h1, nrm_eq]

theorem eq4 (i : S4096x2048.Idx) : val_main_v13 (F := Ideal) (B0 m c) (B1 m c) i = G4 m c i := by
  rw [val_main_v13_apply, Ideal.truncf_def, v11]
  exact (nrm_eq m c _ _).symm

theorem algebraic : Cert.algebraic_Kernel11Ideal_Reference11Ideal := by
  intro m g m' g' hpre hagree
  refine ⟨fun c => G3 m c, fun c => G4 m c, run m g, ?_⟩
  refine (θ_run Cert.Reference11Ideal.defs _ _).mono (fun r h c => ?_) (Cert.Reference11Ideal.Value.run (F := Ideal) m' g')
  obtain ⟨h0, h1, hargs⟩ := h c
  obtain ⟨a0, a1, a2⟩ := hagree c
  refine ⟨h0.trans ?_, h1.trans ?_, hargs⟩
  · refine (val_main_v12_eq _ _ _).trans ?_
    rw [a0, a1, a2]
    exact funext fun i => eq3 m c i
  · refine (val_main_v13_eq _ _).trans ?_
    rw [a0, a1]
    exact funext fun i => eq4 m c i

end Cert.NormA
end
-- ==== Proof.NormKv.lean ====
module

public import proofs.«01_k».proof.Proof.NormKvFrame
public import proofs.«01_k».proof.Proof.Dn

@[expose] public section

/-! # The keys and values behind their norm: what the call leaves -/

set_option maxRecDepth 16384
set_option maxHeartbeats 4000000

noncomputable section
namespace Cert.NormKv
open Cert.Kernel12Ideal Cert.Kernel12Ideal.Gen Cert.Lin Cert.Dn Idealize.ShloMosaic Idealize.ShloMosaic.TcCoe Idealize.SL.Sem

theorem i0 : ∀ t : Fin cfg0.N, win0_0.index t = ![t.val / 4, 0] := by decide +kernel
theorem i1 : ∀ t : Fin cfg0.N, win0_1.index t = ![0, 0] := by decide +kernel
theorem i2 : ∀ t : Fin cfg0.N, win0_2.index t = ![0, t.val % 4] := by decide +kernel
theorem i3 : ∀ t : Fin cfg0.N, win0_3.index t = ![t.val / 4, t.val % 4] := by decide +kernel
theorem i4 : ∀ t : Fin cfg0.N, win0_4.index t = ![t.val / 4, 0] := by decide +kernel

variable (m : (ℓ : Loc nD τ sig) → Buf (Elt Ideal) ℓ) (c : Dev nD)

/-- The arrays that the call reads. -/
abbrev X : FVec Ideal S4096x2048 .f32 := V m c main_arg0
abbrev Gn : FVec Ideal S1x2048 .f32 := V m c main_arg1
abbrev W : FVec Ideal S2048x4096 .bf16 := V m c main_v2

theorem blk0 (t : Fin cfg0.N) (r : Fin 1024) (k : Fin 2048) :
    (iblk m c 0 t : FVec Ideal S1024x2048 .f32) (ix2 r k) = at2 (X m c) (1024 * (t.val / 4) + r.val) k.val := by
  have ht : t.val < 16 := lt_of_lt_of_eq t.isLt size
  rw [at2_eq (X m c) (show 1024 * (t.val / 4) + r.val < 4096 by omega) k.isLt]
  blk_ext [iblk, i0 t]

theorem blk1 (t : Fin cfg0.N) (z : Fin 1) (k : Fin 2048) : (iblk m c 1 t : FVec Ideal S1x2048 .f32) (ix2 z k) = at2 (Gn m c) 0 k.val := by
  rw [at2_eq (Gn m c) (by omega) k.isLt]
  blk_ext [iblk, i1 t]

/-- The weight's entry, whichever block it lies in. -/
abbrev wt (k q : ℕ) : EReal := at2 (W m c) k q

theorem blk2 (t : Fin cfg0.N) (k : Fin 2048) (q : Fin 1024) :
    (iblk m c 2 t : FVec Ideal S2048x1024 .bf16) (ix2 k q) = wt m c k.val (1024 * (t.val % 4) + q.val) := by
  unfold wt
  rw [at2_eq (W m c) k.isLt (show 1024 * (t.val % 4) + q.val < 4096 by omega)]
  blk_ext [iblk, i2 t]

/-- A normed entry. -/
abbrev nrm (t k : ℕ) : EReal := at2 (X m c) t k * root (fun l => at2 (X m c) t l) * at2 (Gn m c) 0 k

theorem pay1 (x : FVec Ideal S1024x2048 .f32) (g : FVec Ideal S1x2048 .f32) (r : Fin 1024) (k : Fin 2048) :
    k0_pay1 (F := Ideal) x g (ix2 r k) = x (ix2 r k) * root (fun l => at2 x r.val l) * g (ix2 0 k) := by
  have e : ∀ (l : Fin 2048), at2 x r.val l.val = x (ix2 r l) := fun l => at2_eq x r.isLt l.isLt
  unfold root var
  simp only [e]
  unfold_payloads
  pointwise

theorem pay2 (x : FVec Ideal S1024x2048 .f32) (g : FVec Ideal S1x2048 .f32) (r : Fin 1024) (k : Fin 2048) :
    k0_pay2 (F := Ideal) x g (ix2 r k) = k0_pay1 (F := Ideal) x g (ix2 r k) := by
  unfold k0_pay2
  generalize k0_pay1 (F := Ideal) x g = y
  pointwise

theorem pay3 (h : FVec Ideal S1024x2048 .bf16) (w : FVec Ideal S2048x1024 .bf16) (r : Fin 1024) (q : Fin 1024) :
    k0_pay3 (F := Ideal) h w (ix2 r q) = ∑ k : Fin 2048, h (ix2 r k) * w (ix2 k q) := by
  unfold_payloads
  pointwise

theorem norm_at (t : Fin cfg0.N) (r : Fin 1024) (k : Fin 2048) : normAt m c t (ix2 r k) = nrm m c (1024 * (t.val / 4) + r.val) k.val := by
  unfold normAt
  refine (pay1 _ _ r k).trans ?_
  have hs : (start t).val / 4 = t.val / 4 := by show t.val / 4 * 4 / 4 = t.val / 4; omega
  have e : ∀ l : Fin 2048, at2 (iblk m c 0 (start t) : FVec Ideal S1024x2048 .f32) r.val l.val = at2 (X m c) (1024 * (t.val / 4) + r.val) l.val := fun l => by
    rw [at2_eq (iblk m c 0 (start t) : FVec Ideal S1024x2048 .f32) r.isLt l.isLt, ← hs]
    exact blk0 m c (start t) r l
  unfold nrm root var
  simp only [e]
  rw [blk0, blk1, hs]

theorem tile_at (t : Fin cfg0.N) (r : Fin 1024) (k : Fin 2048) : tileAt m c t (ix2 r k) = nrm m c (1024 * (t.val / 4) + r.val) k.val :=
  (pay2 _ _ r k).trans (norm_at m c t r k)

/-- The product. -/
abbrev prod (t q : ℕ) : EReal := ∑ k : Fin 2048, nrm m c t k.val * wt m c k.val q

theorem prod_at (t : Fin cfg0.N) (r : Fin 1024) (q : Fin 1024) :
    prodAt m c t (ix2 r q) = prod m c (1024 * (t.val / 4) + r.val) (1024 * (t.val % 4) + q.val) := by
  unfold prodAt prod
  refine (pay3 _ _ r q).trans (Finset.sum_congr rfl fun k _ => ?_)
  rw [tile_at]
  exact congrArg (nrm m c _ _ * ·) (blk2 m c t k q)

def G3 : FVec Ideal S4096x4096 .f32 := fun y => prod m c (y 0).val (y 1).val
def G4 : FVec Ideal S4096x2048 .bf16 := fun y => nrm m c (y 0).val (y 1).val

theorem array3 : (dats m 0 c).arrAt 3 cfg0.N = G3 m c := by
  refine (dats m 0 c).arrAt_eq_of_covers 3 _ (by decide +kernel) fun t hf y => ?_
  blk_simp
  rw [after3]
  obtain ⟨r, q, rfl⟩ : ∃ (r : Fin 1024) (q : Fin 1024), y = (ix2 r q : S1024x1024.Idx) := ⟨y 0, y 1, (ix2_eta (y : S1024x1024.Idx)).symm⟩
  refine (prod_at m c t r q).trans ?_
  have h0 : (((win0_3.blk t).view.emb (ix2 r q : S1024x1024.Idx) : S4096x4096.Idx) 0).val = 1024 * (t.val / 4) + r.val := by
    blk_simp [i3 t]
    omega
  have h1 : (((win0_3.blk t).view.emb (ix2 r q : S1024x1024.Idx) : S4096x4096.Idx) 1).val = 1024 * (t.val % 4) + q.val := by
    blk_simp [i3 t]
    omega
  show _ = prod m c _ _
  rw [h0, h1]

theorem array4 : (dats m 0 c).arrAt 4 cfg0.N = G4 m c := by
  refine (dats m 0 c).arrAt_eq_of_covers 4 _ (by decide +kernel) fun t hf y => ?_
  blk_simp
  rw [after4]
  obtain ⟨r, k, rfl⟩ : ∃ (r : Fin 1024) (k : Fin 2048), y = (ix2 r k : S1024x2048.Idx) := ⟨y 0, y 1, (ix2_eta (y : S1024x2048.Idx)).symm⟩
  refine (norm_at m c t r k).trans ?_
  have h0 : (((win0_4.blk t).view.emb (ix2 r k : S1024x2048.Idx) : S4096x2048.Idx) 0).val = 1024 * (t.val / 4) + r.val := by
    blk_simp [i4 t]
    omega
  have h1 : (((win0_4.blk t).view.emb (ix2 r k : S1024x2048.Idx) : S4096x2048.Idx) 1).val = k.val := by
    blk_simp [i4 t]
  show _ = nrm m c _ _
  rw [h0, h1]

/-- Every run ends with the results above, and leaves the arguments alone. -/
theorem run (ρ : Dev nD → PrngReg) : θ_run defs (onTc (τ := τ) (main (F := Ideal))) ⟨m, fun _ => 0, ρ⟩ fun r => ∀ c : Dev nD,
      r.2.mem ((c.tc : Thread nD τ).loc main_v3_0) = G3 m c
      ∧ r.2.mem ((c.tc : Thread nD τ).loc main_v3_1) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 3 |>.trans (array3 m c), (h.1 c).1 4 |>.trans (array4 m c), h.2.1 c⟩)
    (θ_run_and (run_main m ρ) (frame m ρ))

end Cert.NormKv
end
-- ==== Proof.AlgNormKv.lean ====
module

public import proofs.«01_k».proof.Proof.NormKv
public import proofs.«01_k».proof.Proof.Gen.Reference12Ideal.Run
public import proofs.«01_k».proof.Proof.Gen.Reference12Ideal.Read
public import proofs.«01_k».proof.Defs

@[expose] public section

/-! # The keys and values behind their norm: the call's results are the reference's -/

set_option maxRecDepth 16384
set_option maxHeartbeats 4000000

noncomputable section
namespace Cert.NormKv
open Cert.Kernel12Ideal Cert.Kernel12Ideal.Gen Cert.Lin Cert.Dn Cert.Reference12Ideal.Read Idealize.ShloMosaic Idealize.ShloMosaic.TcCoe Idealize.SL.Sem

section Reference
variable (A0 : FVec Ideal S4096x2048 .f32) (A1 : FVec Ideal S1x2048 .f32) (A2 A3 : FVec Ideal S2048x2048 .f32)

theorem self (i : S4096x2048.Idx) : A0 i = at2 A0 (i 0).val (i 1).val := by
  rw [at2_eq A0 (i 0).isLt (i 1).isLt]
  exact congrArg A0 (ix2_eta i).symm

theorem v7 (i : Cert.Reference12Ideal.S4096x1.Idx) : val_main_v7 (F := Ideal) A0 i = root (at2 A0 (i 0).val) := by
  rw [val_main_v7_apply, val_main_v6_apply, val_main_v4_apply, val_main_v2_apply, val_main_v3_apply, val_main_v5_apply, val_main_v1_apply]
  have e : ∀ k : Fin 2048, val_main_v0 (F := Ideal) A0 (idx_main_v1 (idx_main_v2 i) k) = at2 A0 (i 0).val k.val * at2 A0 (i 0).val k.val := fun k => by
    rw [val_main_v0_apply, self A0]
    rfl
  simp only [e]
  show Ideal.rsqrt (Ideal.div (Ideal.ofBits .f32 0x00000000#32 + _) n2048 + eps) = _
  rw [Ideal.ofBits_zero_f32, zero_add]

abbrev rnrm (t k : ℕ) : EReal := at2 A0 t k * root (at2 A0 t) * at2 A1 0 k

theorem v11 (i : S4096x2048.Idx) : val_main_v11 (F := Ideal) A0 A1 i = rnrm A0 A1 (i 0).val (i 1).val := by
  rw [val_main_v11_apply, val_main_v9_apply, val_main_v8_apply, v7, val_main_v10_apply, self A0]
  unfold rnrm
  rw [at2_eq A1 (by omega) (i 1).isLt]
  refine congrArg (at2 A0 (i 0).val (i 1).val * root (at2 A0 (i 0).val) * ·) (congrArg A1 (funext fun a => ?_))
  match a with
  | ⟨0, _⟩ => rfl
  | ⟨1, _⟩ => rfl

theorem v12 (i : S4096x2048.Idx) : val_main_v12 (F := Ideal) A0 A1 A2 i = ∑ k : Fin 2048, rnrm A0 A1 (i 0).val k.val * at2 A2 k.val (i 1).val := by
  rw [val_main_v12_apply]
  refine Finset.sum_congr rfl fun k _ => ?_
  rw [v11, at2_eq A2 k.isLt (i 1).isLt]
  refine congrArg (rnrm A0 A1 (i 0).val k.val * ·) (congrArg A2 (funext fun a => ?_))
  match a with
  | ⟨0, _⟩ => rfl
  | ⟨1, _⟩ => rfl

theorem v13 (i : S4096x2048.Idx) : val_main_v13 (F := Ideal) A0 A1 A3 i = ∑ k : Fin 2048, rnrm A0 A1 (i 0).val k.val * at2 A3 k.val (i 1).val := by
  rw [val_main_v13_apply]
  refine Finset.sum_congr rfl fun k _ => ?_
  rw [v11, at2_eq A3 k.isLt (i 1).isLt]
  refine congrArg (rnrm A0 A1 (i 0).val k.val * ·) (congrArg A3 (funext fun a => ?_))
  match a with
  | ⟨0, _⟩ => rfl
  | ⟨1, _⟩ => rfl

theorem v14_left (i : Fin 4096) (q : Fin 2048) : val_main_v14 (F := Ideal) A0 A1 A2 A3 (ix2 i ⟨q.val, by omega⟩ : S4096x4096.Idx)
    = ∑ k : Fin 2048, rnrm A0 A1 i.val k.val * at2 A2 k.val q.val := by
  unfold val_main_v14
  refine (concatenate_pair_apply_left (1 : Fin S4096x4096.rank) _ _ Cert.Reference12Ideal.Facts₀.concatenates_S4096x2048_S4096x2048_S4096x4096_d1 _ rfl (ix2 i q : S4096x2048.Idx) (fun b => ?_)).trans (v12 A0 A1 A2 _)
  match b with
  | ⟨0, _⟩ => rfl
  | ⟨1, _⟩ => rfl

theorem v14_right (i : Fin 4096) (q : Fin 2048) : val_main_v14 (F := Ideal) A0 A1 A2 A3 (ix2 i ⟨2048 + q.val, by omega⟩ : S4096x4096.Idx)
    = ∑ k : Fin 2048, rnrm A0 A1 i.val k.val * at2 A3 k.val q.val := by
  unfold val_main_v14
  refine (concatenate_pair_apply_right (1 : Fin S4096x4096.rank) _ _ Cert.Reference12Ideal.Facts₀.concatenates_S4096x2048_S4096x2048_S4096x4096_d1 _ rfl rfl (ix2 i q : S4096x2048.Idx) (fun b hb => ?_) ?_).trans (v13 A0 A1 A3 _)
  · match b with
    | ⟨0, _⟩ => rfl
    | ⟨1, _⟩ => exact absurd rfl hb
  · show q.val + 2048 = 2048 + q.val
    omega

end Reference

variable (m : (ℓ : Loc nD τ sig) → Buf (Elt Ideal) ℓ) (c : Dev nD)

abbrev B0 : FVec Ideal S4096x2048 .f32 := m ((c : Thread nD τ).loc main_arg0)
abbrev B1 : FVec Ideal S1x2048 .f32 := m ((c : Thread nD τ).loc main_arg1)
abbrev B2 : FVec Ideal S2048x2048 .f32 := m ((c : Thread nD τ).loc main_arg2)
abbrev B3 : FVec Ideal S2048x2048 .f32 := m ((c : Thread nD τ).loc main_arg3)

theorem nrm_eq (t k : ℕ) : nrm m c t k = rnrm (B0 m c) (B1 m c) t k := by
  unfold nrm rnrm X Gn
  rw [V_main_arg0, V_main_arg1]

/-- The weight that the host puts the two weights into, side by side. -/
theorem wt_left (k q : Fin 2048) : wt m c k.val q.val = at2 (B2 m c) k.val q.val := by
  unfold wt
  rw [at2_eq (W m c) k.isLt (show q.val < 4096 by omega), at2_eq (B2 m c) k.isLt q.isLt]
  unfold W
  entry_read
  refine (concatenate_pair_apply_left (1 : Fin S2048x4096.rank) _ _ concatenates_S2048x2048_S2048x2048_S2048x4096_d1 _ rfl (ix2 k q : S2048x2048.Idx) (fun b => ?_)).trans rfl
  match b with
  | ⟨0, _⟩ => rfl
  | ⟨1, _⟩ => rfl

theorem wt_right (k q : Fin 2048) : wt m c k.val (2048 + q.val) = at2 (B3 m c) k.val q.val := by
  unfold wt
  rw [at2_eq (W m c) k.isLt (show 2048 + q.val < 4096 by omega), at2_eq (B3 m c) k.isLt q.isLt]
  unfold W
  entry_read
  refine (concatenate_pair_apply_right (1 : Fin S2048x4096.rank) _ _ concatenates_S2048x2048_S2048x2048_S2048x4096_d1 _ rfl rfl (ix2 k q : S2048x2048.Idx) (fun b hb => ?_) ?_).trans rfl
  · match b with
    | ⟨0, _⟩ => rfl
    | ⟨1, _⟩ => exact absurd rfl hb
  · show q.val + 2048 = 2048 + q.val
    omega

theorem eq3 (i : S4096x4096.Idx) : val_main_v14 (F := Ideal) (B0 m c) (B1 m c) (B2 m c) (B3 m c) i = G3 m c i := by
  obtain ⟨r, q, rfl⟩ : ∃ (r : Fin 4096) (q : Fin 4096), i = (ix2 r q : S4096x4096.Idx) := ⟨i 0, i 1, (ix2_eta i).symm⟩
  by_cases h : q.val < 2048
  · refine (v14_left _ _ _ _ r ⟨q.val, h⟩).trans (Finset.sum_congr rfl fun k _ => ?_)
    show _ = nrm m c r.val k.val * wt m c k.val q.val
    rw [nrm_eq]
    exact congrArg (_ * ·) (wt_left m c k ⟨q.val, h⟩).symm
  · have e : q = ⟨2048 + (q.val - 2048), by omega⟩ := Fin.ext (by show q.val = 2048 + (q.val - 2048); omega)
    rw [e]
    refine (v14_right _ _ _ _ r ⟨q.val - 2048, by omega⟩).trans (Finset.sum_congr rfl fun k _ => ?_)
    show _ = nrm m c r.val k.val * wt m c k.val (2048 + (q.val - 2048))
    rw [nrm_eq]
    exact congrArg (_ * ·) (wt_right m c k ⟨q.val - 2048, by omega⟩).symm

theorem eq4 (i : S4096x2048.Idx) : val_main_v15 (F := Ideal) (B0 m c) (B1 m c) i = G4 m c i := by
  rw [val_main_v15_apply, Ideal.truncf_def, v11]
  exact (nrm_eq m c _ _).symm

theorem algebraic : Cert.algebraic_Kernel12Ideal_Reference12Ideal := by
  intro m g m' g' hpre hagree
  refine ⟨fun c => G3 m c, fun c => G4 m c, run m g, ?_⟩
  refine (θ_run Cert.Reference12Ideal.defs _ _).mono (fun r h c => ?_) (Cert.Reference12Ideal.Value.run (F := Ideal) m' g')
  obtain ⟨h0, h1, hargs⟩ := h c
  obtain ⟨a0, a1, a2, a3⟩ := hagree c
  refine ⟨h0.trans ?_, h1.trans ?_, hargs⟩
  · refine (val_main_v14_eq _ _ _ _).trans ?_
    rw [a0, a1, a2, a3]
    exact funext fun i => eq3 m c i
  · refine (val_main_v15_eq _ _).trans ?_
    rw [a0, a1]
    exact funext fun i => eq4 m c i

end Cert.NormKv
end
-- ==== Proof.InB.lean ====
module

public import proofs.«01_k».proof.Proof.Sums
public import proofs.«01_k».proof.Proof.Gen.Kernel2Ideal.Value

@[expose] public section

/-! # The weight gradient of the input product: what the call leaves -/

set_option maxRecDepth 16384
set_option maxHeartbeats 4000000

noncomputable section
namespace Cert.InB
open Cert.Kernel2Ideal Cert.Kernel2Ideal.Gen Cert.Lin Idealize.ShloMosaic Idealize.ShloMosaic.TcCoe Idealize.SL.Sem

theorem i0 : ∀ t : Fin cfg0.N, win0_0.index t = ![t.val % 4, 0] := by decide +kernel
theorem i1 : ∀ t : Fin cfg0.N, win0_1.index t = ![t.val % 4, t.val / 4] := by decide +kernel
theorem i2 : ∀ t : Fin cfg0.N, win0_2.index t = ![t.val / 4, 0, 0] := by decide +kernel
theorem hN : cfg0.N = 32 := by decide +kernel

variable (m : (ℓ : Loc nD τ sig) → Buf (Elt Ideal) ℓ) (c : Dev nD)

/-- The two arrays that the call reads. -/
abbrev L : FVec Ideal S4096x2048 .bf16 := V m c main_v12
abbrev R : FVec Ideal S4096x8192 .bf16 := V m c main_v13

theorem blk0 (t : Fin cfg0.N) (r : Fin 1024) (k : Fin 2048) :
    (iblk m c 0 t : FVec Ideal S1024x2048 .bf16) (ix2 r k) = at2 (L m c) (1024 * (t.val % 4) + r.val) k.val := by
  rw [at2_eq (L m c) (show 1024 * (t.val % 4) + r.val < 4096 by omega) k.isLt]
  blk_ext [iblk, i0 t]

theorem blk1 (t : Fin cfg0.N) (r : Fin 1024) (k : Fin 1024) :
    (iblk m c 1 t : FVec Ideal S1024x1024 .bf16) (ix2 r k) = at2 (R m c) (1024 * (t.val % 4) + r.val) (1024 * (t.val / 4) + k.val) := by
  have ht : t.val < 32 := lt_of_lt_of_eq t.isLt hN
  rw [at2_eq (R m c) (show 1024 * (t.val % 4) + r.val < 4096 by omega) (show 1024 * (t.val / 4) + k.val < 8192 by omega)]
  blk_ext [iblk, i1 t]

/-- One row's addition to an entry of the gradient. -/
abbrev term (r q s : ℕ) : EReal := at2 (L m c) s r * at2 (R m c) s q

/-- A block of rows added to what was held. -/
theorem pay2 (t : Fin cfg0.N) (v : FVec Ideal S2048x1024 .f32) (r : Fin 2048) (q : Fin 1024) :
    k0_pay2 (F := Ideal) v (iblk m c 0 t) (iblk m c 1 t) (ix2 r q)
      = v (ix2 r q) + ∑ k : Fin 1024, term m c r.val (1024 * (t.val / 4) + q.val) (1024 * (t.val % 4) + k.val) := by
  unfold_payloads
  pointwise
  simp only [blk0, blk1]
  all_goals rfl

theorem pay1 (r : Fin 2048) (q : Fin 1024) : k0_pay1 (F := Ideal) (ix2 r q) = 0 := by
  unfold_payloads
  pointwise

theorem pay3 (v : FVec Ideal S2048x1024 .f32) (z : Fin 1) (r : Fin 2048) (q : Fin 1024) : k0_pay3 (F := Ideal) v (ix3 z r q) = v (ix2 r q) := by
  unfold_payloads
  pointwise

theorem acc (r : Fin 2048) (q : Fin 1024) : ∀ (n : ℕ) (h : n < cfg0.N),
    (outsAt0 m c n h).2 (ix2 r q) = ∑ s ∈ Finset.range (1024 * (n % 4 + 1)), term m c r.val (1024 * (n / 4) + q.val) s := by
  intro n
  induction n with
  | zero =>
    intro h
    rw [outsAt0_A m c ⟨0, h⟩ (by rfl) (by simp), ← sum_next]
    frame_out
    rw [pay2, pay1]
    rfl
  | succ n ih =>
    intro h
    rw [← sum_next]
    by_cases h0 : (n + 1) % 4 = 0
    · rw [outsAt0_A m c ⟨n + 1, h⟩ h0 (by show ¬ (n + 1) % 4 = 3; omega)]
      frame_out
      rw [pay2, pay1]
      show 0 + _ = _
      rw [h0]
      rfl
    · have e1 : n / 4 = (n + 1) / 4 := by omega
      have e2 : n % 4 + 1 = (n + 1) % 4 := by omega
      have ih := ih (by omega)
      rw [e1, e2] at ih
      by_cases h1 : (n + 1) % 4 = 3
      · rw [outsAt0_C m c ⟨n + 1, h⟩ h0 h1]
        frame_out
        rw [pay2]
        exact congrArg (· + _) ((congrFun (Memref.IsWhole.read_unread _ _) _).trans ih)
      · rw [outsAt0_B m c ⟨n + 1, h⟩ h0 h1]
        frame_out
        rw [pay2]
        exact congrArg (· + _) ((congrFun (Memref.IsWhole.read_unread _ _) _).trans ih)

theorem out (t : Fin cfg0.N) (h1 : t.val % 4 = 3) (z : Fin 1) (r : Fin 2048) (q : Fin 1024) :
    (outsAt0 m c t.val t.isLt).1 (ix3 z r q) = ∑ s ∈ Finset.range 4096, term m c r.val (1024 * (t.val / 4) + q.val) s := by
  refine Eq.trans ?_ ((acc m c r q t.val t.isLt).trans (by rw [h1]))
  rw [outsAt0_C m c t (by omega) h1]
  frame_out
  rw [pay3]

/-- The gradient, a block of columns for each device. -/
def G : FVec Ideal S8x2048x1024 .bf16 := fun y => ∑ s ∈ Finset.range 4096, term m c (y 1).val (1024 * (y 0).val + (y 2).val) s

theorem array : (dats m 0 c).arrAt 2 cfg0.N = G m c := by
  refine (dats m 0 c).arrAt_eq_of_covers 2 _ (by decide +kernel) fun t hf y => ?_
  have hf' : t.val % 4 = 3 := (show ∀ t : Fin cfg0.N, (cfg0.win 2).flush t = true → t.val % 4 = 3 by decide +kernel) t hf
  blk_simp
  rw [after0_2]
  obtain ⟨z, r, q, rfl⟩ : ∃ (z : Fin 1) (r : Fin 2048) (q : Fin 1024), y = (ix3 z r q : S1x2048x1024.Idx) := ⟨y 0, y 1, y 2, (ix3_eta (y : S1x2048x1024.Idx)).symm⟩
  refine (out m c t hf' z r q).trans ?_
  have h0 : (((win0_2.blk t).view.emb (ix3 z r q : S1x2048x1024.Idx) : S8x2048x1024.Idx) 0).val = t.val / 4 := by
    blk_simp [i2 t]
  have h1 : (((win0_2.blk t).view.emb (ix3 z r q : S1x2048x1024.Idx) : S8x2048x1024.Idx) 1).val = r.val := by
    blk_simp [i2 t]
  have h2 : (((win0_2.blk t).view.emb (ix3 z r q : S1x2048x1024.Idx) : S8x2048x1024.Idx) 2).val = q.val := by
    blk_simp [i2 t]
  show _ = ∑ s ∈ Finset.range 4096, term m c _ (1024 * _ + _) s
  rw [h0, h1, h2]

end Cert.InB
end
-- ==== Proof.AlgInB.lean ====
module

public import proofs.«01_k».proof.Proof.InB
public import proofs.«01_k».proof.Proof.Gen.Reference2Ideal.Run
public import proofs.«01_k».proof.Proof.Gen.Reference2Ideal.Read
public import proofs.«01_k».proof.Defs

@[expose] public section

/-! # The weight gradient of the input product: the call's result is the reference's -/

set_option maxRecDepth 16384
set_option maxHeartbeats 4000000

noncomputable section
namespace Cert.InB
open Cert.Kernel2Ideal Cert.Kernel2Ideal.Gen Cert.Lin Cert.Reference2Ideal.Read Idealize.ShloMosaic Idealize.ShloMosaic.TcCoe Idealize.SL.Sem

variable (m : (ℓ : Loc nD τ sig) → Buf (Elt Ideal) ℓ) (c : Dev nD)

abbrev A0 : FVec Ideal S4096x2048 .f32 := m ((c : Thread nD τ).loc main_arg0)
abbrev A1 : FVec Ideal S1x2048 .f32 := m ((c : Thread nD τ).loc main_arg1)
abbrev A3 : FVec Ideal S4096x8192 .f32 := m ((c : Thread nD τ).loc main_arg3)

/-- The rows that the host norms are the reference's. -/
theorem L_eq (i : S4096x2048.Idx) : L m c i = val_main_v11 (F := Ideal) (A0 m c) (A1 m c) i := by
  unfold L
  entry_read
  rfl

theorem R_eq (i : S4096x8192.Idx) : R m c i = A3 m c i := by
  unfold R
  entry_read
  rfl

theorem ref_eq (i : S8x2048x1024.Idx) : val_main_v17 (F := Ideal) (A0 m c) (A1 m c) (A3 m c) i = G m c i := by
  have l0 : (i 0).val < 8 := (i 0).isLt
  have l1 : (i 1).val < 2048 := (i 1).isLt
  have l2 : (i 2).val < 1024 := (i 2).isLt
  rw [val_main_v17_apply, Ideal.truncf_def, val_main_v16_apply, val_main_v15_apply, val_main_v14_apply, val_main_v13_apply]
  unfold G
  rw [← Fin.sum_univ_eq_sum_range]
  refine Finset.sum_congr rfl fun k _ => ?_
  unfold term
  rw [at2_eq (L m c) k.isLt l1, at2_eq (R m c) k.isLt (show 1024 * (i 0).val + (i 2).val < 8192 by omega), L_eq, R_eq]
  refine (mul_comm _ _).trans (congr (congrArg _ (congrArg (val_main_v11 (F := Ideal) (A0 m c) (A1 m c)) ?_)) (congrArg (A3 m c) ?_))
  · refine funext fun a => Fin.ext ?_
    match a with
    | ⟨0, _⟩ => rfl
    | ⟨1, _⟩ => show (((i 1).val * 8 + (i 0).val) * 1024 + (i 2).val) / 8192 = (i 1).val; omega
  · refine funext fun a => Fin.ext ?_
    match a with
    | ⟨0, _⟩ => rfl
    | ⟨1, _⟩ => show (((i 1).val * 8 + (i 0).val) * 1024 + (i 2).val) % 8192 = 1024 * (i 0).val + (i 2).val; omega

theorem algebraic : Cert.algebraic_Kernel2Ideal_Reference2Ideal := by
  intro m g m' g' hpre hagree
  refine ⟨fun c => G m c, ?_, ?_⟩
  · refine (θ_run Cert.Kernel2Ideal.defs _ _).mono (fun r h c => ?_) (Cert.Kernel2Ideal.Value.run_blocks (F := Ideal) m g)
    obtain ⟨h0, hargs⟩ := h c
    exact ⟨h0.trans (array m c), hargs⟩
  · refine (θ_run Cert.Reference2Ideal.defs _ _).mono (fun r h c => ?_) (Cert.Reference2Ideal.Value.run (F := Ideal) m' g')
    obtain ⟨h0, hargs⟩ := h c
    obtain ⟨a0, a1, a2, a3⟩ := hagree c
    refine ⟨h0.trans ?_, hargs⟩
    refine (val_main_v17_eq _ _ _).trans ?_
    rw [a0, a1, a3]
    exact funext fun i => ref_eq m c i

end Cert.InB
end
-- ==== Proof.DnB.lean ====
module

public import proofs.«01_k».proof.Proof.Dn
public import proofs.«01_k».proof.Proof.Gen.Kernel3Ideal.Value

@[expose] public section

/-! # The gradient through the input product and the norm: what the call leaves -/

set_option maxRecDepth 16384
set_option maxHeartbeats 4000000

noncomputable section
namespace Cert.DnB
open Cert.Kernel3Ideal Cert.Kernel3Ideal.Gen Cert.Lin Cert.Dn Idealize.ShloMosaic Idealize.ShloMosaic.TcCoe Idealize.SL.Sem

theorem i0 : ∀ t : Fin cfg0.N, win0_0.index t = ![t.val / 12, min (t.val % 12) 7] := by decide +kernel
theorem i1 : ∀ t : Fin cfg0.N, win0_1.index t = ![min (t.val % 12) 7, 0, 0] := by decide +kernel
theorem i2 : ∀ t : Fin cfg0.N, win0_2.index t = ![4 * (t.val / 12) + (t.val % 12 - 8), 0] := by decide +kernel
theorem i3 : ∀ t : Fin cfg0.N, win0_3.index t = ![0, 0] := by decide +kernel
theorem i4 : ∀ t : Fin cfg0.N, win0_4.index t = ![4 * (t.val / 12) + (t.val % 12 - 8), 0] := by decide +kernel
theorem i5 : ∀ t : Fin cfg0.N, win0_5.index t = ![4 * (t.val / 12) + (t.val % 12 - 8), 0] := by decide +kernel
theorem o1 : ∀ t : Fin cfg0.N, 8 ≤ t.val % 12 → k0_off1 (grid0.coords t) = ![256 * (t.val % 12 - 8), 0] := by decide +kernel
theorem hN : cfg0.N = 48 := by decide +kernel

variable (m : (ℓ : Loc nD τ sig) → Buf (Elt Ideal) ℓ) (c : Dev nD)

/-- The arrays that the call reads. -/
abbrev P : FVec Ideal S4096x8192 .bf16 := V m c main_v0
abbrev W : FVec Ideal S8x2048x1024 .bf16 := V m c main_v3
abbrev X : FVec Ideal S4096x2048 .f32 := V m c main_arg0
abbrev Gn : FVec Ideal S1x2048 .f32 := V m c main_arg1
abbrev Rs : FVec Ideal S4096x2048 .f32 := V m c main_arg4

theorem blk0 (t : Fin cfg0.N) (h : t.val % 12 ≤ 7) (r : Fin 1024) (k : Fin 1024) :
    (iblk m c 0 t : FVec Ideal S1024x1024 .bf16) (ix2 r k) = at2 (P m c) (1024 * (t.val / 12) + r.val) (1024 * (t.val % 12) + k.val) := by
  have ht : t.val < 48 := lt_of_lt_of_eq t.isLt hN
  rw [at2_eq (P m c) (show 1024 * (t.val / 12) + r.val < 4096 by omega) (show 1024 * (t.val % 12) + k.val < 8192 by omega)]
  have e : win0_0.index t = ![t.val / 12, t.val % 12] := by rw [i0 t, min_eq_left h]
  blk_ext [iblk, e]

theorem blk1 (t : Fin cfg0.N) (h : t.val % 12 ≤ 7) (z : Fin 1) (q : Fin 2048) (k : Fin 1024) :
    (iblk m c 1 t : FVec Ideal S1x2048x1024 .bf16) (ix3 z q k) = at3 (W m c) (t.val % 12) q.val k.val := by
  rw [at3_eq (W m c) (show t.val % 12 < 8 by omega) q.isLt k.isLt]
  have e : win0_1.index t = ![t.val % 12, 0, 0] := by rw [i1 t, min_eq_left h]
  blk_ext [iblk, e]

theorem blk2 (t : Fin cfg0.N) (r : Fin 256) (q : Fin 2048) :
    (iblk m c 2 t : FVec Ideal S256x2048 .f32) (ix2 r q) = at2 (X m c) (256 * (4 * (t.val / 12) + (t.val % 12 - 8)) + r.val) q.val := by
  have ht : t.val < 48 := lt_of_lt_of_eq t.isLt hN
  rw [at2_eq (X m c) (show 256 * (4 * (t.val / 12) + (t.val % 12 - 8)) + r.val < 4096 by omega) q.isLt]
  blk_ext [iblk, i2 t]

theorem blk3 (t : Fin cfg0.N) (z : Fin 1) (q : Fin 2048) : (iblk m c 3 t : FVec Ideal S1x2048 .f32) (ix2 z q) = at2 (Gn m c) 0 q.val := by
  rw [at2_eq (Gn m c) (by omega) q.isLt]
  blk_ext [iblk, i3 t]

theorem blk4 (t : Fin cfg0.N) (r : Fin 256) (q : Fin 2048) :
    (iblk m c 4 t : FVec Ideal S256x2048 .f32) (ix2 r q) = at2 (Rs m c) (256 * (4 * (t.val / 12) + (t.val % 12 - 8)) + r.val) q.val := by
  have ht : t.val < 48 := lt_of_lt_of_eq t.isLt hN
  rw [at2_eq (Rs m c) (show 256 * (4 * (t.val / 12) + (t.val % 12 - 8)) + r.val < 4096 by omega) q.isLt]
  blk_ext [iblk, i4 t]

/-- One column's addition to an entry of the product's gradient, and that gradient. -/
abbrev term (r q s : ℕ) : EReal := at2 (P m c) r s * at3 (W m c) (s / 1024) q (s % 1024)
abbrev dh (r q : ℕ) : EReal := ∑ s ∈ Finset.range 8192, term m c r q s

/-- One token's addition to an entry of the gain's gradient. -/
abbrev row (t : ℕ) : ℕ → EReal := fun k => at2 (X m c) t k
abbrev gterm (q t : ℕ) : EReal := dh m c t q * (row m c t q * root (row m c t))

theorem pay1 (z : Fin 1) (q : Fin 2048) : k0_pay1 (F := Ideal) (ix2 z q) = 0 := by
  unfold_payloads
  pointwise

theorem pay2 (r : Fin 1024) (q : Fin 2048) : k0_pay2 (F := Ideal) (ix2 r q) = 0 := by
  unfold_payloads
  pointwise

theorem pay3 (t : Fin cfg0.N) (h : t.val % 12 ≤ 7) (v : FVec Ideal S1024x2048 .f32) (r : Fin 1024) (q : Fin 2048) :
    k0_pay3 (F := Ideal) v (iblk m c 0 t) (iblk m c 1 t) (ix2 r q)
      = v (ix2 r q) + ∑ k : Fin 1024, term m c (1024 * (t.val / 12) + r.val) q.val (1024 * (t.val % 12) + k.val) := by
  have e : ∀ k : Fin 1024, term m c (1024 * (t.val / 12) + r.val) q.val (1024 * (t.val % 12) + k.val)
      = at2 (P m c) (1024 * (t.val / 12) + r.val) (1024 * (t.val % 12) + k.val) * at3 (W m c) (t.val % 12) q.val k.val := fun k => by
    unfold term
    rw [show (1024 * (t.val % 12) + k.val) / 1024 = t.val % 12 by omega, show (1024 * (t.val % 12) + k.val) % 1024 = k.val by omega]
  simp only [e]
  unfold_payloads
  pointwise
  simp only [blk0 m c t h, blk1 m c t h]
  all_goals rfl

theorem pay6 (x : FVec Ideal S256x2048 .f32) (d : FVec Ideal S256x2048 .f32) (v : FVec Ideal S1x2048 .f32) (z : Fin 1) (q : Fin 2048) :
    k0_pay6 (F := Ideal) x d v (ix2 z q)
      = v (ix2 z q) + ∑ r : Fin 256, d (ix2 r q) * (x (ix2 r q) * root fun k => at2 x r.val k) := by
  have e : ∀ (r : Fin 256) (k : Fin 2048), at2 x r.val k.val = x (ix2 r k) := fun r k => at2_eq x r.isLt k.isLt
  unfold root var
  simp only [e]
  unfold_payloads
  pointwise

theorem pay7 (x d : FVec Ideal S256x2048 .f32) (g : FVec Ideal S1x2048 .f32) (s : FVec Ideal S256x2048 .f32) (r : Fin 256) (q : Fin 2048) :
    k0_pay7 (F := Ideal) x d g s (ix2 r q)
      = kdx (fun k => at2 x r.val k) (fun k => at2 d r.val k) (fun k => at2 g 0 k) (s (ix2 r q)) q.val := by
  have e : ∀ (k : Fin 2048), at2 x r.val k.val = x (ix2 r k) := fun k => at2_eq x r.isLt k.isLt
  have e' : ∀ (k : Fin 2048), at2 d r.val k.val = d (ix2 r k) := fun k => at2_eq d r.isLt k.isLt
  have e'' : ∀ (k : Fin 2048), at2 g 0 k.val = g (ix2 0 k) := fun k => at2_eq g (by omega) k.isLt
  unfold kdx root var
  simp only [e, e', e'']
  unfold_payloads
  pointwise

theorem acc (r : Fin 1024) (q : Fin 2048) : ∀ (n : ℕ) (h : n < cfg0.N),
    (outsAt0 m c n h).2.2 (ix2 r q) = ∑ s ∈ Finset.range (1024 * min (n % 12 + 1) 8), term m c (1024 * (n / 12) + r.val) q.val s := by
  intro n
  induction n with
  | zero =>
    intro h
    rw [show min (0 % 12 + 1) 8 = 0 + 1 from rfl, ← sum_next, outsAt0_A m c ⟨0, h⟩ (by rfl) (by rfl) (by simp) (by simp)]
    frame_out
    rw [pay3 m c ⟨0, h⟩ (by simp), pay2]
    rfl
  | succ n ih =>
    intro h
    have hn : n + 1 < 48 := lt_of_lt_of_eq h hN
    by_cases h1 : (n + 1) % 12 = 0
    · rw [show min ((n + 1) % 12 + 1) 8 = (n + 1) % 12 + 1 by omega, ← sum_next]
      by_cases h0 : (n + 1) % 48 = 0
      · exact absurd h0 (by omega)
      · rw [outsAt0_D m c ⟨n + 1, h⟩ h0 h1 (by show (n + 1) % 12 ≤ 7; omega) (by show ¬ 8 ≤ (n + 1) % 12; omega)]
        frame_out
        rw [pay3 m c ⟨n + 1, h⟩ (by show (n + 1) % 12 ≤ 7; omega), pay2]
        show 0 + _ = _
        rw [h1]
        rfl
    · have ih := ih (by omega)
      have e1 : n / 12 = (n + 1) / 12 := by omega
      by_cases h2 : (n + 1) % 12 ≤ 7
      · rw [show min (n % 12 + 1) 8 = (n + 1) % 12 by omega, e1] at ih
        rw [show min ((n + 1) % 12 + 1) 8 = (n + 1) % 12 + 1 by omega, ← sum_next,
          outsAt0_B m c ⟨n + 1, h⟩ (by show ¬ (n + 1) % 48 = 0; omega) h1 h2 (by show ¬ 8 ≤ (n + 1) % 12; omega)]
        frame_out
        rw [pay3 m c ⟨n + 1, h⟩ h2]
        exact congrArg (· + _) ((congrFun (Memref.IsWhole.read_unread _ _) _).trans ih)
      · rw [show min (n % 12 + 1) 8 = 8 by omega, e1] at ih
        rw [show min ((n + 1) % 12 + 1) 8 = 8 by omega,
          outsAt0_C m c ⟨n + 1, h⟩ (by show ¬ (n + 1) % 48 = 0; omega) h1 h2 (by show 8 ≤ (n + 1) % 12; omega)]
        exact ih

/-- The rows of the product's gradient that a point after the product reads. -/
theorem held (t : Fin cfg0.N) (h : 8 ≤ t.val % 12) {hs : scM0_0.IsWhole}
    (inb : ∀ a, k0_off1 (grid0.coords t) a + S256x2048.size a ≤ S1024x2048.size a) (r : Fin 256) (q : Fin 2048) :
    View.ld (View.read (Elt Ideal) (View.whole cc0_scratch0) (hs.unread (outsAt0 m c (t.val - 1) (lt_of_le_of_lt (Nat.sub_le _ _) t.isLt)).2.2))
        (Rect.unit (s := S1024x2048) (k0_off1 (grid0.coords t)) S256x2048.size inb) (ix2 r q)
      = dh m c (256 * (4 * (t.val / 12) + (t.val % 12 - 8)) + r.val) q.val := by
  have ht : t.val < 48 := lt_of_lt_of_eq t.isLt hN
  revert inb
  rw [o1 t h]
  intro inb
  refine (ld_at2 (A := 1024) (N := 2048) _ inb r q).trans ?_
  rw [at2_eq _ (show 256 * (t.val % 12 - 8) + r.val < 1024 by omega) (show 0 + q.val < 2048 by omega)]
  refine (congrFun (Memref.IsWhole.read_unread hs _) _).trans ((acc m c ⟨256 * (t.val % 12 - 8) + r.val, by omega⟩ ⟨0 + q.val, by omega⟩ (t.val - 1) _).trans ?_)
  rw [show min ((t.val - 1) % 12 + 1) 8 = 8 by omega]
  show ∑ s ∈ Finset.range 8192, term m c (1024 * ((t.val - 1) / 12) + (256 * (t.val % 12 - 8) + r.val)) (0 + q.val) s = _
  rw [show 1024 * ((t.val - 1) / 12) + (256 * (t.val % 12 - 8) + r.val) = 256 * (4 * (t.val / 12) + (t.val % 12 - 8)) + r.val by omega, Nat.zero_add]

theorem dgs (z : Fin 1) (q : Fin 2048) : ∀ (n : ℕ) (h : n < cfg0.N),
    (outsAt0 m c n h).2.1 (ix2 z q) = ∑ t ∈ Finset.range (256 * (4 * (n / 12) + (n % 12 - 7))), gterm m c q.val t := by
  intro n
  induction n with
  | zero =>
    intro h
    rw [outsAt0_A m c ⟨0, h⟩ (by rfl) (by rfl) (by simp) (by simp)]
    frame_out
    rw [pay1]
    rfl
  | succ n ih =>
    intro h
    have hn : n + 1 < 48 := lt_of_lt_of_eq h hN
    have ih := ih (by omega)
    by_cases h1 : (n + 1) % 12 = 0
    · rw [show 4 * (n / 12) + (n % 12 - 7) = 4 * ((n + 1) / 12) + ((n + 1) % 12 - 7) by omega] at ih
      rw [outsAt0_D m c ⟨n + 1, h⟩ (by show ¬ (n + 1) % 48 = 0; omega) h1 (by show (n + 1) % 12 ≤ 7; omega) (by show ¬ 8 ≤ (n + 1) % 12; omega)]
      exact ih
    · by_cases h2 : (n + 1) % 12 ≤ 7
      · rw [show 4 * (n / 12) + (n % 12 - 7) = 4 * ((n + 1) / 12) + ((n + 1) % 12 - 7) by omega] at ih
        rw [outsAt0_B m c ⟨n + 1, h⟩ (by show ¬ (n + 1) % 48 = 0; omega) h1 h2 (by show ¬ 8 ≤ (n + 1) % 12; omega)]
        exact ih
      · rw [show 4 * (n / 12) + (n % 12 - 7) = 4 * ((n + 1) / 12) + ((n + 1) % 12 - 8) by omega] at ih
        rw [show 4 * ((n + 1) / 12) + ((n + 1) % 12 - 7) = (4 * ((n + 1) / 12) + ((n + 1) % 12 - 8)) + 1 by omega, ← sum_next,
          outsAt0_C m c ⟨n + 1, h⟩ (by show ¬ (n + 1) % 48 = 0; omega) h1 h2 (by show 8 ≤ (n + 1) % 12; omega)]
        have h3 : 8 ≤ (n + 1) % 12 := by omega
        frame_out
        rw [pay6]
        exact congr (congrArg _ ih) (Finset.sum_congr rfl fun r _ => congr (congrArg _ (held m c ⟨n + 1, h⟩ h3 _ r q))
          (congr (congrArg _ (blk2 m c ⟨n + 1, h⟩ r q)) (root_congr fun k => (at2_eq _ r.isLt k.isLt).trans (blk2 m c ⟨n + 1, h⟩ r k))))

theorem dxs (t : Fin cfg0.N) (h : 8 ≤ t.val % 12) (r : Fin 256) (q : Fin 2048) :
    (outsAt0 m c t.val t.isLt).1 (ix2 r q)
      = kdx (row m c (256 * (4 * (t.val / 12) + (t.val % 12 - 8)) + r.val)) (dh m c (256 * (4 * (t.val / 12) + (t.val % 12 - 8)) + r.val))
          (at2 (Gn m c) 0) (at2 (Rs m c) (256 * (4 * (t.val / 12) + (t.val % 12 - 8)) + r.val) q.val) q.val := by
  rw [outsAt0_C m c t (by omega) (by omega) (by omega) h]
  frame_out
  rw [pay7, blk4 m c t r q]
  exact kdx_congr (fun k => (at2_eq _ r.isLt k.isLt).trans (blk2 m c t r k)) (fun k => (at2_eq _ r.isLt k.isLt).trans (held m c t h _ r k))
    (fun k => (at2_eq _ (by omega) k.isLt).trans (blk3 m c t 0 k)) _ q

/-- The two arrays that the call leaves. -/
def G5 : FVec Ideal S4096x2048 .f32 := fun y =>
  kdx (row m c (y 0).val) (dh m c (y 0).val) (at2 (Gn m c) 0) (at2 (Rs m c) (y 0).val (y 1).val) (y 1).val
def G6 : FVec Ideal S1x2048 .f32 := fun y => ∑ t ∈ Finset.range 4096, gterm m c (y 1).val t

theorem array5 : (dats m 0 c).arrAt 5 cfg0.N = G5 m c := by
  refine (dats m 0 c).arrAt_eq_of_covers 5 _ (by decide +kernel) fun t hf y => ?_
  have hf' : 8 ≤ t.val % 12 := (show ∀ t : Fin cfg0.N, (cfg0.win 5).flush t = true → 8 ≤ t.val % 12 by decide +kernel) t hf
  blk_simp
  rw [after0_5]
  obtain ⟨r, q, rfl⟩ : ∃ (r : Fin 256) (q : Fin 2048), y = (ix2 r q : S256x2048.Idx) := ⟨y 0, y 1, (ix2_eta (y : S256x2048.Idx)).symm⟩
  refine (dxs m c t hf' r q).trans ?_
  have h0 : (((win0_5.blk t).view.emb (ix2 r q : S256x2048.Idx) : S4096x2048.Idx) 0).val = 256 * (4 * (t.val / 12) + (t.val % 12 - 8)) + r.val := by
    blk_simp [i5 t]
    omega
  have h1 : (((win0_5.blk t).view.emb (ix2 r q : S256x2048.Idx) : S4096x2048.Idx) 1).val = q.val := by
    blk_simp [i5 t]
  show _ = kdx (row m c _) (dh m c _) (at2 (Gn m c) 0) (at2 (Rs m c) _ _) _
  rw [h0, h1]

/-- The last point. -/
def tl : Fin cfg0.N := ⟨47, by rw [hN]; omega⟩

theorem array6 : (dats m 0 c).arrAt 6 cfg0.N = G6 m c := by
  refine (dats m 0 c).arrAt_eq_of_after_last 6 tl (by decide +kernel) _ fun j => ?_
  blk_simp
  rw [after0_6]
  obtain ⟨z, q, rfl⟩ : ∃ (z : Fin 1) (q : Fin 2048), j = (ix2 z q : S1x2048.Idx) := ⟨j 0, j 1, (ix2_eta (j : S1x2048.Idx)).symm⟩
  exact dgs m c z q 47 tl.isLt

end Cert.DnB
end
-- ==== Proof.AlgDnB.lean ====
module

public import proofs.«01_k».proof.Proof.DnB
public import proofs.«01_k».proof.Proof.Gen.Reference3Ideal.Run
public import proofs.«01_k».proof.Proof.Gen.Reference3Ideal.Read
public import proofs.«01_k».proof.Defs

@[expose] public section

/-! # The gradient through the input product and the norm: the call's results are the reference's -/

set_option maxRecDepth 16384
set_option maxHeartbeats 4000000

noncomputable section
namespace Cert.DnB
open Cert.Kernel3Ideal Cert.Kernel3Ideal.Gen Cert.Lin Cert.Dn Cert.Reference3Ideal.Read Idealize.ShloMosaic Idealize.ShloMosaic.TcCoe Idealize.SL.Sem

section Reference
variable (A0 : FVec Ideal S4096x2048 .f32) (A1 : FVec Ideal S1x2048 .f32) (A2 : FVec Ideal S2048x8192 .f32) (A3 : FVec Ideal S4096x8192 .f32)
  (A4 : FVec Ideal S4096x2048 .f32)

abbrev rdh (t q : ℕ) : EReal := ∑ s : Fin 8192, at2 A3 t s.val * at2 A2 q s.val

theorem v6 (i : Cert.Reference3Ideal.S4096x1.Idx) : val_main_v6 (F := Ideal) A0 i = var (at2 A0 (i 0).val) := by
  rw [val_main_v6_apply, val_main_v4_apply, val_main_v2_apply, val_main_v3_apply, val_main_v5_apply, val_main_v1_apply]
  have e : ∀ k : Fin 2048, val_main_v0 (F := Ideal) A0 (idx_main_v1 (idx_main_v2 i) k) = at2 A0 (i 0).val k.val * at2 A0 (i 0).val k.val := fun k => by
    rw [at2_eq A0 (i 0).isLt k.isLt, val_main_v0_apply]
    have e : idx_main_v1 (idx_main_v2 i) k = (ix2 ⟨(i 0).val, (i 0).isLt⟩ ⟨k.val, k.isLt⟩ : S4096x2048.Idx) := funext fun a => by
      match a with
      | ⟨0, _⟩ => rfl
      | ⟨1, _⟩ => rfl
    rw [e]
    rfl
  simp only [e]
  show Ideal.div (Ideal.ofBits .f32 0x00000000#32 + _) n2048 + eps = _
  rw [Ideal.ofBits_zero_f32, zero_add]

theorem v7 (i : Cert.Reference3Ideal.S4096x1.Idx) : val_main_v7 (F := Ideal) A0 i = root (at2 A0 (i 0).val) := by
  rw [val_main_v7_apply, v6]
  rfl

theorem v16 (i : S4096x2048.Idx) : val_main_v16 (F := Ideal) A2 A3 i = rdh A2 A3 (i 0).val (i 1).val := by
  rw [val_main_v16_apply]
  refine Finset.sum_congr rfl fun k _ => ?_
  rw [at2_eq A3 (i 0).isLt k.isLt, at2_eq A2 (i 1).isLt k.isLt]
  refine congr (congrArg _ (congrArg A3 (funext fun a => ?_))) (congrArg A2 (funext fun a => ?_))
  · match a with
    | ⟨0, _⟩ => rfl
    | ⟨1, _⟩ => rfl
  · match a with
    | ⟨0, _⟩ => rfl
    | ⟨1, _⟩ => rfl

theorem v21 (i : S4096x2048.Idx) : val_main_v21 (F := Ideal) A1 A2 A3 i = rdh A2 A3 (i 0).val (i 1).val * at2 A1 0 (i 1).val := by
  rw [val_main_v21_apply, v16, val_main_v20_apply, at2_eq A1 (by omega) (i 1).isLt]
  refine congrArg (rdh A2 A3 (i 0).val (i 1).val * ·) (congrArg A1 (funext fun a => ?_))
  match a with
  | ⟨0, _⟩ => rfl
  | ⟨1, _⟩ => rfl

theorem self (i : S4096x2048.Idx) : A0 i = at2 A0 (i 0).val (i 1).val := by
  rw [at2_eq A0 (i 0).isLt (i 1).isLt]
  exact congrArg A0 (ix2_eta i).symm

theorem v31 (i : S4096x2048.Idx) :
    val_main_v31 (F := Ideal) A0 A1 A2 A3 i = slope (at2 A0 (i 0).val) (rdh A2 A3 (i 0).val) (at2 A1 0) := by
  rw [val_main_v31_apply, val_main_v30_apply, Fin.sum_univ_one, val_main_v29_apply, val_main_v28_apply, val_main_v27_apply, val_main_v24_apply,
    val_main_v23_apply, val_main_v10_apply, val_main_v9_apply, val_main_v8_apply, v7, v6]
  have e : ∀ (p : Cert.Reference3Ideal.S4096.Idx) (k : Fin 2048), val_main_v22 (F := Ideal) A0 A1 A2 A3 (idx_main_v23 p k)
      = at2 A0 (p 0).val k.val * (rdh A2 A3 (p 0).val k.val * at2 A1 0 k.val) := fun p k => by
    rw [val_main_v22_apply, v21, self A0]
    rfl
  simp only [e]
  show Ideal.ofBits .f32 0x00000000#32 + Ideal.div ((Ideal.ofBits .f32 0x00000000#32 + _) * (mhalf * Ideal.div (root _) (var _))) n2048 = _
  rw [Ideal.ofBits_zero_f32, zero_add, zero_add]
  have z : (i 0).val * 1 + ((0 : Fin 1) : ℕ) = (i 0).val := by simp
  simp only [z]

theorem ref5 (i : S4096x2048.Idx) : val_main_v36 (F := Ideal) A0 A1 A2 A3 A4 i
    = rdx (at2 A0 (i 0).val) (rdh A2 A3 (i 0).val) (at2 A1 0) (at2 A4 (i 0).val (i 1).val) (i 1).val := by
  rw [val_main_v36_apply, val_main_v35_apply, val_main_v34_apply, val_main_v33_apply, val_main_v32_apply, val_main_v26_apply, val_main_v25_apply,
    v31, v21, v7, self A0, self A4]
  rfl

theorem ref6 (i : S1x2048.Idx) : val_main_v19 (F := Ideal) A0 A2 A3 i
    = ∑ t : Fin 4096, rdh A2 A3 t.val (i 1).val * (at2 A0 t.val (i 1).val * root (at2 A0 t.val)) := by
  rw [val_main_v19_apply, val_main_v18_apply]
  show Ideal.ofBits .f32 0x00000000#32 + _ = _
  rw [Ideal.ofBits_zero_f32, zero_add]
  refine Finset.sum_congr rfl fun t _ => ?_
  rw [val_main_v17_apply, val_main_v12_apply, val_main_v11_apply, v16, v7, self A0]
  have e : (idx_main_v18 (idx_main_v19 i) t 1).val = (i 1).val := by
    have h0 : (i 0).val < 1 := (i 0).isLt
    show (i 0).val * 2048 + (i 1).val = (i 1).val
    omega
  rw [e]
  exact mul_comm _ _

end Reference

variable (m : (ℓ : Loc nD τ sig) → Buf (Elt Ideal) ℓ) (c : Dev nD)

abbrev B0 : FVec Ideal S4096x2048 .f32 := m ((c : Thread nD τ).loc main_arg0)
abbrev B1 : FVec Ideal S1x2048 .f32 := m ((c : Thread nD τ).loc main_arg1)
abbrev B2 : FVec Ideal S2048x8192 .f32 := m ((c : Thread nD τ).loc main_arg2)
abbrev B3 : FVec Ideal S4096x8192 .f32 := m ((c : Thread nD τ).loc main_arg3)
abbrev B4 : FVec Ideal S4096x2048 .f32 := m ((c : Thread nD τ).loc main_arg4)

theorem X_eq : X m c = B0 m c := by
  unfold X
  entry_read
  rfl
theorem Gn_eq : Gn m c = B1 m c := by
  unfold Gn
  entry_read
  rfl
theorem Rs_eq : Rs m c = B4 m c := by
  unfold Rs
  entry_read
  rfl
theorem P_eq (i : S4096x8192.Idx) : P m c i = B3 m c i := by
  unfold P
  entry_read
  rfl
/-- The blocks that the host cuts the weight into. -/
theorem W_eq (a : Fin 8) (q : Fin 2048) (k : Fin 1024) : W m c (ix3 a q k) = at2 (B2 m c) q.val (1024 * a.val + k.val) := by
  rw [at2_eq (B2 m c) q.isLt (show 1024 * a.val + k.val < 8192 by omega)]
  unfold W
  entry_read
  refine (transpose_apply [1, 0, 2] _ transposes_S2048x8x1024_S8x2048x1024_1_0_2 (ix3 a q k : S8x2048x1024.Idx) (ix3 q a k : S2048x8x1024.Idx) (fun b => ?_)).trans ?_
  · match b with
    | ⟨0, _⟩ => rfl
    | ⟨1, _⟩ => rfl
    | ⟨2, _⟩ => rfl
  refine (shapeCast_apply _ shapeCasts_S2048x8192_S2048x8x1024 (ix3 q a k : S2048x8x1024.Idx)
    (ix2 ⟨q.val, q.isLt⟩ ⟨1024 * a.val + k.val, by omega⟩ : S2048x8192.Idx) ?_).trans rfl
  rw [Shape.rowMajor_val_two, Shape.rowMajor_val_three]
  show q.val * 8192 + (1024 * a.val + k.val) = (q.val * 8 + a.val) * 1024 + k.val
  omega

theorem dh_eq (t q : ℕ) (hq : q < 2048) : dh m c t q = rdh (B2 m c) (B3 m c) t q := by
  unfold dh rdh
  rw [← Fin.sum_univ_eq_sum_range]
  refine Finset.sum_congr rfl fun s _ => ?_
  have hs : s.val < 8192 := s.isLt
  unfold term
  rw [at3_eq (W m c) (show s.val / 1024 < 8 by omega) hq (show s.val % 1024 < 1024 by omega), W_eq]
  show _ * at2 (B2 m c) q (1024 * (s.val / 1024) + s.val % 1024) = _
  rw [Nat.div_add_mod]
  refine congrArg (· * _) ?_
  unfold at2
  split
  · exact P_eq m c _
  · rfl

theorem eq5 (i : S4096x2048.Idx) : val_main_v36 (F := Ideal) (B0 m c) (B1 m c) (B2 m c) (B3 m c) (B4 m c) i = G5 m c i := by
  have h1 : (i 1).val < 2048 := (i 1).isLt
  rw [ref5, ← kdx_eq _ _ _ _ h1]
  unfold G5
  rw [Gn_eq, Rs_eq]
  refine (kdx_congr (fun k => ?_) (fun k => (dh_eq m c _ _ k.isLt).symm) (fun _ => rfl) _ ⟨(i 1).val, h1⟩)
  unfold row
  rw [X_eq]

theorem eq6 (i : S1x2048.Idx) : val_main_v19 (F := Ideal) (B0 m c) (B2 m c) (B3 m c) i = G6 m c i := by
  have h1 : (i 1).val < 2048 := (i 1).isLt
  rw [ref6]
  unfold G6
  rw [← Fin.sum_univ_eq_sum_range]
  refine Finset.sum_congr rfl fun t _ => ?_
  unfold gterm row
  rw [dh_eq m c _ _ h1, X_eq]

theorem algebraic : Cert.algebraic_Kernel3Ideal_Reference3Ideal := by
  intro m g m' g' hpre hagree
  refine ⟨fun c => G5 m c, fun c => G6 m c, ?_, ?_⟩
  · refine (θ_run Cert.Kernel3Ideal.defs _ _).mono (fun r h c => ?_) (Cert.Kernel3Ideal.Value.run_blocks (F := Ideal) m g)
    obtain ⟨h0, h1, hargs⟩ := h c
    exact ⟨h0.trans (array5 m c), h1.trans (array6 m c), hargs⟩
  · refine (θ_run Cert.Reference3Ideal.defs _ _).mono (fun r h c => ?_) (Cert.Reference3Ideal.Value.run (F := Ideal) m' g')
    obtain ⟨h0, h1, hargs⟩ := h c
    obtain ⟨a0, a1, a2, a3, a4⟩ := hagree c
    refine ⟨h0.trans ?_, h1.trans ?_, hargs⟩
    · refine (val_main_v36_eq _ _).trans ?_
      rw [a0, a1, a2, a3, a4]
      exact funext fun i => eq5 m c i
    · refine (val_main_v19_eq _ _ _).trans ?_
      rw [a0, a2, a3]
      exact funext fun i => eq6 m c i

end Cert.DnB
end
-- ==== Proof.InA.lean ====
module

public import proofs.«01_k».proof.Proof.Sums
public import proofs.«01_k».proof.Proof.Gen.Kernel4Ideal.Value

@[expose] public section

/-! # The weight gradient of the pooling mixers' input product: what the call leaves -/

set_option maxRecDepth 16384
set_option maxHeartbeats 4000000

noncomputable section
namespace Cert.InA
open Cert.Kernel4Ideal Cert.Kernel4Ideal.Gen Cert.Lin Idealize.ShloMosaic Idealize.ShloMosaic.TcCoe Idealize.SL.Sem

theorem i0 : ∀ t : Fin cfg0.N, win0_0.index t = ![t.val % 4, 0] := by decide +kernel
theorem i1 : ∀ t : Fin cfg0.N, win0_1.index t = ![t.val % 4, t.val / 4] := by decide +kernel
theorem i2 : ∀ t : Fin cfg0.N, win0_2.index t = ![t.val / 4, 0, 0] := by decide +kernel
theorem hN : cfg0.N = 32 := by decide +kernel

variable (m : (ℓ : Loc nD τ sig) → Buf (Elt Ideal) ℓ) (c : Dev nD)

/-- The two arrays that the call reads. -/
abbrev L : FVec Ideal S4096x2048 .bf16 := V m c main_v12
abbrev R : FVec Ideal S4096x4096 .bf16 := V m c main_v13

theorem blk0 (t : Fin cfg0.N) (r : Fin 1024) (k : Fin 2048) :
    (iblk m c 0 t : FVec Ideal S1024x2048 .bf16) (ix2 r k) = at2 (L m c) (1024 * (t.val % 4) + r.val) k.val := by
  rw [at2_eq (L m c) (show 1024 * (t.val % 4) + r.val < 4096 by omega) k.isLt]
  blk_ext [iblk, i0 t]

theorem blk1 (t : Fin cfg0.N) (r : Fin 1024) (k : Fin 512) :
    (iblk m c 1 t : FVec Ideal S1024x512 .bf16) (ix2 r k) = at2 (R m c) (1024 * (t.val % 4) + r.val) (512 * (t.val / 4) + k.val) := by
  have ht : t.val < 32 := lt_of_lt_of_eq t.isLt hN
  rw [at2_eq (R m c) (show 1024 * (t.val % 4) + r.val < 4096 by omega) (show 512 * (t.val / 4) + k.val < 4096 by omega)]
  blk_ext [iblk, i1 t]

/-- One row's addition to an entry of the gradient. -/
abbrev term (r q s : ℕ) : EReal := at2 (L m c) s r * at2 (R m c) s q

/-- A block of rows added to what was held. -/
theorem pay2 (t : Fin cfg0.N) (v : FVec Ideal S2048x512 .f32) (r : Fin 2048) (q : Fin 512) :
    k0_pay2 (F := Ideal) v (iblk m c 0 t) (iblk m c 1 t) (ix2 r q)
      = v (ix2 r q) + ∑ k : Fin 1024, term m c r.val (512 * (t.val / 4) + q.val) (1024 * (t.val % 4) + k.val) := by
  unfold_payloads
  pointwise
  simp only [blk0, blk1]
  all_goals rfl

theorem pay1 (r : Fin 2048) (q : Fin 512) : k0_pay1 (F := Ideal) (ix2 r q) = 0 := by
  unfold_payloads
  pointwise

theorem pay3 (v : FVec Ideal S2048x512 .f32) (z : Fin 1) (r : Fin 2048) (q : Fin 512) : k0_pay3 (F := Ideal) v (ix3 z r q) = v (ix2 r q) := by
  unfold_payloads
  pointwise

theorem acc (r : Fin 2048) (q : Fin 512) : ∀ (n : ℕ) (h : n < cfg0.N),
    (outsAt0 m c n h).2 (ix2 r q) = ∑ s ∈ Finset.range (1024 * (n % 4 + 1)), term m c r.val (512 * (n / 4) + q.val) s := by
  intro n
  induction n with
  | zero =>
    intro h
    rw [outsAt0_A m c ⟨0, h⟩ (by rfl) (by simp), ← sum_next]
    frame_out
    rw [pay2, pay1]
    rfl
  | succ n ih =>
    intro h
    rw [← sum_next]
    by_cases h0 : (n + 1) % 4 = 0
    · rw [outsAt0_A m c ⟨n + 1, h⟩ h0 (by show ¬ (n + 1) % 4 = 3; omega)]
      frame_out
      rw [pay2, pay1]
      show 0 + _ = _
      rw [h0]
      rfl
    · have e1 : n / 4 = (n + 1) / 4 := by omega
      have e2 : n % 4 + 1 = (n + 1) % 4 := by omega
      have ih := ih (by omega)
      rw [e1, e2] at ih
      by_cases h1 : (n + 1) % 4 = 3
      · rw [outsAt0_C m c ⟨n + 1, h⟩ h0 h1]
        frame_out
        rw [pay2]
        exact congrArg (· + _) ((congrFun (Memref.IsWhole.read_unread _ _) _).trans ih)
      · rw [outsAt0_B m c ⟨n + 1, h⟩ h0 h1]
        frame_out
        rw [pay2]
        exact congrArg (· + _) ((congrFun (Memref.IsWhole.read_unread _ _) _).trans ih)

theorem out (t : Fin cfg0.N) (h1 : t.val % 4 = 3) (z : Fin 1) (r : Fin 2048) (q : Fin 512) :
    (outsAt0 m c t.val t.isLt).1 (ix3 z r q) = ∑ s ∈ Finset.range 4096, term m c r.val (512 * (t.val / 4) + q.val) s := by
  refine Eq.trans ?_ ((acc m c r q t.val t.isLt).trans (by rw [h1]))
  rw [outsAt0_C m c t (by omega) h1]
  frame_out
  rw [pay3]

/-- The gradient, a block of columns for each device. -/
def G : FVec Ideal S8x2048x512 .bf16 := fun y => ∑ s ∈ Finset.range 4096, term m c (y 1).val (512 * (y 0).val + (y 2).val) s

theorem array : (dats m 0 c).arrAt 2 cfg0.N = G m c := by
  refine (dats m 0 c).arrAt_eq_of_covers 2 _ (by decide +kernel) fun t hf y => ?_
  have hf' : t.val % 4 = 3 := (show ∀ t : Fin cfg0.N, (cfg0.win 2).flush t = true → t.val % 4 = 3 by decide +kernel) t hf
  blk_simp
  rw [after0_2]
  obtain ⟨z, r, q, rfl⟩ : ∃ (z : Fin 1) (r : Fin 2048) (q : Fin 512), y = (ix3 z r q : S1x2048x512.Idx) := ⟨y 0, y 1, y 2, (ix3_eta (y : S1x2048x512.Idx)).symm⟩
  refine (out m c t hf' z r q).trans ?_
  have h0 : (((win0_2.blk t).view.emb (ix3 z r q : S1x2048x512.Idx) : S8x2048x512.Idx) 0).val = t.val / 4 := by
    blk_simp [i2 t]
  have h1 : (((win0_2.blk t).view.emb (ix3 z r q : S1x2048x512.Idx) : S8x2048x512.Idx) 1).val = r.val := by
    blk_simp [i2 t]
  have h2 : (((win0_2.blk t).view.emb (ix3 z r q : S1x2048x512.Idx) : S8x2048x512.Idx) 2).val = q.val := by
    blk_simp [i2 t]
  show _ = ∑ s ∈ Finset.range 4096, term m c _ (512 * _ + _) s
  rw [h0, h1, h2]

end Cert.InA
end
-- ==== Proof.AlgInA.lean ====
module

public import proofs.«01_k».proof.Proof.InA
public import proofs.«01_k».proof.Proof.Gen.Reference4Ideal.Run
public import proofs.«01_k».proof.Proof.Gen.Reference4Ideal.Read
public import proofs.«01_k».proof.Defs

@[expose] public section

/-! # The weight gradient of the pooling mixers' input product: the call's result is the reference's -/

set_option maxRecDepth 16384
set_option maxHeartbeats 4000000

noncomputable section
namespace Cert.InA
open Cert.Kernel4Ideal Cert.Kernel4Ideal.Gen Cert.Lin Cert.Reference4Ideal.Read Idealize.ShloMosaic Idealize.ShloMosaic.TcCoe Idealize.SL.Sem

variable (m : (ℓ : Loc nD τ sig) → Buf (Elt Ideal) ℓ) (c : Dev nD)

abbrev A0 : FVec Ideal S4096x2048 .f32 := m ((c : Thread nD τ).loc main_arg0)
abbrev A1 : FVec Ideal S1x2048 .f32 := m ((c : Thread nD τ).loc main_arg1)
abbrev A3 : FVec Ideal S4096x4096 .f32 := m ((c : Thread nD τ).loc main_arg3)

/-- The rows that the host norms are the reference's. -/
theorem L_eq (i : S4096x2048.Idx) : L m c i = val_main_v11 (F := Ideal) (A0 m c) (A1 m c) i := by
  unfold L
  entry_read
  rfl

theorem R_eq (i : S4096x4096.Idx) : R m c i = A3 m c i := by
  unfold R
  entry_read
  rfl

theorem ref_eq (i : S8x2048x512.Idx) : val_main_v17 (F := Ideal) (A0 m c) (A1 m c) (A3 m c) i = G m c i := by
  have l0 : (i 0).val < 8 := (i 0).isLt
  have l1 : (i 1).val < 2048 := (i 1).isLt
  have l2 : (i 2).val < 512 := (i 2).isLt
  rw [val_main_v17_apply, Ideal.truncf_def, val_main_v16_apply, val_main_v15_apply, val_main_v14_apply, val_main_v13_apply]
  unfold G
  rw [← Fin.sum_univ_eq_sum_range]
  refine Finset.sum_congr rfl fun k _ => ?_
  unfold term
  rw [at2_eq (L m c) k.isLt l1, at2_eq (R m c) k.isLt (show 512 * (i 0).val + (i 2).val < 4096 by omega), L_eq, R_eq]
  refine (mul_comm _ _).trans (congr (congrArg _ (congrArg (val_main_v11 (F := Ideal) (A0 m c) (A1 m c)) ?_)) (congrArg (A3 m c) ?_))
  · refine funext fun a => Fin.ext ?_
    match a with
    | ⟨0, _⟩ => rfl
    | ⟨1, _⟩ => show (((i 1).val * 8 + (i 0).val) * 512 + (i 2).val) / 4096 = (i 1).val; omega
  · refine funext fun a => Fin.ext ?_
    match a with
    | ⟨0, _⟩ => rfl
    | ⟨1, _⟩ => show (((i 1).val * 8 + (i 0).val) * 512 + (i 2).val) % 4096 = 512 * (i 0).val + (i 2).val; omega

theorem algebraic : Cert.algebraic_Kernel4Ideal_Reference4Ideal := by
  intro m g m' g' hpre hagree
  refine ⟨fun c => G m c, ?_, ?_⟩
  · refine (θ_run Cert.Kernel4Ideal.defs _ _).mono (fun r h c => ?_) (Cert.Kernel4Ideal.Value.run_blocks (F := Ideal) m g)
    obtain ⟨h0, hargs⟩ := h c
    exact ⟨h0.trans (array m c), hargs⟩
  · refine (θ_run Cert.Reference4Ideal.defs _ _).mono (fun r h c => ?_) (Cert.Reference4Ideal.Value.run (F := Ideal) m' g')
    obtain ⟨h0, hargs⟩ := h c
    obtain ⟨a0, a1, a2, a3⟩ := hagree c
    refine ⟨h0.trans ?_, hargs⟩
    refine (val_main_v17_eq _ _ _).trans ?_
    rw [a0, a1, a3]
    exact funext fun i => ref_eq m c i

end Cert.InA
end
-- ==== Proof.DnA.lean ====
module

public import proofs.«01_k».proof.Proof.Dn
public import proofs.«01_k».proof.Proof.Gen.Kernel5Ideal.Value

@[expose] public section

/-! # The gradient through the pooling mixers' input product and the norm: what the call leaves -/

set_option maxRecDepth 16384
set_option maxHeartbeats 4000000

noncomputable section
namespace Cert.DnA
open Cert.Kernel5Ideal Cert.Kernel5Ideal.Gen Cert.Lin Cert.Dn Idealize.ShloMosaic Idealize.ShloMosaic.TcCoe Idealize.SL.Sem

theorem i0 : ∀ t : Fin cfg0.N, win0_0.index t = ![t.val / 12, min (t.val % 12) 7] := by decide +kernel
theorem i1 : ∀ t : Fin cfg0.N, win0_1.index t = ![min (t.val % 12) 7, 0, 0] := by decide +kernel
theorem i2 : ∀ t : Fin cfg0.N, win0_2.index t = ![4 * (t.val / 12) + (t.val % 12 - 8), 0] := by decide +kernel
theorem i3 : ∀ t : Fin cfg0.N, win0_3.index t = ![0, 0] := by decide +kernel
theorem i4 : ∀ t : Fin cfg0.N, win0_4.index t = ![4 * (t.val / 12) + (t.val % 12 - 8), 0] := by decide +kernel
theorem i5 : ∀ t : Fin cfg0.N, win0_5.index t = ![4 * (t.val / 12) + (t.val % 12 - 8), 0] := by decide +kernel
theorem o1 : ∀ t : Fin cfg0.N, 8 ≤ t.val % 12 → k0_off1 (grid0.coords t) = ![256 * (t.val % 12 - 8), 0] := by decide +kernel
theorem hN : cfg0.N = 48 := by decide +kernel

variable (m : (ℓ : Loc nD τ sig) → Buf (Elt Ideal) ℓ) (c : Dev nD)

/-- The arrays that the call reads. -/
abbrev P : FVec Ideal S4096x4096 .bf16 := V m c main_v0
abbrev W : FVec Ideal S8x2048x512 .bf16 := V m c main_v3
abbrev X : FVec Ideal S4096x2048 .f32 := V m c main_arg0
abbrev Gn : FVec Ideal S1x2048 .f32 := V m c main_arg1
abbrev Rs : FVec Ideal S4096x2048 .f32 := V m c main_arg4

theorem blk0 (t : Fin cfg0.N) (h : t.val % 12 ≤ 7) (r : Fin 1024) (k : Fin 512) :
    (iblk m c 0 t : FVec Ideal S1024x512 .bf16) (ix2 r k) = at2 (P m c) (1024 * (t.val / 12) + r.val) (512 * (t.val % 12) + k.val) := by
  have ht : t.val < 48 := lt_of_lt_of_eq t.isLt hN
  rw [at2_eq (P m c) (show 1024 * (t.val / 12) + r.val < 4096 by omega) (show 512 * (t.val % 12) + k.val < 4096 by omega)]
  have e : win0_0.index t = ![t.val / 12, t.val % 12] := by rw [i0 t, min_eq_left h]
  blk_ext [iblk, e]

theorem blk1 (t : Fin cfg0.N) (h : t.val % 12 ≤ 7) (z : Fin 1) (q : Fin 2048) (k : Fin 512) :
    (iblk m c 1 t : FVec Ideal S1x2048x512 .bf16) (ix3 z q k) = at3 (W m c) (t.val % 12) q.val k.val := by
  rw [at3_eq (W m c) (show t.val % 12 < 8 by omega) q.isLt k.isLt]
  have e : win0_1.index t = ![t.val % 12, 0, 0] := by rw [i1 t, min_eq_left h]
  blk_ext [iblk, e]

theorem blk2 (t : Fin cfg0.N) (r : Fin 256) (q : Fin 2048) :
    (iblk m c 2 t : FVec Ideal S256x2048 .f32) (ix2 r q) = at2 (X m c) (256 * (4 * (t.val / 12) + (t.val % 12 - 8)) + r.val) q.val := by
  have ht : t.val < 48 := lt_of_lt_of_eq t.isLt hN
  rw [at2_eq (X m c) (show 256 * (4 * (t.val / 12) + (t.val % 12 - 8)) + r.val < 4096 by omega) q.isLt]
  blk_ext [iblk, i2 t]

theorem blk3 (t : Fin cfg0.N) (z : Fin 1) (q : Fin 2048) : (iblk m c 3 t : FVec Ideal S1x2048 .f32) (ix2 z q) = at2 (Gn m c) 0 q.val := by
  rw [at2_eq (Gn m c) (by omega) q.isLt]
  blk_ext [iblk, i3 t]

theorem blk4 (t : Fin cfg0.N) (r : Fin 256) (q : Fin 2048) :
    (iblk m c 4 t : FVec Ideal S256x2048 .f32) (ix2 r q) = at2 (Rs m c) (256 * (4 * (t.val / 12) + (t.val % 12 - 8)) + r.val) q.val := by
  have ht : t.val < 48 := lt_of_lt_of_eq t.isLt hN
  rw [at2_eq (Rs m c) (show 256 * (4 * (t.val / 12) + (t.val % 12 - 8)) + r.val < 4096 by omega) q.isLt]
  blk_ext [iblk, i4 t]

/-- One column's addition to an entry of the product's gradient, and that gradient. -/
abbrev term (r q s : ℕ) : EReal := at2 (P m c) r s * at3 (W m c) (s / 512) q (s % 512)
abbrev dh (r q : ℕ) : EReal := ∑ s ∈ Finset.range 4096, term m c r q s

/-- One token's addition to an entry of the gain's gradient. -/
abbrev row (t : ℕ) : ℕ → EReal := fun k => at2 (X m c) t k
abbrev gterm (q t : ℕ) : EReal := dh m c t q * (row m c t q * root (row m c t))

theorem pay1 (z : Fin 1) (q : Fin 2048) : k0_pay1 (F := Ideal) (ix2 z q) = 0 := by
  unfold_payloads
  pointwise

theorem pay2 (r : Fin 1024) (q : Fin 2048) : k0_pay2 (F := Ideal) (ix2 r q) = 0 := by
  unfold_payloads
  pointwise

theorem pay3 (t : Fin cfg0.N) (h : t.val % 12 ≤ 7) (v : FVec Ideal S1024x2048 .f32) (r : Fin 1024) (q : Fin 2048) :
    k0_pay3 (F := Ideal) v (iblk m c 0 t) (iblk m c 1 t) (ix2 r q)
      = v (ix2 r q) + ∑ k : Fin 512, term m c (1024 * (t.val / 12) + r.val) q.val (512 * (t.val % 12) + k.val) := by
  have e : ∀ k : Fin 512, term m c (1024 * (t.val / 12) + r.val) q.val (512 * (t.val % 12) + k.val)
      = at2 (P m c) (1024 * (t.val / 12) + r.val) (512 * (t.val % 12) + k.val) * at3 (W m c) (t.val % 12) q.val k.val := fun k => by
    unfold term
    rw [show (512 * (t.val % 12) + k.val) / 512 = t.val % 12 by omega, show (512 * (t.val % 12) + k.val) % 512 = k.val by omega]
  simp only [e]
  unfold_payloads
  pointwise
  simp only [blk0 m c t h, blk1 m c t h]
  all_goals rfl

theorem pay6 (x : FVec Ideal S256x2048 .f32) (d : FVec Ideal S256x2048 .f32) (v : FVec Ideal S1x2048 .f32) (z : Fin 1) (q : Fin 2048) :
    k0_pay6 (F := Ideal) x d v (ix2 z q)
      = v (ix2 z q) + ∑ r : Fin 256, d (ix2 r q) * (x (ix2 r q) * root fun k => at2 x r.val k) := by
  have e : ∀ (r : Fin 256) (k : Fin 2048), at2 x r.val k.val = x (ix2 r k) := fun r k => at2_eq x r.isLt k.isLt
  unfold root var
  simp only [e]
  unfold_payloads
  pointwise

theorem pay7 (x d : FVec Ideal S256x2048 .f32) (g : FVec Ideal S1x2048 .f32) (s : FVec Ideal S256x2048 .f32) (r : Fin 256) (q : Fin 2048) :
    k0_pay7 (F := Ideal) x d g s (ix2 r q)
      = kdx (fun k => at2 x r.val k) (fun k => at2 d r.val k) (fun k => at2 g 0 k) (s (ix2 r q)) q.val := by
  have e : ∀ (k : Fin 2048), at2 x r.val k.val = x (ix2 r k) := fun k => at2_eq x r.isLt k.isLt
  have e' : ∀ (k : Fin 2048), at2 d r.val k.val = d (ix2 r k) := fun k => at2_eq d r.isLt k.isLt
  have e'' : ∀ (k : Fin 2048), at2 g 0 k.val = g (ix2 0 k) := fun k => at2_eq g (by omega) k.isLt
  unfold kdx root var
  simp only [e, e', e'']
  unfold_payloads
  pointwise

theorem acc (r : Fin 1024) (q : Fin 2048) : ∀ (n : ℕ) (h : n < cfg0.N),
    (outsAt0 m c n h).2.2 (ix2 r q) = ∑ s ∈ Finset.range (512 * min (n % 12 + 1) 8), term m c (1024 * (n / 12) + r.val) q.val s := by
  intro n
  induction n with
  | zero =>
    intro h
    rw [show min (0 % 12 + 1) 8 = 0 + 1 from rfl, ← sum_next, outsAt0_A m c ⟨0, h⟩ (by rfl) (by rfl) (by simp) (by simp)]
    frame_out
    rw [pay3 m c ⟨0, h⟩ (by simp), pay2]
    rfl
  | succ n ih =>
    intro h
    have hn : n + 1 < 48 := lt_of_lt_of_eq h hN
    by_cases h1 : (n + 1) % 12 = 0
    · rw [show min ((n + 1) % 12 + 1) 8 = (n + 1) % 12 + 1 by omega, ← sum_next]
      by_cases h0 : (n + 1) % 48 = 0
      · exact absurd h0 (by omega)
      · rw [outsAt0_D m c ⟨n + 1, h⟩ h0 h1 (by show (n + 1) % 12 ≤ 7; omega) (by show ¬ 8 ≤ (n + 1) % 12; omega)]
        frame_out
        rw [pay3 m c ⟨n + 1, h⟩ (by show (n + 1) % 12 ≤ 7; omega), pay2]
        show 0 + _ = _
        rw [h1]
        rfl
    · have ih := ih (by omega)
      have e1 : n / 12 = (n + 1) / 12 := by omega
      by_cases h2 : (n + 1) % 12 ≤ 7
      · rw [show min (n % 12 + 1) 8 = (n + 1) % 12 by omega, e1] at ih
        rw [show min ((n + 1) % 12 + 1) 8 = (n + 1) % 12 + 1 by omega, ← sum_next,
          outsAt0_B m c ⟨n + 1, h⟩ (by show ¬ (n + 1) % 48 = 0; omega) h1 h2 (by show ¬ 8 ≤ (n + 1) % 12; omega)]
        frame_out
        rw [pay3 m c ⟨n + 1, h⟩ h2]
        exact congrArg (· + _) ((congrFun (Memref.IsWhole.read_unread _ _) _).trans ih)
      · rw [show min (n % 12 + 1) 8 = 8 by omega, e1] at ih
        rw [show min ((n + 1) % 12 + 1) 8 = 8 by omega,
          outsAt0_C m c ⟨n + 1, h⟩ (by show ¬ (n + 1) % 48 = 0; omega) h1 h2 (by show 8 ≤ (n + 1) % 12; omega)]
        exact ih

/-- The rows of the product's gradient that a point after the product reads. -/
theorem held (t : Fin cfg0.N) (h : 8 ≤ t.val % 12) {hs : scM0_0.IsWhole}
    (inb : ∀ a, k0_off1 (grid0.coords t) a + S256x2048.size a ≤ S1024x2048.size a) (r : Fin 256) (q : Fin 2048) :
    View.ld (View.read (Elt Ideal) (View.whole cc0_scratch0) (hs.unread (outsAt0 m c (t.val - 1) (lt_of_le_of_lt (Nat.sub_le _ _) t.isLt)).2.2))
        (Rect.unit (s := S1024x2048) (k0_off1 (grid0.coords t)) S256x2048.size inb) (ix2 r q)
      = dh m c (256 * (4 * (t.val / 12) + (t.val % 12 - 8)) + r.val) q.val := by
  have ht : t.val < 48 := lt_of_lt_of_eq t.isLt hN
  revert inb
  rw [o1 t h]
  intro inb
  refine (ld_at2 (A := 1024) (N := 2048) _ inb r q).trans ?_
  rw [at2_eq _ (show 256 * (t.val % 12 - 8) + r.val < 1024 by omega) (show 0 + q.val < 2048 by omega)]
  refine (congrFun (Memref.IsWhole.read_unread hs _) _).trans ((acc m c ⟨256 * (t.val % 12 - 8) + r.val, by omega⟩ ⟨0 + q.val, by omega⟩ (t.val - 1) _).trans ?_)
  rw [show min ((t.val - 1) % 12 + 1) 8 = 8 by omega]
  show ∑ s ∈ Finset.range 4096, term m c (1024 * ((t.val - 1) / 12) + (256 * (t.val % 12 - 8) + r.val)) (0 + q.val) s = _
  rw [show 1024 * ((t.val - 1) / 12) + (256 * (t.val % 12 - 8) + r.val) = 256 * (4 * (t.val / 12) + (t.val % 12 - 8)) + r.val by omega, Nat.zero_add]

theorem dgs (z : Fin 1) (q : Fin 2048) : ∀ (n : ℕ) (h : n < cfg0.N),
    (outsAt0 m c n h).2.1 (ix2 z q) = ∑ t ∈ Finset.range (256 * (4 * (n / 12) + (n % 12 - 7))), gterm m c q.val t := by
  intro n
  induction n with
  | zero =>
    intro h
    rw [outsAt0_A m c ⟨0, h⟩ (by rfl) (by rfl) (by simp) (by simp)]
    frame_out
    rw [pay1]
    rfl
  | succ n ih =>
    intro h
    have hn : n + 1 < 48 := lt_of_lt_of_eq h hN
    have ih := ih (by omega)
    by_cases h1 : (n + 1) % 12 = 0
    · rw [show 4 * (n / 12) + (n % 12 - 7) = 4 * ((n + 1) / 12) + ((n + 1) % 12 - 7) by omega] at ih
      rw [outsAt0_D m c ⟨n + 1, h⟩ (by show ¬ (n + 1) % 48 = 0; omega) h1 (by show (n + 1) % 12 ≤ 7; omega) (by show ¬ 8 ≤ (n + 1) % 12; omega)]
      exact ih
    · by_cases h2 : (n + 1) % 12 ≤ 7
      · rw [show 4 * (n / 12) + (n % 12 - 7) = 4 * ((n + 1) / 12) + ((n + 1) % 12 - 7) by omega] at ih
        rw [outsAt0_B m c ⟨n + 1, h⟩ (by show ¬ (n + 1) % 48 = 0; omega) h1 h2 (by show ¬ 8 ≤ (n + 1) % 12; omega)]
        exact ih
      · rw [show 4 * (n / 12) + (n % 12 - 7) = 4 * ((n + 1) / 12) + ((n + 1) % 12 - 8) by omega] at ih
        rw [show 4 * ((n + 1) / 12) + ((n + 1) % 12 - 7) = (4 * ((n + 1) / 12) + ((n + 1) % 12 - 8)) + 1 by omega, ← sum_next,
          outsAt0_C m c ⟨n + 1, h⟩ (by show ¬ (n + 1) % 48 = 0; omega) h1 h2 (by show 8 ≤ (n + 1) % 12; omega)]
        have h3 : 8 ≤ (n + 1) % 12 := by omega
        frame_out
        rw [pay6]
        exact congr (congrArg _ ih) (Finset.sum_congr rfl fun r _ => congr (congrArg _ (held m c ⟨n + 1, h⟩ h3 _ r q))
          (congr (congrArg _ (blk2 m c ⟨n + 1, h⟩ r q)) (root_congr fun k => (at2_eq _ r.isLt k.isLt).trans (blk2 m c ⟨n + 1, h⟩ r k))))

theorem dxs (t : Fin cfg0.N) (h : 8 ≤ t.val % 12) (r : Fin 256) (q : Fin 2048) :
    (outsAt0 m c t.val t.isLt).1 (ix2 r q)
      = kdx (row m c (256 * (4 * (t.val / 12) + (t.val % 12 - 8)) + r.val)) (dh m c (256 * (4 * (t.val / 12) + (t.val % 12 - 8)) + r.val))
          (at2 (Gn m c) 0) (at2 (Rs m c) (256 * (4 * (t.val / 12) + (t.val % 12 - 8)) + r.val) q.val) q.val := by
  rw [outsAt0_C m c t (by omega) (by omega) (by omega) h]
  frame_out
  rw [pay7, blk4 m c t r q]
  exact kdx_congr (fun k => (at2_eq _ r.isLt k.isLt).trans (blk2 m c t r k)) (fun k => (at2_eq _ r.isLt k.isLt).trans (held m c t h _ r k))
    (fun k => (at2_eq _ (by omega) k.isLt).trans (blk3 m c t 0 k)) _ q

/-- The two arrays that the call leaves. -/
def G5 : FVec Ideal S4096x2048 .f32 := fun y =>
  kdx (row m c (y 0).val) (dh m c (y 0).val) (at2 (Gn m c) 0) (at2 (Rs m c) (y 0).val (y 1).val) (y 1).val
def G6 : FVec Ideal S1x2048 .f32 := fun y => ∑ t ∈ Finset.range 4096, gterm m c (y 1).val t

theorem array5 : (dats m 0 c).arrAt 5 cfg0.N = G5 m c := by
  refine (dats m 0 c).arrAt_eq_of_covers 5 _ (by decide +kernel) fun t hf y => ?_
  have hf' : 8 ≤ t.val % 12 := (show ∀ t : Fin cfg0.N, (cfg0.win 5).flush t = true → 8 ≤ t.val % 12 by decide +kernel) t hf
  blk_simp
  rw [after0_5]
  obtain ⟨r, q, rfl⟩ : ∃ (r : Fin 256) (q : Fin 2048), y = (ix2 r q : S256x2048.Idx) := ⟨y 0, y 1, (ix2_eta (y : S256x2048.Idx)).symm⟩
  refine (dxs m c t hf' r q).trans ?_
  have h0 : (((win0_5.blk t).view.emb (ix2 r q : S256x2048.Idx) : S4096x2048.Idx) 0).val = 256 * (4 * (t.val / 12) + (t.val % 12 - 8)) + r.val := by
    blk_simp [i5 t]
    omega
  have h1 : (((win0_5.blk t).view.emb (ix2 r q : S256x2048.Idx) : S4096x2048.Idx) 1).val = q.val := by
    blk_simp [i5 t]
  show _ = kdx (row m c _) (dh m c _) (at2 (Gn m c) 0) (at2 (Rs m c) _ _) _
  rw [h0, h1]

/-- The last point. -/
def tl : Fin cfg0.N := ⟨47, by rw [hN]; omega⟩

theorem array6 : (dats m 0 c).arrAt 6 cfg0.N = G6 m c := by
  refine (dats m 0 c).arrAt_eq_of_after_last 6 tl (by decide +kernel) _ fun j => ?_
  blk_simp
  rw [after0_6]
  obtain ⟨z, q, rfl⟩ : ∃ (z : Fin 1) (q : Fin 2048), j = (ix2 z q : S1x2048.Idx) := ⟨j 0, j 1, (ix2_eta (j : S1x2048.Idx)).symm⟩
  exact dgs m c z q 47 tl.isLt

end Cert.DnA
end
-- ==== Proof.AlgDnA.lean ====
module

public import proofs.«01_k».proof.Proof.DnA
public import proofs.«01_k».proof.Proof.Gen.Reference5Ideal.Run
public import proofs.«01_k».proof.Proof.Gen.Reference5Ideal.Read
public import proofs.«01_k».proof.Defs

@[expose] public section

/-! # The gradient through the pooling mixers' input product and the norm: the call's results are the reference's -/

set_option maxRecDepth 16384
set_option maxHeartbeats 4000000

noncomputable section
namespace Cert.DnA
open Cert.Kernel5Ideal Cert.Kernel5Ideal.Gen Cert.Lin Cert.Dn Cert.Reference5Ideal.Read Idealize.ShloMosaic Idealize.ShloMosaic.TcCoe Idealize.SL.Sem

section Reference
variable (A0 : FVec Ideal S4096x2048 .f32) (A1 : FVec Ideal S1x2048 .f32) (A2 : FVec Ideal S2048x4096 .f32) (A3 : FVec Ideal S4096x4096 .f32)
  (A4 : FVec Ideal S4096x2048 .f32)

abbrev rdh (t q : ℕ) : EReal := ∑ s : Fin 4096, at2 A3 t s.val * at2 A2 q s.val

theorem v6 (i : Cert.Reference5Ideal.S4096x1.Idx) : val_main_v6 (F := Ideal) A0 i = var (at2 A0 (i 0).val) := by
  rw [val_main_v6_apply, val_main_v4_apply, val_main_v2_apply, val_main_v3_apply, val_main_v5_apply, val_main_v1_apply]
  have e : ∀ k : Fin 2048, val_main_v0 (F := Ideal) A0 (idx_main_v1 (idx_main_v2 i) k) = at2 A0 (i 0).val k.val * at2 A0 (i 0).val k.val := fun k => by
    rw [at2_eq A0 (i 0).isLt k.isLt, val_main_v0_apply]
    have e : idx_main_v1 (idx_main_v2 i) k = (ix2 ⟨(i 0).val, (i 0).isLt⟩ ⟨k.val, k.isLt⟩ : S4096x2048.Idx) := funext fun a => by
      match a with
      | ⟨0, _⟩ => rfl
      | ⟨1, _⟩ => rfl
    rw [e]
    rfl
  simp only [e]
  show Ideal.div (Ideal.ofBits .f32 0x00000000#32 + _) n2048 + eps = _
  rw [Ideal.ofBits_zero_f32, zero_add]

theorem v7 (i : Cert.Reference5Ideal.S4096x1.Idx) : val_main_v7 (F := Ideal) A0 i = root (at2 A0 (i 0).val) := by
  rw [val_main_v7_apply, v6]
  rfl

theorem v16 (i : S4096x2048.Idx) : val_main_v16 (F := Ideal) A2 A3 i = rdh A2 A3 (i 0).val (i 1).val := by
  rw [val_main_v16_apply]
  refine Finset.sum_congr rfl fun k _ => ?_
  rw [at2_eq A3 (i 0).isLt k.isLt, at2_eq A2 (i 1).isLt k.isLt]
  refine congr (congrArg _ (congrArg A3 (funext fun a => ?_))) (congrArg A2 (funext fun a => ?_))
  · match a with
    | ⟨0, _⟩ => rfl
    | ⟨1, _⟩ => rfl
  · match a with
    | ⟨0, _⟩ => rfl
    | ⟨1, _⟩ => rfl

theorem v21 (i : S4096x2048.Idx) : val_main_v21 (F := Ideal) A1 A2 A3 i = rdh A2 A3 (i 0).val (i 1).val * at2 A1 0 (i 1).val := by
  rw [val_main_v21_apply, v16, val_main_v20_apply, at2_eq A1 (by omega) (i 1).isLt]
  refine congrArg (rdh A2 A3 (i 0).val (i 1).val * ·) (congrArg A1 (funext fun a => ?_))
  match a with
  | ⟨0, _⟩ => rfl
  | ⟨1, _⟩ => rfl

theorem self (i : S4096x2048.Idx) : A0 i = at2 A0 (i 0).val (i 1).val := by
  rw [at2_eq A0 (i 0).isLt (i 1).isLt]
  exact congrArg A0 (ix2_eta i).symm

theorem v31 (i : S4096x2048.Idx) :
    val_main_v31 (F := Ideal) A0 A1 A2 A3 i = slope (at2 A0 (i 0).val) (rdh A2 A3 (i 0).val) (at2 A1 0) := by
  rw [val_main_v31_apply, val_main_v30_apply, Fin.sum_univ_one, val_main_v29_apply, val_main_v28_apply, val_main_v27_apply, val_main_v24_apply,
    val_main_v23_apply, val_main_v10_apply, val_main_v9_apply, val_main_v8_apply, v7, v6]
  have e : ∀ (p : Cert.Reference5Ideal.S4096.Idx) (k : Fin 2048), val_main_v22 (F := Ideal) A0 A1 A2 A3 (idx_main_v23 p k)
      = at2 A0 (p 0).val k.val * (rdh A2 A3 (p 0).val k.val * at2 A1 0 k.val) := fun p k => by
    rw [val_main_v22_apply, v21, self A0]
    rfl
  simp only [e]
  show Ideal.ofBits .f32 0x00000000#32 + Ideal.div ((Ideal.ofBits .f32 0x00000000#32 + _) * (mhalf * Ideal.div (root _) (var _))) n2048 = _
  rw [Ideal.ofBits_zero_f32, zero_add, zero_add]
  have z : (i 0).val * 1 + ((0 : Fin 1) : ℕ) = (i 0).val := by simp
  simp only [z]

theorem ref5 (i : S4096x2048.Idx) : val_main_v36 (F := Ideal) A0 A1 A2 A3 A4 i
    = rdx (at2 A0 (i 0).val) (rdh A2 A3 (i 0).val) (at2 A1 0) (at2 A4 (i 0).val (i 1).val) (i 1).val := by
  rw [val_main_v36_apply, val_main_v35_apply, val_main_v34_apply, val_main_v33_apply, val_main_v32_apply, val_main_v26_apply, val_main_v25_apply,
    v31, v21, v7, self A0, self A4]
  rfl

theorem ref6 (i : S1x2048.Idx) : val_main_v19 (F := Ideal) A0 A2 A3 i
    = ∑ t : Fin 4096, rdh A2 A3 t.val (i 1).val * (at2 A0 t.val (i 1).val * root (at2 A0 t.val)) := by
  rw [val_main_v19_apply, val_main_v18_apply]
  show Ideal.ofBits .f32 0x00000000#32 + _ = _
  rw [Ideal.ofBits_zero_f32, zero_add]
  refine Finset.sum_congr rfl fun t _ => ?_
  rw [val_main_v17_apply, val_main_v12_apply, val_main_v11_apply, v16, v7, self A0]
  have e : (idx_main_v18 (idx_main_v19 i) t 1).val = (i 1).val := by
    have h0 : (i 0).val < 1 := (i 0).isLt
    show (i 0).val * 2048 + (i 1).val = (i 1).val
    omega
  rw [e]
  exact mul_comm _ _

end Reference

variable (m : (ℓ : Loc nD τ sig) → Buf (Elt Ideal) ℓ) (c : Dev nD)

abbrev B0 : FVec Ideal S4096x2048 .f32 := m ((c : Thread nD τ).loc main_arg0)
abbrev B1 : FVec Ideal S1x2048 .f32 := m ((c : Thread nD τ).loc main_arg1)
abbrev B2 : FVec Ideal S2048x4096 .f32 := m ((c : Thread nD τ).loc main_arg2)
abbrev B3 : FVec Ideal S4096x4096 .f32 := m ((c : Thread nD τ).loc main_arg3)
abbrev B4 : FVec Ideal S4096x2048 .f32 := m ((c : Thread nD τ).loc main_arg4)

theorem X_eq : X m c = B0 m c := by
  unfold X
  entry_read
  rfl
theorem Gn_eq : Gn m c = B1 m c := by
  unfold Gn
  entry_read
  rfl
theorem Rs_eq : Rs m c = B4 m c := by
  unfold Rs
  entry_read
  rfl
theorem P_eq (i : S4096x4096.Idx) : P m c i = B3 m c i := by
  unfold P
  entry_read
  rfl
/-- The blocks that the host cuts the weight into. -/
theorem W_eq (a : Fin 8) (q : Fin 2048) (k : Fin 512) : W m c (ix3 a q k) = at2 (B2 m c) q.val (512 * a.val + k.val) := by
  rw [at2_eq (B2 m c) q.isLt (show 512 * a.val + k.val < 4096 by omega)]
  unfold W
  entry_read
  refine (transpose_apply [1, 0, 2] _ transposes_S2048x8x512_S8x2048x512_1_0_2 (ix3 a q k : S8x2048x512.Idx) (ix3 q a k : S2048x8x512.Idx) (fun b => ?_)).trans ?_
  · match b with
    | ⟨0, _⟩ => rfl
    | ⟨1, _⟩ => rfl
    | ⟨2, _⟩ => rfl
  refine (shapeCast_apply _ shapeCasts_S2048x4096_S2048x8x512 (ix3 q a k : S2048x8x512.Idx)
    (ix2 ⟨q.val, q.isLt⟩ ⟨512 * a.val + k.val, by omega⟩ : S2048x4096.Idx) ?_).trans rfl
  rw [Shape.rowMajor_val_two, Shape.rowMajor_val_three]
  show q.val * 4096 + (512 * a.val + k.val) = (q.val * 8 + a.val) * 512 + k.val
  omega

theorem dh_eq (t q : ℕ) (hq : q < 2048) : dh m c t q = rdh (B2 m c) (B3 m c) t q := by
  unfold dh rdh
  rw [← Fin.sum_univ_eq_sum_range]
  refine Finset.sum_congr rfl fun s _ => ?_
  have hs : s.val < 4096 := s.isLt
  unfold term
  rw [at3_eq (W m c) (show s.val / 512 < 8 by omega) hq (show s.val % 512 < 512 by omega), W_eq]
  show _ * at2 (B2 m c) q (512 * (s.val / 512) + s.val % 512) = _
  rw [Nat.div_add_mod]
  refine congrArg (· * _) ?_
  unfold at2
  split
  · exact P_eq m c _
  · rfl

theorem eq5 (i : S4096x2048.Idx) : val_main_v36 (F := Ideal) (B0 m c) (B1 m c) (B2 m c) (B3 m c) (B4 m c) i = G5 m c i := by
  have h1 : (i 1).val < 2048 := (i 1).isLt
  rw [ref5, ← kdx_eq _ _ _ _ h1]
  unfold G5
  rw [Gn_eq, Rs_eq]
  refine (kdx_congr (fun k => ?_) (fun k => (dh_eq m c _ _ k.isLt).symm) (fun _ => rfl) _ ⟨(i 1).val, h1⟩)
  unfold row
  rw [X_eq]

theorem eq6 (i : S1x2048.Idx) : val_main_v19 (F := Ideal) (B0 m c) (B2 m c) (B3 m c) i = G6 m c i := by
  have h1 : (i 1).val < 2048 := (i 1).isLt
  rw [ref6]
  unfold G6
  rw [← Fin.sum_univ_eq_sum_range]
  refine Finset.sum_congr rfl fun t _ => ?_
  unfold gterm row
  rw [dh_eq m c _ _ h1, X_eq]

theorem algebraic : Cert.algebraic_Kernel5Ideal_Reference5Ideal := by
  intro m g m' g' hpre hagree
  refine ⟨fun c => G5 m c, fun c => G6 m c, ?_, ?_⟩
  · refine (θ_run Cert.Kernel5Ideal.defs _ _).mono (fun r h c => ?_) (Cert.Kernel5Ideal.Value.run_blocks (F := Ideal) m g)
    obtain ⟨h0, h1, hargs⟩ := h c
    exact ⟨h0.trans (array5 m c), h1.trans (array6 m c), hargs⟩
  · refine (θ_run Cert.Reference5Ideal.defs _ _).mono (fun r h c => ?_) (Cert.Reference5Ideal.Value.run (F := Ideal) m' g')
    obtain ⟨h0, h1, hargs⟩ := h c
    obtain ⟨a0, a1, a2, a3, a4⟩ := hagree c
    refine ⟨h0.trans ?_, h1.trans ?_, hargs⟩
    · refine (val_main_v36_eq _ _).trans ?_
      rw [a0, a1, a2, a3, a4]
      exact funext fun i => eq5 m c i
    · refine (val_main_v19_eq _ _ _).trans ?_
      rw [a0, a2, a3]
      exact funext fun i => eq6 m c i

end Cert.DnA
end
-- ==== Proof.OutW.lean ====
module

public import proofs.«01_k».proof.Proof.Sums
public import proofs.«01_k».proof.Proof.Gen.Kernel6Ideal.Value

@[expose] public section

/-! # The weight gradient of the output product: what the call leaves -/

set_option maxRecDepth 16384
set_option maxHeartbeats 4000000

noncomputable section
namespace Cert.OutW
open Cert.Kernel6Ideal Cert.Kernel6Ideal.Gen Cert.Lin Idealize.ShloMosaic Idealize.ShloMosaic.TcCoe Idealize.SL.Sem

theorem i0 : ∀ t : Fin cfg0.N, win0_0.index t = ![t.val % 4, t.val / 4] := by decide +kernel
theorem i1 : ∀ t : Fin cfg0.N, win0_1.index t = ![t.val % 4, 0] := by decide +kernel
theorem i2 : ∀ t : Fin cfg0.N, win0_2.index t = ![t.val / 4, 0] := by decide +kernel
theorem hN : cfg0.N = 8 := by decide +kernel

variable (m : (ℓ : Loc nD τ sig) → Buf (Elt Ideal) ℓ) (c : Dev nD)

/-- The two arrays that the call reads. -/
abbrev L : FVec Ideal S4096x2048 .bf16 := V m c main_v2
abbrev R : FVec Ideal S4096x2048 .f32 := V m c main_arg3

theorem blk0 (t : Fin cfg0.N) (r : Fin 1024) (k : Fin 1024) :
    (iblk m c 0 t : FVec Ideal S1024x1024 .bf16) (ix2 r k) = at2 (L m c) (1024 * (t.val % 4) + r.val) (1024 * (t.val / 4) + k.val) := by
  have ht : t.val < 8 := lt_of_lt_of_eq t.isLt hN
  rw [at2_eq (L m c) (show 1024 * (t.val % 4) + r.val < 4096 by omega) (show 1024 * (t.val / 4) + k.val < 2048 by omega)]
  blk_ext [iblk, i0 t]

theorem blk1 (t : Fin cfg0.N) (r : Fin 1024) (k : Fin 2048) :
    (iblk m c 1 t : FVec Ideal S1024x2048 .f32) (ix2 r k) = at2 (R m c) (1024 * (t.val % 4) + r.val) (k.val) := by
  rw [at2_eq (R m c) (show 1024 * (t.val % 4) + r.val < 4096 by omega) k.isLt]
  blk_ext [iblk, i1 t]

/-- One row's addition to an entry of the gradient. -/
abbrev term (r q s : ℕ) : EReal := at2 (L m c) s r * at2 (R m c) s q

/-- A block of rows added to what was held. -/
theorem pay2 (t : Fin cfg0.N) (v : FVec Ideal S1024x2048 .f32) (r : Fin 1024) (q : Fin 2048) :
    k0_pay2 (F := Ideal) v (iblk m c 0 t) (iblk m c 1 t) (ix2 r q)
      = v (ix2 r q) + ∑ k : Fin 1024, term m c (1024 * (t.val / 4) + r.val) q.val (1024 * (t.val % 4) + k.val) := by
  unfold_payloads
  pointwise
  simp only [blk0, blk1]
  all_goals rfl

theorem pay1 (r : Fin 1024) (q : Fin 2048) : k0_pay1 (F := Ideal) (ix2 r q) = 0 := by
  unfold_payloads
  pointwise

theorem pay3 (v : FVec Ideal S1024x2048 .f32) (r : Fin 1024) (q : Fin 2048) : k0_pay3 (F := Ideal) v (ix2 r q) = v (ix2 r q) := by
  unfold_payloads
  pointwise

theorem acc (r : Fin 1024) (q : Fin 2048) : ∀ (n : ℕ) (h : n < cfg0.N),
    (outsAt0 m c n h).2 (ix2 r q) = ∑ s ∈ Finset.range (1024 * (n % 4 + 1)), term m c (1024 * (n / 4) + r.val) q.val s := by
  intro n
  induction n with
  | zero =>
    intro h
    rw [outsAt0_A m c ⟨0, h⟩ (by rfl) (by simp), ← sum_next]
    frame_out
    rw [pay2, pay1]
    rfl
  | succ n ih =>
    intro h
    rw [← sum_next]
    by_cases h0 : (n + 1) % 4 = 0
    · rw [outsAt0_A m c ⟨n + 1, h⟩ h0 (by show ¬ (n + 1) % 4 = 3; omega)]
      frame_out
      rw [pay2, pay1]
      show 0 + _ = _
      rw [h0]
      rfl
    · have e1 : n / 4 = (n + 1) / 4 := by omega
      have e2 : n % 4 + 1 = (n + 1) % 4 := by omega
      have ih := ih (by omega)
      rw [e1, e2] at ih
      by_cases h1 : (n + 1) % 4 = 3
      · rw [outsAt0_C m c ⟨n + 1, h⟩ h0 h1]
        frame_out
        rw [pay2]
        exact congrArg (· + _) ((congrFun (Memref.IsWhole.read_unread _ _) _).trans ih)
      · rw [outsAt0_B m c ⟨n + 1, h⟩ h0 h1]
        frame_out
        rw [pay2]
        exact congrArg (· + _) ((congrFun (Memref.IsWhole.read_unread _ _) _).trans ih)

theorem out (t : Fin cfg0.N) (h1 : t.val % 4 = 3) (r : Fin 1024) (q : Fin 2048) :
    (outsAt0 m c t.val t.isLt).1 (ix2 r q) = ∑ s ∈ Finset.range 4096, term m c (1024 * (t.val / 4) + r.val) q.val s := by
  refine Eq.trans ?_ ((acc m c r q t.val t.isLt).trans (by rw [h1]))
  rw [outsAt0_C m c t (by omega) h1]
  frame_out
  rw [pay3]

/-- The gradient. -/
def G : FVec Ideal S2048x2048 .bf16 := fun y => ∑ s ∈ Finset.range 4096, term m c (y 0).val (y 1).val s

theorem array : (dats m 0 c).arrAt 2 cfg0.N = G m c := by
  refine (dats m 0 c).arrAt_eq_of_covers 2 _ (by decide +kernel) fun t hf y => ?_
  have hf' : t.val % 4 = 3 := (show ∀ t : Fin cfg0.N, (cfg0.win 2).flush t = true → t.val % 4 = 3 by decide +kernel) t hf
  blk_simp
  rw [after0_2]
  obtain ⟨r, q, rfl⟩ : ∃ (r : Fin 1024) (q : Fin 2048), y = (ix2 r q : S1024x2048.Idx) := ⟨y 0, y 1, (ix2_eta (y : S1024x2048.Idx)).symm⟩
  refine (out m c t hf' r q).trans ?_
  have h0 : (((win0_2.blk t).view.emb (ix2 r q : S1024x2048.Idx) : S2048x2048.Idx) 0).val = 1024 * (t.val / 4) + r.val := by
    blk_simp [i2 t]
    omega
  have h1 : (((win0_2.blk t).view.emb (ix2 r q : S1024x2048.Idx) : S2048x2048.Idx) 1).val = q.val := by
    blk_simp [i2 t]
  show _ = ∑ s ∈ Finset.range 4096, term m c _ _ s
  rw [h0, h1]

end Cert.OutW
end
-- ==== Proof.AlgOutW.lean ====
module

public import proofs.«01_k».proof.Proof.OutW
public import proofs.«01_k».proof.Proof.Gen.Reference6Ideal.Run
public import proofs.«01_k».proof.Proof.Gen.Reference6Ideal.Read
public import proofs.«01_k».proof.Defs

@[expose] public section

/-! # The weight gradient of the output product: the call's result is the reference's -/

set_option maxRecDepth 16384
set_option maxHeartbeats 4000000

noncomputable section
namespace Cert.OutW
open Cert.Kernel6Ideal Cert.Kernel6Ideal.Gen Cert.Lin Cert.Reference6Ideal.Read Idealize.ShloMosaic Idealize.ShloMosaic.TcCoe Idealize.SL.Sem

variable (m : (ℓ : Loc nD τ sig) → Buf (Elt Ideal) ℓ) (c : Dev nD)

abbrev A0 : FVec Ideal S4096x2048 .f32 := m ((c : Thread nD τ).loc main_arg0)
abbrev A1 : FVec Ideal S4096x2048 .f32 := m ((c : Thread nD τ).loc main_arg1)
abbrev A3 : FVec Ideal S4096x2048 .f32 := m ((c : Thread nD τ).loc main_arg3)

/-- The rows that the host prepares are the reference's. -/
theorem L_eq (i : S4096x2048.Idx) : L m c i = val_main_v1 (F := Ideal) (A0 m c) (A1 m c) i := by
  unfold L
  entry_read
  rfl

theorem R_eq (i : S4096x2048.Idx) : R m c i = A3 m c i := by
  unfold R
  entry_read
  rfl

theorem ref_eq (i : S2048x2048.Idx) : val_main_v5 (F := Ideal) (A0 m c) (A1 m c) (A3 m c) i = G m c i := by
  have l0 : (i 0).val < 2048 := (i 0).isLt
  have l1 : (i 1).val < 2048 := (i 1).isLt
  rw [val_main_v5_apply, Ideal.truncf_def, val_main_v4_apply, val_main_v3_apply]
  unfold G
  rw [← Fin.sum_univ_eq_sum_range]
  refine Finset.sum_congr rfl fun k _ => ?_
  unfold term
  rw [at2_eq (L m c) k.isLt l0, at2_eq (R m c) k.isLt l1, L_eq, R_eq]
  refine (mul_comm _ _).trans (congr (congrArg _ (congrArg (val_main_v1 (F := Ideal) (A0 m c) (A1 m c)) ?_)) (congrArg (A3 m c) ?_))
  · refine funext fun a => Fin.ext ?_
    match a with
    | ⟨0, _⟩ => rfl
    | ⟨1, _⟩ => rfl
  · refine funext fun a => Fin.ext ?_
    match a with
    | ⟨0, _⟩ => rfl
    | ⟨1, _⟩ => rfl

theorem algebraic : Cert.algebraic_Kernel6Ideal_Reference6Ideal := by
  intro m g m' g' hpre hagree
  refine ⟨fun c => G m c, ?_, ?_⟩
  · refine (θ_run Cert.Kernel6Ideal.defs _ _).mono (fun r h c => ?_) (Cert.Kernel6Ideal.Value.run_blocks (F := Ideal) m g)
    obtain ⟨h0, hargs⟩ := h c
    exact ⟨h0.trans (array m c), hargs⟩
  · refine (θ_run Cert.Reference6Ideal.defs _ _).mono (fun r h c => ?_) (Cert.Reference6Ideal.Value.run (F := Ideal) m' g')
    obtain ⟨h0, hargs⟩ := h c
    obtain ⟨a0, a1, a2, a3⟩ := hagree c
    refine ⟨h0.trans ?_, hargs⟩
    refine (val_main_v5_eq _ _ _).trans ?_
    rw [a0, a1, a3]
    exact funext fun i => ref_eq m c i

end Cert.OutW
end
-- ==== Proof.KvK.lean ====
module

public import proofs.«01_k».proof.Proof.Sums
public import proofs.«01_k».proof.Proof.Gen.Kernel7Ideal.Value

@[expose] public section

/-! # The weight gradient of the key product: what the call leaves -/

set_option maxRecDepth 16384
set_option maxHeartbeats 4000000

noncomputable section
namespace Cert.KvK
open Cert.Kernel7Ideal Cert.Kernel7Ideal.Gen Cert.Lin Idealize.ShloMosaic Idealize.ShloMosaic.TcCoe Idealize.SL.Sem

theorem i0 : ∀ t : Fin cfg0.N, win0_0.index t = ![t.val % 4, t.val / 4] := by decide +kernel
theorem i1 : ∀ t : Fin cfg0.N, win0_1.index t = ![t.val % 4, 0] := by decide +kernel
theorem i2 : ∀ t : Fin cfg0.N, win0_2.index t = ![t.val / 4, 0] := by decide +kernel
theorem hN : cfg0.N = 8 := by decide +kernel

variable (m : (ℓ : Loc nD τ sig) → Buf (Elt Ideal) ℓ) (c : Dev nD)

/-- The two arrays that the call reads. -/
abbrev L : FVec Ideal S4096x2048 .bf16 := V m c main_v12
abbrev R : FVec Ideal S4096x4096 .bf16 := V m c main_v13

theorem blk0 (t : Fin cfg0.N) (r : Fin 1024) (k : Fin 1024) :
    (iblk m c 0 t : FVec Ideal S1024x1024 .bf16) (ix2 r k) = at2 (L m c) (1024 * (t.val % 4) + r.val) (1024 * (t.val / 4) + k.val) := by
  have ht : t.val < 8 := lt_of_lt_of_eq t.isLt hN
  rw [at2_eq (L m c) (show 1024 * (t.val % 4) + r.val < 4096 by omega) (show 1024 * (t.val / 4) + k.val < 2048 by omega)]
  blk_ext [iblk, i0 t]

theorem blk1 (t : Fin cfg0.N) (r : Fin 1024) (k : Fin 2048) :
    (iblk m c 1 t : FVec Ideal S1024x2048 .bf16) (ix2 r k) = at2 (R m c) (1024 * (t.val % 4) + r.val) (k.val) := by
  rw [at2_eq (R m c) (show 1024 * (t.val % 4) + r.val < 4096 by omega) (show k.val < 4096 by omega)]
  blk_ext [iblk, i1 t]

/-- One row's addition to an entry of the gradient. -/
abbrev term (r q s : ℕ) : EReal := at2 (L m c) s r * at2 (R m c) s q

/-- A block of rows added to what was held. -/
theorem pay2 (t : Fin cfg0.N) (v : FVec Ideal S1024x2048 .f32) (r : Fin 1024) (q : Fin 2048) :
    k0_pay2 (F := Ideal) v (iblk m c 0 t) (iblk m c 1 t) (ix2 r q)
      = v (ix2 r q) + ∑ k : Fin 1024, term m c (1024 * (t.val / 4) + r.val) q.val (1024 * (t.val % 4) + k.val) := by
  unfold_payloads
  pointwise
  simp only [blk0, blk1]
  all_goals rfl

theorem pay1 (r : Fin 1024) (q : Fin 2048) : k0_pay1 (F := Ideal) (ix2 r q) = 0 := by
  unfold_payloads
  pointwise

theorem pay3 (v : FVec Ideal S1024x2048 .f32) (r : Fin 1024) (q : Fin 2048) : k0_pay3 (F := Ideal) v (ix2 r q) = v (ix2 r q) := by
  unfold_payloads
  pointwise

theorem acc (r : Fin 1024) (q : Fin 2048) : ∀ (n : ℕ) (h : n < cfg0.N),
    (outsAt0 m c n h).2 (ix2 r q) = ∑ s ∈ Finset.range (1024 * (n % 4 + 1)), term m c (1024 * (n / 4) + r.val) q.val s := by
  intro n
  induction n with
  | zero =>
    intro h
    rw [outsAt0_A m c ⟨0, h⟩ (by rfl) (by simp), ← sum_next]
    frame_out
    rw [pay2, pay1]
    rfl
  | succ n ih =>
    intro h
    rw [← sum_next]
    by_cases h0 : (n + 1) % 4 = 0
    · rw [outsAt0_A m c ⟨n + 1, h⟩ h0 (by show ¬ (n + 1) % 4 = 3; omega)]
      frame_out
      rw [pay2, pay1]
      show 0 + _ = _
      rw [h0]
      rfl
    · have e1 : n / 4 = (n + 1) / 4 := by omega
      have e2 : n % 4 + 1 = (n + 1) % 4 := by omega
      have ih := ih (by omega)
      rw [e1, e2] at ih
      by_cases h1 : (n + 1) % 4 = 3
      · rw [outsAt0_C m c ⟨n + 1, h⟩ h0 h1]
        frame_out
        rw [pay2]
        exact congrArg (· + _) ((congrFun (Memref.IsWhole.read_unread _ _) _).trans ih)
      · rw [outsAt0_B m c ⟨n + 1, h⟩ h0 h1]
        frame_out
        rw [pay2]
        exact congrArg (· + _) ((congrFun (Memref.IsWhole.read_unread _ _) _).trans ih)

theorem out (t : Fin cfg0.N) (h1 : t.val % 4 = 3) (r : Fin 1024) (q : Fin 2048) :
    (outsAt0 m c t.val t.isLt).1 (ix2 r q) = ∑ s ∈ Finset.range 4096, term m c (1024 * (t.val / 4) + r.val) q.val s := by
  refine Eq.trans ?_ ((acc m c r q t.val t.isLt).trans (by rw [h1]))
  rw [outsAt0_C m c t (by omega) h1]
  frame_out
  rw [pay3]

/-- The gradient. -/
def G : FVec Ideal S2048x2048 .bf16 := fun y => ∑ s ∈ Finset.range 4096, term m c (y 0).val (y 1).val s

theorem array : (dats m 0 c).arrAt 2 cfg0.N = G m c := by
  refine (dats m 0 c).arrAt_eq_of_covers 2 _ (by decide +kernel) fun t hf y => ?_
  have hf' : t.val % 4 = 3 := (show ∀ t : Fin cfg0.N, (cfg0.win 2).flush t = true → t.val % 4 = 3 by decide +kernel) t hf
  blk_simp
  rw [after0_2]
  obtain ⟨r, q, rfl⟩ : ∃ (r : Fin 1024) (q : Fin 2048), y = (ix2 r q : S1024x2048.Idx) := ⟨y 0, y 1, (ix2_eta (y : S1024x2048.Idx)).symm⟩
  refine (out m c t hf' r q).trans ?_
  have h0 : (((win0_2.blk t).view.emb (ix2 r q : S1024x2048.Idx) : S2048x2048.Idx) 0).val = 1024 * (t.val / 4) + r.val := by
    blk_simp [i2 t]
    omega
  have h1 : (((win0_2.blk t).view.emb (ix2 r q : S1024x2048.Idx) : S2048x2048.Idx) 1).val = q.val := by
    blk_simp [i2 t]
  show _ = ∑ s ∈ Finset.range 4096, term m c _ _ s
  rw [h0, h1]

end Cert.KvK
end
-- ==== Proof.AlgKvK.lean ====
module

public import proofs.«01_k».proof.Proof.KvK
public import proofs.«01_k».proof.Proof.Gen.Reference7Ideal.Run
public import proofs.«01_k».proof.Proof.Gen.Reference7Ideal.Read
public import proofs.«01_k».proof.Defs

@[expose] public section

/-! # The weight gradient of the key product: the call's result is the reference's -/

set_option maxRecDepth 16384
set_option maxHeartbeats 4000000

noncomputable section
namespace Cert.KvK
open Cert.Kernel7Ideal Cert.Kernel7Ideal.Gen Cert.Lin Cert.Reference7Ideal.Read Idealize.ShloMosaic Idealize.ShloMosaic.TcCoe Idealize.SL.Sem

variable (m : (ℓ : Loc nD τ sig) → Buf (Elt Ideal) ℓ) (c : Dev nD)

abbrev A0 : FVec Ideal S4096x2048 .f32 := m ((c : Thread nD τ).loc main_arg0)
abbrev A1 : FVec Ideal S1x2048 .f32 := m ((c : Thread nD τ).loc main_arg1)
abbrev A3 : FVec Ideal S4096x4096 .f32 := m ((c : Thread nD τ).loc main_arg3)

/-- The rows that the host prepares are the reference's. -/
theorem L_eq (i : S4096x2048.Idx) : L m c i = val_main_v11 (F := Ideal) (A0 m c) (A1 m c) i := by
  unfold L
  entry_read
  rfl

theorem R_eq (i : S4096x4096.Idx) : R m c i = A3 m c i := by
  unfold R
  entry_read
  rfl

theorem ref_eq (i : S2048x2048.Idx) : val_main_v16 (F := Ideal) (A0 m c) (A1 m c) (A3 m c) i = G m c i := by
  have l0 : (i 0).val < 2048 := (i 0).isLt
  have l1 : (i 1).val < 2048 := (i 1).isLt
  rw [val_main_v16_apply, Ideal.truncf_def, val_main_v15_apply, val_main_v14_apply]
  unfold G
  rw [← Fin.sum_univ_eq_sum_range]
  refine Finset.sum_congr rfl fun k _ => ?_
  unfold term
  rw [at2_eq (L m c) k.isLt l0, at2_eq (R m c) k.isLt (show (i 1).val < 4096 by omega), L_eq, R_eq, val_main_v13_apply]
  refine (mul_comm _ _).trans (congr (congrArg _ (congrArg (val_main_v11 (F := Ideal) (A0 m c) (A1 m c)) ?_)) (congrArg (A3 m c) ?_))
  · refine funext fun a => Fin.ext ?_
    match a with
    | ⟨0, _⟩ => rfl
    | ⟨1, _⟩ => rfl
  · refine funext fun a => Fin.ext ?_
    match a with
    | ⟨0, _⟩ => rfl
    | ⟨1, _⟩ => rfl

theorem algebraic : Cert.algebraic_Kernel7Ideal_Reference7Ideal := by
  intro m g m' g' hpre hagree
  refine ⟨fun c => G m c, ?_, ?_⟩
  · refine (θ_run Cert.Kernel7Ideal.defs _ _).mono (fun r h c => ?_) (Cert.Kernel7Ideal.Value.run_blocks (F := Ideal) m g)
    obtain ⟨h0, hargs⟩ := h c
    exact ⟨h0.trans (array m c), hargs⟩
  · refine (θ_run Cert.Reference7Ideal.defs _ _).mono (fun r h c => ?_) (Cert.Reference7Ideal.Value.run (F := Ideal) m' g')
    obtain ⟨h0, hargs⟩ := h c
    obtain ⟨a0, a1, a2, a3⟩ := hagree c
    refine ⟨h0.trans ?_, hargs⟩
    refine (val_main_v16_eq _ _ _).trans ?_
    rw [a0, a1, a3]
    exact funext fun i => ref_eq m c i

end Cert.KvK
end
-- ==== Proof.KvV.lean ====
module

public import proofs.«01_k».proof.Proof.Sums
public import proofs.«01_k».proof.Proof.Gen.Kernel8Ideal.Value

@[expose] public section

/-! # The weight gradient of the value product: what the call leaves -/

set_option maxRecDepth 16384
set_option maxHeartbeats 4000000

noncomputable section
namespace Cert.KvV
open Cert.Kernel8Ideal Cert.Kernel8Ideal.Gen Cert.Lin Idealize.ShloMosaic Idealize.ShloMosaic.TcCoe Idealize.SL.Sem

theorem i0 : ∀ t : Fin cfg0.N, win0_0.index t = ![t.val % 4, t.val / 4] := by decide +kernel
theorem i1 : ∀ t : Fin cfg0.N, win0_1.index t = ![t.val % 4, 1] := by decide +kernel
theorem i2 : ∀ t : Fin cfg0.N, win0_2.index t = ![t.val / 4, 0] := by decide +kernel
theorem hN : cfg0.N = 8 := by decide +kernel

variable (m : (ℓ : Loc nD τ sig) → Buf (Elt Ideal) ℓ) (c : Dev nD)

/-- The two arrays that the call reads. -/
abbrev L : FVec Ideal S4096x2048 .bf16 := V m c main_v12
abbrev R : FVec Ideal S4096x4096 .bf16 := V m c main_v13

theorem blk0 (t : Fin cfg0.N) (r : Fin 1024) (k : Fin 1024) :
    (iblk m c 0 t : FVec Ideal S1024x1024 .bf16) (ix2 r k) = at2 (L m c) (1024 * (t.val % 4) + r.val) (1024 * (t.val / 4) + k.val) := by
  have ht : t.val < 8 := lt_of_lt_of_eq t.isLt hN
  rw [at2_eq (L m c) (show 1024 * (t.val % 4) + r.val < 4096 by omega) (show 1024 * (t.val / 4) + k.val < 2048 by omega)]
  blk_ext [iblk, i0 t]

theorem blk1 (t : Fin cfg0.N) (r : Fin 1024) (k : Fin 2048) :
    (iblk m c 1 t : FVec Ideal S1024x2048 .bf16) (ix2 r k) = at2 (R m c) (1024 * (t.val % 4) + r.val) (2048 + k.val) := by
  rw [at2_eq (R m c) (show 1024 * (t.val % 4) + r.val < 4096 by omega) (show 2048 + k.val < 4096 by omega)]
  blk_ext [iblk, i1 t]

/-- One row's addition to an entry of the gradient. -/
abbrev term (r q s : ℕ) : EReal := at2 (L m c) s r * at2 (R m c) s (2048 + q)

/-- A block of rows added to what was held. -/
theorem pay2 (t : Fin cfg0.N) (v : FVec Ideal S1024x2048 .f32) (r : Fin 1024) (q : Fin 2048) :
    k0_pay2 (F := Ideal) v (iblk m c 0 t) (iblk m c 1 t) (ix2 r q)
      = v (ix2 r q) + ∑ k : Fin 1024, term m c (1024 * (t.val / 4) + r.val) q.val (1024 * (t.val % 4) + k.val) := by
  unfold_payloads
  pointwise
  simp only [blk0, blk1]
  all_goals rfl

theorem pay1 (r : Fin 1024) (q : Fin 2048) : k0_pay1 (F := Ideal) (ix2 r q) = 0 := by
  unfold_payloads
  pointwise

theorem pay3 (v : FVec Ideal S1024x2048 .f32) (r : Fin 1024) (q : Fin 2048) : k0_pay3 (F := Ideal) v (ix2 r q) = v (ix2 r q) := by
  unfold_payloads
  pointwise

theorem acc (r : Fin 1024) (q : Fin 2048) : ∀ (n : ℕ) (h : n < cfg0.N),
    (outsAt0 m c n h).2 (ix2 r q) = ∑ s ∈ Finset.range (1024 * (n % 4 + 1)), term m c (1024 * (n / 4) + r.val) q.val s := by
  intro n
  induction n with
  | zero =>
    intro h
    rw [outsAt0_A m c ⟨0, h⟩ (by rfl) (by simp), ← sum_next]
    frame_out
    rw [pay2, pay1]
    rfl
  | succ n ih =>
    intro h
    rw [← sum_next]
    by_cases h0 : (n + 1) % 4 = 0
    · rw [outsAt0_A m c ⟨n + 1, h⟩ h0 (by show ¬ (n + 1) % 4 = 3; omega)]
      frame_out
      rw [pay2, pay1]
      show 0 + _ = _
      rw [h0]
      rfl
    · have e1 : n / 4 = (n + 1) / 4 := by omega
      have e2 : n % 4 + 1 = (n + 1) % 4 := by omega
      have ih := ih (by omega)
      rw [e1, e2] at ih
      by_cases h1 : (n + 1) % 4 = 3
      · rw [outsAt0_C m c ⟨n + 1, h⟩ h0 h1]
        frame_out
        rw [pay2]
        exact congrArg (· + _) ((congrFun (Memref.IsWhole.read_unread _ _) _).trans ih)
      · rw [outsAt0_B m c ⟨n + 1, h⟩ h0 h1]
        frame_out
        rw [pay2]
        exact congrArg (· + _) ((congrFun (Memref.IsWhole.read_unread _ _) _).trans ih)

theorem out (t : Fin cfg0.N) (h1 : t.val % 4 = 3) (r : Fin 1024) (q : Fin 2048) :
    (outsAt0 m c t.val t.isLt).1 (ix2 r q) = ∑ s ∈ Finset.range 4096, term m c (1024 * (t.val / 4) + r.val) q.val s := by
  refine Eq.trans ?_ ((acc m c r q t.val t.isLt).trans (by rw [h1]))
  rw [outsAt0_C m c t (by omega) h1]
  frame_out
  rw [pay3]

/-- The gradient. -/
def G : FVec Ideal S2048x2048 .bf16 := fun y => ∑ s ∈ Finset.range 4096, term m c (y 0).val (y 1).val s

theorem array : (dats m 0 c).arrAt 2 cfg0.N = G m c := by
  refine (dats m 0 c).arrAt_eq_of_covers 2 _ (by decide +kernel) fun t hf y => ?_
  have hf' : t.val % 4 = 3 := (show ∀ t : Fin cfg0.N, (cfg0.win 2).flush t = true → t.val % 4 = 3 by decide +kernel) t hf
  blk_simp
  rw [after0_2]
  obtain ⟨r, q, rfl⟩ : ∃ (r : Fin 1024) (q : Fin 2048), y = (ix2 r q : S1024x2048.Idx) := ⟨y 0, y 1, (ix2_eta (y : S1024x2048.Idx)).symm⟩
  refine (out m c t hf' r q).trans ?_
  have h0 : (((win0_2.blk t).view.emb (ix2 r q : S1024x2048.Idx) : S2048x2048.Idx) 0).val = 1024 * (t.val / 4) + r.val := by
    blk_simp [i2 t]
    omega
  have h1 : (((win0_2.blk t).view.emb (ix2 r q : S1024x2048.Idx) : S2048x2048.Idx) 1).val = q.val := by
    blk_simp [i2 t]
  show _ = ∑ s ∈ Finset.range 4096, term m c _ _ s
  rw [h0, h1]

end Cert.KvV
end
-- ==== Proof.AlgKvV.lean ====
module

public import proofs.«01_k».proof.Proof.KvV
public import proofs.«01_k».proof.Proof.Gen.Reference8Ideal.Run
public import proofs.«01_k».proof.Proof.Gen.Reference8Ideal.Read
public import proofs.«01_k».proof.Defs

@[expose] public section

/-! # The weight gradient of the value product: the call's result is the reference's -/

set_option maxRecDepth 16384
set_option maxHeartbeats 4000000

noncomputable section
namespace Cert.KvV
open Cert.Kernel8Ideal Cert.Kernel8Ideal.Gen Cert.Lin Cert.Reference8Ideal.Read Idealize.ShloMosaic Idealize.ShloMosaic.TcCoe Idealize.SL.Sem

variable (m : (ℓ : Loc nD τ sig) → Buf (Elt Ideal) ℓ) (c : Dev nD)

abbrev A0 : FVec Ideal S4096x2048 .f32 := m ((c : Thread nD τ).loc main_arg0)
abbrev A1 : FVec Ideal S1x2048 .f32 := m ((c : Thread nD τ).loc main_arg1)
abbrev A3 : FVec Ideal S4096x4096 .f32 := m ((c : Thread nD τ).loc main_arg3)

/-- The rows that the host prepares are the reference's. -/
theorem L_eq (i : S4096x2048.Idx) : L m c i = val_main_v11 (F := Ideal) (A0 m c) (A1 m c) i := by
  unfold L
  entry_read
  rfl

theorem R_eq (i : S4096x4096.Idx) : R m c i = A3 m c i := by
  unfold R
  entry_read
  rfl

theorem ref_eq (i : S2048x2048.Idx) : val_main_v16 (F := Ideal) (A0 m c) (A1 m c) (A3 m c) i = G m c i := by
  have l0 : (i 0).val < 2048 := (i 0).isLt
  have l1 : (i 1).val < 2048 := (i 1).isLt
  rw [val_main_v16_apply, Ideal.truncf_def, val_main_v15_apply, val_main_v14_apply]
  unfold G
  rw [← Fin.sum_univ_eq_sum_range]
  refine Finset.sum_congr rfl fun k _ => ?_
  unfold term
  rw [at2_eq (L m c) k.isLt l0, at2_eq (R m c) k.isLt (show 2048 + (i 1).val < 4096 by omega), L_eq, R_eq, val_main_v13_apply]
  refine (mul_comm _ _).trans (congr (congrArg _ (congrArg (val_main_v11 (F := Ideal) (A0 m c) (A1 m c)) ?_)) (congrArg (A3 m c) ?_))
  · refine funext fun a => Fin.ext ?_
    match a with
    | ⟨0, _⟩ => rfl
    | ⟨1, _⟩ => rfl
  · refine funext fun a => Fin.ext ?_
    match a with
    | ⟨0, _⟩ => rfl
    | ⟨1, _⟩ => rfl

theorem algebraic : Cert.algebraic_Kernel8Ideal_Reference8Ideal := by
  intro m g m' g' hpre hagree
  refine ⟨fun c => G m c, ?_, ?_⟩
  · refine (θ_run Cert.Kernel8Ideal.defs _ _).mono (fun r h c => ?_) (Cert.Kernel8Ideal.Value.run_blocks (F := Ideal) m g)
    obtain ⟨h0, hargs⟩ := h c
    exact ⟨h0.trans (array m c), hargs⟩
  · refine (θ_run Cert.Reference8Ideal.defs _ _).mono (fun r h c => ?_) (Cert.Reference8Ideal.Value.run (F := Ideal) m' g')
    obtain ⟨h0, hargs⟩ := h c
    obtain ⟨a0, a1, a2, a3⟩ := hagree c
    refine ⟨h0.trans ?_, hargs⟩
    refine (val_main_v16_eq _ _ _).trans ?_
    rw [a0, a1, a3]
    exact funext fun i => ref_eq m c i

end Cert.KvV
end
-- ==== Proof.KvDn.lean ====
module

public import proofs.«01_k».proof.Proof.Dn
public import proofs.«01_k».proof.Proof.Gen.Kernel9Ideal.Value

@[expose] public section

/-! # The gradient through the key and value products and the norm: what the call leaves -/

set_option maxRecDepth 16384
set_option maxHeartbeats 4000000

noncomputable section
namespace Cert.KvDn
open Cert.Kernel9Ideal Cert.Kernel9Ideal.Gen Cert.Lin Cert.Dn Idealize.ShloMosaic Idealize.ShloMosaic.TcCoe Idealize.SL.Sem

theorem i0 : ∀ t : Fin cfg0.N, win0_0.index t = ![t.val / 8, min (t.val % 8) 3] := by decide +kernel
theorem i1 : ∀ t : Fin cfg0.N, win0_1.index t = ![0, min (t.val % 8) 3] := by decide +kernel
theorem i2 : ∀ t : Fin cfg0.N, win0_2.index t = ![4 * (t.val / 8) + (t.val % 8 - 4), 0] := by decide +kernel
theorem i3 : ∀ t : Fin cfg0.N, win0_3.index t = ![0, 0] := by decide +kernel
theorem i4 : ∀ t : Fin cfg0.N, win0_4.index t = ![4 * (t.val / 8) + (t.val % 8 - 4), 0] := by decide +kernel
theorem i5 : ∀ t : Fin cfg0.N, win0_5.index t = ![4 * (t.val / 8) + (t.val % 8 - 4), 0] := by decide +kernel
theorem o1 : ∀ t : Fin cfg0.N, 4 ≤ t.val % 8 → k0_off1 (grid0.coords t) = ![256 * (t.val % 8 - 4), 0] := by decide +kernel
theorem hN : cfg0.N = 32 := by decide +kernel

variable (m : (ℓ : Loc nD τ sig) → Buf (Elt Ideal) ℓ) (c : Dev nD)

/-- The arrays that the call reads. -/
abbrev P : FVec Ideal S4096x4096 .bf16 := V m c main_v3
abbrev W : FVec Ideal S2048x4096 .bf16 := V m c main_v2
abbrev X : FVec Ideal S4096x2048 .f32 := V m c main_arg0
abbrev Gn : FVec Ideal S1x2048 .f32 := V m c main_arg1
abbrev Rs : FVec Ideal S4096x2048 .f32 := V m c main_arg5

theorem blk0 (t : Fin cfg0.N) (h : t.val % 8 ≤ 3) (r : Fin 1024) (k : Fin 1024) :
    (iblk m c 0 t : FVec Ideal S1024x1024 .bf16) (ix2 r k) = at2 (P m c) (1024 * (t.val / 8) + r.val) (1024 * (t.val % 8) + k.val) := by
  have ht : t.val < 32 := lt_of_lt_of_eq t.isLt hN
  rw [at2_eq (P m c) (show 1024 * (t.val / 8) + r.val < 4096 by omega) (show 1024 * (t.val % 8) + k.val < 4096 by omega)]
  have e : win0_0.index t = ![t.val / 8, t.val % 8] := by rw [i0 t, min_eq_left h]
  blk_ext [iblk, e]

theorem blk1 (t : Fin cfg0.N) (h : t.val % 8 ≤ 3) (q : Fin 2048) (k : Fin 1024) :
    (iblk m c 1 t : FVec Ideal S2048x1024 .bf16) (ix2 q k) = at2 (W m c) q.val (1024 * (t.val % 8) + k.val) := by
  rw [at2_eq (W m c) q.isLt (show 1024 * (t.val % 8) + k.val < 4096 by omega)]
  have e : win0_1.index t = ![0, t.val % 8] := by rw [i1 t, min_eq_left h]
  blk_ext [iblk, e]

theorem blk2 (t : Fin cfg0.N) (r : Fin 256) (q : Fin 2048) :
    (iblk m c 2 t : FVec Ideal S256x2048 .f32) (ix2 r q) = at2 (X m c) (256 * (4 * (t.val / 8) + (t.val % 8 - 4)) + r.val) q.val := by
  have ht : t.val < 32 := lt_of_lt_of_eq t.isLt hN
  rw [at2_eq (X m c) (show 256 * (4 * (t.val / 8) + (t.val % 8 - 4)) + r.val < 4096 by omega) q.isLt]
  blk_ext [iblk, i2 t]

theorem blk3 (t : Fin cfg0.N) (z : Fin 1) (q : Fin 2048) : (iblk m c 3 t : FVec Ideal S1x2048 .f32) (ix2 z q) = at2 (Gn m c) 0 q.val := by
  rw [at2_eq (Gn m c) (by omega) q.isLt]
  blk_ext [iblk, i3 t]

theorem blk4 (t : Fin cfg0.N) (r : Fin 256) (q : Fin 2048) :
    (iblk m c 4 t : FVec Ideal S256x2048 .f32) (ix2 r q) = at2 (Rs m c) (256 * (4 * (t.val / 8) + (t.val % 8 - 4)) + r.val) q.val := by
  have ht : t.val < 32 := lt_of_lt_of_eq t.isLt hN
  rw [at2_eq (Rs m c) (show 256 * (4 * (t.val / 8) + (t.val % 8 - 4)) + r.val < 4096 by omega) q.isLt]
  blk_ext [iblk, i4 t]

/-- One column's addition to an entry of the product's gradient, and that gradient. -/
abbrev term (r q s : ℕ) : EReal := at2 (P m c) r s * at2 (W m c) q s
abbrev dh (r q : ℕ) : EReal := ∑ s ∈ Finset.range 4096, term m c r q s

/-- One token's addition to an entry of the gain's gradient. -/
abbrev row (t : ℕ) : ℕ → EReal := fun k => at2 (X m c) t k
abbrev gterm (q t : ℕ) : EReal := dh m c t q * (row m c t q * root (row m c t))

theorem pay1 (z : Fin 1) (q : Fin 2048) : k0_pay1 (F := Ideal) (ix2 z q) = 0 := by
  unfold_payloads
  pointwise

theorem pay2 (r : Fin 1024) (q : Fin 2048) : k0_pay2 (F := Ideal) (ix2 r q) = 0 := by
  unfold_payloads
  pointwise

theorem pay3 (t : Fin cfg0.N) (h : t.val % 8 ≤ 3) (v : FVec Ideal S1024x2048 .f32) (r : Fin 1024) (q : Fin 2048) :
    k0_pay3 (F := Ideal) v (iblk m c 0 t) (iblk m c 1 t) (ix2 r q)
      = v (ix2 r q) + ∑ k : Fin 1024, term m c (1024 * (t.val / 8) + r.val) q.val (1024 * (t.val % 8) + k.val) := by
  unfold_payloads
  pointwise
  simp only [blk0 m c t h, blk1 m c t h]
  all_goals rfl

theorem pay6 (x : FVec Ideal S256x2048 .f32) (d : FVec Ideal S256x2048 .f32) (v : FVec Ideal S1x2048 .f32) (z : Fin 1) (q : Fin 2048) :
    k0_pay6 (F := Ideal) x d v (ix2 z q)
      = v (ix2 z q) + ∑ r : Fin 256, d (ix2 r q) * (x (ix2 r q) * root fun k => at2 x r.val k) := by
  have e : ∀ (r : Fin 256) (k : Fin 2048), at2 x r.val k.val = x (ix2 r k) := fun r k => at2_eq x r.isLt k.isLt
  unfold root var
  simp only [e]
  unfold_payloads
  pointwise

theorem pay7 (x d : FVec Ideal S256x2048 .f32) (g : FVec Ideal S1x2048 .f32) (s : FVec Ideal S256x2048 .f32) (r : Fin 256) (q : Fin 2048) :
    k0_pay7 (F := Ideal) x d g s (ix2 r q)
      = kdx (fun k => at2 x r.val k) (fun k => at2 d r.val k) (fun k => at2 g 0 k) (s (ix2 r q)) q.val := by
  have e : ∀ (k : Fin 2048), at2 x r.val k.val = x (ix2 r k) := fun k => at2_eq x r.isLt k.isLt
  have e' : ∀ (k : Fin 2048), at2 d r.val k.val = d (ix2 r k) := fun k => at2_eq d r.isLt k.isLt
  have e'' : ∀ (k : Fin 2048), at2 g 0 k.val = g (ix2 0 k) := fun k => at2_eq g (by omega) k.isLt
  unfold kdx root var
  simp only [e, e', e'']
  unfold_payloads
  pointwise

theorem acc (r : Fin 1024) (q : Fin 2048) : ∀ (n : ℕ) (h : n < cfg0.N),
    (outsAt0 m c n h).2.2 (ix2 r q) = ∑ s ∈ Finset.range (1024 * min (n % 8 + 1) 4), term m c (1024 * (n / 8) + r.val) q.val s := by
  intro n
  induction n with
  | zero =>
    intro h
    rw [show min (0 % 8 + 1) 4 = 0 + 1 from rfl, ← sum_next, outsAt0_A m c ⟨0, h⟩ (by rfl) (by rfl) (by simp) (by simp)]
    frame_out
    rw [pay3 m c ⟨0, h⟩ (by simp), pay2]
    rfl
  | succ n ih =>
    intro h
    have hn : n + 1 < 32 := lt_of_lt_of_eq h hN
    by_cases h1 : (n + 1) % 8 = 0
    · rw [show min ((n + 1) % 8 + 1) 4 = (n + 1) % 8 + 1 by omega, ← sum_next]
      by_cases h0 : (n + 1) % 32 = 0
      · exact absurd h0 (by omega)
      · rw [outsAt0_D m c ⟨n + 1, h⟩ h0 h1 (by show (n + 1) % 8 ≤ 3; omega) (by show ¬ 4 ≤ (n + 1) % 8; omega)]
        frame_out
        rw [pay3 m c ⟨n + 1, h⟩ (by show (n + 1) % 8 ≤ 3; omega), pay2]
        show 0 + _ = _
        rw [h1]
        rfl
    · have ih := ih (by omega)
      have e1 : n / 8 = (n + 1) / 8 := by omega
      by_cases h2 : (n + 1) % 8 ≤ 3
      · rw [show min (n % 8 + 1) 4 = (n + 1) % 8 by omega, e1] at ih
        rw [show min ((n + 1) % 8 + 1) 4 = (n + 1) % 8 + 1 by omega, ← sum_next,
          outsAt0_B m c ⟨n + 1, h⟩ (by show ¬ (n + 1) % 32 = 0; omega) h1 h2 (by show ¬ 4 ≤ (n + 1) % 8; omega)]
        frame_out
        rw [pay3 m c ⟨n + 1, h⟩ h2]
        exact congrArg (· + _) ((congrFun (Memref.IsWhole.read_unread _ _) _).trans ih)
      · rw [show min (n % 8 + 1) 4 = 4 by omega, e1] at ih
        rw [show min ((n + 1) % 8 + 1) 4 = 4 by omega,
          outsAt0_C m c ⟨n + 1, h⟩ (by show ¬ (n + 1) % 32 = 0; omega) h1 h2 (by show 4 ≤ (n + 1) % 8; omega)]
        exact ih

/-- The rows of the product's gradient that a point after the product reads. -/
theorem held (t : Fin cfg0.N) (h : 4 ≤ t.val % 8) {hs : scM0_0.IsWhole}
    (inb : ∀ a, k0_off1 (grid0.coords t) a + S256x2048.size a ≤ S1024x2048.size a) (r : Fin 256) (q : Fin 2048) :
    View.ld (View.read (Elt Ideal) (View.whole cc0_scratch0) (hs.unread (outsAt0 m c (t.val - 1) (lt_of_le_of_lt (Nat.sub_le _ _) t.isLt)).2.2))
        (Rect.unit (s := S1024x2048) (k0_off1 (grid0.coords t)) S256x2048.size inb) (ix2 r q)
      = dh m c (256 * (4 * (t.val / 8) + (t.val % 8 - 4)) + r.val) q.val := by
  have ht : t.val < 32 := lt_of_lt_of_eq t.isLt hN
  revert inb
  rw [o1 t h]
  intro inb
  refine (ld_at2 (A := 1024) (N := 2048) _ inb r q).trans ?_
  rw [at2_eq _ (show 256 * (t.val % 8 - 4) + r.val < 1024 by omega) (show 0 + q.val < 2048 by omega)]
  refine (congrFun (Memref.IsWhole.read_unread hs _) _).trans ((acc m c ⟨256 * (t.val % 8 - 4) + r.val, by omega⟩ ⟨0 + q.val, by omega⟩ (t.val - 1) _).trans ?_)
  rw [show min ((t.val - 1) % 8 + 1) 4 = 4 by omega]
  show ∑ s ∈ Finset.range 4096, term m c (1024 * ((t.val - 1) / 8) + (256 * (t.val % 8 - 4) + r.val)) (0 + q.val) s = _
  rw [show 1024 * ((t.val - 1) / 8) + (256 * (t.val % 8 - 4) + r.val) = 256 * (4 * (t.val / 8) + (t.val % 8 - 4)) + r.val by omega, Nat.zero_add]

theorem dgs (z : Fin 1) (q : Fin 2048) : ∀ (n : ℕ) (h : n < cfg0.N),
    (outsAt0 m c n h).2.1 (ix2 z q) = ∑ t ∈ Finset.range (256 * (4 * (n / 8) + (n % 8 - 3))), gterm m c q.val t := by
  intro n
  induction n with
  | zero =>
    intro h
    rw [outsAt0_A m c ⟨0, h⟩ (by rfl) (by rfl) (by simp) (by simp)]
    frame_out
    rw [pay1]
    rfl
  | succ n ih =>
    intro h
    have hn : n + 1 < 32 := lt_of_lt_of_eq h hN
    have ih := ih (by omega)
    by_cases h1 : (n + 1) % 8 = 0
    · rw [show 4 * (n / 8) + (n % 8 - 3) = 4 * ((n + 1) / 8) + ((n + 1) % 8 - 3) by omega] at ih
      rw [outsAt0_D m c ⟨n + 1, h⟩ (by show ¬ (n + 1) % 32 = 0; omega) h1 (by show (n + 1) % 8 ≤ 3; omega) (by show ¬ 4 ≤ (n + 1) % 8; omega)]
      exact ih
    · by_cases h2 : (n + 1) % 8 ≤ 3
      · rw [show 4 * (n / 8) + (n % 8 - 3) = 4 * ((n + 1) / 8) + ((n + 1) % 8 - 3) by omega] at ih
        rw [outsAt0_B m c ⟨n + 1, h⟩ (by show ¬ (n + 1) % 32 = 0; omega) h1 h2 (by show ¬ 4 ≤ (n + 1) % 8; omega)]
        exact ih
      · rw [show 4 * (n / 8) + (n % 8 - 3) = 4 * ((n + 1) / 8) + ((n + 1) % 8 - 4) by omega] at ih
        rw [show 4 * ((n + 1) / 8) + ((n + 1) % 8 - 3) = (4 * ((n + 1) / 8) + ((n + 1) % 8 - 4)) + 1 by omega, ← sum_next,
          outsAt0_C m c ⟨n + 1, h⟩ (by show ¬ (n + 1) % 32 = 0; omega) h1 h2 (by show 4 ≤ (n + 1) % 8; omega)]
        have h3 : 4 ≤ (n + 1) % 8 := by omega
        frame_out
        rw [pay6]
        exact congr (congrArg _ ih) (Finset.sum_congr rfl fun r _ => congr (congrArg _ (held m c ⟨n + 1, h⟩ h3 _ r q))
          (congr (congrArg _ (blk2 m c ⟨n + 1, h⟩ r q)) (root_congr fun k => (at2_eq _ r.isLt k.isLt).trans (blk2 m c ⟨n + 1, h⟩ r k))))

theorem dxs (t : Fin cfg0.N) (h : 4 ≤ t.val % 8) (r : Fin 256) (q : Fin 2048) :
    (outsAt0 m c t.val t.isLt).1 (ix2 r q)
      = kdx (row m c (256 * (4 * (t.val / 8) + (t.val % 8 - 4)) + r.val)) (dh m c (256 * (4 * (t.val / 8) + (t.val % 8 - 4)) + r.val))
          (at2 (Gn m c) 0) (at2 (Rs m c) (256 * (4 * (t.val / 8) + (t.val % 8 - 4)) + r.val) q.val) q.val := by
  rw [outsAt0_C m c t (by omega) (by omega) (by omega) h]
  frame_out
  rw [pay7, blk4 m c t r q]
  exact kdx_congr (fun k => (at2_eq _ r.isLt k.isLt).trans (blk2 m c t r k)) (fun k => (at2_eq _ r.isLt k.isLt).trans (held m c t h _ r k))
    (fun k => (at2_eq _ (by omega) k.isLt).trans (blk3 m c t 0 k)) _ q

/-- The two arrays that the call leaves. -/
def G5 : FVec Ideal S4096x2048 .f32 := fun y =>
  kdx (row m c (y 0).val) (dh m c (y 0).val) (at2 (Gn m c) 0) (at2 (Rs m c) (y 0).val (y 1).val) (y 1).val
def G6 : FVec Ideal S1x2048 .f32 := fun y => ∑ t ∈ Finset.range 4096, gterm m c (y 1).val t

theorem array5 : (dats m 0 c).arrAt 5 cfg0.N = G5 m c := by
  refine (dats m 0 c).arrAt_eq_of_covers 5 _ (by decide +kernel) fun t hf y => ?_
  have hf' : 4 ≤ t.val % 8 := (show ∀ t : Fin cfg0.N, (cfg0.win 5).flush t = true → 4 ≤ t.val % 8 by decide +kernel) t hf
  blk_simp
  rw [after0_5]
  obtain ⟨r, q, rfl⟩ : ∃ (r : Fin 256) (q : Fin 2048), y = (ix2 r q : S256x2048.Idx) := ⟨y 0, y 1, (ix2_eta (y : S256x2048.Idx)).symm⟩
  refine (dxs m c t hf' r q).trans ?_
  have h0 : (((win0_5.blk t).view.emb (ix2 r q : S256x2048.Idx) : S4096x2048.Idx) 0).val = 256 * (4 * (t.val / 8) + (t.val % 8 - 4)) + r.val := by
    blk_simp [i5 t]
    omega
  have h1 : (((win0_5.blk t).view.emb (ix2 r q : S256x2048.Idx) : S4096x2048.Idx) 1).val = q.val := by
    blk_simp [i5 t]
  show _ = kdx (row m c _) (dh m c _) (at2 (Gn m c) 0) (at2 (Rs m c) _ _) _
  rw [h0, h1]

/-- The last point. -/
def tl : Fin cfg0.N := ⟨31, by rw [hN]; omega⟩

theorem array6 : (dats m 0 c).arrAt 6 cfg0.N = G6 m c := by
  refine (dats m 0 c).arrAt_eq_of_after_last 6 tl (by decide +kernel) _ fun j => ?_
  blk_simp
  rw [after0_6]
  obtain ⟨z, q, rfl⟩ : ∃ (z : Fin 1) (q : Fin 2048), j = (ix2 z q : S1x2048.Idx) := ⟨j 0, j 1, (ix2_eta (j : S1x2048.Idx)).symm⟩
  exact dgs m c z q 31 tl.isLt

end Cert.KvDn
end
-- ==== Proof.AlgKvDn.lean ====
module

public import proofs.«01_k».proof.Proof.KvDn
public import proofs.«01_k».proof.Proof.Gen.Reference9Ideal.Run
public import proofs.«01_k».proof.Proof.Gen.Reference9Ideal.Read
public import proofs.«01_k».proof.Defs

@[expose] public section

/-! # The gradient through the key and value products and the norm: the call's results are the reference's -/

set_option maxRecDepth 16384
set_option maxHeartbeats 4000000

noncomputable section
namespace Cert.KvDn
open Cert.Kernel9Ideal Cert.Kernel9Ideal.Gen Cert.Lin Cert.Dn Cert.Reference9Ideal.Read Idealize.ShloMosaic Idealize.ShloMosaic.TcCoe Idealize.SL.Sem

section Reference
variable (A0 : FVec Ideal S4096x2048 .f32) (A1 : FVec Ideal S1x2048 .f32) (A2 A3 : FVec Ideal S2048x2048 .f32) (A4 : FVec Ideal S4096x4096 .f32)
  (A5 : FVec Ideal S4096x2048 .f32)

abbrev rdh (t q : ℕ) : EReal := (∑ s : Fin 2048, at2 A4 t (2048 + s.val) * at2 A3 q s.val) + ∑ s : Fin 2048, at2 A4 t s.val * at2 A2 q s.val

theorem v6 (i : Cert.Reference9Ideal.S4096x1.Idx) : val_main_v6 (F := Ideal) A0 i = var (at2 A0 (i 0).val) := by
  rw [val_main_v6_apply, val_main_v4_apply, val_main_v2_apply, val_main_v3_apply, val_main_v5_apply, val_main_v1_apply]
  have e : ∀ k : Fin 2048, val_main_v0 (F := Ideal) A0 (idx_main_v1 (idx_main_v2 i) k) = at2 A0 (i 0).val k.val * at2 A0 (i 0).val k.val := fun k => by
    rw [at2_eq A0 (i 0).isLt k.isLt, val_main_v0_apply]
    have e : idx_main_v1 (idx_main_v2 i) k = (ix2 ⟨(i 0).val, (i 0).isLt⟩ ⟨k.val, k.isLt⟩ : S4096x2048.Idx) := funext fun a => by
      match a with
      | ⟨0, _⟩ => rfl
      | ⟨1, _⟩ => rfl
    rw [e]
    rfl
  simp only [e]
  show Ideal.div (Ideal.ofBits .f32 0x00000000#32 + _) n2048 + eps = _
  rw [Ideal.ofBits_zero_f32, zero_add]

theorem v7 (i : Cert.Reference9Ideal.S4096x1.Idx) : val_main_v7 (F := Ideal) A0 i = root (at2 A0 (i 0).val) := by
  rw [val_main_v7_apply, v6]
  rfl

theorem v19 (i : S4096x2048.Idx) :
    val_main_v19 (F := Ideal) A3 A4 i = ∑ s : Fin 2048, at2 A4 (i 0).val (2048 + s.val) * at2 A3 (i 1).val s.val := by
  rw [val_main_v19_apply]
  refine Finset.sum_congr rfl fun k _ => ?_
  rw [val_main_v18_apply, at2_eq A4 (i 0).isLt (show 2048 + k.val < 4096 by omega), at2_eq A3 (i 1).isLt k.isLt]
  refine congr (congrArg _ (congrArg A4 (funext fun a => ?_))) (congrArg A3 (funext fun a => ?_))
  · match a with
    | ⟨0, _⟩ => rfl
    | ⟨1, _⟩ => rfl
  · match a with
    | ⟨0, _⟩ => rfl
    | ⟨1, _⟩ => rfl

theorem v20 (i : S4096x2048.Idx) :
    val_main_v20 (F := Ideal) A2 A4 i = ∑ s : Fin 2048, at2 A4 (i 0).val s.val * at2 A2 (i 1).val s.val := by
  rw [val_main_v20_apply]
  refine Finset.sum_congr rfl fun k _ => ?_
  rw [val_main_v17_apply, at2_eq A4 (i 0).isLt (show k.val < 4096 by omega), at2_eq A2 (i 1).isLt k.isLt]
  refine congr (congrArg _ (congrArg A4 (funext fun a => ?_))) (congrArg A2 (funext fun a => ?_))
  · match a with
    | ⟨0, _⟩ => rfl
    | ⟨1, _⟩ => rfl
  · match a with
    | ⟨0, _⟩ => rfl
    | ⟨1, _⟩ => rfl

theorem v21 (i : S4096x2048.Idx) : val_main_v21 (F := Ideal) A2 A3 A4 i = rdh A2 A3 A4 (i 0).val (i 1).val := by
  rw [val_main_v21_apply, v19, v20]
  rfl

theorem v26 (i : S4096x2048.Idx) : val_main_v26 (F := Ideal) A1 A2 A3 A4 i = rdh A2 A3 A4 (i 0).val (i 1).val * at2 A1 0 (i 1).val := by
  rw [val_main_v26_apply, v21, val_main_v25_apply, at2_eq A1 (by omega) (i 1).isLt]
  refine congrArg (rdh A2 A3 A4 (i 0).val (i 1).val * ·) (congrArg A1 (funext fun a => ?_))
  match a with
  | ⟨0, _⟩ => rfl
  | ⟨1, _⟩ => rfl

theorem self (i : S4096x2048.Idx) : A0 i = at2 A0 (i 0).val (i 1).val := by
  rw [at2_eq A0 (i 0).isLt (i 1).isLt]
  exact congrArg A0 (ix2_eta i).symm

theorem v36 (i : S4096x2048.Idx) :
    val_main_v36 (F := Ideal) A0 A1 A2 A3 A4 i = slope (at2 A0 (i 0).val) (rdh A2 A3 A4 (i 0).val) (at2 A1 0) := by
  rw [val_main_v36_apply, val_main_v35_apply, Fin.sum_univ_one, val_main_v34_apply, val_main_v33_apply, val_main_v32_apply, val_main_v29_apply,
    val_main_v28_apply, val_main_v10_apply, val_main_v9_apply, val_main_v8_apply, v7, v6]
  have e : ∀ (p : Cert.Reference9Ideal.S4096.Idx) (k : Fin 2048), val_main_v27 (F := Ideal) A0 A1 A2 A3 A4 (idx_main_v28 p k)
      = at2 A0 (p 0).val k.val * (rdh A2 A3 A4 (p 0).val k.val * at2 A1 0 k.val) := fun p k => by
    rw [val_main_v27_apply, v26, self A0]
    rfl
  simp only [e]
  show Ideal.ofBits .f32 0x00000000#32 + Ideal.div ((Ideal.ofBits .f32 0x00000000#32 + _) * (mhalf * Ideal.div (root _) (var _))) n2048 = _
  rw [Ideal.ofBits_zero_f32, zero_add, zero_add]
  have z : (i 0).val * 1 + ((0 : Fin 1) : ℕ) = (i 0).val := by simp
  simp only [z]

theorem ref5 (i : S4096x2048.Idx) : val_main_v41 (F := Ideal) A0 A1 A2 A3 A4 A5 i
    = rdx (at2 A0 (i 0).val) (rdh A2 A3 A4 (i 0).val) (at2 A1 0) (at2 A5 (i 0).val (i 1).val) (i 1).val := by
  rw [val_main_v41_apply, val_main_v40_apply, val_main_v39_apply, val_main_v38_apply, val_main_v37_apply, val_main_v31_apply, val_main_v30_apply,
    v36, v26, v7, self A0, self A5]
  rfl

theorem ref6 (i : S1x2048.Idx) : val_main_v24 (F := Ideal) A0 A2 A3 A4 i
    = ∑ t : Fin 4096, rdh A2 A3 A4 t.val (i 1).val * (at2 A0 t.val (i 1).val * root (at2 A0 t.val)) := by
  rw [val_main_v24_apply, val_main_v23_apply]
  show Ideal.ofBits .f32 0x00000000#32 + _ = _
  rw [Ideal.ofBits_zero_f32, zero_add]
  refine Finset.sum_congr rfl fun t _ => ?_
  rw [val_main_v22_apply, val_main_v12_apply, val_main_v11_apply, v21, v7, self A0]
  have e : (idx_main_v23 (idx_main_v24 i) t 1).val = (i 1).val := by
    have h0 : (i 0).val < 1 := (i 0).isLt
    show (i 0).val * 2048 + (i 1).val = (i 1).val
    omega
  rw [e]
  exact mul_comm _ _

end Reference

variable (m : (ℓ : Loc nD τ sig) → Buf (Elt Ideal) ℓ) (c : Dev nD)

abbrev B0 : FVec Ideal S4096x2048 .f32 := m ((c : Thread nD τ).loc main_arg0)
abbrev B1 : FVec Ideal S1x2048 .f32 := m ((c : Thread nD τ).loc main_arg1)
abbrev B2 : FVec Ideal S2048x2048 .f32 := m ((c : Thread nD τ).loc main_arg2)
abbrev B3 : FVec Ideal S2048x2048 .f32 := m ((c : Thread nD τ).loc main_arg3)
abbrev B4 : FVec Ideal S4096x4096 .f32 := m ((c : Thread nD τ).loc main_arg4)
abbrev B5 : FVec Ideal S4096x2048 .f32 := m ((c : Thread nD τ).loc main_arg5)

theorem X_eq : X m c = B0 m c := by
  unfold X
  entry_read
  rfl
theorem Gn_eq : Gn m c = B1 m c := by
  unfold Gn
  entry_read
  rfl
theorem Rs_eq : Rs m c = B5 m c := by
  unfold Rs
  entry_read
  rfl
theorem P_eq (i : S4096x4096.Idx) : P m c i = B4 m c i := by
  unfold P
  entry_read
  rfl
/-- The weight that the host puts the two weights into, side by side. -/
theorem W_eq_k (q : Fin 2048) (k : Fin 2048) : at2 (W m c) q.val k.val = at2 (B2 m c) q.val k.val := by
  rw [at2_eq (W m c) q.isLt (show k.val < 4096 by omega), at2_eq (B2 m c) q.isLt k.isLt]
  unfold W
  entry_read
  refine (concatenate_pair_apply_left (1 : Fin S2048x4096.rank) _ _ concatenates_S2048x2048_S2048x2048_S2048x4096_d1 _ rfl (ix2 q k : S2048x2048.Idx) (fun b => ?_)).trans rfl
  match b with
  | ⟨0, _⟩ => rfl
  | ⟨1, _⟩ => rfl

theorem W_eq_v (q : Fin 2048) (k : Fin 2048) : at2 (W m c) q.val (2048 + k.val) = at2 (B3 m c) q.val k.val := by
  rw [at2_eq (W m c) q.isLt (show 2048 + k.val < 4096 by omega), at2_eq (B3 m c) q.isLt k.isLt]
  unfold W
  entry_read
  refine (concatenate_pair_apply_right (1 : Fin S2048x4096.rank) _ _ concatenates_S2048x2048_S2048x2048_S2048x4096_d1 _ rfl rfl (ix2 q k : S2048x2048.Idx) (fun b hb => ?_) ?_).trans rfl
  · match b with
    | ⟨0, _⟩ => rfl
    | ⟨1, _⟩ => exact absurd rfl hb
  · show k.val + 2048 = 2048 + k.val
    omega

theorem P_at (t s : ℕ) : at2 (P m c) t s = at2 (B4 m c) t s := by
  unfold at2
  split
  · exact P_eq m c _
  · rfl

theorem dh_eq (t q : ℕ) (hq : q < 2048) : dh m c t q = rdh (B2 m c) (B3 m c) (B4 m c) t q := by
  unfold dh rdh
  rw [show Finset.range 4096 = Finset.range (2048 + 2048) from rfl, Finset.sum_range_add, ← Fin.sum_univ_eq_sum_range, ← Fin.sum_univ_eq_sum_range (fun s => term m c t q (2048 + s)), add_comm]
  refine congr (congrArg _ (Finset.sum_congr rfl fun s _ => ?_)) (Finset.sum_congr rfl fun s _ => ?_)
  · unfold term
    rw [P_at, W_eq_v m c ⟨q, hq⟩ s]
  · unfold term
    rw [P_at, W_eq_k m c ⟨q, hq⟩ s]

theorem eq5 (i : S4096x2048.Idx) : val_main_v41 (F := Ideal) (B0 m c) (B1 m c) (B2 m c) (B3 m c) (B4 m c) (B5 m c) i = G5 m c i := by
  have h1 : (i 1).val < 2048 := (i 1).isLt
  rw [ref5, ← kdx_eq _ _ _ _ h1]
  unfold G5
  rw [Gn_eq, Rs_eq]
  refine (kdx_congr (fun k => ?_) (fun k => (dh_eq m c _ _ k.isLt).symm) (fun _ => rfl) _ ⟨(i 1).val, h1⟩)
  unfold row
  rw [X_eq]

theorem eq6 (i : S1x2048.Idx) : val_main_v24 (F := Ideal) (B0 m c) (B2 m c) (B3 m c) (B4 m c) i = G6 m c i := by
  have h1 : (i 1).val < 2048 := (i 1).isLt
  rw [ref6]
  unfold G6
  rw [← Fin.sum_univ_eq_sum_range]
  refine Finset.sum_congr rfl fun t _ => ?_
  unfold gterm row
  rw [dh_eq m c _ _ h1, X_eq]

theorem algebraic : Cert.algebraic_Kernel9Ideal_Reference9Ideal := by
  intro m g m' g' hpre hagree
  refine ⟨fun c => G5 m c, fun c => G6 m c, ?_, ?_⟩
  · refine (θ_run Cert.Kernel9Ideal.defs _ _).mono (fun r h c => ?_) (Cert.Kernel9Ideal.Value.run_blocks (F := Ideal) m g)
    obtain ⟨h0, h1, hargs⟩ := h c
    exact ⟨h0.trans (array5 m c), h1.trans (array6 m c), hargs⟩
  · refine (θ_run Cert.Reference9Ideal.defs _ _).mono (fun r h c => ?_) (Cert.Reference9Ideal.Value.run (F := Ideal) m' g')
    obtain ⟨h0, h1, hargs⟩ := h c
    obtain ⟨a0, a1, a2, a3, a4, a5⟩ := hagree c
    refine ⟨h0.trans ?_, h1.trans ?_, hargs⟩
    · refine (val_main_v41_eq _ _).trans ?_
      rw [a0, a1, a2, a3, a4, a5]
      exact funext fun i => eq5 m c i
    · refine (val_main_v24_eq _ _ _ _).trans ?_
      rw [a0, a2, a3, a4]
      exact funext fun i => eq6 m c i

end Cert.KvDn
end
-- ==== Proof.MidOutTile.lean ====
module

public import proofs.«01_k».proof.Proof.Leaf
public import proofs.«01_k».proof.Proof.Gen.Kernel13Ideal.Value

@[expose] public section

/-! # The forward mixer: what a tile reads and pools

Tile `i` holds the tokens from `256 * i` on. Only the value half of the projection is known to be real. -/

set_option maxRecDepth 16384
set_option maxHeartbeats 4000000

noncomputable section
namespace Cert.MidOut
open Cert.Kernel13Ideal Cert.Kernel13Ideal.Gen Cert.Mid Idealize.ShloMosaic Idealize.SL.Sem

/-- A number times its logistic value. -/
def silu (x : EReal) : EReal := x * Ideal.div 1 (1 + Ideal.exp (0 - x))

variable (I : Data)

/-- The value half in tile `ii` and in the 16 rows before it; the rows before the first token are free. -/
structure ValueIn (ii : grid0.Coords) (U : FVec Ideal S256x2048 .f32) (Uh : FVec Ideal S16x2048 .f32) : Prop where
  hU : R2 U fun r e => I.pr (256 * (ii 0).val + r) e
  hUh : ∀ (r : Fin 16) (e : Fin 2048), 0 < (ii 0).val → Uh (ix2 r e) = ((I.pr (256 * (ii 0).val - 16 + r.val) e.val : ℝ) : EReal)

/-- The value half `k` tokens back, as the scratch buffer holds it. -/
theorem ValueIn.back {I : Data} {ii : grid0.Coords} {U : FVec Ideal S256x2048 .f32} {Uh : FVec Ideal S16x2048 .f32} (T : ValueIn I ii U Uh)
    {sp : Space} {κ : Kind} {sig : RefSig} {o p : ℕ} (g k : ℕ) (v : View sig κ sp S272x2048 .f32) (i1 i2 i3) (hp : p = 512 * g) (ho : o + k = 16) :
    R2 (v.readCov (Val := Elt Ideal) [⟨Rect.unit (s := S272x2048) ![16, 0] ![256, 2048] i1, k0_pay3 (F := Ideal) U⟩,
        ⟨Rect.unit (s := S272x2048) ![0, 0] ![16, 2048] i2, k0_pay2 (F := Ideal) ii Uh⟩] (Rect.unit (s := S272x2048) ![o, p] ![256, 512] i3).toLoadRect)
      fun r c => I.back (256 * (ii 0).val + r) (Data.col g c) k := by
  subst hp
  intro r c
  have hpc : 512 * g + c.val < 2048 := lt_of_lt_of_le (Nat.add_lt_add_left c.isLt _) (i3 1)
  have hl : (ii 0).val < 16 := (ii 0).isLt
  refine (readCov2 (Val := Elt Ideal) v _ i3 r c).trans ?_
  by_cases hr : o + r.val < 16
  · refine (canon_off (Val := Elt Ideal) i1 _ _ _ _ (by left; exact hr)).trans ?_
    refine (canon_in (Val := Elt Ideal) i2 _ _ _ _ (⟨o + r.val, hr⟩ : Fin 16) (⟨512 * g + c.val, hpc⟩ : Fin 2048) (by simp) (by simp)).trans ?_
    unfold_payloads
    pointwise
    have hb : Scalar.cmpi .sgt (BitVec.ofNat 32 (ii 0).val) 0#32 = BitVec.ofBool (decide (0 < (ii 0).val)) := by
      have h1 : (BitVec.ofNat 32 (ii 0).val).toInt = (((ii 0).val : ℕ) : ℤ) := by
        rw [BitVec.toInt_eq_toNat_of_lt] <;> rw [BitVec.toNat_ofNat, Nat.mod_eq_of_lt] <;> omega
      unfold Scalar.cmpi IntOp.cmpi
      simp only [BitVec.slt_eq_decide, h1]
      simp
    by_cases h0 : 0 < (ii 0).val
    · simp only [hb, h0, decide_true]
      refine (T.hUh _ _ h0).trans ?_
      unfold Data.back Data.col
      rw [if_pos (by omega)]
      simp only [show 256 * (ii 0).val - 16 + (o + r.val) = 256 * (ii 0).val + r.val - k by omega]
    · simp only [hb, h0, decide_false]
      unfold Data.back
      rw [if_neg (by omega)]
      first | rfl | simp
  · refine (canon_in (Val := Elt Ideal) i1 _ _ _ _ (⟨o + r.val - 16, by omega⟩ : Fin 256) (⟨512 * g + c.val, hpc⟩ : Fin 2048) (by show o + r.val = 16 + (o + r.val - 16); omega) (by simp)).trans ?_
    unfold_payloads
    pointwise
    refine (T.hU _ _).trans ?_
    unfold Data.back Data.col
    rw [if_pos (by omega)]
    simp only [show 256 * (ii 0).val + (o + r.val - 16) = 256 * (ii 0).val + r.val - k by omega]

/-- The pooled value of group 0. -/
theorem pool0 (ii : grid0.Coords) (U : FVec Ideal S256x2048 .f32) (b1 : FVec Ideal S256x512 .f32)
    (h : R2 U fun r e => I.pr (256 * (ii 0).val + r) e) (h1 : R2 b1 fun r c => I.back (256 * (ii 0).val + r) (Data.col 0 c) 1) :
    R2 (k0_pay5 (F := Ideal) ii U b1) fun r c => I.pool 0 (256 * (ii 0).val + r) c := by
  intro r c
  have hi : (ii 0).val < 16 := (ii 0).isLt
  unfold_payloads
  pointwise
  simp only [base_word]
  rw [cnt_word (g := 0) (by omega) r.isLt (by rfl) (by norm_num)]
  simp only [h _ _, h1 _ _, ← EReal.coe_add]
  rw [coe_div _ _ (cnt_pos _ _).ne', ← EReal.coe_sub]
  refine congrArg _ ?_
  unfold Data.pool
  simp only [Data.W, Finset.sum_range_succ, Finset.sum_range_zero, Nat.reduceAdd, Nat.reducePow, zero_add, Nat.reduceMul]
  simp only [Data.back, Data.col, Nat.zero_le, if_true, Nat.sub_zero, Nat.reduceMul, Nat.zero_add]

/-- The pooled value of group 1. -/
theorem pool1 (ii : grid0.Coords) (U : FVec Ideal S256x2048 .f32) (b1 b2 b3 : FVec Ideal S256x512 .f32)
    (h : R2 U fun r e => I.pr (256 * (ii 0).val + r) e) (h1 : R2 b1 fun r c => I.back (256 * (ii 0).val + r) (Data.col 1 c) 1) (h2 : R2 b2 fun r c => I.back (256 * (ii 0).val + r) (Data.col 1 c) 2) (h3 : R2 b3 fun r c => I.back (256 * (ii 0).val + r) (Data.col 1 c) 3) :
    R2 (k0_pay8 (F := Ideal) U (k0_pay4 ii) (k0_pay6 U b1 b2 b3) k0_pay7) fun r c => I.pool 1 (256 * (ii 0).val + r) c := by
  intro r c
  have hi : (ii 0).val < 16 := (ii 0).isLt
  unfold_payloads
  pointwise
  simp only [base_word]
  rw [cnt_word (g := 1) (by omega) r.isLt (by rfl) (by norm_num)]
  simp only [h _ _, h1 _ _, h2 _ _, h3 _ _, ← EReal.coe_add]
  rw [coe_div _ _ (cnt_pos _ _).ne', ← EReal.coe_sub]
  refine congrArg _ ?_
  unfold Data.pool
  simp only [Data.W, Finset.sum_range_succ, Finset.sum_range_zero, Nat.reduceAdd, Nat.reducePow, zero_add, Nat.reduceMul]
  simp only [Data.back, Data.col, Nat.zero_le, if_true, Nat.sub_zero, Nat.reduceMul, Nat.zero_add]

/-- The pooled value of group 2. -/
theorem pool2 (ii : grid0.Coords) (U : FVec Ideal S256x2048 .f32) (b1 b2 b3 b4 b5 b6 b7 : FVec Ideal S256x512 .f32)
    (h : R2 U fun r e => I.pr (256 * (ii 0).val + r) e) (h1 : R2 b1 fun r c => I.back (256 * (ii 0).val + r) (Data.col 2 c) 1) (h2 : R2 b2 fun r c => I.back (256 * (ii 0).val + r) (Data.col 2 c) 2) (h3 : R2 b3 fun r c => I.back (256 * (ii 0).val + r) (Data.col 2 c) 3) (h4 : R2 b4 fun r c => I.back (256 * (ii 0).val + r) (Data.col 2 c) 4) (h5 : R2 b5 fun r c => I.back (256 * (ii 0).val + r) (Data.col 2 c) 5) (h6 : R2 b6 fun r c => I.back (256 * (ii 0).val + r) (Data.col 2 c) 6) (h7 : R2 b7 fun r c => I.back (256 * (ii 0).val + r) (Data.col 2 c) 7) :
    R2 (k0_pay9 (F := Ideal) U (k0_pay4 ii) b1 b2 b3 b4 b5 b6 b7) fun r c => I.pool 2 (256 * (ii 0).val + r) c := by
  intro r c
  have hi : (ii 0).val < 16 := (ii 0).isLt
  unfold_payloads
  pointwise
  simp only [base_word]
  rw [cnt_word (g := 2) (by omega) r.isLt (by rfl) (by norm_num)]
  simp only [h _ _, h1 _ _, h2 _ _, h3 _ _, h4 _ _, h5 _ _, h6 _ _, h7 _ _, ← EReal.coe_add]
  rw [coe_div _ _ (cnt_pos _ _).ne', ← EReal.coe_sub]
  refine congrArg _ ?_
  unfold Data.pool
  simp only [Data.W, Finset.sum_range_succ, Finset.sum_range_zero, Nat.reduceAdd, Nat.reducePow, zero_add, Nat.reduceMul]
  simp only [Data.back, Data.col, Nat.zero_le, if_true, Nat.sub_zero, Nat.reduceMul, Nat.zero_add]

/-- The pooled value of group 3. -/
theorem pool3 (ii : grid0.Coords) (U : FVec Ideal S256x2048 .f32) (b1 b2 b3 b4 b5 b6 b7 b8 b9 b10 b11 b12 b13 b14 b15 : FVec Ideal S256x512 .f32)
    (h : R2 U fun r e => I.pr (256 * (ii 0).val + r) e) (h1 : R2 b1 fun r c => I.back (256 * (ii 0).val + r) (Data.col 3 c) 1) (h2 : R2 b2 fun r c => I.back (256 * (ii 0).val + r) (Data.col 3 c) 2) (h3 : R2 b3 fun r c => I.back (256 * (ii 0).val + r) (Data.col 3 c) 3) (h4 : R2 b4 fun r c => I.back (256 * (ii 0).val + r) (Data.col 3 c) 4) (h5 : R2 b5 fun r c => I.back (256 * (ii 0).val + r) (Data.col 3 c) 5) (h6 : R2 b6 fun r c => I.back (256 * (ii 0).val + r) (Data.col 3 c) 6) (h7 : R2 b7 fun r c => I.back (256 * (ii 0).val + r) (Data.col 3 c) 7) (h8 : R2 b8 fun r c => I.back (256 * (ii 0).val + r) (Data.col 3 c) 8) (h9 : R2 b9 fun r c => I.back (256 * (ii 0).val + r) (Data.col 3 c) 9) (h10 : R2 b10 fun r c => I.back (256 * (ii 0).val + r) (Data.col 3 c) 10) (h11 : R2 b11 fun r c => I.back (256 * (ii 0).val + r) (Data.col 3 c) 11) (h12 : R2 b12 fun r c => I.back (256 * (ii 0).val + r) (Data.col 3 c) 12) (h13 : R2 b13 fun r c => I.back (256 * (ii 0).val + r) (Data.col 3 c) 13) (h14 : R2 b14 fun r c => I.back (256 * (ii 0).val + r) (Data.col 3 c) 14) (h15 : R2 b15 fun r c => I.back (256 * (ii 0).val + r) (Data.col 3 c) 15) :
    R2 (k0_pay11 (F := Ideal) U (k0_pay4 ii) (k0_pay10 U b1 b2 b3 b4) b5 b6 b7 b8 b9 b10 b11 b12 b13 b14 b15) fun r c => I.pool 3 (256 * (ii 0).val + r) c := by
  intro r c
  have hi : (ii 0).val < 16 := (ii 0).isLt
  unfold_payloads
  pointwise
  simp only [base_word]
  rw [cnt_word (g := 3) (by omega) r.isLt (by rfl) (by norm_num)]
  simp only [h _ _, h1 _ _, h2 _ _, h3 _ _, h4 _ _, h5 _ _, h6 _ _, h7 _ _, h8 _ _, h9 _ _, h10 _ _, h11 _ _, h12 _ _, h13 _ _, h14 _ _, h15 _ _, ← EReal.coe_add]
  rw [coe_div _ _ (cnt_pos _ _).ne', ← EReal.coe_sub]
  refine congrArg _ ?_
  unfold Data.pool
  simp only [Data.W, Finset.sum_range_succ, Finset.sum_range_zero, Nat.reduceAdd, Nat.reducePow, zero_add, Nat.reduceMul]
  simp only [Data.back, Data.col, Nat.zero_le, if_true, Nat.sub_zero, Nat.reduceMul, Nat.zero_add]

/-- A tile's group: pooled values mixed, scaled and gated. -/
def gated (p : ℕ → ℕ → ℝ) (w : FVec Ideal S1x512x512 .bf16) (s : FVec Ideal S1x512 .f32) (x : FVec Ideal S256x512 .f32) (r : Fin 256) (d : Fin 512) : EReal :=
  (∑ c : Fin 512, ((p r.val c.val : ℝ) : EReal) * w (ix3 0 c d)) * s (ix2 0 d) * silu (x (ix2 r d))

theorem z0 {p : ℕ → ℕ → ℝ} (pl : FVec Ideal S256x512 .f32) (w : FVec Ideal S1x512x512 .bf16) (s : FVec Ideal S1x512 .f32) (x : FVec Ideal S256x512 .f32)
    (hp : R2 pl p) (r : Fin 256) (d : Fin 512) : (k0_pay13 (F := Ideal) (k0_pay12 pl w) s x) (ix2 r d) = gated p w s x r d := by
  unfold_payloads
  pointwise
  simp only [hp _ _]
  all_goals rfl

theorem z1 {p : ℕ → ℕ → ℝ} (pl : FVec Ideal S256x512 .f32) (w : FVec Ideal S1x512x512 .bf16) (s : FVec Ideal S1x512 .f32) (x : FVec Ideal S256x512 .f32)
    (hp : R2 pl p) (r : Fin 256) (d : Fin 512) : (k0_pay14 (F := Ideal) pl w s x) (ix2 r d) = gated p w s x r d := by
  unfold_payloads
  pointwise
  simp only [hp _ _]
  all_goals rfl

theorem z2 {p : ℕ → ℕ → ℝ} (pl : FVec Ideal S256x512 .f32) (w : FVec Ideal S1x512x512 .bf16) (s : FVec Ideal S1x512 .f32) (x : FVec Ideal S256x512 .f32)
    (hp : R2 pl p) (r : Fin 256) (d : Fin 512) : (k0_pay16 (F := Ideal) (k0_pay15 pl) w s x) (ix2 r d) = gated p w s x r d := by
  unfold_payloads
  pointwise
  simp only [hp _ _]
  all_goals rfl

theorem z3 {p : ℕ → ℕ → ℝ} (pl : FVec Ideal S256x512 .f32) (w : FVec Ideal S1x512x512 .bf16) (s : FVec Ideal S1x512 .f32) (x : FVec Ideal S256x512 .f32)
    (hp : R2 pl p) (r : Fin 256) (d : Fin 512) : (k0_pay17 (F := Ideal) pl w s x) (ix2 r d) = gated p w s x r d := by
  unfold_payloads
  pointwise
  simp only [hp _ _]
  all_goals rfl

/-- The output product of a tile added to the residual. -/
theorem x_pay (v : FVec Ideal S256x2048 .f32) (z : FVec Ideal S256x2048 .bf16) (w : FVec Ideal S2048x2048 .bf16) (r : Fin 256) (d : Fin 2048) :
    k0_pay1 (F := Ideal) v z w (ix2 r d) = v (ix2 r d) + ∑ e : Fin 2048, z (ix2 r e) * w (ix2 e d) := by
  unfold_payloads
  pointwise
  all_goals rfl

end Cert.MidOut
end
-- ==== Proof.MidOutBlocks.lean ====
module

public import proofs.«01_k».proof.Proof.MidOutTile
public import proofs.«01_k».proof.Proof.Blocks
public import proofs.«01_k».proof.Proof.Sums

@[expose] public section

/-! # The forward mixer: the results' entries, and the blocks of a tile read off the argument arrays -/

set_option maxRecDepth 16384
set_option maxHeartbeats 4000000

noncomputable section
namespace Cert.MidOut
open Cert.Kernel13Ideal Cert.Kernel13Ideal.Gen Cert.Mid Cert.Lin Idealize.ShloMosaic Idealize.ShloMosaic.TcCoe Idealize.SL.Sem

/-- The projection with zeros in place of its gate half. -/
def half (P : FVec Ideal S4096x4096 .f32) : FVec Ideal S4096x4096 .f32 := fun i => if (i 1).val < 2048 then P i else 0

theorem half_eq (P : FVec Ideal S4096x4096 .f32) (t e : Fin 4096) (h : e.val < 2048) : half P (ix2 t e) = P (ix2 t e) := if_pos h

/-- The real numbers that the value half holds. -/
abbrev vals (P : FVec Ideal S4096x4096 .f32) : Data := ofArrays (half P) (fun _ => 0) (fun _ => 0) (fun _ => 0) (fun _ => 0)

/-- The value half's entries are real numbers. -/
def ValueReal (P : FVec Ideal S4096x4096 .f32) : Prop :=
  AllReal (half P) (fun _ => 0) (fun _ => 0) (fun _ => 0) (fun _ => 0)

theorem ValueReal.pr {P : FVec Ideal S4096x4096 .f32} (H : ValueReal P) (t e : Fin 4096) (h : e.val < 2048) :
    P (ix2 t e) = (((vals P).pr t.val e.val : ℝ) : EReal) := (half_eq P t e h).symm.trans (AllReal.pr H t e)

/-- A three-axis array's entry, zero outside the array. -/
def at3 {a b c : ℕ} (v : (⟨3, ![a, b, c]⟩ : Shape).Idx → EReal) (g r q : ℕ) : EReal :=
  if h : g < a ∧ r < b ∧ q < c then v (ix3 ⟨g, h.1⟩ ⟨r, h.2.1⟩ ⟨q, h.2.2⟩) else 0

theorem at3_eq {a b c : ℕ} (v : (⟨3, ![a, b, c]⟩ : Shape).Idx → EReal) {g r q : ℕ} (hg : g < a) (hr : r < b) (hq : q < c) :
    at3 v g r q = v (ix3 ⟨g, hg⟩ ⟨r, hr⟩ ⟨q, hq⟩) := dif_pos ⟨hg, hr, hq⟩

/-- The gated value of a token and channel. -/
def zat (P : FVec Ideal S4096x4096 .f32) (W : FVec Ideal S4x512x512 .f32) (S : FVec Ideal S1x2048 .f32) (t e : ℕ) : EReal :=
  (∑ c : Fin 512, (((vals P).pool (e / 512) t c.val : ℝ) : EReal) * at3 W (e / 512) c.val (e % 512)) * at2 S 0 e * silu (at2 P t (2048 + e))

/-- The mixer's output added to the residual. -/
def xat (P : FVec Ideal S4096x4096 .f32) (W : FVec Ideal S4x512x512 .f32) (S : FVec Ideal S1x2048 .f32) (O : FVec Ideal S2048x2048 .f32)
    (X : FVec Ideal S4096x2048 .f32) (t d : ℕ) : EReal :=
  at2 X t d + ∑ e : Fin 2048, zat P W S t e.val * at2 O e.val d

theorem gated_eq (P : FVec Ideal S4096x4096 .f32) (W : FVec Ideal S4x512x512 .f32) (S : FVec Ideal S1x2048 .f32) (g i : ℕ)
    (w : FVec Ideal S1x512x512 .bf16) (s : FVec Ideal S1x512 .f32) (x : FVec Ideal S256x512 .f32)
    (hw : ∀ c d : Fin 512, w (ix3 0 c d) = at3 W g c.val d.val) (hs : ∀ d : Fin 512, s (ix2 0 d) = at2 S 0 (512 * g + d.val))
    (hx : ∀ (r : Fin 256) (d : Fin 512), x (ix2 r d) = at2 P (256 * i + r.val) (2048 + (512 * g + d.val))) (r : Fin 256) (d : Fin 512) :
    gated (fun r c => (vals P).pool g (256 * i + r) c) w s x r d = zat P W S (256 * i + r.val) (512 * g + d.val) := by
  unfold gated zat
  rw [show (512 * g + d.val) / 512 = g by omega, show (512 * g + d.val) % 512 = d.val by omega, hs, hx]
  simp only [hw]

theorem i0 : ∀ t : Fin cfg0.N, win0_0.index t = ![(grid0.coords t 0).val, 0] := by decide +kernel
theorem i1 : ∀ t : Fin cfg0.N, win0_1.index t = ![16 * (grid0.coords t 0).val - 1, 0] := by decide +kernel
theorem i2 : ∀ t : Fin cfg0.N, win0_2.index t = ![(grid0.coords t 0).val, 1] := by decide +kernel
theorem i3 : ∀ t : Fin cfg0.N, win0_3.index t = ![0, 0, 0] := by decide +kernel
theorem i4 : ∀ t : Fin cfg0.N, win0_4.index t = ![0, 0] := by decide +kernel
theorem i5 : ∀ t : Fin cfg0.N, win0_5.index t = ![0, 0] := by decide +kernel
theorem i6 : ∀ t : Fin cfg0.N, win0_6.index t = ![(grid0.coords t 0).val, 0] := by decide +kernel
theorem i7 : ∀ t : Fin cfg0.N, win0_7.index t = ![(grid0.coords t 0).val, 0] := by decide +kernel
theorem i8 : ∀ t : Fin cfg0.N, win0_8.index t = ![(grid0.coords t 0).val, 0] := by decide +kernel

variable (m : (ℓ : Loc nD τ sig) → Buf (Elt Ideal) ℓ) (c : Dev nD)

/-- The five argument arrays on a device. -/
abbrev A0 : FVec Ideal S4096x4096 .f32 := m ((c : Thread nD τ).loc main_arg0)
abbrev A1 : FVec Ideal S4x512x512 .f32 := m ((c : Thread nD τ).loc main_arg1)
abbrev A2 : FVec Ideal S1x2048 .f32 := m ((c : Thread nD τ).loc main_arg2)
abbrev A3 : FVec Ideal S2048x2048 .f32 := m ((c : Thread nD τ).loc main_arg3)
abbrev A4 : FVec Ideal S4096x2048 .f32 := m ((c : Thread nD τ).loc main_arg4)

theorem blk0 (t : Fin cfg0.N) (r : Fin 256) (k : Fin 2048) (R : Fin 4096) (K : Fin 4096) (hR : R.val = 256 * (grid0.coords t 0).val + r.val) (hK : K.val = k.val) :
    (iblk m c 0 t : FVec Ideal S256x2048 .f32) (ix2 r k) = A0 m c (ix2 R K) := by
  blk_ext [iblk, V_main_arg0, i0 t]
theorem blk1 (t : Fin cfg0.N) (r : Fin 16) (k : Fin 2048) (R : Fin 4096) (K : Fin 4096) (h : 0 < (grid0.coords t 0).val)
    (hR : R.val = 256 * (grid0.coords t 0).val - 16 + r.val) (hK : K.val = k.val) :
    (iblk m c 1 t : FVec Ideal S16x2048 .f32) (ix2 r k) = A0 m c (ix2 R K) := by
  blk_ext [iblk, V_main_arg0, i1 t]
theorem blk2 (t : Fin cfg0.N) (r : Fin 256) (k : Fin 2048) (R : Fin 4096) (K : Fin 4096) (hR : R.val = 256 * (grid0.coords t 0).val + r.val) (hK : K.val = 2048 + k.val) :
    (iblk m c 2 t : FVec Ideal S256x2048 .f32) (ix2 r k) = A0 m c (ix2 R K) := by
  blk_ext [iblk, V_main_arg0, i2 t]
theorem V0 (g : Fin 4) (a b : Fin 512) : (V m c main_v0 : FVec Ideal S4x512x512 .bf16) (ix3 g a b) = A1 m c (ix3 g a b) := by
  entry_read
  pointwise
theorem V3 (e k : Fin 2048) : (V m c main_v3 : FVec Ideal S2048x2048 .bf16) (ix2 e k) = A3 m c (ix2 e k) := by
  entry_read
  pointwise
theorem blk3 (t : Fin cfg0.N) (g : Fin 4) (a b : Fin 512) :
    (iblk m c 3 t : FVec Ideal S4x512x512 .bf16) (ix3 g a b) = A1 m c (ix3 g a b) := by
  refine Eq.trans ?_ (V0 m c g a b)
  blk_ext [iblk, i3 t]
theorem blk4 (t : Fin cfg0.N) (r : Fin 1) (k : Fin 2048) :
    (iblk m c 4 t : FVec Ideal S1x2048 .f32) (ix2 r k) = A2 m c (ix2 r k) := by
  blk_ext [iblk, V_main_arg2, i4 t]
theorem blk5 (t : Fin cfg0.N) (r k : Fin 2048) :
    (iblk m c 5 t : FVec Ideal S2048x2048 .bf16) (ix2 r k) = A3 m c (ix2 r k) := by
  refine Eq.trans ?_ (V3 m c r k)
  blk_ext [iblk, i5 t]
theorem blk6 (t : Fin cfg0.N) (r : Fin 256) (k : Fin 2048) (R : Fin 4096) (hR : R.val = 256 * (grid0.coords t 0).val + r.val) :
    (iblk m c 6 t : FVec Ideal S256x2048 .f32) (ix2 r k) = A4 m c (ix2 R k) := by
  blk_ext [iblk, V_main_arg4, i6 t]

theorem valueIn (H : ValueReal (A0 m c)) (t : Fin cfg0.N) : ValueIn (vals (A0 m c)) (grid0.coords t) (iblk m c 0 t) (iblk m c 1 t) := by
  have hl : (grid0.coords t 0).val < 16 := (grid0.coords t 0).isLt
  constructor
  · intro r k
    exact (blk0 m c t r k ⟨_, by omega⟩ ⟨k.val, lt_of_lt_of_le k.isLt (by norm_num)⟩ rfl rfl).trans (H.pr _ _ k.isLt)
  · intro r k h
    exact (blk1 m c t r k ⟨_, by omega⟩ ⟨k.val, lt_of_lt_of_le k.isLt (by norm_num)⟩ h rfl rfl).trans (H.pr _ _ k.isLt)

theorem ldw (t : Fin cfg0.N) {p : ℕ} (g : ℕ) (inb) (hp : p = g) (a d : Fin 512) :
    View.ld (Val := Elt Ideal) (e' := .bf16) (iblk m c 3 t) (Rect.unit (s := S4x512x512) ![p, 0, 0] ![1, 512, 512] inb) (ix3 0 a d) = at3 (A1 m c) g a.val d.val := by
  subst hp
  have hg : p + 1 ≤ 4 := inb 0
  refine (ld3 (Val := Elt Ideal) (e := .bf16) (iblk m c 3 t) inb 0 a d).trans ?_
  refine (blk3 m c t _ _ _).trans ?_
  rw [at3_eq (A1 m c) (show p < 4 by omega) a.isLt d.isLt]
  exact congrArg (A1 m c) (congr (congr (congrArg _ (Fin.ext (Nat.add_zero _))) (Fin.ext (Nat.zero_add _))) (Fin.ext (Nat.zero_add _)))

theorem lds (t : Fin cfg0.N) {p : ℕ} (g : ℕ) (inb) (hp : p = 512 * g) (d : Fin 512) :
    View.ld (Val := Elt Ideal) (e' := .f32) (iblk m c 4 t) (Rect.unit (s := S1x2048) ![0, p] ![1, 512] inb) (ix2 0 d) = at2 (A2 m c) 0 (512 * g + d.val) := by
  subst hp
  have hg : 512 * g + 512 ≤ 2048 := inb 1
  refine (ld2 (Val := Elt Ideal) (e := .f32) (iblk m c 4 t) inb 0 d).trans ?_
  refine (blk4 m c t _ _).trans ?_
  rw [at2_eq (A2 m c) (show 0 < 1 by omega) (show 512 * g + d.val < 2048 by omega)]
  rfl

theorem ldx (t : Fin cfg0.N) {p : ℕ} (g : ℕ) (inb) (hp : p = 512 * g) (r : Fin 256) (d : Fin 512) :
    View.ld (Val := Elt Ideal) (e' := .f32) (iblk m c 2 t) (Rect.unit (s := S256x2048) ![0, p] ![256, 512] inb) (ix2 r d)
      = at2 (A0 m c) (256 * (grid0.coords t 0).val + r.val) (2048 + (512 * g + d.val)) := by
  subst hp
  have hl : (grid0.coords t 0).val < 16 := (grid0.coords t 0).isLt
  have hg : 512 * g + 512 ≤ 2048 := inb 1
  rw [at2_eq (A0 m c) (show 256 * (grid0.coords t 0).val + r.val < 4096 by omega) (show 2048 + (512 * g + d.val) < 4096 by omega)]
  refine (ld2 (Val := Elt Ideal) (e := .f32) (iblk m c 2 t) inb r d).trans ?_
  exact blk2 m c t _ _ _ _ (by show _ = _ + (0 + r.val); rw [Nat.zero_add]) rfl

end Cert.MidOut
end
-- ==== Proof.MidOut.lean ====
module

public import proofs.«01_k».proof.Proof.MidOutBlocks

@[expose] public section

/-! # The forward mixer: what a tile stores, and the result arrays -/

set_option maxRecDepth 16384
set_option maxHeartbeats 16000000

noncomputable section
namespace Cert.MidOut
open Cert.Kernel13Ideal Cert.Kernel13Ideal.Gen Cert.Mid Cert.Lin Idealize.ShloMosaic Idealize.ShloMosaic.TcCoe Idealize.SL.Sem

/-- Left of the last store's columns the earlier stores remain. -/
theorem canon_right {p : ℕ} (inb : ∀ x, (![0, p] : Fin 2 → ℕ) x + (![256, 512] : Fin 2 → ℕ) x ≤ S256x2048.size x) (w : FVec Ideal S256x512 .bf16)
    (L : List (View.Piece (Elt Ideal) S256x2048 .bf16)) (r : Fin 256) (e : Fin 2048) (he : e.val < p) :
    View.canon (Val := Elt Ideal) ((⟨Rect.unit (s := S256x2048) ![0, p] ![256, 512] inb, w⟩ : View.Piece (Elt Ideal) S256x2048 .bf16) :: L) (ix2 r e)
      = View.canon L (ix2 r e) := by
  refine View.canon_cons_of_not_mem _ L fun hm => ?_
  have h := (Rect.mem_set_unit (inb := inb).mp hm) 1
  have h1 : p ≤ e.val ∧ e.val < p + 512 := h
  omega

/-- Four stored groups side by side hold what each group holds. -/
theorem groups (f : ℕ → ℕ → EReal) (w0 w1 w2 w3 : FVec Ideal S256x512 .bf16) (i0 i1 i2 i3)
    (h0 : ∀ (r : Fin 256) (d : Fin 512), w0 (ix2 r d) = f r.val (512 * 0 + d.val)) (h1 : ∀ (r : Fin 256) (d : Fin 512), w1 (ix2 r d) = f r.val (512 * 1 + d.val))
    (h2 : ∀ (r : Fin 256) (d : Fin 512), w2 (ix2 r d) = f r.val (512 * 2 + d.val)) (h3 : ∀ (r : Fin 256) (d : Fin 512), w3 (ix2 r d) = f r.val (512 * 3 + d.val))
    (r : Fin 256) (e : Fin 2048) :
    View.canon (Val := Elt Ideal) (e := .bf16) [⟨Rect.unit (s := S256x2048) ![0, 1536] ![256, 512] i3, w3⟩, ⟨Rect.unit (s := S256x2048) ![0, 1024] ![256, 512] i2, w2⟩,
      ⟨Rect.unit (s := S256x2048) ![0, 512] ![256, 512] i1, w1⟩, ⟨Rect.unit (s := S256x2048) ![0, 0] ![256, 512] i0, w0⟩] (ix2 r e) = f r.val e.val := by
  by_cases c3 : 1536 ≤ e.val
  · refine (canon_in (Val := Elt Ideal) i3 _ _ _ _ r (⟨e.val - 1536, by omega⟩ : Fin 512) (by simp) (by show e.val = 1536 + (e.val - 1536); omega)).trans ((h3 _ _).trans ?_)
    refine congrArg (f r.val) ?_
    show 512 * 3 + (e.val - 1536) = e.val
    omega
  refine (canon_right _ _ _ r e (by omega)).trans ?_
  by_cases c2 : 1024 ≤ e.val
  · refine (canon_in (Val := Elt Ideal) i2 _ _ _ _ r (⟨e.val - 1024, by omega⟩ : Fin 512) (by simp) (by show e.val = 1024 + (e.val - 1024); omega)).trans ((h2 _ _).trans ?_)
    refine congrArg (f r.val) ?_
    show 512 * 2 + (e.val - 1024) = e.val
    omega
  refine (canon_right _ _ _ r e (by omega)).trans ?_
  by_cases c1 : 512 ≤ e.val
  · refine (canon_in (Val := Elt Ideal) i1 _ _ _ _ r (⟨e.val - 512, by omega⟩ : Fin 512) (by simp) (by show e.val = 512 + (e.val - 512); omega)).trans ((h1 _ _).trans ?_)
    refine congrArg (f r.val) ?_
    show 512 * 1 + (e.val - 512) = e.val
    omega
  refine (canon_right _ _ _ r e (by omega)).trans ?_
  · refine (canon_in (Val := Elt Ideal) i0 _ _ _ _ r (⟨e.val - 0, by omega⟩ : Fin 512) (by simp) (by show e.val = 0 + (e.val - 0); omega)).trans ((h0 _ _).trans ?_)
    refine congrArg (f r.val) ?_
    show 512 * 0 + (e.val - 0) = e.val
    omega

variable (m : (ℓ : Loc nD τ sig) → Buf (Elt Ideal) ℓ) (c : Dev nD)

/-- The gated value of a tile's row. -/
abbrev zrow (t : Fin cfg0.N) (r e : ℕ) : EReal := zat (A0 m c) (A1 m c) (A2 m c) (256 * (grid0.coords t 0).val + r) e

theorem out8 (H : ValueReal (A0 m c)) (t : Fin cfg0.N) (r : Fin 256) (e : Fin 2048) :
    (outsAt0 m c t).2 (ix2 r e) = zrow m c t r.val e.val := by
  have T := valueIn m c H t
  unfold outsAt0
  frame_open
  simp (disch := decide) only [↓ View.readCov_skip, ↓ View.readCov_cons_toLoadRect, ↓ View.readCov_fill]
  frame_out
  refine groups (zrow m c t) _ _ _ _ _ _ _ _ (fun r d => ?_) (fun r d => ?_) (fun r d => ?_) (fun r d => ?_) r e
  · exact (z0 _ _ _ _ (pool0 (vals (A0 m c)) _ _ _ T.hU (T.back 0 1 _ _ _ _ (by rfl) (by rfl))) r d).trans
      (gated_eq _ _ _ 0 _ _ _ _ (ldw m c t 0 _ (by rfl)) (lds m c t 0 _ (by rfl)) (ldx m c t 0 _ (by rfl)) r d)
  · exact (z1 _ _ _ _ (pool1 (vals (A0 m c)) _ _ _ _ _ T.hU (T.back 1 1 _ _ _ _ (by rfl) (by rfl)) (T.back 1 2 _ _ _ _ (by rfl) (by rfl)) (T.back 1 3 _ _ _ _ (by rfl) (by rfl))) r d).trans
      (gated_eq _ _ _ 1 _ _ _ _ (ldw m c t 1 _ (by rfl)) (lds m c t 1 _ (by rfl)) (ldx m c t 1 _ (by rfl)) r d)
  · exact (z2 _ _ _ _ (pool2 (vals (A0 m c)) _ _ _ _ _ _ _ _ _ T.hU (T.back 2 1 _ _ _ _ (by rfl) (by rfl)) (T.back 2 2 _ _ _ _ (by rfl) (by rfl)) (T.back 2 3 _ _ _ _ (by rfl) (by rfl)) (T.back 2 4 _ _ _ _ (by rfl) (by rfl)) (T.back 2 5 _ _ _ _ (by rfl) (by rfl)) (T.back 2 6 _ _ _ _ (by rfl) (by rfl)) (T.back 2 7 _ _ _ _ (by rfl) (by rfl))) r d).trans
      (gated_eq _ _ _ 2 _ _ _ _ (ldw m c t 2 _ (by rfl)) (lds m c t 2 _ (by rfl)) (ldx m c t 2 _ (by rfl)) r d)
  · exact (z3 _ _ _ _ (pool3 (vals (A0 m c)) _ _ _ _ _ _ _ _ _ _ _ _ _ _ _ _ _ T.hU (T.back 3 1 _ _ _ _ (by rfl) (by rfl)) (T.back 3 2 _ _ _ _ (by rfl) (by rfl)) (T.back 3 3 _ _ _ _ (by rfl) (by rfl)) (T.back 3 4 _ _ _ _ (by rfl) (by rfl)) (T.back 3 5 _ _ _ _ (by rfl) (by rfl)) (T.back 3 6 _ _ _ _ (by rfl) (by rfl)) (T.back 3 7 _ _ _ _ (by rfl) (by rfl)) (T.back 3 8 _ _ _ _ (by rfl) (by rfl)) (T.back 3 9 _ _ _ _ (by rfl) (by rfl)) (T.back 3 10 _ _ _ _ (by rfl) (by rfl)) (T.back 3 11 _ _ _ _ (by rfl) (by rfl)) (T.back 3 12 _ _ _ _ (by rfl) (by rfl)) (T.back 3 13 _ _ _ _ (by rfl) (by rfl)) (T.back 3 14 _ _ _ _ (by rfl) (by rfl)) (T.back 3 15 _ _ _ _ (by rfl) (by rfl))) r d).trans
      (gated_eq _ _ _ 3 _ _ _ _ (ldw m c t 3 _ (by rfl)) (lds m c t 3 _ (by rfl)) (ldx m c t 3 _ (by rfl)) r d)

theorem out7 (H : ValueReal (A0 m c)) (t : Fin cfg0.N) (r : Fin 256) (d : Fin 2048) :
    (outsAt0 m c t).1 (ix2 r d) = xat (A0 m c) (A1 m c) (A2 m c) (A3 m c) (A4 m c) (256 * (grid0.coords t 0).val + r.val) d.val := by
  have T := valueIn m c H t
  have hl : (grid0.coords t 0).val < 16 := (grid0.coords t 0).isLt
  unfold outsAt0
  frame_open
  simp (disch := decide) only [↓ View.readCov_skip, ↓ View.readCov_cons_toLoadRect, ↓ View.readCov_fill]
  frame_out
  refine (x_pay _ _ _ r d).trans ?_
  unfold xat
  refine congrArg₂ (· + ·) ?_ (Finset.sum_congr rfl fun e _ => congrArg₂ (· * ·) ?_ ?_)
  · rw [at2_eq (A4 m c) (show 256 * (grid0.coords t 0).val + r.val < 4096 by omega) d.isLt]
    exact blk6 m c t r d _ rfl
  swap
  · rw [at2_eq (A3 m c) e.isLt d.isLt]
    exact blk5 m c t e d
  refine (readCov2 (Val := Elt Ideal) _ _ _ r e).trans ?_
  refine (groups (zrow m c t) _ _ _ _ _ _ _ _ (fun r d => ?_) (fun r d => ?_) (fun r d => ?_) (fun r d => ?_) _ _).trans ?_
  · exact (z0 _ _ _ _ (pool0 (vals (A0 m c)) _ _ _ T.hU (T.back 0 1 _ _ _ _ (by rfl) (by rfl))) r d).trans
      (gated_eq _ _ _ 0 _ _ _ _ (ldw m c t 0 _ (by rfl)) (lds m c t 0 _ (by rfl)) (ldx m c t 0 _ (by rfl)) r d)
  · exact (z1 _ _ _ _ (pool1 (vals (A0 m c)) _ _ _ _ _ T.hU (T.back 1 1 _ _ _ _ (by rfl) (by rfl)) (T.back 1 2 _ _ _ _ (by rfl) (by rfl)) (T.back 1 3 _ _ _ _ (by rfl) (by rfl))) r d).trans
      (gated_eq _ _ _ 1 _ _ _ _ (ldw m c t 1 _ (by rfl)) (lds m c t 1 _ (by rfl)) (ldx m c t 1 _ (by rfl)) r d)
  · exact (z2 _ _ _ _ (pool2 (vals (A0 m c)) _ _ _ _ _ _ _ _ _ T.hU (T.back 2 1 _ _ _ _ (by rfl) (by rfl)) (T.back 2 2 _ _ _ _ (by rfl) (by rfl)) (T.back 2 3 _ _ _ _ (by rfl) (by rfl)) (T.back 2 4 _ _ _ _ (by rfl) (by rfl)) (T.back 2 5 _ _ _ _ (by rfl) (by rfl)) (T.back 2 6 _ _ _ _ (by rfl) (by rfl)) (T.back 2 7 _ _ _ _ (by rfl) (by rfl))) r d).trans
      (gated_eq _ _ _ 2 _ _ _ _ (ldw m c t 2 _ (by rfl)) (lds m c t 2 _ (by rfl)) (ldx m c t 2 _ (by rfl)) r d)
  · exact (z3 _ _ _ _ (pool3 (vals (A0 m c)) _ _ _ _ _ _ _ _ _ _ _ _ _ _ _ _ _ T.hU (T.back 3 1 _ _ _ _ (by rfl) (by rfl)) (T.back 3 2 _ _ _ _ (by rfl) (by rfl)) (T.back 3 3 _ _ _ _ (by rfl) (by rfl)) (T.back 3 4 _ _ _ _ (by rfl) (by rfl)) (T.back 3 5 _ _ _ _ (by rfl) (by rfl)) (T.back 3 6 _ _ _ _ (by rfl) (by rfl)) (T.back 3 7 _ _ _ _ (by rfl) (by rfl)) (T.back 3 8 _ _ _ _ (by rfl) (by rfl)) (T.back 3 9 _ _ _ _ (by rfl) (by rfl)) (T.back 3 10 _ _ _ _ (by rfl) (by rfl)) (T.back 3 11 _ _ _ _ (by rfl) (by rfl)) (T.back 3 12 _ _ _ _ (by rfl) (by rfl)) (T.back 3 13 _ _ _ _ (by rfl) (by rfl)) (T.back 3 14 _ _ _ _ (by rfl) (by rfl)) (T.back 3 15 _ _ _ _ (by rfl) (by rfl))) r d).trans
      (gated_eq _ _ _ 3 _ _ _ _ (ldw m c t 3 _ (by rfl)) (lds m c t 3 _ (by rfl)) (ldx m c t 3 _ (by rfl)) r d)
  · simp only [Nat.zero_add]

/-- The results, as arrays. -/
def Z (P : FVec Ideal S4096x4096 .f32) (W : FVec Ideal S4x512x512 .f32) (S : FVec Ideal S1x2048 .f32) : FVec Ideal S4096x2048 .bf16 :=
  fun y => zat P W S (y 0).val (y 1).val
def X (P : FVec Ideal S4096x4096 .f32) (W : FVec Ideal S4x512x512 .f32) (S : FVec Ideal S1x2048 .f32) (O : FVec Ideal S2048x2048 .f32)
    (R : FVec Ideal S4096x2048 .f32) : FVec Ideal S4096x2048 .f32 := fun y => xat P W S O R (y 0).val (y 1).val

theorem array7 (H : ValueReal (A0 m c)) : (dats m 0 c).arrAt 7 cfg0.N = X (A0 m c) (A1 m c) (A2 m c) (A3 m c) (A4 m c) := by
  refine (dats m 0 c).arrAt_eq_of_covers 7 _ (by decide +kernel) fun t hf y => ?_
  blk_simp
  rw [after0_7]
  obtain ⟨r, e, rfl⟩ : ∃ (r : Fin 256) (e : Fin 2048), y = (ix2 r e : S256x2048.Idx) := ⟨y 0, y 1, (ix2_eta (y : S256x2048.Idx)).symm⟩
  refine (out7 m c H t r e).trans ?_
  have h0 : (((win0_7.blk t).view.emb (ix2 r e : S256x2048.Idx) : S4096x2048.Idx) 0).val = 256 * (grid0.coords t 0).val + r.val := by
    blk_simp [i7 t]
    omega
  have h1 : (((win0_7.blk t).view.emb (ix2 r e : S256x2048.Idx) : S4096x2048.Idx) 1).val = e.val := by
    blk_simp [i7 t]
  exact (congrArg₂ (fun a b => xat (A0 m c) (A1 m c) (A2 m c) (A3 m c) (A4 m c) a b) h0 h1).symm

theorem array8 (H : ValueReal (A0 m c)) : (dats m 0 c).arrAt 8 cfg0.N = Z (A0 m c) (A1 m c) (A2 m c) := by
  refine (dats m 0 c).arrAt_eq_of_covers 8 _ (by decide +kernel) fun t hf y => ?_
  blk_simp
  rw [after0_8]
  obtain ⟨r, e, rfl⟩ : ∃ (r : Fin 256) (e : Fin 2048), y = (ix2 r e : S256x2048.Idx) := ⟨y 0, y 1, (ix2_eta (y : S256x2048.Idx)).symm⟩
  refine (out8 m c H t r e).trans ?_
  have h0 : (((win0_8.blk t).view.emb (ix2 r e : S256x2048.Idx) : S4096x2048.Idx) 0).val = 256 * (grid0.coords t 0).val + r.val := by
    blk_simp [i8 t]
    omega
  have h1 : (((win0_8.blk t).view.emb (ix2 r e : S256x2048.Idx) : S4096x2048.Idx) 1).val = e.val := by
    blk_simp [i8 t]
  exact (congrArg₂ (fun a b => zat (A0 m c) (A1 m c) (A2 m c) a b) h0 h1).symm

end Cert.MidOut
end
-- ==== Proof.MidOutRef.lean ====
module

public import proofs.«01_k».proof.Proof.MidOutBlocks
public import proofs.«01_k».proof.Proof.RefFwd
public import proofs.«01_k».proof.Proof.Gen.Reference13Ideal.Read

@[expose] public section

/-! # The forward mixer: the reference's entries -/

set_option maxRecDepth 16384

noncomputable section
namespace Cert.MidOut
open Cert.Reference13Ideal Cert.Reference13Ideal.Read Cert.Mid Cert.Lin Idealize.ShloMosaic

variable {P : FVec Ideal S4096x4096 .f32} {W : FVec Ideal S4x512x512 .f32} {S : FVec Ideal S1x2048 .f32} {O : FVec Ideal S2048x2048 .f32}
    {X : FVec Ideal S4096x2048 .f32}

/-- The value half does not see the gate half. -/
theorem value_half : val_main_v1 (F := Ideal) P = val_main_v1 (F := Ideal) (half P) := by
  funext i
  rw [val_main_v1_apply, val_main_v1_apply, val_main_v0_apply, val_main_v0_apply]
  have h : (i 2).val < 2048 := (i 2).isLt
  refine (if_pos ?_).symm
  exact h

theorem pooled_half : val_main_v48 (F := Ideal) P = val_main_v48 (F := Ideal) (half P) := by
  unfold val_main_v48 val_main_v47 val_main_v44 val_main_v43 val_main_v37 val_main_v7 val_main_v4 val_main_v3
  rw [value_half]

/-- The pooled values of this reference and of the backward's. -/
theorem pooled_eq : val_main_v48 (F := Ideal) P = Cert.ReferenceIdeal.Read.val_main_v49 (F := Ideal) P := by
  rfl

theorem pooled_real (H : ValueReal P) (i : S1x4096x4x512.Idx) :
    val_main_v48 (F := Ideal) P i = (((vals P).pool (i 2).val (i 1).val (i 3).val : ℝ) : EReal) :=
  (congrFun (pooled_half.trans pooled_eq) i).trans (v49_real H i)

theorem mixed (H : ValueReal P) (i : S1x4096x4x512.Idx) :
    val_main_v50 (F := Ideal) P W i = ∑ c : Fin 512, (((vals P).pool (i 2).val (i 1).val c.val : ℝ) : EReal) * at3 W (i 2).val c.val (i 3).val := by
  rw [val_main_v50_apply, val_main_v49_apply]
  refine Finset.sum_congr rfl fun k _ => ?_
  rw [pooled_real H, mul_comm, at3_eq W (i 2).isLt k.isLt (i 3).isLt]
  refine congrArg (_ * W ·) (funext fun a => ?_)
  match a with
  | ⟨0, _⟩ => rfl
  | ⟨1, _⟩ => rfl
  | ⟨2, _⟩ => rfl

theorem gate_at (i : S1x4096x2048.Idx) : val_main_v2 (F := Ideal) P i = at2 P (i 1).val (2048 + (i 2).val) := by
  have h2 : (i 2).val < 2048 := (i 2).isLt
  rw [val_main_v2_apply, val_main_v0_apply, at2_eq P (i 1).isLt (show 2048 + (i 2).val < 4096 by omega)]
  refine congrArg P (funext fun a => ?_)
  match a with
  | ⟨0, _⟩ => first | rfl | exact Fin.ext (by simp)
  | ⟨1, _⟩ => first | rfl | exact Fin.ext (by simp)

theorem silu_at (i : S1x4096x2048.Idx) : val_main_v55 (F := Ideal) P i = silu (at2 P (i 1).val (2048 + (i 2).val)) := by
  rw [val_main_v55_apply, val_main_call1_v5_apply, val_main_call1_v4_apply, val_main_call1_v3_apply, val_main_call1_v2_apply, val_main_call1_v1_apply,
    val_main_call1_v0_apply, gate_at]
  have e0 : val_main_call1_cst_0 (F := Ideal) (idx_main_call1_v4 i) = (1 : EReal) := Ideal.ofBits_one_f32
  have e1 : val_main_call1_cst (F := Ideal) (idx_main_call1_v2 i) = (1 : EReal) := Ideal.ofBits_one_f32
  rw [e0, e1, Ideal.mulf_def, Ideal.hostDivf_def, Ideal.addf_def, Ideal.hostUnary_exp_def, Ideal.hostNegf_def, Ideal.negf_def]
  unfold silu
  rw [zero_sub]

theorem scale_at (i : S1x4096x2048.Idx) : val_main_v53 (F := Ideal) S i = at2 S 0 (i 2).val := by
  rw [val_main_v53_apply, val_main_v52_apply, at2_eq S (show 0 < 1 by omega) (i 2).isLt]
  refine congrArg S (funext fun a => ?_)
  match a with
  | ⟨0, _⟩ => rfl
  | ⟨1, _⟩ => rfl

theorem z_at (H : ValueReal P) (i : S1x4096x2048.Idx) : val_main_v56 (F := Ideal) P W S i = zat P W S (i 1).val (i 2).val := by
  have i0 : (i 0).val < 1 := (i 0).isLt
  have i1 : (i 1).val < 4096 := (i 1).isLt
  have i2 : (i 2).val < 2048 := (i 2).isLt
  rw [val_main_v56_apply, val_main_v54_apply, val_main_v51_apply, mixed H, scale_at, silu_at, Ideal.mulf_def, Ideal.mulf_def]
  unfold zat
  have e1 : (idx_main_v51 i 1).val = (i 1).val := by
    show (((i 0).val * 4096 + (i 1).val) * 2048 + (i 2).val) / 2048 % 4096 = (i 1).val
    omega
  have e2 : (idx_main_v51 i 2).val = (i 2).val / 512 := by
    show (((i 0).val * 4096 + (i 1).val) * 2048 + (i 2).val) / 512 % 4 = (i 2).val / 512
    omega
  have e3 : (idx_main_v51 i 3).val = (i 2).val % 512 := by
    show (((i 0).val * 4096 + (i 1).val) * 2048 + (i 2).val) % 512 = (i 2).val % 512
    omega
  rw [e1, e2, e3]

theorem v62_at (H : ValueReal P) (i : S4096x2048.Idx) : val_main_v62 (F := Ideal) P W S i = zat P W S (i 0).val (i 1).val := by
  have i0 : (i 0).val < 4096 := (i 0).isLt
  have i1 : (i 1).val < 2048 := (i 1).isLt
  rw [val_main_v62_apply, val_main_v61_apply, z_at H]
  have e1 : (idx_main_v61 i 1).val = (i 0).val := by
    show ((i 0).val * 2048 + (i 1).val) / 2048 % 4096 = (i 0).val
    omega
  have e2 : (idx_main_v61 i 2).val = (i 1).val := by
    show ((i 0).val * 2048 + (i 1).val) % 2048 = (i 1).val
    omega
  rw [e1, e2]
  rfl

theorem v60_at (H : ValueReal P) (i : S4096x2048.Idx) : val_main_v60 (F := Ideal) P W S O X i = xat P W S O X (i 0).val (i 1).val := by
  have i0 : (i 0).val < 4096 := (i 0).isLt
  have i1 : (i 1).val < 2048 := (i 1).isLt
  have e1 : (idx_main_v60 i 1).val = (i 0).val := by
    show ((i 0).val * 2048 + (i 1).val) / 2048 % 4096 = (i 0).val
    omega
  have e2 : (idx_main_v60 i 2).val = (i 1).val := by
    show ((i 0).val * 2048 + (i 1).val) % 2048 = (i 1).val
    omega
  rw [val_main_v60_apply, val_main_v59_apply, val_main_v57_apply, val_main_v58_apply, Ideal.addf_def]
  unfold xat
  refine congrArg₂ (· + ·) ?_ (Finset.sum_congr rfl fun k _ => ?_)
  · rw [at2_eq X i0 i1]
    refine congrArg X (funext fun a => ?_)
    match a with
    | ⟨0, _⟩ => exact Fin.ext e1
    | ⟨1, _⟩ => exact Fin.ext e2
  · rw [z_at H, at2_eq O k.isLt i1]
    refine congrArg₂ (· * ·) (congrArg (fun t => zat P W S t k.val) e1) (congrArg O (funext fun a => ?_))
    match a with
    | ⟨0, _⟩ => rfl
    | ⟨1, _⟩ => exact Fin.ext e2

end Cert.MidOut
end
-- ==== Proof.AlgMidOut.lean ====
module

public import proofs.«01_k».proof.Proof.MidOut
public import proofs.«01_k».proof.Proof.MidOutRef
public import proofs.«01_k».proof.Proof.Finite
public import proofs.«01_k».proof.Proof.Gen.Reference13Ideal.Run

@[expose] public section

/-! # The forward mixer: the kernel's two results are the reference's -/

noncomputable section
namespace Cert.MidOut
open Cert.Mid Idealize.ShloMosaic Idealize.ShloMosaic.TcCoe Idealize.SL.Sem

instance preFacts : Cert.Pre_finite_values.Facts := ⟨by decide, by decide⟩

/-- The precondition says that the value half's entries are real numbers. -/
theorem valueReal (m : (ℓ : Loc Cert.Kernel13Ideal.nD Cert.Kernel13Ideal.τ Cert.Kernel13Ideal.sig) → Buf (Elt Ideal) ℓ)
    (h : Cert.Pre_Kernel13Ideal_finite_values m) (c : Dev Cert.Kernel13Ideal.nD) : ValueReal (A0 m c) := by
  refine ⟨fun i => ?_, fun _ => rfl, fun _ => rfl, fun _ => rfl, fun _ => rfl⟩
  by_cases hi : (i 1).val < 2048
  · have e : half (A0 m c) i = A0 m c i := if_pos hi
    rw [e]
    refine real_of_lt (Eq.trans ?_ (congrFun (h c) (ix2 (i 0) ⟨(i 1).val, hi⟩)))
    have hs : extractStridedSlice (s := ⟨2, ![4096, 4096]⟩) ⟨2, ![4096, 2048]⟩ ![0, 0] (A0 m c) Cert.Pre_finite_values.Facts.slices_S4096x4096_S4096x2048_0_0
        (ix2 (i 0) ⟨(i 1).val, hi⟩) = A0 m c i := by
      refine extractStridedSlice_apply ![0, 0] (A0 m c) _ _ i (fun a => ?_)
      match a with
      | ⟨0, _⟩ => exact (Nat.zero_add _).symm
      | ⟨1, _⟩ => exact (Nat.zero_add _).symm
    rw [← hs]
    rfl
  · have e : half (A0 m c) i = 0 := if_neg hi
    rw [e]
    rfl

theorem algebraic : Cert.algebraic_Kernel13Ideal_Reference13Ideal_pre_finite_values := by
  intro m g m' g' hpre hagree
  refine ⟨fun c => X (A0 m c) (A1 m c) (A2 m c) (A3 m c) (A4 m c), fun c => Z (A0 m c) (A1 m c) (A2 m c), ?_, ?_⟩
  · refine (θ_run Cert.Kernel13Ideal.defs _ _).mono (fun r h c => ?_) (Cert.Kernel13Ideal.Value.run_blocks (F := Ideal) m g)
    obtain ⟨h0, h1, hargs⟩ := h c
    have H := valueReal m hpre c
    exact ⟨h0.trans (array7 m c H), h1.trans (array8 m c H), hargs⟩
  · refine (θ_run Cert.Reference13Ideal.defs _ _).mono (fun r h c => ?_) (Cert.Reference13Ideal.Value.run (F := Ideal) m' g')
    obtain ⟨h0, h1, hargs⟩ := h c
    obtain ⟨a0, a1, a2, a3, a4⟩ := hagree c
    have H := valueReal m hpre c
    refine ⟨h0.trans ?_, h1.trans ?_, hargs⟩
    · refine (Cert.Reference13Ideal.Read.val_main_v60_eq m' c).trans ?_
      rw [a0, a1, a2, a3, a4]
      exact funext fun i => v60_at H i
    · refine (Cert.Reference13Ideal.Read.val_main_v62_eq m' c).trans ?_
      rw [a0, a1, a2]
      exact funext fun i => v62_at H i

end Cert.MidOut
end
-- ==== Proof.MergeBlocks.lean ====
module

public import proofs.«01_k».proof.Proof.Blocks
public import proofs.«01_k».proof.Proof.Sums
public import proofs.«01_k».proof.Proof.MidOutTile
public import proofs.«01_k».proof.Proof.Gen.Kernel14Ideal.Value

@[expose] public section

/-! # The merge of the three attention groups: the results' entries, and the blocks of a tile read off the argument arrays -/

set_option maxRecDepth 16384
set_option maxHeartbeats 4000000

noncomputable section
namespace Cert.MergeOut
open Cert.Kernel14Ideal Cert.Kernel14Ideal.Gen Cert.Mid Cert.Lin Cert.MidOut Idealize.ShloMosaic Idealize.ShloMosaic.TcCoe Idealize.SL.Sem

/-- One group's term of the softmax over the three groups, relative to the largest of the three. -/
def term (a b c x : EReal) : EReal := Ideal.exp (x - max (max a b) c)

/-- The inverse of the three terms' sum. -/
def inv (a b c : EReal) : EReal := Ideal.div 1 (term a b c a + term a b c b + term a b c c)

/-- Three outputs merged by the groups' weights. -/
def mix (a b c x y z : EReal) : EReal := term a b c a * inv a b c * x + term a b c b * inv a b c * y + term a b c c * inv a b c * z

/-- A head's tile: three outputs merged and gated. -/
def gated (a b c : FVec Ideal S256x1 .f32) (x y z : FVec Ideal S256x128 .bf16) (g : FVec Ideal S256x128 .f32) (r : Fin 256) (d : Fin 128) : EReal :=
  mix (a (ix2 r 0)) (b (ix2 r 0)) (c (ix2 r 0)) (x (ix2 r d)) (y (ix2 r d)) (z (ix2 r d)) * silu (g (ix2 r d))

/-- The gated value of a token and channel: the head is the channel's block of 128. -/
def zat (X Y Z : FVec Ideal S4096x2048 .f32) (A B C : FVec Ideal S4096x128 .f32) (P : FVec Ideal S4096x8192 .f32) (t e : ℕ) : EReal :=
  mix (at2 A t (e / 128)) (at2 B t (e / 128)) (at2 C t (e / 128)) (at2 X t e) (at2 Y t e) (at2 Z t e) * silu (at2 P t (6144 + e))

/-- The mixer's output added to the residual. -/
def xat (X Y Z : FVec Ideal S4096x2048 .f32) (A B C : FVec Ideal S4096x128 .f32) (P : FVec Ideal S4096x8192 .f32) (O : FVec Ideal S2048x2048 .f32)
    (R : FVec Ideal S4096x2048 .f32) (t d : ℕ) : EReal :=
  at2 R t d + ∑ e : Fin 2048, zat X Y Z A B C P t e.val * at2 O e.val d

theorem i0 : ∀ t : Fin cfg0.N, win0_0.index t = ![(grid0.coords t 0).val, 0] := by decide +kernel
theorem i1 : ∀ t : Fin cfg0.N, win0_1.index t = ![(grid0.coords t 0).val, 0] := by decide +kernel
theorem i2 : ∀ t : Fin cfg0.N, win0_2.index t = ![(grid0.coords t 0).val, 0] := by decide +kernel
theorem i3 : ∀ t : Fin cfg0.N, win0_3.index t = ![(grid0.coords t 0).val, 0] := by decide +kernel
theorem i4 : ∀ t : Fin cfg0.N, win0_4.index t = ![(grid0.coords t 0).val, 0] := by decide +kernel
theorem i5 : ∀ t : Fin cfg0.N, win0_5.index t = ![(grid0.coords t 0).val, 0] := by decide +kernel
theorem i6 : ∀ t : Fin cfg0.N, win0_6.index t = ![(grid0.coords t 0).val, 3] := by decide +kernel
theorem i7 : ∀ t : Fin cfg0.N, win0_7.index t = ![0, 0] := by decide +kernel
theorem i8 : ∀ t : Fin cfg0.N, win0_8.index t = ![(grid0.coords t 0).val, 0] := by decide +kernel
theorem i9 : ∀ t : Fin cfg0.N, win0_9.index t = ![(grid0.coords t 0).val, 0] := by decide +kernel
theorem i10 : ∀ t : Fin cfg0.N, win0_10.index t = ![(grid0.coords t 0).val, 0] := by decide +kernel

variable (m : (ℓ : Loc nD τ sig) → Buf (Elt Ideal) ℓ) (c : Dev nD)

/-- The nine argument arrays on a device. -/
abbrev A0 : FVec Ideal S4096x2048 .f32 := m ((c : Thread nD τ).loc main_arg0)
abbrev A1 : FVec Ideal S4096x2048 .f32 := m ((c : Thread nD τ).loc main_arg1)
abbrev A2 : FVec Ideal S4096x2048 .f32 := m ((c : Thread nD τ).loc main_arg2)
abbrev A3 : FVec Ideal S4096x128 .f32 := m ((c : Thread nD τ).loc main_arg3)
abbrev A4 : FVec Ideal S4096x128 .f32 := m ((c : Thread nD τ).loc main_arg4)
abbrev A5 : FVec Ideal S4096x128 .f32 := m ((c : Thread nD τ).loc main_arg5)
abbrev A6 : FVec Ideal S4096x8192 .f32 := m ((c : Thread nD τ).loc main_arg6)
abbrev A7 : FVec Ideal S2048x2048 .f32 := m ((c : Thread nD τ).loc main_arg7)
abbrev A8 : FVec Ideal S4096x2048 .f32 := m ((c : Thread nD τ).loc main_arg8)

theorem V0 (e : Fin 4096) (k : Fin 2048) : (V m c main_v0 : FVec Ideal S4096x2048 .bf16) (ix2 e k) = A0 m c (ix2 e k) := by
  entry_read
  pointwise
theorem V1 (e : Fin 4096) (k : Fin 2048) : (V m c main_v1 : FVec Ideal S4096x2048 .bf16) (ix2 e k) = A1 m c (ix2 e k) := by
  entry_read
  pointwise
theorem V2 (e : Fin 4096) (k : Fin 2048) : (V m c main_v2 : FVec Ideal S4096x2048 .bf16) (ix2 e k) = A2 m c (ix2 e k) := by
  entry_read
  pointwise
theorem V4 (e k : Fin 2048) : (V m c main_v5 : FVec Ideal S2048x2048 .bf16) (ix2 e k) = A7 m c (ix2 e k) := by
  entry_read
  pointwise
theorem blk0 (t : Fin cfg0.N) (r : Fin 256) (k : Fin 2048) (R : Fin 4096) (hR : R.val = 256 * (grid0.coords t 0).val + r.val) :
    (iblk m c 0 t : FVec Ideal S256x2048 .bf16) (ix2 r k) = A0 m c (ix2 R k) := by
  refine Eq.trans ?_ (V0 m c R k)
  blk_ext [iblk, i0 t]
theorem blk1 (t : Fin cfg0.N) (r : Fin 256) (k : Fin 2048) (R : Fin 4096) (hR : R.val = 256 * (grid0.coords t 0).val + r.val) :
    (iblk m c 1 t : FVec Ideal S256x2048 .bf16) (ix2 r k) = A1 m c (ix2 R k) := by
  refine Eq.trans ?_ (V1 m c R k)
  blk_ext [iblk, i1 t]
theorem blk2 (t : Fin cfg0.N) (r : Fin 256) (k : Fin 2048) (R : Fin 4096) (hR : R.val = 256 * (grid0.coords t 0).val + r.val) :
    (iblk m c 2 t : FVec Ideal S256x2048 .bf16) (ix2 r k) = A2 m c (ix2 R k) := by
  refine Eq.trans ?_ (V2 m c R k)
  blk_ext [iblk, i2 t]
theorem blk3 (t : Fin cfg0.N) (r : Fin 256) (k : Fin 128) (R : Fin 4096) (hR : R.val = 256 * (grid0.coords t 0).val + r.val) :
    (iblk m c 3 t : FVec Ideal S256x128 .f32) (ix2 r k) = A3 m c (ix2 R k) := by
  blk_ext [iblk, V_main_arg3, i3 t]
theorem blk4 (t : Fin cfg0.N) (r : Fin 256) (k : Fin 128) (R : Fin 4096) (hR : R.val = 256 * (grid0.coords t 0).val + r.val) :
    (iblk m c 4 t : FVec Ideal S256x128 .f32) (ix2 r k) = A4 m c (ix2 R k) := by
  blk_ext [iblk, V_main_arg4, i4 t]
theorem blk5 (t : Fin cfg0.N) (r : Fin 256) (k : Fin 128) (R : Fin 4096) (hR : R.val = 256 * (grid0.coords t 0).val + r.val) :
    (iblk m c 5 t : FVec Ideal S256x128 .f32) (ix2 r k) = A5 m c (ix2 R k) := by
  blk_ext [iblk, V_main_arg5, i5 t]
theorem blk6 (t : Fin cfg0.N) (r : Fin 256) (k : Fin 2048) (R : Fin 4096) (K : Fin 8192) (hR : R.val = 256 * (grid0.coords t 0).val + r.val) (hK : K.val = 6144 + k.val) :
    (iblk m c 6 t : FVec Ideal S256x2048 .f32) (ix2 r k) = A6 m c (ix2 R K) := by
  blk_ext [iblk, V_main_arg6, i6 t]
theorem blk7 (t : Fin cfg0.N) (r k : Fin 2048) :
    (iblk m c 7 t : FVec Ideal S2048x2048 .bf16) (ix2 r k) = A7 m c (ix2 r k) := by
  refine Eq.trans ?_ (V4 m c r k)
  blk_ext [iblk, i7 t]
theorem blk8 (t : Fin cfg0.N) (r : Fin 256) (k : Fin 2048) (R : Fin 4096) (hR : R.val = 256 * (grid0.coords t 0).val + r.val) :
    (iblk m c 8 t : FVec Ideal S256x2048 .f32) (ix2 r k) = A8 m c (ix2 R k) := by
  blk_ext [iblk, V_main_arg8, i8 t]

theorem ldo0 (t : Fin cfg0.N) {p : ℕ} (g : ℕ) (inb) (hp : p = 128 * g) (r : Fin 256) (d : Fin 128) :
    View.ld (Val := Elt Ideal) (e' := .bf16) (iblk m c 0 t) (Rect.unit (s := S256x2048) ![0, p] ![256, 128] inb) (ix2 r d)
      = at2 (A0 m c) (256 * (grid0.coords t 0).val + r.val) (128 * g + d.val) := by
  subst hp
  have hl : (grid0.coords t 0).val < 16 := (grid0.coords t 0).isLt
  have hg : 128 * g + 128 ≤ 2048 := inb 1
  rw [at2_eq (A0 m c) (show 256 * (grid0.coords t 0).val + r.val < 4096 by omega) (show 128 * g + d.val < 2048 by omega)]
  refine (ld2 (Val := Elt Ideal) (e := .bf16) (iblk m c 0 t) inb r d).trans ?_
  exact blk0 m c t _ _ _ (by show _ = _ + (0 + r.val); rw [Nat.zero_add])
theorem ldo1 (t : Fin cfg0.N) {p : ℕ} (g : ℕ) (inb) (hp : p = 128 * g) (r : Fin 256) (d : Fin 128) :
    View.ld (Val := Elt Ideal) (e' := .bf16) (iblk m c 1 t) (Rect.unit (s := S256x2048) ![0, p] ![256, 128] inb) (ix2 r d)
      = at2 (A1 m c) (256 * (grid0.coords t 0).val + r.val) (128 * g + d.val) := by
  subst hp
  have hl : (grid0.coords t 0).val < 16 := (grid0.coords t 0).isLt
  have hg : 128 * g + 128 ≤ 2048 := inb 1
  rw [at2_eq (A1 m c) (show 256 * (grid0.coords t 0).val + r.val < 4096 by omega) (show 128 * g + d.val < 2048 by omega)]
  refine (ld2 (Val := Elt Ideal) (e := .bf16) (iblk m c 1 t) inb r d).trans ?_
  exact blk1 m c t _ _ _ (by show _ = _ + (0 + r.val); rw [Nat.zero_add])
theorem ldo2 (t : Fin cfg0.N) {p : ℕ} (g : ℕ) (inb) (hp : p = 128 * g) (r : Fin 256) (d : Fin 128) :
    View.ld (Val := Elt Ideal) (e' := .bf16) (iblk m c 2 t) (Rect.unit (s := S256x2048) ![0, p] ![256, 128] inb) (ix2 r d)
      = at2 (A2 m c) (256 * (grid0.coords t 0).val + r.val) (128 * g + d.val) := by
  subst hp
  have hl : (grid0.coords t 0).val < 16 := (grid0.coords t 0).isLt
  have hg : 128 * g + 128 ≤ 2048 := inb 1
  rw [at2_eq (A2 m c) (show 256 * (grid0.coords t 0).val + r.val < 4096 by omega) (show 128 * g + d.val < 2048 by omega)]
  refine (ld2 (Val := Elt Ideal) (e := .bf16) (iblk m c 2 t) inb r d).trans ?_
  exact blk2 m c t _ _ _ (by show _ = _ + (0 + r.val); rw [Nat.zero_add])
theorem ldl0 (t : Fin cfg0.N) {p : ℕ} (g : ℕ) (inb) (hp : p = g) (r : Fin 256) :
    View.ld (Val := Elt Ideal) (e' := .f32) (iblk m c 3 t) (Rect.unit (s := S256x128) ![0, p] ![256, 1] inb) (ix2 r 0)
      = at2 (A3 m c) (256 * (grid0.coords t 0).val + r.val) g := by
  subst hp
  have hl : (grid0.coords t 0).val < 16 := (grid0.coords t 0).isLt
  have hg : p + 1 ≤ 128 := inb 1
  rw [at2_eq (A3 m c) (show 256 * (grid0.coords t 0).val + r.val < 4096 by omega) (show p < 128 by omega)]
  refine (ld2 (Val := Elt Ideal) (e := .f32) (iblk m c 3 t) inb r 0).trans ?_
  exact blk3 m c t _ _ _ (by show _ = _ + (0 + r.val); rw [Nat.zero_add])
theorem ldl1 (t : Fin cfg0.N) {p : ℕ} (g : ℕ) (inb) (hp : p = g) (r : Fin 256) :
    View.ld (Val := Elt Ideal) (e' := .f32) (iblk m c 4 t) (Rect.unit (s := S256x128) ![0, p] ![256, 1] inb) (ix2 r 0)
      = at2 (A4 m c) (256 * (grid0.coords t 0).val + r.val) g := by
  subst hp
  have hl : (grid0.coords t 0).val < 16 := (grid0.coords t 0).isLt
  have hg : p + 1 ≤ 128 := inb 1
  rw [at2_eq (A4 m c) (show 256 * (grid0.coords t 0).val + r.val < 4096 by omega) (show p < 128 by omega)]
  refine (ld2 (Val := Elt Ideal) (e := .f32) (iblk m c 4 t) inb r 0).trans ?_
  exact blk4 m c t _ _ _ (by show _ = _ + (0 + r.val); rw [Nat.zero_add])
theorem ldl2 (t : Fin cfg0.N) {p : ℕ} (g : ℕ) (inb) (hp : p = g) (r : Fin 256) :
    View.ld (Val := Elt Ideal) (e' := .f32) (iblk m c 5 t) (Rect.unit (s := S256x128) ![0, p] ![256, 1] inb) (ix2 r 0)
      = at2 (A5 m c) (256 * (grid0.coords t 0).val + r.val) g := by
  subst hp
  have hl : (grid0.coords t 0).val < 16 := (grid0.coords t 0).isLt
  have hg : p + 1 ≤ 128 := inb 1
  rw [at2_eq (A5 m c) (show 256 * (grid0.coords t 0).val + r.val < 4096 by omega) (show p < 128 by omega)]
  refine (ld2 (Val := Elt Ideal) (e := .f32) (iblk m c 5 t) inb r 0).trans ?_
  exact blk5 m c t _ _ _ (by show _ = _ + (0 + r.val); rw [Nat.zero_add])
theorem ldg (t : Fin cfg0.N) {p : ℕ} (g : ℕ) (inb) (hp : p = 128 * g) (r : Fin 256) (d : Fin 128) :
    View.ld (Val := Elt Ideal) (e' := .f32) (iblk m c 6 t) (Rect.unit (s := S256x2048) ![0, p] ![256, 128] inb) (ix2 r d)
      = at2 (A6 m c) (256 * (grid0.coords t 0).val + r.val) (6144 + (128 * g + d.val)) := by
  subst hp
  have hl : (grid0.coords t 0).val < 16 := (grid0.coords t 0).isLt
  have hg : 128 * g + 128 ≤ 2048 := inb 1
  rw [at2_eq (A6 m c) (show 256 * (grid0.coords t 0).val + r.val < 4096 by omega) (show 6144 + (128 * g + d.val) < 8192 by omega)]
  refine (ld2 (Val := Elt Ideal) (e := .f32) (iblk m c 6 t) inb r d).trans ?_
  exact blk6 m c t _ _ _ _ (by show _ = _ + (0 + r.val); rw [Nat.zero_add]) rfl

theorem gated_eq (X Y Z : FVec Ideal S4096x2048 .f32) (A B C : FVec Ideal S4096x128 .f32) (P : FVec Ideal S4096x8192 .f32) (h i : ℕ)
    (a b c : FVec Ideal S256x1 .f32) (x y z : FVec Ideal S256x128 .bf16) (g : FVec Ideal S256x128 .f32) (r : Fin 256) (d : Fin 128)
    (ha : a (ix2 r 0) = at2 A (256 * i + r.val) h) (hb : b (ix2 r 0) = at2 B (256 * i + r.val) h) (hc : c (ix2 r 0) = at2 C (256 * i + r.val) h)
    (hx : x (ix2 r d) = at2 X (256 * i + r.val) (128 * h + d.val)) (hy : y (ix2 r d) = at2 Y (256 * i + r.val) (128 * h + d.val))
    (hz : z (ix2 r d) = at2 Z (256 * i + r.val) (128 * h + d.val)) (hg : g (ix2 r d) = at2 P (256 * i + r.val) (6144 + (128 * h + d.val))) :
    gated a b c x y z g r d = zat X Y Z A B C P (256 * i + r.val) (128 * h + d.val) := by
  unfold gated zat
  rw [show (128 * h + d.val) / 128 = h by omega, ha, hb, hc, hx, hy, hz, hg]

end Cert.MergeOut
end
-- ==== Proof.MergeTile.lean ====
module

public import proofs.«01_k».proof.Proof.MergeBlocks

@[expose] public section

/-! # The merge of the three attention groups: what a tile computes for each head -/

set_option maxRecDepth 16384
set_option maxHeartbeats 16000000

noncomputable section
namespace Cert.MergeOut
open Cert.Kernel14Ideal Cert.Kernel14Ideal.Gen Cert.Mid Cert.Lin Cert.MidOut Idealize.ShloMosaic Idealize.ShloMosaic.TcCoe Idealize.SL.Sem

variable (a b c : FVec Ideal S256x1 .f32) (x y z : FVec Ideal S256x128 .bf16) (g : FVec Ideal S256x128 .f32)

theorem z0 (r : Fin 256) (d : Fin 128) :
    (k0_pay5 (F := Ideal) (k0_pay3 a b c x y z) g (k0_pay4 g) (FloatOps.ofBits .f32 0x3F800000#32)) (ix2 r d) = gated a b c x y z g r d := by
  unfold_payloads
  pointwise
  all_goals rfl
theorem z1 (r : Fin 256) (d : Fin 128) :
    (k0_pay7 (F := Ideal) (k0_pay6 a b c x y z) g) (ix2 r d) = gated a b c x y z g r d := by
  unfold_payloads
  pointwise
  all_goals rfl
theorem z2 (r : Fin 256) (d : Fin 128) :
    (k0_pay15 (F := Ideal) (k0_pay13 a b c) (k0_pay14 a b c x y) z g) (ix2 r d) = gated a b c x y z g r d := by
  unfold_payloads
  pointwise
  all_goals rfl
theorem z3 (r : Fin 256) (d : Fin 128) :
    (k0_pay24 (F := Ideal) (k0_pay21 a b c) (k0_pay22 a b c) (k0_pay23 a b c x) y z g) (ix2 r d) = gated a b c x y z g r d := by
  unfold_payloads
  pointwise
  all_goals rfl
theorem z4 (r : Fin 256) (d : Fin 128) :
    (k0_pay33 (F := Ideal) (k0_pay30 a b c) (k0_pay31 a b c) (k0_pay32 a b c) x y z g) (ix2 r d) = gated a b c x y z g r d := by
  unfold_payloads
  pointwise
  all_goals rfl
theorem z5 (r : Fin 256) (d : Fin 128) :
    (k0_pay39 (F := Ideal) (k0_pay35 a b c) (k0_pay36 a b c) (k0_pay37 a b c) (k0_pay38 a b c) x y z g) (ix2 r d) = gated a b c x y z g r d := by
  unfold_payloads
  pointwise
  all_goals rfl
theorem z6 (r : Fin 256) (d : Fin 128) :
    (k0_pay41 (F := Ideal) a b c (k0_pay40 a b c) x y z g) (ix2 r d) = gated a b c x y z g r d := by
  unfold_payloads
  pointwise
  all_goals rfl
theorem z7 (r : Fin 256) (d : Fin 128) :
    (k0_pay43 (F := Ideal) (k0_pay42 a b c x y z g)) (ix2 r d) = gated a b c x y z g r d := by
  unfold_payloads
  pointwise
  all_goals rfl
theorem z8 (r : Fin 256) (d : Fin 128) :
    (k0_pay46 (F := Ideal) (k0_pay44 a b c x y z) g (k0_pay45 g)) (ix2 r d) = gated a b c x y z g r d := by
  unfold_payloads
  pointwise
  all_goals rfl
theorem z9 (r : Fin 256) (d : Fin 128) :
    (k0_pay54 (F := Ideal) (k0_pay52 a b c x y) (k0_pay53 a b c z) g) (ix2 r d) = gated a b c x y z g r d := by
  unfold_payloads
  pointwise
  all_goals rfl
theorem z10 (r : Fin 256) (d : Fin 128) :
    (k0_pay63 (F := Ideal) (k0_pay60 a b c) (k0_pay61 a b c x) (k0_pay62 a b c y) z g) (ix2 r d) = gated a b c x y z g r d := by
  unfold_payloads
  pointwise
  all_goals rfl
theorem z11 (r : Fin 256) (d : Fin 128) :
    (k0_pay73 (F := Ideal) (k0_pay69 a b c) (k0_pay70 a b c) (k0_pay71 x) (k0_pay72 a b c) y z g) (ix2 r d) = gated a b c x y z g r d := by
  unfold_payloads
  pointwise
  all_goals rfl
theorem z12 (r : Fin 256) (d : Fin 128) :
    (k0_pay80 (F := Ideal) (k0_pay76 a b c) (k0_pay77 a b c) (k0_pay78 a b c) (k0_pay79 a b c) x y z g) (ix2 r d) = gated a b c x y z g r d := by
  unfold_payloads
  pointwise
  all_goals rfl
theorem z13 (r : Fin 256) (d : Fin 128) :
    (k0_pay84 (F := Ideal) c (k0_pay81 a b c) (k0_pay82 a b c) (k0_pay83 a b c) x y z g) (ix2 r d) = gated a b c x y z g r d := by
  unfold_payloads
  pointwise
  all_goals rfl
theorem z14 (r : Fin 256) (d : Fin 128) :
    (k0_pay85 (F := Ideal) a b c x y z g) (ix2 r d) = gated a b c x y z g r d := by
  unfold_payloads
  pointwise
  all_goals rfl
theorem z15 (r : Fin 256) (d : Fin 128) :
    (k0_pay1 (F := Ideal) (k0_pay86 a b c x y z) g (k0_pay87 g) (FloatOps.ofBits .f32 0x3F800000#32)) (ix2 r d) = gated a b c x y z g r d := by
  unfold_payloads
  pointwise
  all_goals rfl

/-- The output product of a tile added to the residual. -/
theorem x_pay (v : FVec Ideal S256x2048 .f32) (z : FVec Ideal S256x2048 .bf16) (w : FVec Ideal S2048x2048 .bf16) (r : Fin 256) (d : Fin 2048) :
    k0_pay2 (F := Ideal) v z w (ix2 r d) = v (ix2 r d) + ∑ e : Fin 2048, z (ix2 r e) * w (ix2 e d) := by
  unfold_payloads
  pointwise
  all_goals rfl

end Cert.MergeOut
end
-- ==== Proof.MergeOut.lean ====
module

public import proofs.«01_k».proof.Proof.MergeTile

@[expose] public section

/-! # The merge of the three attention groups: what a tile stores, and the result arrays -/

set_option maxRecDepth 16384
set_option maxHeartbeats 16000000

noncomputable section
namespace Cert.MergeOut
open Cert.Kernel14Ideal Cert.Kernel14Ideal.Gen Cert.Mid Cert.Lin Cert.MidOut Idealize.ShloMosaic Idealize.ShloMosaic.TcCoe Idealize.SL.Sem

/-- A head's store beside the stores of the heads before it. -/
theorem side (f : ℕ → ℕ → EReal) (h : ℕ) {p : ℕ} (inb : ∀ x, (![0, p] : Fin 2 → ℕ) x + (![256, 128] : Fin 2 → ℕ) x ≤ S256x2048.size x)
    (w : FVec Ideal S256x128 .bf16) (L : List (View.Piece (Elt Ideal) S256x2048 .bf16)) (hp : p = 128 * h)
    (hw : ∀ (r : Fin 256) (d : Fin 128), w (ix2 r d) = f r.val (128 * h + d.val))
    (hL : ∀ (r : Fin 256) (e : Fin 2048), e.val < 128 * h → View.canon (Val := Elt Ideal) L (ix2 r e) = f r.val e.val)
    (r : Fin 256) (e : Fin 2048) (he : e.val < 128 * (h + 1)) :
    View.canon (Val := Elt Ideal) ((⟨Rect.unit (s := S256x2048) ![0, p] ![256, 128] inb, w⟩ : View.Piece (Elt Ideal) S256x2048 .bf16) :: L) (ix2 r e) = f r.val e.val := by
  subst hp
  by_cases hc : 128 * h ≤ e.val
  · refine (canon_in (Val := Elt Ideal) inb _ _ _ _ r (⟨e.val - 128 * h, by omega⟩ : Fin 128) (by simp) (by show e.val = 128 * h + (e.val - 128 * h); omega)).trans ((hw _ _).trans ?_)
    refine congrArg (f r.val) ?_
    show 128 * h + (e.val - 128 * h) = e.val
    omega
  · refine Eq.trans (View.canon_cons_of_not_mem _ L fun hm => ?_) (hL r e (by omega))
    have h1 := (Rect.mem_set_unit (inb := inb).mp hm) 1
    have h2 : 128 * h ≤ e.val ∧ e.val < 128 * h + 128 := h1
    omega

variable (m : (ℓ : Loc nD τ sig) → Buf (Elt Ideal) ℓ) (c : Dev nD)

/-- The gated value of a tile's row. -/
abbrev zrow (t : Fin cfg0.N) (r e : ℕ) : EReal :=
  zat (A0 m c) (A1 m c) (A2 m c) (A3 m c) (A4 m c) (A5 m c) (A6 m c) (256 * (grid0.coords t 0).val + r) e

theorem out10 (t : Fin cfg0.N) (r : Fin 256) (e : Fin 2048) : (outsAt0 m c t).2 (ix2 r e) = zrow m c t r.val e.val := by
  unfold outsAt0
  frame_open
  simp (disch := decide) only [↓ View.readCov_skip, ↓ View.readCov_cons_toLoadRect, ↓ View.readCov_fill]
  frame_out
  refine side (zrow m c t) 15 _ _ _ (by rfl) (fun r d => ?_) (side (zrow m c t) 14 _ _ _ (by rfl) (fun r d => ?_) (side (zrow m c t) 13 _ _ _ (by rfl) (fun r d => ?_) (side (zrow m c t) 12 _ _ _ (by rfl) (fun r d => ?_) (side (zrow m c t) 11 _ _ _ (by rfl) (fun r d => ?_) (side (zrow m c t) 10 _ _ _ (by rfl) (fun r d => ?_) (side (zrow m c t) 9 _ _ _ (by rfl) (fun r d => ?_) (side (zrow m c t) 8 _ _ _ (by rfl) (fun r d => ?_) (side (zrow m c t) 7 _ _ _ (by rfl) (fun r d => ?_) (side (zrow m c t) 6 _ _ _ (by rfl) (fun r d => ?_) (side (zrow m c t) 5 _ _ _ (by rfl) (fun r d => ?_) (side (zrow m c t) 4 _ _ _ (by rfl) (fun r d => ?_) (side (zrow m c t) 3 _ _ _ (by rfl) (fun r d => ?_) (side (zrow m c t) 2 _ _ _ (by rfl) (fun r d => ?_) (side (zrow m c t) 1 _ _ _ (by rfl) (fun r d => ?_) (side (zrow m c t) 0 _ _ _ (by rfl) (fun r d => ?_) (fun r e h => absurd h (by omega))))))))))))))))) r e (by have := e.isLt; omega)
  · exact (z15 _ _ _ _ _ _ _ r d).trans (gated_eq _ _ _ _ _ _ _ 15 _ _ _ _ _ _ _ _ r d (ldl0 m c t 15 _ (by rfl) r) (ldl1 m c t 15 _ (by rfl) r) (ldl2 m c t 15 _ (by rfl) r)
      (ldo0 m c t 15 _ (by rfl) r d) (ldo1 m c t 15 _ (by rfl) r d) (ldo2 m c t 15 _ (by rfl) r d) (ldg m c t 15 _ (by rfl) r d))
  · exact (z14 _ _ _ _ _ _ _ r d).trans (gated_eq _ _ _ _ _ _ _ 14 _ _ _ _ _ _ _ _ r d (ldl0 m c t 14 _ (by rfl) r) (ldl1 m c t 14 _ (by rfl) r) (ldl2 m c t 14 _ (by rfl) r)
      (ldo0 m c t 14 _ (by rfl) r d) (ldo1 m c t 14 _ (by rfl) r d) (ldo2 m c t 14 _ (by rfl) r d) (ldg m c t 14 _ (by rfl) r d))
  · exact (z13 _ _ _ _ _ _ _ r d).trans (gated_eq _ _ _ _ _ _ _ 13 _ _ _ _ _ _ _ _ r d (ldl0 m c t 13 _ (by rfl) r) (ldl1 m c t 13 _ (by rfl) r) (ldl2 m c t 13 _ (by rfl) r)
      (ldo0 m c t 13 _ (by rfl) r d) (ldo1 m c t 13 _ (by rfl) r d) (ldo2 m c t 13 _ (by rfl) r d) (ldg m c t 13 _ (by rfl) r d))
  · exact (z12 _ _ _ _ _ _ _ r d).trans (gated_eq _ _ _ _ _ _ _ 12 _ _ _ _ _ _ _ _ r d (ldl0 m c t 12 _ (by rfl) r) (ldl1 m c t 12 _ (by rfl) r) (ldl2 m c t 12 _ (by rfl) r)
      (ldo0 m c t 12 _ (by rfl) r d) (ldo1 m c t 12 _ (by rfl) r d) (ldo2 m c t 12 _ (by rfl) r d) (ldg m c t 12 _ (by rfl) r d))
  · exact (z11 _ _ _ _ _ _ _ r d).trans (gated_eq _ _ _ _ _ _ _ 11 _ _ _ _ _ _ _ _ r d (ldl0 m c t 11 _ (by rfl) r) (ldl1 m c t 11 _ (by rfl) r) (ldl2 m c t 11 _ (by rfl) r)
      (ldo0 m c t 11 _ (by rfl) r d) (ldo1 m c t 11 _ (by rfl) r d) (ldo2 m c t 11 _ (by rfl) r d) (ldg m c t 11 _ (by rfl) r d))
  · exact (z10 _ _ _ _ _ _ _ r d).trans (gated_eq _ _ _ _ _ _ _ 10 _ _ _ _ _ _ _ _ r d (ldl0 m c t 10 _ (by rfl) r) (ldl1 m c t 10 _ (by rfl) r) (ldl2 m c t 10 _ (by rfl) r)
      (ldo0 m c t 10 _ (by rfl) r d) (ldo1 m c t 10 _ (by rfl) r d) (ldo2 m c t 10 _ (by rfl) r d) (ldg m c t 10 _ (by rfl) r d))
  · exact (z9 _ _ _ _ _ _ _ r d).trans (gated_eq _ _ _ _ _ _ _ 9 _ _ _ _ _ _ _ _ r d (ldl0 m c t 9 _ (by rfl) r) (ldl1 m c t 9 _ (by rfl) r) (ldl2 m c t 9 _ (by rfl) r)
      (ldo0 m c t 9 _ (by rfl) r d) (ldo1 m c t 9 _ (by rfl) r d) (ldo2 m c t 9 _ (by rfl) r d) (ldg m c t 9 _ (by rfl) r d))
  · exact (z8 _ _ _ _ _ _ _ r d).trans (gated_eq _ _ _ _ _ _ _ 8 _ _ _ _ _ _ _ _ r d (ldl0 m c t 8 _ (by rfl) r) (ldl1 m c t 8 _ (by rfl) r) (ldl2 m c t 8 _ (by rfl) r)
      (ldo0 m c t 8 _ (by rfl) r d) (ldo1 m c t 8 _ (by rfl) r d) (ldo2 m c t 8 _ (by rfl) r d) (ldg m c t 8 _ (by rfl) r d))
  · exact (z7 _ _ _ _ _ _ _ r d).trans (gated_eq _ _ _ _ _ _ _ 7 _ _ _ _ _ _ _ _ r d (ldl0 m c t 7 _ (by rfl) r) (ldl1 m c t 7 _ (by rfl) r) (ldl2 m c t 7 _ (by rfl) r)
      (ldo0 m c t 7 _ (by rfl) r d) (ldo1 m c t 7 _ (by rfl) r d) (ldo2 m c t 7 _ (by rfl) r d) (ldg m c t 7 _ (by rfl) r d))
  · exact (z6 _ _ _ _ _ _ _ r d).trans (gated_eq _ _ _ _ _ _ _ 6 _ _ _ _ _ _ _ _ r d (ldl0 m c t 6 _ (by rfl) r) (ldl1 m c t 6 _ (by rfl) r) (ldl2 m c t 6 _ (by rfl) r)
      (ldo0 m c t 6 _ (by rfl) r d) (ldo1 m c t 6 _ (by rfl) r d) (ldo2 m c t 6 _ (by rfl) r d) (ldg m c t 6 _ (by rfl) r d))
  · exact (z5 _ _ _ _ _ _ _ r d).trans (gated_eq _ _ _ _ _ _ _ 5 _ _ _ _ _ _ _ _ r d (ldl0 m c t 5 _ (by rfl) r) (ldl1 m c t 5 _ (by rfl) r) (ldl2 m c t 5 _ (by rfl) r)
      (ldo0 m c t 5 _ (by rfl) r d) (ldo1 m c t 5 _ (by rfl) r d) (ldo2 m c t 5 _ (by rfl) r d) (ldg m c t 5 _ (by rfl) r d))
  · exact (z4 _ _ _ _ _ _ _ r d).trans (gated_eq _ _ _ _ _ _ _ 4 _ _ _ _ _ _ _ _ r d (ldl0 m c t 4 _ (by rfl) r) (ldl1 m c t 4 _ (by rfl) r) (ldl2 m c t 4 _ (by rfl) r)
      (ldo0 m c t 4 _ (by rfl) r d) (ldo1 m c t 4 _ (by rfl) r d) (ldo2 m c t 4 _ (by rfl) r d) (ldg m c t 4 _ (by rfl) r d))
  · exact (z3 _ _ _ _ _ _ _ r d).trans (gated_eq _ _ _ _ _ _ _ 3 _ _ _ _ _ _ _ _ r d (ldl0 m c t 3 _ (by rfl) r) (ldl1 m c t 3 _ (by rfl) r) (ldl2 m c t 3 _ (by rfl) r)
      (ldo0 m c t 3 _ (by rfl) r d) (ldo1 m c t 3 _ (by rfl) r d) (ldo2 m c t 3 _ (by rfl) r d) (ldg m c t 3 _ (by rfl) r d))
  · exact (z2 _ _ _ _ _ _ _ r d).trans (gated_eq _ _ _ _ _ _ _ 2 _ _ _ _ _ _ _ _ r d (ldl0 m c t 2 _ (by rfl) r) (ldl1 m c t 2 _ (by rfl) r) (ldl2 m c t 2 _ (by rfl) r)
      (ldo0 m c t 2 _ (by rfl) r d) (ldo1 m c t 2 _ (by rfl) r d) (ldo2 m c t 2 _ (by rfl) r d) (ldg m c t 2 _ (by rfl) r d))
  · exact (z1 _ _ _ _ _ _ _ r d).trans (gated_eq _ _ _ _ _ _ _ 1 _ _ _ _ _ _ _ _ r d (ldl0 m c t 1 _ (by rfl) r) (ldl1 m c t 1 _ (by rfl) r) (ldl2 m c t 1 _ (by rfl) r)
      (ldo0 m c t 1 _ (by rfl) r d) (ldo1 m c t 1 _ (by rfl) r d) (ldo2 m c t 1 _ (by rfl) r d) (ldg m c t 1 _ (by rfl) r d))
  · exact (z0 _ _ _ _ _ _ _ r d).trans (gated_eq _ _ _ _ _ _ _ 0 _ _ _ _ _ _ _ _ r d (ldl0 m c t 0 _ (by rfl) r) (ldl1 m c t 0 _ (by rfl) r) (ldl2 m c t 0 _ (by rfl) r)
      (ldo0 m c t 0 _ (by rfl) r d) (ldo1 m c t 0 _ (by rfl) r d) (ldo2 m c t 0 _ (by rfl) r d) (ldg m c t 0 _ (by rfl) r d))

theorem out9 (t : Fin cfg0.N) (r : Fin 256) (d : Fin 2048) :
    (outsAt0 m c t).1 (ix2 r d) = xat (A0 m c) (A1 m c) (A2 m c) (A3 m c) (A4 m c) (A5 m c) (A6 m c) (A7 m c) (A8 m c) (256 * (grid0.coords t 0).val + r.val) d.val := by
  have hl : (grid0.coords t 0).val < 16 := (grid0.coords t 0).isLt
  unfold outsAt0
  frame_open
  simp (disch := decide) only [↓ View.readCov_skip, ↓ View.readCov_cons_toLoadRect, ↓ View.readCov_fill]
  frame_out
  refine (x_pay _ _ _ r d).trans ?_
  unfold xat
  refine congrArg₂ (· + ·) ?_ (Finset.sum_congr rfl fun e _ => congrArg₂ (· * ·) ?_ ?_)
  · rw [at2_eq (A8 m c) (show 256 * (grid0.coords t 0).val + r.val < 4096 by omega) d.isLt]
    exact blk8 m c t r d _ rfl
  swap
  · rw [at2_eq (A7 m c) e.isLt d.isLt]
    exact blk7 m c t e d
  refine (readCov2 (Val := Elt Ideal) _ _ _ r e).trans ?_
  refine (side (zrow m c t) 15 _ _ _ (by rfl) (fun r d => ?_) (side (zrow m c t) 14 _ _ _ (by rfl) (fun r d => ?_) (side (zrow m c t) 13 _ _ _ (by rfl) (fun r d => ?_) (side (zrow m c t) 12 _ _ _ (by rfl) (fun r d => ?_) (side (zrow m c t) 11 _ _ _ (by rfl) (fun r d => ?_) (side (zrow m c t) 10 _ _ _ (by rfl) (fun r d => ?_) (side (zrow m c t) 9 _ _ _ (by rfl) (fun r d => ?_) (side (zrow m c t) 8 _ _ _ (by rfl) (fun r d => ?_) (side (zrow m c t) 7 _ _ _ (by rfl) (fun r d => ?_) (side (zrow m c t) 6 _ _ _ (by rfl) (fun r d => ?_) (side (zrow m c t) 5 _ _ _ (by rfl) (fun r d => ?_) (side (zrow m c t) 4 _ _ _ (by rfl) (fun r d => ?_) (side (zrow m c t) 3 _ _ _ (by rfl) (fun r d => ?_) (side (zrow m c t) 2 _ _ _ (by rfl) (fun r d => ?_) (side (zrow m c t) 1 _ _ _ (by rfl) (fun r d => ?_) (side (zrow m c t) 0 _ _ _ (by rfl) (fun r d => ?_) (fun r e h => absurd h (by omega))))))))))))))))) _ _ (by show 0 + e.val < 128 * (15 + 1); have := e.isLt; omega)).trans ?_
  · exact (z15 _ _ _ _ _ _ _ r d).trans (gated_eq _ _ _ _ _ _ _ 15 _ _ _ _ _ _ _ _ r d (ldl0 m c t 15 _ (by rfl) r) (ldl1 m c t 15 _ (by rfl) r) (ldl2 m c t 15 _ (by rfl) r)
      (ldo0 m c t 15 _ (by rfl) r d) (ldo1 m c t 15 _ (by rfl) r d) (ldo2 m c t 15 _ (by rfl) r d) (ldg m c t 15 _ (by rfl) r d))
  · exact (z14 _ _ _ _ _ _ _ r d).trans (gated_eq _ _ _ _ _ _ _ 14 _ _ _ _ _ _ _ _ r d (ldl0 m c t 14 _ (by rfl) r) (ldl1 m c t 14 _ (by rfl) r) (ldl2 m c t 14 _ (by rfl) r)
      (ldo0 m c t 14 _ (by rfl) r d) (ldo1 m c t 14 _ (by rfl) r d) (ldo2 m c t 14 _ (by rfl) r d) (ldg m c t 14 _ (by rfl) r d))
  · exact (z13 _ _ _ _ _ _ _ r d).trans (gated_eq _ _ _ _ _ _ _ 13 _ _ _ _ _ _ _ _ r d (ldl0 m c t 13 _ (by rfl) r) (ldl1 m c t 13 _ (by rfl) r) (ldl2 m c t 13 _ (by rfl) r)
      (ldo0 m c t 13 _ (by rfl) r d) (ldo1 m c t 13 _ (by rfl) r d) (ldo2 m c t 13 _ (by rfl) r d) (ldg m c t 13 _ (by rfl) r d))
  · exact (z12 _ _ _ _ _ _ _ r d).trans (gated_eq _ _ _ _ _ _ _ 12 _ _ _ _ _ _ _ _ r d (ldl0 m c t 12 _ (by rfl) r) (ldl1 m c t 12 _ (by rfl) r) (ldl2 m c t 12 _ (by rfl) r)
      (ldo0 m c t 12 _ (by rfl) r d) (ldo1 m c t 12 _ (by rfl) r d) (ldo2 m c t 12 _ (by rfl) r d) (ldg m c t 12 _ (by rfl) r d))
  · exact (z11 _ _ _ _ _ _ _ r d).trans (gated_eq _ _ _ _ _ _ _ 11 _ _ _ _ _ _ _ _ r d (ldl0 m c t 11 _ (by rfl) r) (ldl1 m c t 11 _ (by rfl) r) (ldl2 m c t 11 _ (by rfl) r)
      (ldo0 m c t 11 _ (by rfl) r d) (ldo1 m c t 11 _ (by rfl) r d) (ldo2 m c t 11 _ (by rfl) r d) (ldg m c t 11 _ (by rfl) r d))
  · exact (z10 _ _ _ _ _ _ _ r d).trans (gated_eq _ _ _ _ _ _ _ 10 _ _ _ _ _ _ _ _ r d (ldl0 m c t 10 _ (by rfl) r) (ldl1 m c t 10 _ (by rfl) r) (ldl2 m c t 10 _ (by rfl) r)
      (ldo0 m c t 10 _ (by rfl) r d) (ldo1 m c t 10 _ (by rfl) r d) (ldo2 m c t 10 _ (by rfl) r d) (ldg m c t 10 _ (by rfl) r d))
  · exact (z9 _ _ _ _ _ _ _ r d).trans (gated_eq _ _ _ _ _ _ _ 9 _ _ _ _ _ _ _ _ r d (ldl0 m c t 9 _ (by rfl) r) (ldl1 m c t 9 _ (by rfl) r) (ldl2 m c t 9 _ (by rfl) r)
      (ldo0 m c t 9 _ (by rfl) r d) (ldo1 m c t 9 _ (by rfl) r d) (ldo2 m c t 9 _ (by rfl) r d) (ldg m c t 9 _ (by rfl) r d))
  · exact (z8 _ _ _ _ _ _ _ r d).trans (gated_eq _ _ _ _ _ _ _ 8 _ _ _ _ _ _ _ _ r d (ldl0 m c t 8 _ (by rfl) r) (ldl1 m c t 8 _ (by rfl) r) (ldl2 m c t 8 _ (by rfl) r)
      (ldo0 m c t 8 _ (by rfl) r d) (ldo1 m c t 8 _ (by rfl) r d) (ldo2 m c t 8 _ (by rfl) r d) (ldg m c t 8 _ (by rfl) r d))
  · exact (z7 _ _ _ _ _ _ _ r d).trans (gated_eq _ _ _ _ _ _ _ 7 _ _ _ _ _ _ _ _ r d (ldl0 m c t 7 _ (by rfl) r) (ldl1 m c t 7 _ (by rfl) r) (ldl2 m c t 7 _ (by rfl) r)
      (ldo0 m c t 7 _ (by rfl) r d) (ldo1 m c t 7 _ (by rfl) r d) (ldo2 m c t 7 _ (by rfl) r d) (ldg m c t 7 _ (by rfl) r d))
  · exact (z6 _ _ _ _ _ _ _ r d).trans (gated_eq _ _ _ _ _ _ _ 6 _ _ _ _ _ _ _ _ r d (ldl0 m c t 6 _ (by rfl) r) (ldl1 m c t 6 _ (by rfl) r) (ldl2 m c t 6 _ (by rfl) r)
      (ldo0 m c t 6 _ (by rfl) r d) (ldo1 m c t 6 _ (by rfl) r d) (ldo2 m c t 6 _ (by rfl) r d) (ldg m c t 6 _ (by rfl) r d))
  · exact (z5 _ _ _ _ _ _ _ r d).trans (gated_eq _ _ _ _ _ _ _ 5 _ _ _ _ _ _ _ _ r d (ldl0 m c t 5 _ (by rfl) r) (ldl1 m c t 5 _ (by rfl) r) (ldl2 m c t 5 _ (by rfl) r)
      (ldo0 m c t 5 _ (by rfl) r d) (ldo1 m c t 5 _ (by rfl) r d) (ldo2 m c t 5 _ (by rfl) r d) (ldg m c t 5 _ (by rfl) r d))
  · exact (z4 _ _ _ _ _ _ _ r d).trans (gated_eq _ _ _ _ _ _ _ 4 _ _ _ _ _ _ _ _ r d (ldl0 m c t 4 _ (by rfl) r) (ldl1 m c t 4 _ (by rfl) r) (ldl2 m c t 4 _ (by rfl) r)
      (ldo0 m c t 4 _ (by rfl) r d) (ldo1 m c t 4 _ (by rfl) r d) (ldo2 m c t 4 _ (by rfl) r d) (ldg m c t 4 _ (by rfl) r d))
  · exact (z3 _ _ _ _ _ _ _ r d).trans (gated_eq _ _ _ _ _ _ _ 3 _ _ _ _ _ _ _ _ r d (ldl0 m c t 3 _ (by rfl) r) (ldl1 m c t 3 _ (by rfl) r) (ldl2 m c t 3 _ (by rfl) r)
      (ldo0 m c t 3 _ (by rfl) r d) (ldo1 m c t 3 _ (by rfl) r d) (ldo2 m c t 3 _ (by rfl) r d) (ldg m c t 3 _ (by rfl) r d))
  · exact (z2 _ _ _ _ _ _ _ r d).trans (gated_eq _ _ _ _ _ _ _ 2 _ _ _ _ _ _ _ _ r d (ldl0 m c t 2 _ (by rfl) r) (ldl1 m c t 2 _ (by rfl) r) (ldl2 m c t 2 _ (by rfl) r)
      (ldo0 m c t 2 _ (by rfl) r d) (ldo1 m c t 2 _ (by rfl) r d) (ldo2 m c t 2 _ (by rfl) r d) (ldg m c t 2 _ (by rfl) r d))
  · exact (z1 _ _ _ _ _ _ _ r d).trans (gated_eq _ _ _ _ _ _ _ 1 _ _ _ _ _ _ _ _ r d (ldl0 m c t 1 _ (by rfl) r) (ldl1 m c t 1 _ (by rfl) r) (ldl2 m c t 1 _ (by rfl) r)
      (ldo0 m c t 1 _ (by rfl) r d) (ldo1 m c t 1 _ (by rfl) r d) (ldo2 m c t 1 _ (by rfl) r d) (ldg m c t 1 _ (by rfl) r d))
  · exact (z0 _ _ _ _ _ _ _ r d).trans (gated_eq _ _ _ _ _ _ _ 0 _ _ _ _ _ _ _ _ r d (ldl0 m c t 0 _ (by rfl) r) (ldl1 m c t 0 _ (by rfl) r) (ldl2 m c t 0 _ (by rfl) r)
      (ldo0 m c t 0 _ (by rfl) r d) (ldo1 m c t 0 _ (by rfl) r d) (ldo2 m c t 0 _ (by rfl) r d) (ldg m c t 0 _ (by rfl) r d))
  · simp only [Nat.zero_add]

/-- The results, as arrays. -/
def ZZ (X Y Z : FVec Ideal S4096x2048 .f32) (A B C : FVec Ideal S4096x128 .f32) (P : FVec Ideal S4096x8192 .f32) : FVec Ideal S4096x2048 .bf16 :=
  fun y => zat X Y Z A B C P (y 0).val (y 1).val
def XX (X Y Z : FVec Ideal S4096x2048 .f32) (A B C : FVec Ideal S4096x128 .f32) (P : FVec Ideal S4096x8192 .f32) (O : FVec Ideal S2048x2048 .f32)
    (R : FVec Ideal S4096x2048 .f32) : FVec Ideal S4096x2048 .f32 := fun y => xat X Y Z A B C P O R (y 0).val (y 1).val

theorem array9 : (dats m 0 c).arrAt 9 cfg0.N = XX (A0 m c) (A1 m c) (A2 m c) (A3 m c) (A4 m c) (A5 m c) (A6 m c) (A7 m c) (A8 m c) := by
  refine (dats m 0 c).arrAt_eq_of_covers 9 _ (by decide +kernel) fun t hf y => ?_
  blk_simp
  rw [after0_9]
  obtain ⟨r, e, rfl⟩ : ∃ (r : Fin 256) (e : Fin 2048), y = (ix2 r e : S256x2048.Idx) := ⟨y 0, y 1, (ix2_eta (y : S256x2048.Idx)).symm⟩
  refine (out9 m c t r e).trans ?_
  have h0 : (((win0_9.blk t).view.emb (ix2 r e : S256x2048.Idx) : S4096x2048.Idx) 0).val = 256 * (grid0.coords t 0).val + r.val := by
    blk_simp [i9 t]
    omega
  have h1 : (((win0_9.blk t).view.emb (ix2 r e : S256x2048.Idx) : S4096x2048.Idx) 1).val = e.val := by
    blk_simp [i9 t]
  exact (congrArg₂ (fun a b => xat (A0 m c) (A1 m c) (A2 m c) (A3 m c) (A4 m c) (A5 m c) (A6 m c) (A7 m c) (A8 m c) a b) h0 h1).symm

theorem array10 : (dats m 0 c).arrAt 10 cfg0.N = ZZ (A0 m c) (A1 m c) (A2 m c) (A3 m c) (A4 m c) (A5 m c) (A6 m c) := by
  refine (dats m 0 c).arrAt_eq_of_covers 10 _ (by decide +kernel) fun t hf y => ?_
  blk_simp
  rw [after0_10]
  obtain ⟨r, e, rfl⟩ : ∃ (r : Fin 256) (e : Fin 2048), y = (ix2 r e : S256x2048.Idx) := ⟨y 0, y 1, (ix2_eta (y : S256x2048.Idx)).symm⟩
  refine (out10 m c t r e).trans ?_
  have h0 : (((win0_10.blk t).view.emb (ix2 r e : S256x2048.Idx) : S4096x2048.Idx) 0).val = 256 * (grid0.coords t 0).val + r.val := by
    blk_simp [i10 t]
    omega
  have h1 : (((win0_10.blk t).view.emb (ix2 r e : S256x2048.Idx) : S4096x2048.Idx) 1).val = e.val := by
    blk_simp [i10 t]
  exact (congrArg₂ (fun a b => zat (A0 m c) (A1 m c) (A2 m c) (A3 m c) (A4 m c) (A5 m c) (A6 m c) a b) h0 h1).symm

end Cert.MergeOut
end
-- ==== Proof.MergeRef.lean ====
module

public import proofs.«01_k».proof.Proof.MergeBlocks
public import proofs.«01_k».proof.Proof.Gen.Reference14Ideal.Read
public import Idealize.ShloMosaic.Lib.IdealHost
public import Idealize.ShloMosaic.Lib.Pointwise.SelectCore

@[expose] public section

/-! # The merge of the three attention groups: the reference's entries -/

set_option maxRecDepth 16384

noncomputable section
namespace Cert.MergeOut
open Cert.Reference14Ideal Cert.Reference14Ideal.Gen Cert.Reference14Ideal.Read Cert.Mid Cert.Lin Cert.MidOut Idealize.ShloMosaic

/-- The sum of the three groups' terms. -/
def total (a b c : EReal) : EReal := term a b c a + term a b c b + term a b c c

theorem term_nonneg (a b c x : EReal) : 0 ≤ term a b c x := by
  unfold term
  generalize x - max (max a b) c = y
  induction y using EReal.rec with
  | bot => exact le_of_eq rfl
  | top => exact le_top
  | coe r => exact EReal.coe_nonneg.mpr (Real.exp_pos r).le

/-- The largest group's term is one. -/
theorem term_top {a b c x : EReal} (hr : ((max (max a b) c).toReal : EReal) = max (max a b) c) (h : x = max (max a b) c) : term a b c x = 1 := by
  unfold term
  rw [h, ← hr, ← EReal.coe_sub, sub_self]
  show ((Real.exp 0 : ℝ) : EReal) = 1
  rw [Real.exp_zero, EReal.coe_one]

/-- The terms' sum is not zero, when the largest of the three logarithms is a real number. -/
theorem total_ne_zero {a b c : EReal} (hr : ((max (max a b) c).toReal : EReal) = max (max a b) c) : total a b c ≠ 0 := by
  have na := term_nonneg a b c a
  have nb := term_nonneg a b c b
  have nc := term_nonneg a b c c
  have h1 : (1 : EReal) ≤ total a b c := by
    unfold total
    rcases max_choice (max a b) c with h | h
    · rcases max_choice a b with k | k
      · rw [← term_top hr (k.symm.trans h.symm)]
        exact le_trans (le_add_of_nonneg_right nb) (le_add_of_nonneg_right nc)
      · rw [← term_top hr (k.symm.trans h.symm)]
        exact le_trans (le_add_of_nonneg_left na) (le_add_of_nonneg_right nc)
    · rw [← term_top hr h.symm]
      exact le_add_of_nonneg_left (add_nonneg na nb)
  intro e
  rw [e] at h1
  exact absurd h1 (by simp)

/-- The quotient by the sum is the product with its inverse. -/
theorem weight_eq {a b c : EReal} (x : EReal) (hr : ((max (max a b) c).toReal : EReal) = max (max a b) c) :
    Ideal.div (term a b c x) (total a b c) = term a b c x * inv a b c :=
  (Ideal.mul_one_div (total_ne_zero hr)).symm

/-- Every head's largest logarithm is a real number. -/
def LargestReal (A B C : FVec Ideal S4096x128 .f32) : Prop :=
  ∀ t h : ℕ, t < 4096 → h < 16 → ((max (max (at2 A t h) (at2 B t h)) (at2 C t h)).toReal : EReal) = max (max (at2 A t h) (at2 B t h)) (at2 C t h)

/-- One of three arrays. -/
def pick {α : Type} (n : ℕ) (a b c : α) : α := if n = 0 then a else if n = 1 then b else c

variable {X Y Z : FVec Ideal S4096x2048 .f32} {A B C : FVec Ideal S4096x128 .f32} {P : FVec Ideal S4096x8192 .f32} {O : FVec Ideal S2048x2048 .f32}
    {R : FVec Ideal S4096x2048 .f32}

theorem v11_at (i : S1x1x4096x16.Idx) : val_main_v11 (F := Ideal) A i = at2 A (i 2).val (i 3).val := by
  have h3 : (i 3).val < 16 := (i 3).isLt
  rw [val_main_v11_apply, val_main_v6_apply, val_main_v5_apply, at2_eq A (i 2).isLt (show (i 3).val < 128 by omega)]
  refine congrArg A (funext fun a => ?_)
  match a with
  | ⟨0, _⟩ => rfl
  | ⟨1, _⟩ => rfl

theorem v12_at (i : S1x1x4096x16.Idx) : val_main_v12 (F := Ideal) B i = at2 B (i 2).val (i 3).val := by
  have h3 : (i 3).val < 16 := (i 3).isLt
  rw [val_main_v12_apply, val_main_v8_apply, val_main_v7_apply, at2_eq B (i 2).isLt (show (i 3).val < 128 by omega)]
  refine congrArg B (funext fun a => ?_)
  match a with
  | ⟨0, _⟩ => rfl
  | ⟨1, _⟩ => rfl

theorem v13_at (i : S1x1x4096x16.Idx) : val_main_v13 (F := Ideal) C i = at2 C (i 2).val (i 3).val := by
  have h3 : (i 3).val < 16 := (i 3).isLt
  rw [val_main_v13_apply, val_main_v10_apply, val_main_v9_apply, at2_eq C (i 2).isLt (show (i 3).val < 128 by omega)]
  refine congrArg C (funext fun a => ?_)
  match a with
  | ⟨0, _⟩ => rfl
  | ⟨1, _⟩ => rfl

/-- The stacked logarithms. -/
theorem v14_at (i : S3x1x4096x16.Idx) : val_main_v14 (F := Ideal) A B C i = at2 (pick (i 0).val A B C) (i 2).val (i 3).val := by
  have h0 : (i 0).val < 3 := (i 0).isLt
  unfold val_main_v14 pick
  refine (concatenate_cons_apply _ _ _ _ _ _ _).trans ((concatenateAt_cons _ _ _ _ _ _ _ _).trans ?_)
  by_cases e0 : (i 0).val = 0
  · rw [if_pos e0]
    exact (dif_pos (show (i 0).val < 1 by omega)).trans (v11_at _)
  · rw [if_neg e0]
    refine (dif_neg (show ¬ (i 0).val < 1 by omega)).trans ((concatenateAt_cons _ _ _ _ _ _ _ _).trans ?_)
    by_cases e1 : (i 0).val = 1
    · rw [if_pos e1]
      exact (dif_pos (show (i 0).val - 1 < 1 by omega)).trans (v12_at _)
    · rw [if_neg e1]
      exact (dif_neg (show ¬ (i 0).val - 1 < 1 by omega)).trans ((concatenateAt_singleton _ _ _ _ _ _).trans (v13_at _))

theorem v27_at (i : S1x1x4096x16x128.Idx) : val_main_v27 (F := Ideal) X i = at2 X (i 2).val ((i 3).val * 128 + (i 4).val) := by
  have h2 : (i 2).val < 4096 := (i 2).isLt
  have h3 : (i 3).val < 16 := (i 3).isLt
  have h4 : (i 4).val < 128 := (i 4).isLt
  rw [val_main_v27_apply, val_main_v2_apply, at2_eq X h2 (show (i 3).val * 128 + (i 4).val < 2048 by omega)]
  refine congrArg X (funext fun a => ?_)
  match a with
  | ⟨0, _⟩ => exact Fin.ext (by show (((0 * 4096 + (i 2).val) * 16 + (i 3).val) * 128 + (i 4).val) / 2048 = (i 2).val; omega)
  | ⟨1, _⟩ => exact Fin.ext (by show (((0 * 4096 + (i 2).val) * 16 + (i 3).val) * 128 + (i 4).val) % 2048 = (i 3).val * 128 + (i 4).val; omega)

theorem v28_at (i : S1x1x4096x16x128.Idx) : val_main_v28 (F := Ideal) Y i = at2 Y (i 2).val ((i 3).val * 128 + (i 4).val) := by
  have h2 : (i 2).val < 4096 := (i 2).isLt
  have h3 : (i 3).val < 16 := (i 3).isLt
  have h4 : (i 4).val < 128 := (i 4).isLt
  rw [val_main_v28_apply, val_main_v3_apply, at2_eq Y h2 (show (i 3).val * 128 + (i 4).val < 2048 by omega)]
  refine congrArg Y (funext fun a => ?_)
  match a with
  | ⟨0, _⟩ => exact Fin.ext (by show (((0 * 4096 + (i 2).val) * 16 + (i 3).val) * 128 + (i 4).val) / 2048 = (i 2).val; omega)
  | ⟨1, _⟩ => exact Fin.ext (by show (((0 * 4096 + (i 2).val) * 16 + (i 3).val) * 128 + (i 4).val) % 2048 = (i 3).val * 128 + (i 4).val; omega)

theorem v29_at (i : S1x1x4096x16x128.Idx) : val_main_v29 (F := Ideal) Z i = at2 Z (i 2).val ((i 3).val * 128 + (i 4).val) := by
  have h2 : (i 2).val < 4096 := (i 2).isLt
  have h3 : (i 3).val < 16 := (i 3).isLt
  have h4 : (i 4).val < 128 := (i 4).isLt
  rw [val_main_v29_apply, val_main_v4_apply, at2_eq Z h2 (show (i 3).val * 128 + (i 4).val < 2048 by omega)]
  refine congrArg Z (funext fun a => ?_)
  match a with
  | ⟨0, _⟩ => exact Fin.ext (by show (((0 * 4096 + (i 2).val) * 16 + (i 3).val) * 128 + (i 4).val) / 2048 = (i 2).val; omega)
  | ⟨1, _⟩ => exact Fin.ext (by show (((0 * 4096 + (i 2).val) * 16 + (i 3).val) * 128 + (i 4).val) % 2048 = (i 3).val * 128 + (i 4).val; omega)

/-- The stacked outputs. -/
theorem v30_at (i : S3x1x4096x16x128.Idx) :
    val_main_v30 (F := Ideal) X Y Z i = at2 (pick (i 0).val X Y Z) (i 2).val ((i 3).val * 128 + (i 4).val) := by
  have h0 : (i 0).val < 3 := (i 0).isLt
  unfold val_main_v30 pick
  refine (concatenate_cons_apply _ _ _ _ _ _ _).trans ((concatenateAt_cons _ _ _ _ _ _ _ _).trans ?_)
  by_cases e0 : (i 0).val = 0
  · rw [if_pos e0]
    exact (dif_pos (show (i 0).val < 1 by omega)).trans (v27_at _)
  · rw [if_neg e0]
    refine (dif_neg (show ¬ (i 0).val < 1 by omega)).trans ((concatenateAt_cons _ _ _ _ _ _ _ _).trans ?_)
    by_cases e1 : (i 0).val = 1
    · rw [if_pos e1]
      exact (dif_pos (show (i 0).val - 1 < 1 by omega)).trans (v28_at _)
    · rw [if_neg e1]
      exact (dif_neg (show ¬ (i 0).val - 1 < 1 by omega)).trans ((concatenateAt_singleton _ _ _ _ _ _).trans (v29_at _))

theorem fold_three (f : Fin 3 → EReal) (b : EReal) :
    (Finset.univ : Finset (Fin 3)).fold (max : EReal → EReal → EReal) b f = max (f 0) (max (f 1) (max (f 2) b)) := by
  rfl

theorem bits_bot : Ideal.ofBits .f32 0xFF800000#32 = (⊥ : EReal) := by
  simp [Ideal.ofBits, Ideal.ieee]

/-- The largest of the three logarithms. -/
theorem v17_at (i : S1x4096x16.Idx) : val_main_v17 (F := Ideal) A B C i
    = max (max (at2 A (i 1).val (i 2).val) (at2 B (i 1).val (i 2).val)) (at2 C (i 1).val (i 2).val) := by
  have hr : S3x1x4096x16.Reduces [0] S1x4096x16 := by decide
  have e : val_main_v15 (F := Ideal) A B C i
      = max (at2 A (i 1).val (i 2).val) (max (at2 B (i 1).val (i 2).val) (max (at2 C (i 1).val (i 2).val) ⊥)) := by
    unfold val_main_v15
    rw [Host.reduce_eq_fold_single FloatOps.maximumf _ _ reducesTo_S3x1x4096x16_S1x4096x16_d0 hr h_S_]
    refine (fold_three (val_main_v14 (F := Ideal) A B C ∘ hr.lift i) (Ideal.ofBits .f32 0xFF800000#32)).trans ?_
    rw [bits_bot]
    exact congrArg₂ max (v14_at _) (congrArg₂ max (v14_at _) (congrArg (max · ⊥) (v14_at _)))
  have hb : val_main_v16 (F := Ideal) i = (⊥ : EReal) := bits_bot
  rw [val_main_v17_apply, hb, e]
  show max ⊥ _ = _
  rw [max_bot_left, max_bot_right, max_assoc]

/-- The terms. -/
theorem v21_at (i : S3x1x4096x16.Idx) : val_main_v21 (F := Ideal) A B C i
    = term (at2 A (i 2).val (i 3).val) (at2 B (i 2).val (i 3).val) (at2 C (i 2).val (i 3).val) (at2 (pick (i 0).val A B C) (i 2).val (i 3).val) := by
  rw [val_main_v21_apply, val_main_v20_apply, v14_at, val_main_v19_apply, val_main_v18_apply, v17_at]
  rfl

theorem v22_at (i : S1x4096x16.Idx) : val_main_v22 (F := Ideal) A B C i
    = total (at2 A (i 1).val (i 2).val) (at2 B (i 1).val (i 2).val) (at2 C (i 1).val (i 2).val) := by
  have hz : val_main_cst_1 (F := Ideal) (Shape.Idx.first h_S_) = (0 : EReal) := Ideal.ofBits_zero_f32
  rw [val_main_v22_apply, hz, Fin.sum_univ_three, v21_at, v21_at, v21_at, zero_add]
  rfl

/-- The groups' weights. -/
theorem v25_at (H : LargestReal A B C) (i : S3x1x4096x16.Idx) : val_main_v25 (F := Ideal) A B C i
    = term (at2 A (i 2).val (i 3).val) (at2 B (i 2).val (i 3).val) (at2 C (i 2).val (i 3).val) (at2 (pick (i 0).val A B C) (i 2).val (i 3).val)
      * inv (at2 A (i 2).val (i 3).val) (at2 B (i 2).val (i 3).val) (at2 C (i 2).val (i 3).val) := by
  rw [val_main_v25_apply, v21_at, val_main_v24_apply, val_main_v23_apply, v22_at, Ideal.hostDivf_def]
  exact weight_eq _ (H _ _ (i 2).isLt (i 3).isLt)

theorem v32_at (H : LargestReal A B C) (i : S3x1x4096x16x128.Idx) : val_main_v32 (F := Ideal) X Y Z A B C i
    = term (at2 A (i 2).val (i 3).val) (at2 B (i 2).val (i 3).val) (at2 C (i 2).val (i 3).val) (at2 (pick (i 0).val A B C) (i 2).val (i 3).val)
      * inv (at2 A (i 2).val (i 3).val) (at2 B (i 2).val (i 3).val) (at2 C (i 2).val (i 3).val)
      * at2 (pick (i 0).val X Y Z) (i 2).val ((i 3).val * 128 + (i 4).val) := by
  rw [val_main_v32_apply, val_main_v31_apply, val_main_v26_apply, v25_at H, v30_at, Ideal.mulf_def]

/-- The merged outputs. -/
theorem v33_at (H : LargestReal A B C) (i : S1x4096x16x128.Idx) : val_main_v33 (F := Ideal) X Y Z A B C i
    = mix (at2 A (i 1).val (i 2).val) (at2 B (i 1).val (i 2).val) (at2 C (i 1).val (i 2).val)
      (at2 X (i 1).val ((i 2).val * 128 + (i 3).val)) (at2 Y (i 1).val ((i 2).val * 128 + (i 3).val)) (at2 Z (i 1).val ((i 2).val * 128 + (i 3).val)) := by
  have hz : val_main_cst_2 (F := Ideal) (Shape.Idx.first h_S_) = (0 : EReal) := Ideal.ofBits_zero_f32
  rw [val_main_v33_apply, hz, Fin.sum_univ_three, v32_at H, v32_at H, v32_at H, zero_add]
  rfl

theorem gate_at (i : S1x4096x2048.Idx) : val_main_v1 (F := Ideal) P i = at2 P (i 1).val (6144 + (i 2).val) := by
  have h2 : (i 2).val < 2048 := (i 2).isLt
  rw [val_main_v1_apply, val_main_v0_apply, at2_eq P (i 1).isLt (show 6144 + (i 2).val < 8192 by omega)]
  refine congrArg P (funext fun a => ?_)
  match a with
  | ⟨0, _⟩ => rfl
  | ⟨1, _⟩ => rfl

theorem silu_at (i : S1x4096x2048.Idx) : val_main_v35 (F := Ideal) P i = silu (at2 P (i 1).val (6144 + (i 2).val)) := by
  rw [val_main_v35_apply, val_main_call0_v5_apply, val_main_call0_v4_apply, val_main_call0_v3_apply, val_main_call0_v2_apply, val_main_call0_v1_apply,
    val_main_call0_v0_apply, gate_at]
  have e0 : val_main_call0_cst_0 (F := Ideal) (idx_main_call0_v4 i) = (1 : EReal) := Ideal.ofBits_one_f32
  have e1 : val_main_call0_cst (F := Ideal) (idx_main_call0_v2 i) = (1 : EReal) := Ideal.ofBits_one_f32
  rw [e0, e1, Ideal.mulf_def, Ideal.hostDivf_def, Ideal.addf_def, Ideal.hostUnary_exp_def, Ideal.hostNegf_def, Ideal.negf_def]
  unfold silu
  rw [zero_sub]

theorem z_at (H : LargestReal A B C) (i : S1x4096x2048.Idx) : val_main_v36 (F := Ideal) X Y Z A B C P i = zat X Y Z A B C P (i 1).val (i 2).val := by
  have i0 : (i 0).val < 1 := (i 0).isLt
  have i1 : (i 1).val < 4096 := (i 1).isLt
  have i2 : (i 2).val < 2048 := (i 2).isLt
  rw [val_main_v36_apply, val_main_v34_apply, v33_at H, silu_at, Ideal.mulf_def]
  unfold zat
  have e1 : (idx_main_v34 i 1).val = (i 1).val := by
    show (((i 0).val * 4096 + (i 1).val) * 2048 + (i 2).val) / 2048 % 4096 = (i 1).val
    omega
  have e2 : (idx_main_v34 i 2).val = (i 2).val / 128 := by
    show (((i 0).val * 4096 + (i 1).val) * 2048 + (i 2).val) / 128 % 16 = (i 2).val / 128
    omega
  have e3 : (idx_main_v34 i 3).val = (i 2).val % 128 := by
    show (((i 0).val * 4096 + (i 1).val) * 2048 + (i 2).val) % 128 = (i 2).val % 128
    omega
  have e4 : (i 2).val / 128 * 128 + (i 2).val % 128 = (i 2).val := by omega
  rw [e1, e2, e3, e4]

theorem v42_at (H : LargestReal A B C) (i : S4096x2048.Idx) : val_main_v42 (F := Ideal) X Y Z A B C P i = zat X Y Z A B C P (i 0).val (i 1).val := by
  have i0 : (i 0).val < 4096 := (i 0).isLt
  have i1 : (i 1).val < 2048 := (i 1).isLt
  rw [val_main_v42_apply, val_main_v41_apply, z_at H]
  have e1 : (idx_main_v41 i 1).val = (i 0).val := by
    show ((i 0).val * 2048 + (i 1).val) / 2048 % 4096 = (i 0).val
    omega
  have e2 : (idx_main_v41 i 2).val = (i 1).val := by
    show ((i 0).val * 2048 + (i 1).val) % 2048 = (i 1).val
    omega
  rw [e1, e2]
  rfl

theorem v40_at (H : LargestReal A B C) (i : S4096x2048.Idx) :
    val_main_v40 (F := Ideal) X Y Z A B C P O R i = xat X Y Z A B C P O R (i 0).val (i 1).val := by
  have i0 : (i 0).val < 4096 := (i 0).isLt
  have i1 : (i 1).val < 2048 := (i 1).isLt
  have e1 : (idx_main_v40 i 1).val = (i 0).val := by
    show ((i 0).val * 2048 + (i 1).val) / 2048 % 4096 = (i 0).val
    omega
  have e2 : (idx_main_v40 i 2).val = (i 1).val := by
    show ((i 0).val * 2048 + (i 1).val) % 2048 = (i 1).val
    omega
  rw [val_main_v40_apply, val_main_v39_apply, val_main_v37_apply, val_main_v38_apply, Ideal.addf_def]
  unfold xat
  refine congrArg₂ (· + ·) ?_ (Finset.sum_congr rfl fun k _ => ?_)
  · rw [at2_eq R i0 i1]
    refine congrArg R (funext fun a => ?_)
    match a with
    | ⟨0, _⟩ => exact Fin.ext e1
    | ⟨1, _⟩ => exact Fin.ext e2
  · rw [z_at H, at2_eq O k.isLt i1]
    refine congrArg₂ (· * ·) (congrArg (fun t => zat X Y Z A B C P t k.val) e1) (congrArg O (funext fun a => ?_))
    match a with
    | ⟨0, _⟩ => rfl
    | ⟨1, _⟩ => exact Fin.ext e2

end Cert.MergeOut
end
-- ==== Proof.AlgMergeOut.lean ====
module

public import proofs.«01_k».proof.Proof.MergeOut
public import proofs.«01_k».proof.Proof.MergeRef
public import proofs.«01_k».proof.Proof.Finite
public import proofs.«01_k».proof.Proof.Gen.Reference14Ideal.Run

@[expose] public section

/-! # The merge of the three attention groups: the kernel's two results are the reference's -/

noncomputable section
namespace Cert.MergeOut
open Cert.Mid Cert.Lin Idealize.ShloMosaic Idealize.ShloMosaic.TcCoe Idealize.SL.Sem

instance preFacts : Cert.Pre_largest_finite.Facts := ⟨by decide, by decide⟩

/-- The precondition says that every head's largest logarithm is a real number. -/
theorem largestReal (m : (ℓ : Loc Cert.Kernel14Ideal.nD Cert.Kernel14Ideal.τ Cert.Kernel14Ideal.sig) → Buf (Elt Ideal) ℓ)
    (h : Cert.Pre_Kernel14Ideal_largest_finite m) (c : Dev Cert.Kernel14Ideal.nD) : LargestReal (A3 m c) (A4 m c) (A5 m c) := by
  intro t k ht hk
  have hk' : k < 128 := by omega
  rw [at2_eq (A3 m c) ht hk', at2_eq (A4 m c) ht hk', at2_eq (A5 m c) ht hk']
  refine real_of_lt (Eq.trans ?_ (congrFun (h c) (ix2 ⟨t, ht⟩ ⟨k, hk⟩)))
  have hs : extractStridedSlice (s := ⟨2, ![4096, 128]⟩) ⟨2, ![4096, 16]⟩ ![0, 0] (maximumf (F := Ideal) (φ := .f32) (maximumf (A3 m c) (A4 m c)) (A5 m c))
      Cert.Pre_largest_finite.Facts.slices_S4096x128_S4096x16_0_0 (ix2 ⟨t, ht⟩ ⟨k, hk⟩)
        = maximumf (F := Ideal) (φ := .f32) (maximumf (A3 m c) (A4 m c)) (A5 m c) (ix2 ⟨t, ht⟩ ⟨k, hk'⟩) := by
    refine extractStridedSlice_apply ![0, 0] _ _ _ (ix2 ⟨t, ht⟩ ⟨k, hk'⟩) (fun a => ?_)
    match a with
    | ⟨0, _⟩ => exact (Nat.zero_add _).symm
    | ⟨1, _⟩ => exact (Nat.zero_add _).symm
  have hm : max (max (A3 m c (ix2 ⟨t, ht⟩ ⟨k, hk'⟩)) (A4 m c (ix2 ⟨t, ht⟩ ⟨k, hk'⟩))) (A5 m c (ix2 ⟨t, ht⟩ ⟨k, hk'⟩))
      = maximumf (F := Ideal) (φ := .f32) (maximumf (A3 m c) (A4 m c)) (A5 m c) (ix2 ⟨t, ht⟩ ⟨k, hk'⟩) := rfl
  rw [hm, ← hs]
  rfl

theorem algebraic : Cert.algebraic_Kernel14Ideal_Reference14Ideal_pre_largest_finite := by
  intro m g m' g' hpre hagree
  refine ⟨fun c => XX (A0 m c) (A1 m c) (A2 m c) (A3 m c) (A4 m c) (A5 m c) (A6 m c) (A7 m c) (A8 m c),
    fun c => ZZ (A0 m c) (A1 m c) (A2 m c) (A3 m c) (A4 m c) (A5 m c) (A6 m c), ?_, ?_⟩
  · refine (θ_run Cert.Kernel14Ideal.defs _ _).mono (fun r h c => ?_) (Cert.Kernel14Ideal.Value.run_blocks (F := Ideal) m g)
    obtain ⟨h0, h1, hargs⟩ := h c
    exact ⟨h0.trans (array9 m c), h1.trans (array10 m c), hargs⟩
  · refine (θ_run Cert.Reference14Ideal.defs _ _).mono (fun r h c => ?_) (Cert.Reference14Ideal.Value.run (F := Ideal) m' g')
    obtain ⟨h0, h1, hargs⟩ := h c
    obtain ⟨a0, a1, a2, a3, a4, a5, a6, a7, a8⟩ := hagree c
    have H := largestReal m hpre c
    refine ⟨h0.trans ?_, h1.trans ?_, hargs⟩
    · refine (Cert.Reference14Ideal.Read.val_main_v40_eq m' c).trans ?_
      rw [a0, a1, a2, a3, a4, a5, a6, a7, a8]
      exact funext fun i => v40_at H i
    · refine (Cert.Reference14Ideal.Read.val_main_v42_eq m' c).trans ?_
      rw [a0, a1, a2, a3, a4, a5, a6]
      exact funext fun i => v42_at H i

end Cert.MergeOut
end
-- ==== Proof.lean ====
/- The kernel's frames, its idealization, the reference's frames and the equality of the results. -/
module

public import proofs.«01_k».proof.Proof.Algebraic
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.NormPlain
public import proofs.«01_k».proof.Proof.AlgNormB
public import proofs.«01_k».proof.Proof.AlgNormA
public import proofs.«01_k».proof.Proof.AlgNormKv
public import proofs.«01_k».proof.Proof.AlgInB
public import proofs.«01_k».proof.Proof.AlgDnB
public import proofs.«01_k».proof.Proof.AlgInA
public import proofs.«01_k».proof.Proof.AlgDnA
public import proofs.«01_k».proof.Proof.AlgOutW
public import proofs.«01_k».proof.Proof.AlgKvK
public import proofs.«01_k».proof.Proof.AlgKvV
public import proofs.«01_k».proof.Proof.AlgKvDn
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Launch
public import proofs.«01_k».proof.Proof.Gen.Kernel12Ideal.Skeleton
public import proofs.«01_k».proof.Proof.Gen.Kernel12Ideal.Points
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.AlgMidOut
public import proofs.«01_k».proof.Proof.AlgMergeOut
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference is host operations alone: its run is the generated one, and it declares no semaphore. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem frame_ri3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_ri5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)
theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem frame_ri7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem frame_ri8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem frame_ri9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)
theorem frame_ri10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)
theorem frame_ri11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)
theorem frame_ri12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)
theorem frame_ri13 : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)
theorem frame_ri14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Mid.preFacts, Cert.MidOut.preFacts, Cert.MergeOut.preFacts, by
  exact ⟨fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    fun m ρ _ => Cert.Kernel5.Gen.frame m ρ, fun m ρ _ => Cert.Kernel5Ideal.Gen.frame m ρ, frame_ri5,
    fun m ρ _ => Cert.Kernel6.Gen.frame m ρ, fun m ρ _ => Cert.Kernel6Ideal.Gen.frame m ρ, frame_ri6,
    fun m ρ _ => Cert.Kernel7.Gen.frame m ρ, fun m ρ _ => Cert.Kernel7Ideal.Gen.frame m ρ, frame_ri7,
    fun m ρ _ => Cert.Kernel8.Gen.frame m ρ, fun m ρ _ => Cert.Kernel8Ideal.Gen.frame m ρ, frame_ri8,
    fun m ρ _ => Cert.Kernel9.Gen.frame m ρ, fun m ρ _ => Cert.Kernel9Ideal.Gen.frame m ρ, frame_ri9,
    Cert.NormPlain.frame10, fun m ρ _ => Cert.NormB.frame m ρ, frame_ri10,
    Cert.NormPlain.frame11, fun m ρ _ => Cert.NormA.frame m ρ, frame_ri11,
    Cert.NormPlain.frame12, fun m ρ _ => Cert.NormKv.frame m ρ, frame_ri12,
    fun m ρ _ => Cert.Kernel13.Gen.frame m ρ, fun m ρ _ => Cert.Kernel13Ideal.Gen.frame m ρ, fun m ρ _ => Cert.Kernel13Ideal.Gen.frame m ρ,
    frame_ri13, fun m ρ _ => frame_ri13 m ρ trivial,
    fun m ρ _ => Cert.Kernel14.Gen.frame m ρ, fun m ρ _ => Cert.Kernel14Ideal.Gen.frame m ρ, fun m ρ _ => Cert.Kernel14Ideal.Gen.frame m ρ,
    frame_ri14, fun m ρ _ => frame_ri14 m ρ trivial,
    trivial, Cert.Mid.algebraic, trivial, Cert.InB.algebraic, trivial, Cert.DnB.algebraic,
    trivial, Cert.InA.algebraic, trivial, Cert.DnA.algebraic, trivial, Cert.OutW.algebraic, trivial, Cert.KvK.algebraic, trivial, Cert.KvV.algebraic, trivial, Cert.KvDn.algebraic,
    trivial, Cert.NormB.algebraic, trivial, Cert.NormA.algebraic, trivial, Cert.NormKv.algebraic,
    trivial, Cert.MidOut.algebraic,
    trivial, Cert.MergeOut.algebraic⟩⟩

end Cert.Proof

end
